-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_natural4 [hPre_natural4 : Cert.Pre_natural4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_natural4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_natural4 [hPre_natural4 : Cert.Pre_natural4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_natural4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_buckets12 [hPre_buckets12 : Cert.Pre_buckets12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_buckets12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_buckets12 [hPre_buckets12 : Cert.Pre_buckets12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_buckets12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Kernel4Ideal_pre_natural4 [hKernel4Ideal : Cert.Kernel4Ideal.Facts] [hPre_natural4 : Cert.Pre_natural4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_natural4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Reference4Ideal_pre_natural4 [hReference4Ideal : Cert.Reference4Ideal.Facts] [hPre_natural4 : Cert.Pre_natural4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_natural4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Kernel12Ideal_pre_buckets12 [hKernel12Ideal : Cert.Kernel12Ideal.Facts] [hPre_buckets12 : Cert.Pre_buckets12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_buckets12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Reference12Ideal_pre_buckets12 [hReference12Ideal : Cert.Reference12Ideal.Facts] [hPre_buckets12 : Cert.Pre_buckets12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_buckets12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8)
      ∧ r.2.mem ((c.tc : Thread Cert.Kernel15.nD Cert.Kernel15.τ).loc Cert.Kernel15.main_arg9) = m ((c.tc : Thread Cert.Kernel15.nD Cert.Kernel15.τ).loc Cert.Kernel15.main_arg9)
      ∧ r.2.mem ((c.tc : Thread Cert.Kernel15.nD Cert.Kernel15.τ).loc Cert.Kernel15.main_arg10) = m ((c.tc : Thread Cert.Kernel15.nD Cert.Kernel15.τ).loc Cert.Kernel15.main_arg10)
      ∧ r.2.mem ((c.tc : Thread Cert.Kernel15.nD Cert.Kernel15.τ).loc Cert.Kernel15.main_arg11) = m ((c.tc : Thread Cert.Kernel15.nD Cert.Kernel15.τ).loc Cert.Kernel15.main_arg11))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
      ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
      ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
      ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8)
      ∧ r.2.mem ((c.tc : Thread Cert.Reference15Ideal.nD Cert.Reference15Ideal.τ).loc Cert.Reference15Ideal.main_arg9) = m ((c.tc : Thread Cert.Reference15Ideal.nD Cert.Reference15Ideal.τ).loc Cert.Reference15Ideal.main_arg9)
      ∧ r.2.mem ((c.tc : Thread Cert.Reference15Ideal.nD Cert.Reference15Ideal.τ).loc Cert.Reference15Ideal.main_arg10) = m ((c.tc : Thread Cert.Reference15Ideal.nD Cert.Reference15Ideal.τ).loc Cert.Reference15Ideal.main_arg10)
      ∧ r.2.mem ((c.tc : Thread Cert.Reference15Ideal.nD Cert.Reference15Ideal.τ).loc Cert.Reference15Ideal.main_arg11) = m ((c.tc : Thread Cert.Reference15Ideal.nD Cert.Reference15Ideal.τ).loc Cert.Reference15Ideal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)) (v3 : (c : Dev Cert.Kernel2Ideal.nD) → Buf (Elt Ideal) ((c.tc : Thread Cert.Kernel2Ideal.nD Cert.Kernel2Ideal.τ).loc Cert.Kernel2Ideal.main_v3_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_v3_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v47) = v0 c
          ∧ r.2.mem ((c.tc : Thread Cert.Reference2Ideal.nD Cert.Reference2Ideal.τ).loc Cert.Reference2Ideal.main_v61) = v1 c
          ∧ r.2.mem ((c.tc : Thread Cert.Reference2Ideal.nD Cert.Reference2Ideal.τ).loc Cert.Reference2Ideal.main_v62) = v2 c
          ∧ r.2.mem ((c.tc : Thread Cert.Reference2Ideal.nD Cert.Reference2Ideal.τ).loc Cert.Reference2Ideal.main_v63) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v21_0)) (v1 : (c : Dev Cert.Kernel3Ideal.nD) → Buf (Elt Ideal) ((c.tc : Thread Cert.Kernel3Ideal.nD Cert.Kernel3Ideal.τ).loc Cert.Kernel3Ideal.main_v21_1)) (v2 : (c : Dev Cert.Kernel3Ideal.nD) → Buf (Elt Ideal) ((c.tc : Thread Cert.Kernel3Ideal.nD Cert.Kernel3Ideal.τ).loc Cert.Kernel3Ideal.main_v21_2)) (v3 : (c : Dev Cert.Kernel3Ideal.nD) → Buf (Elt Ideal) ((c.tc : Thread Cert.Kernel3Ideal.nD Cert.Kernel3Ideal.τ).loc Cert.Kernel3Ideal.main_v21_3)) (v4 : (c : Dev Cert.Kernel3Ideal.nD) → Buf (Elt Ideal) ((c.tc : Thread Cert.Kernel3Ideal.nD Cert.Kernel3Ideal.τ).loc Cert.Kernel3Ideal.main_v21_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v21_0) = v0 c
          ∧ r.2.mem ((c.tc : Thread Cert.Kernel3Ideal.nD Cert.Kernel3Ideal.τ).loc Cert.Kernel3Ideal.main_v21_1) = v1 c
          ∧ r.2.mem ((c.tc : Thread Cert.Kernel3Ideal.nD Cert.Kernel3Ideal.τ).loc Cert.Kernel3Ideal.main_v21_2) = v2 c
          ∧ r.2.mem ((c.tc : Thread Cert.Kernel3Ideal.nD Cert.Kernel3Ideal.τ).loc Cert.Kernel3Ideal.main_v21_3) = v3 c
          ∧ r.2.mem ((c.tc : Thread Cert.Kernel3Ideal.nD Cert.Kernel3Ideal.τ).loc Cert.Kernel3Ideal.main_v21_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v54) = v0 c
          ∧ r.2.mem ((c.tc : Thread Cert.Reference3Ideal.nD Cert.Reference3Ideal.τ).loc Cert.Reference3Ideal.main_v57) = v1 c
          ∧ r.2.mem ((c.tc : Thread Cert.Reference3Ideal.nD Cert.Reference3Ideal.τ).loc Cert.Reference3Ideal.main_v71) = v2 c
          ∧ r.2.mem ((c.tc : Thread Cert.Reference3Ideal.nD Cert.Reference3Ideal.τ).loc Cert.Reference3Ideal.main_v72) = v3 c
          ∧ r.2.mem ((c.tc : Thread Cert.Reference3Ideal.nD Cert.Reference3Ideal.τ).loc Cert.Reference3Ideal.main_v73) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_natural4 [hKernel4Ideal : Cert.Kernel4Ideal.Facts] [hReference4Ideal : Cert.Reference4Ideal.Facts] [hPre_natural4 : Cert.Pre_natural4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_natural4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v14)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  IdealRules.named_const.Statement Cert.Kernel5Ideal.κ "mask" .f32 0xF149F2CA#32 ⊥

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v14_0)) (v1 : (c : Dev Cert.Kernel5Ideal.nD) → Buf (Elt Ideal) ((c.tc : Thread Cert.Kernel5Ideal.nD Cert.Kernel5Ideal.τ).loc Cert.Kernel5Ideal.main_v14_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v14_0) = v0 c
          ∧ r.2.mem ((c.tc : Thread Cert.Kernel5Ideal.nD Cert.Kernel5Ideal.τ).loc Cert.Kernel5Ideal.main_v14_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v92) = v0 c
          ∧ r.2.mem ((c.tc : Thread Cert.Reference5Ideal.nD Cert.Reference5Ideal.τ).loc Cert.Reference5Ideal.main_v106) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v229) = v0 c
          ∧ r.2.mem ((c.tc : Thread Cert.Reference6Ideal.nD Cert.Reference6Ideal.τ).loc Cert.Reference6Ideal.main_v268) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)) (v2 : (c : Dev Cert.Kernel8Ideal.nD) → Buf (Elt Ideal) ((c.tc : Thread Cert.Kernel8Ideal.nD Cert.Kernel8Ideal.τ).loc Cert.Kernel8Ideal.main_v3_2)) (v3 : (c : Dev Cert.Kernel8Ideal.nD) → Buf (Elt Ideal) ((c.tc : Thread Cert.Kernel8Ideal.nD Cert.Kernel8Ideal.τ).loc Cert.Kernel8Ideal.main_v3_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_v3_2) = v2 c
          ∧ r.2.mem ((c.tc : Thread Cert.Kernel8Ideal.nD Cert.Kernel8Ideal.τ).loc Cert.Kernel8Ideal.main_v3_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v14) = v0 c
          ∧ r.2.mem ((c.tc : Thread Cert.Reference8Ideal.nD Cert.Reference8Ideal.τ).loc Cert.Reference8Ideal.main_v15) = v1 c
          ∧ r.2.mem ((c.tc : Thread Cert.Reference8Ideal.nD Cert.Reference8Ideal.τ).loc Cert.Reference8Ideal.main_v16) = v2 c
          ∧ r.2.mem ((c.tc : Thread Cert.Reference8Ideal.nD Cert.Reference8Ideal.τ).loc Cert.Reference8Ideal.main_v17) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v19) = v0 c
          ∧ r.2.mem ((c.tc : Thread Cert.Reference9Ideal.nD Cert.Reference9Ideal.τ).loc Cert.Reference9Ideal.main_v20) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v18)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v18) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v20) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1_0)) (v1 : (c : Dev Cert.Kernel11Ideal.nD) → Buf (Elt Ideal) ((c.tc : Thread Cert.Kernel11Ideal.nD Cert.Kernel11Ideal.τ).loc Cert.Kernel11Ideal.main_v1_1)) (v2 : (c : Dev Cert.Kernel11Ideal.nD) → Buf (Elt Ideal) ((c.tc : Thread Cert.Kernel11Ideal.nD Cert.Kernel11Ideal.τ).loc Cert.Kernel11Ideal.main_v1_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1_0) = v0 c
          ∧ r.2.mem ((c.tc : Thread Cert.Kernel11Ideal.nD Cert.Kernel11Ideal.τ).loc Cert.Kernel11Ideal.main_v1_1) = v1 c
          ∧ r.2.mem ((c.tc : Thread Cert.Kernel11Ideal.nD Cert.Kernel11Ideal.τ).loc Cert.Kernel11Ideal.main_v1_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_v6) = v1 c
          ∧ r.2.mem ((c.tc : Thread Cert.Reference11Ideal.nD Cert.Reference11Ideal.τ).loc Cert.Reference11Ideal.main_v7) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal_pre_buckets12 [hKernel12Ideal : Cert.Kernel12Ideal.Facts] [hReference12Ideal : Cert.Reference12Ideal.Facts] [hPre_buckets12 : Cert.Pre_buckets12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_buckets12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v7)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v7) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v31) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)) →
    ∃ (v0 : (c : Dev Cert.Kernel14Ideal.nD) → Buf (Elt Ideal) ((c.tc : Thread Cert.Kernel14Ideal.nD Cert.Kernel14Ideal.τ).loc Cert.Kernel14Ideal.main_v4_0)) (v1 : (c : Dev Cert.Kernel14Ideal.nD) → Buf (Elt Ideal) ((c.tc : Thread Cert.Kernel14Ideal.nD Cert.Kernel14Ideal.τ).loc Cert.Kernel14Ideal.main_v4_1)) (v2 : (c : Dev Cert.Kernel14Ideal.nD) → Buf (Elt Ideal) ((c.tc : Thread Cert.Kernel14Ideal.nD Cert.Kernel14Ideal.τ).loc Cert.Kernel14Ideal.main_v4_2)) (v3 : (c : Dev Cert.Kernel14Ideal.nD) → Buf (Elt Ideal) ((c.tc : Thread Cert.Kernel14Ideal.nD Cert.Kernel14Ideal.τ).loc Cert.Kernel14Ideal.main_v4_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4_0) = v0 c
          ∧ r.2.mem ((c.tc : Thread Cert.Kernel14Ideal.nD Cert.Kernel14Ideal.τ).loc Cert.Kernel14Ideal.main_v4_1) = v1 c
          ∧ r.2.mem ((c.tc : Thread Cert.Kernel14Ideal.nD Cert.Kernel14Ideal.τ).loc Cert.Kernel14Ideal.main_v4_2) = v2 c
          ∧ r.2.mem ((c.tc : Thread Cert.Kernel14Ideal.nD Cert.Kernel14Ideal.τ).loc Cert.Kernel14Ideal.main_v4_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v8) = v0 c
          ∧ r.2.mem ((c.tc : Thread Cert.Reference14Ideal.nD Cert.Reference14Ideal.τ).loc Cert.Reference14Ideal.main_v32) = v1 c
          ∧ r.2.mem ((c.tc : Thread Cert.Reference14Ideal.nD Cert.Reference14Ideal.τ).loc Cert.Reference14Ideal.main_v13) = v2 c
          ∧ r.2.mem ((c.tc : Thread Cert.Reference14Ideal.nD Cert.Reference14Ideal.τ).loc Cert.Reference14Ideal.main_v19) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)
      ∧ m' ((c.tc : Thread Cert.Reference15Ideal.nD Cert.Reference15Ideal.τ).loc Cert.Reference15Ideal.main_arg9) = m ((c.tc : Thread Cert.Kernel15Ideal.nD Cert.Kernel15Ideal.τ).loc Cert.Kernel15Ideal.main_arg9)
      ∧ m' ((c.tc : Thread Cert.Reference15Ideal.nD Cert.Reference15Ideal.τ).loc Cert.Reference15Ideal.main_arg10) = m ((c.tc : Thread Cert.Kernel15Ideal.nD Cert.Kernel15Ideal.τ).loc Cert.Kernel15Ideal.main_arg10)
      ∧ m' ((c.tc : Thread Cert.Reference15Ideal.nD Cert.Reference15Ideal.τ).loc Cert.Reference15Ideal.main_arg11) = m ((c.tc : Thread Cert.Kernel15Ideal.nD Cert.Kernel15Ideal.τ).loc Cert.Kernel15Ideal.main_arg11)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)) (v4 : (c : Dev Cert.Kernel15Ideal.nD) → Buf (Elt Ideal) ((c.tc : Thread Cert.Kernel15Ideal.nD Cert.Kernel15Ideal.τ).loc Cert.Kernel15Ideal.main_v0_4)) (v5 : (c : Dev Cert.Kernel15Ideal.nD) → Buf (Elt Ideal) ((c.tc : Thread Cert.Kernel15Ideal.nD Cert.Kernel15Ideal.τ).loc Cert.Kernel15Ideal.main_v0_5)) (v6 : (c : Dev Cert.Kernel15Ideal.nD) → Buf (Elt Ideal) ((c.tc : Thread Cert.Kernel15Ideal.nD Cert.Kernel15Ideal.τ).loc Cert.Kernel15Ideal.main_v0_6)) (v7 : (c : Dev Cert.Kernel15Ideal.nD) → Buf (Elt Ideal) ((c.tc : Thread Cert.Kernel15Ideal.nD Cert.Kernel15Ideal.τ).loc Cert.Kernel15Ideal.main_v0_7)) (v8 : (c : Dev Cert.Kernel15Ideal.nD) → Buf (Elt Ideal) ((c.tc : Thread Cert.Kernel15Ideal.nD Cert.Kernel15Ideal.τ).loc Cert.Kernel15Ideal.main_v0_8)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_v0_4) = v4 c
          ∧ r.2.mem ((c.tc : Thread Cert.Kernel15Ideal.nD Cert.Kernel15Ideal.τ).loc Cert.Kernel15Ideal.main_v0_5) = v5 c
          ∧ r.2.mem ((c.tc : Thread Cert.Kernel15Ideal.nD Cert.Kernel15Ideal.τ).loc Cert.Kernel15Ideal.main_v0_6) = v6 c
          ∧ r.2.mem ((c.tc : Thread Cert.Kernel15Ideal.nD Cert.Kernel15Ideal.τ).loc Cert.Kernel15Ideal.main_v0_7) = v7 c
          ∧ r.2.mem ((c.tc : Thread Cert.Kernel15Ideal.nD Cert.Kernel15Ideal.τ).loc Cert.Kernel15Ideal.main_v0_8) = v8 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
          ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
          ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
          ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v47) = v1 c
          ∧ r.2.mem ((c.tc : Thread Cert.Reference15Ideal.nD Cert.Reference15Ideal.τ).loc Cert.Reference15Ideal.main_v71) = v2 c
          ∧ r.2.mem ((c.tc : Thread Cert.Reference15Ideal.nD Cert.Reference15Ideal.τ).loc Cert.Reference15Ideal.main_v4) = v3 c
          ∧ r.2.mem ((c.tc : Thread Cert.Reference15Ideal.nD Cert.Reference15Ideal.τ).loc Cert.Reference15Ideal.main_v28) = v4 c
          ∧ r.2.mem ((c.tc : Thread Cert.Reference15Ideal.nD Cert.Reference15Ideal.τ).loc Cert.Reference15Ideal.main_v52) = v5 c
          ∧ r.2.mem ((c.tc : Thread Cert.Reference15Ideal.nD Cert.Reference15Ideal.τ).loc Cert.Reference15Ideal.main_v10) = v6 c
          ∧ r.2.mem ((c.tc : Thread Cert.Reference15Ideal.nD Cert.Reference15Ideal.τ).loc Cert.Reference15Ideal.main_v34) = v7 c
          ∧ r.2.mem ((c.tc : Thread Cert.Reference15Ideal.nD Cert.Reference15Ideal.τ).loc Cert.Reference15Ideal.main_v58) = v8 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8)
          ∧ r.2.mem ((c.tc : Thread Cert.Reference15Ideal.nD Cert.Reference15Ideal.τ).loc Cert.Reference15Ideal.main_arg9) = m' ((c.tc : Thread Cert.Reference15Ideal.nD Cert.Reference15Ideal.τ).loc Cert.Reference15Ideal.main_arg9)
          ∧ r.2.mem ((c.tc : Thread Cert.Reference15Ideal.nD Cert.Reference15Ideal.τ).loc Cert.Reference15Ideal.main_arg10) = m' ((c.tc : Thread Cert.Reference15Ideal.nD Cert.Reference15Ideal.τ).loc Cert.Reference15Ideal.main_arg10)
          ∧ r.2.mem ((c.tc : Thread Cert.Reference15Ideal.nD Cert.Reference15Ideal.τ).loc Cert.Reference15Ideal.main_arg11) = m' ((c.tc : Thread Cert.Reference15Ideal.nD Cert.Reference15Ideal.τ).loc Cert.Reference15Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite2 : Cert.Pre_finite2.Facts) (hPre_finite3 : Cert.Pre_finite3.Facts) (hPre_natural4 : Cert.Pre_natural4.Facts) (hPre_finite5 : Cert.Pre_finite5.Facts) (hPre_buckets12 : Cert.Pre_buckets12.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_natural4 (hKernel4Ideal := hKernel4Ideal) (hPre_natural4 := hPre_natural4)
    ∧ quiescent_Reference4Ideal (hReference4Ideal := hReference4Ideal)
    ∧ quiescent_Reference4Ideal_pre_natural4 (hReference4Ideal := hReference4Ideal) (hPre_natural4 := hPre_natural4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_buckets12 (hKernel12Ideal := hKernel12Ideal) (hPre_buckets12 := hPre_buckets12)
    ∧ quiescent_Reference12Ideal (hReference12Ideal := hReference12Ideal)
    ∧ quiescent_Reference12Ideal_pre_buckets12 (hReference12Ideal := hReference12Ideal) (hPre_buckets12 := hPre_buckets12)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_natural4 (hKernel4Ideal := hKernel4Ideal) (hReference4Ideal := hReference4Ideal) (hPre_natural4 := hPre_natural4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_buckets12 (hKernel12Ideal := hKernel12Ideal) (hReference12Ideal := hReference12Ideal) (hPre_buckets12 := hPre_buckets12)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_buckets12.lean ====
abbrev S32x8 : Shape := ⟨2, ![32, 8]⟩
abbrev S128x256 : Shape := ⟨2, ![128, 256]⟩
abbrev S_ : Shape := ⟨0, ![]⟩

class Facts : Prop where
  bcast_S_S128x256 : S_.BroadcastsInDim S128x256 (![] : Fin 0 → Fin S128x256.rank)

variable [Facts]

def fn {F : FTy → Type} [FloatOps F] (main_arg0 : FVec F S32x8 .f32) (main_arg1 : IVec S128x256 32) : IVec S128x256 1 :=
  let main_c : IVec S_ 32 := constantI S_ 32 0#32
  let main_v0 : IVec S128x256 32 := broadcastInDim S128x256 ![] bcast_S_S128x256 main_c
  let main_v1 : IVec S128x256 1 := cmpi .sge main_arg1 main_v0
  let main_c_0 : IVec S_ 32 := constantI S_ 32 32#32
  let main_v2 : IVec S128x256 32 := broadcastInDim S128x256 ![] bcast_S_S128x256 main_c_0
  let main_v3 : IVec S128x256 1 := cmpi .slt main_arg1 main_v2
  let main_v4 : IVec S128x256 1 := andi main_v1 main_v3
  main_v4
-- ==== Pre_finite2.lean ====
abbrev S8192x1024 : Shape := ⟨2, ![8192, 1024]⟩
abbrev S8192x512 : Shape := ⟨2, ![8192, 512]⟩
abbrev S8192x256 : Shape := ⟨2, ![8192, 256]⟩
abbrev S1024 : Shape := ⟨1, ![1024]⟩
abbrev S1024x1792 : Shape := ⟨2, ![1024, 1792]⟩
abbrev S_ : Shape := ⟨0, ![]⟩

class Facts : Prop where
  bcast_S_S8192x1024 : S_.BroadcastsInDim S8192x1024 (![] : Fin 0 → Fin S8192x1024.rank)
  bitsLt_bf16_f32 : FTy.bits .bf16 < FTy.bits .f32
  bcast_S_S8192x512 : S_.BroadcastsInDim S8192x512 (![] : Fin 0 → Fin S8192x512.rank)
  bcast_S_S8192x256 : S_.BroadcastsInDim S8192x256 (![] : Fin 0 → Fin S8192x256.rank)
  bcast_S_S1024 : S_.BroadcastsInDim S1024 (![] : Fin 0 → Fin S1024.rank)
  bcast_S_S1024x1792 : S_.BroadcastsInDim S1024x1792 (![] : Fin 0 → Fin S1024x1792.rank)

variable [Facts]

def fn_part1 {F : FTy → Type} [FloatOps F] (main_arg6 : FVec F S1024 .f32) (main_arg7 : FVec F S1024x1792 .f32) (main_v2 : IVec S8192x1024 1) (main_v6 : IVec S8192x512 1) (main_v10 : IVec S8192x256 1) (main_v14 : IVec S8192x512 1) (main_v18 : IVec S8192x512 1) : IVec S8192x1024 1 × IVec S8192x512 1 × IVec S8192x256 1 × IVec S8192x512 1 × IVec S8192x512 1 × IVec S1024 1 × IVec S1024x1792 1 :=
  let main_v19 : FVec F S1024 .f32 := Host.absf main_arg6
  let main_cst_4 : FVec F S_ .f32 := constant S_ .f32 0x7F800000#32
  let main_v20 : FVec F S1024 .f32 := broadcastInDim S1024 ![] bcast_S_S1024 main_cst_4
  let main_v21 : IVec S1024 1 := cmpf .olt main_v19 main_v20
  let main_v22 : FVec F S1024x1792 .f32 := Host.absf main_arg7
  let main_cst_5 : FVec F S_ .f32 := constant S_ .f32 0x7F800000#32
  let main_v23 : FVec F S1024x1792 .f32 := broadcastInDim S1024x1792 ![] bcast_S_S1024x1792 main_cst_5
  let main_v24 : IVec S1024x1792 1 := cmpf .olt main_v22 main_v23
  (main_v2, main_v6, main_v10, main_v14, main_v18, main_v21, main_v24)

def fn {F : FTy → Type} [FloatOps F] (main_arg0 : FVec F S8192x1024 .f32) (main_arg1 : FVec F S8192x1024 .f32) (main_arg2 : FVec F S8192x512 .bf16) (main_arg3 : FVec F S8192x256 .bf16) (main_arg4 : FVec F S8192x512 .bf16) (main_arg5 : FVec F S8192x512 .bf16) (main_arg6 : FVec F S1024 .f32) (main_arg7 : FVec F S1024x1792 .f32) : IVec S8192x1024 1 × IVec S8192x512 1 × IVec S8192x256 1 × IVec S8192x512 1 × IVec S8192x512 1 × IVec S1024 1 × IVec S1024x1792 1 :=
  let main_v0 : FVec F S8192x1024 .f32 := Host.absf main_arg1
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x512 .f32 := (extf .f32 · bitsLt_bf16_f32) main_arg2
  let main_v4 : FVec F S8192x512 .f32 := Host.absf main_v3
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_v7 : FVec F S8192x256 .f32 := (extf .f32 · bitsLt_bf16_f32) main_arg3
  let main_v8 : FVec F S8192x256 .f32 := Host.absf main_v7
  let main_cst_1 : FVec F S_ .f32 := constant S_ .f32 0x7F800000#32
  let main_v9 : FVec F S8192x256 .f32 := broadcastInDim S8192x256 ![] bcast_S_S8192x256 main_cst_1
  let main_v10 : IVec S8192x256 1 := cmpf .olt main_v8 main_v9
  let main_v11 : FVec F S8192x512 .f32 := (extf .f32 · bitsLt_bf16_f32) main_arg4
  let main_v12 : FVec F S8192x512 .f32 := Host.absf main_v11
  let main_cst_2 : FVec F S_ .f32 := constant S_ .f32 0x7F800000#32
  let main_v13 : FVec F S8192x512 .f32 := broadcastInDim S8192x512 ![] bcast_S_S8192x512 main_cst_2
  let main_v14 : IVec S8192x512 1 := cmpf .olt main_v12 main_v13
  let main_v15 : FVec F S8192x512 .f32 := (extf .f32 · bitsLt_bf16_f32) main_arg5
  let main_v16 : FVec F S8192x512 .f32 := Host.absf main_v15
  let main_cst_3 : FVec F S_ .f32 := constant S_ .f32 0x7F800000#32
  let main_v17 : FVec F S8192x512 .f32 := broadcastInDim S8192x512 ![] bcast_S_S8192x512 main_cst_3
  let main_v18 : IVec S8192x512 1 := cmpf .olt main_v16 main_v17
  fn_part1 (F := F) main_arg6 main_arg7 main_v2 main_v6 main_v10 main_v14 main_v18
-- ==== Pre_finite3.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x4096 : S_.BroadcastsInDim S1024x4096 (![] : Fin 0 → Fin S1024x4096.rank)
  bcast_S_S4096x1024 : S_.BroadcastsInDim S4096x1024 (![] : Fin 0 → Fin S4096x1024.rank)

variable [Facts]

def fn {F : FTy → Type} [FloatOps F] (main_arg0 : FVec F S8192x1024 .f32) (main_arg1 : FVec F S8192x1024 .f32) (main_arg2 : FVec F S1024 .f32) (main_arg3 : FVec F S1024x4096 .f32) (main_arg4 : FVec F S4096x1024 .f32) : IVec S8192x1024 1 × IVec S8192x1024 1 × IVec S1024 1 × IVec S1024x4096 1 × IVec S4096x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x4096 .f32 := Host.absf main_arg3
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_finite5.lean ====
abbrev S8192x512 : Shape := ⟨2, ![8192, 512]⟩
abbrev S8192x256 : Shape := ⟨2, ![8192, 256]⟩
abbrev S8x128x256 : Shape := ⟨3, ![8, 128, 256]⟩
abbrev S8 : Shape := ⟨1, ![8]⟩
abbrev S64 : Shape := ⟨1, ![64]⟩
abbrev S512 : Shape := ⟨1, ![512]⟩
abbrev S_ : Shape := ⟨0, ![]⟩

class Facts : Prop where
  bcast_S_S8x128x256 : S_.BroadcastsInDim S8x128x256 (![] : Fin 0 → Fin S8x128x256.rank)
  bcast_S_S8 : S_.BroadcastsInDim S8 (![] : Fin 0 → Fin S8.rank)
  bcast_S_S64 : S_.BroadcastsInDim S64 (![] : Fin 0 → Fin S64.rank)

variable [Facts]

def fn {F : FTy → Type} [FloatOps F] (main_arg0 : FVec F S8192x512 .f32) (main_arg1 : FVec F S8192x256 .f32) (main_arg2 : FVec F S8x128x256 .f32) (main_arg3 : FVec F S8 .f32) (main_arg4 : FVec F S64 .f32) (main_arg5 : FVec F S64 .f32) (main_arg6 : FVec F S512 .f32) : IVec S8x128x256 1 × IVec S8 1 × IVec S64 1 × IVec S64 1 :=
  let main_v0 : FVec F S8x128x256 .f32 := Host.absf main_arg2
  let main_cst : FVec F S_ .f32 := constant S_ .f32 0x7F800000#32
  let main_v1 : FVec F S8x128x256 .f32 := broadcastInDim S8x128x256 ![] bcast_S_S8x128x256 main_cst
  let main_v2 : IVec S8x128x256 1 := cmpf .olt main_v0 main_v1
  let main_v3 : FVec F S8 .f32 := Host.absf main_arg3
  let main_cst_0 : FVec F S_ .f32 := constant S_ .f32 0x7F800000#32
  let main_v4 : FVec F S8 .f32 := broadcastInDim S8 ![] bcast_S_S8 main_cst_0
  let main_v5 : IVec S8 1 := cmpf .olt main_v3 main_v4
  let main_v6 : FVec F S64 .f32 := Host.absf main_arg4
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  (main_v2, main_v5, main_v8, main_v11)
-- ==== Pre_natural4.lean ====
abbrev S4x8x128x256 : Shape := ⟨4, ![4, 8, 128, 256]⟩
abbrev S128x256 : Shape := ⟨2, ![128, 256]⟩
abbrev S_ : Shape := ⟨0, ![]⟩

class Facts : Prop where
  bcast_S_S128x256 : S_.BroadcastsInDim S128x256 (![] : Fin 0 → Fin S128x256.rank)

variable [Facts]

def fn {F : FTy → Type} [FloatOps F] (main_arg0 : FVec F S4x8x128x256 .f32) (main_arg1 : IVec S128x256 32) : IVec S128x256 1 :=
  let main_c : IVec S_ 32 := constantI S_ 32 0#32
  let main_v0 : IVec S128x256 32 := broadcastInDim S128x256 ![] bcast_S_S128x256 main_c
  let main_v1 : IVec S128x256 1 := cmpi .sge main_arg1 main_v0
  main_v1
-- ==== Kernel.lean ====
abbrev S8192x1024 : Shape := ⟨2, ![8192, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8x128, .f32⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x128, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S8192x1024 : Shape := ⟨2, ![8192, 1024]⟩
abbrev S_ : Shape := ⟨0, ![]⟩
abbrev S8192 : Shape := ⟨1, ![8192]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel2.lean ====
abbrev S8192x1024 : Shape := ⟨2, ![8192, 1024]⟩
abbrev S8192x512 : Shape := ⟨2, ![8192, 512]⟩
abbrev S8192x256 : Shape := ⟨2, ![8192, 256]⟩
abbrev S1024 : Shape := ⟨1, ![1024]⟩
abbrev S1024x1792 : Shape := ⟨2, ![1024, 1792]⟩
abbrev S1x1024 : Shape := ⟨2, ![1, 1024]⟩
abbrev S1792x1024 : Shape := ⟨2, ![1792, 1024]⟩
abbrev S8192x1792 : Shape := ⟨2, ![8192, 1792]⟩
abbrev S512x1024 : Shape := ⟨2, ![512, 1024]⟩
abbrev S512x512 : Shape := ⟨2, ![512, 512]⟩
abbrev S512x256 : Shape := ⟨2, ![512, 256]⟩
abbrev S512x1792 : Shape := ⟨2, ![512, 1792]⟩
abbrev S512 : Shape := ⟨1, ![512]⟩
abbrev S512x1 : Shape := ⟨2, ![512, 1]⟩

abbrev nBuf : Space → Nat
  | .hbm => 15
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .bf16⟩
  | .hbm, ⟨3, _⟩ => ⟨S8192x256, .bf16⟩
  | .hbm, ⟨4, _⟩ => ⟨S8192x512, .bf16⟩
  | .hbm, ⟨5, _⟩ => ⟨S8192x512, .bf16⟩
  | .hbm, ⟨6, _⟩ => ⟨S1024, .f32⟩
  | .hbm, ⟨7, _⟩ => ⟨S1024x1792, .f32⟩
  | .hbm, ⟨8, _⟩ => ⟨S1x1024, .f32⟩
  | .hbm, ⟨9, _⟩ => ⟨S1792x1024, .f32⟩
  | .hbm, ⟨10, _⟩ => ⟨S1792x1024, .bf16⟩
  | .hbm, ⟨11, _⟩ => ⟨S8192x1024, .f32⟩
  | .hbm, ⟨12, _⟩ => ⟨S8192x1024, .bf16⟩
  | .hbm, ⟨13, _⟩ => ⟨S1x1024, .f32⟩
  | .hbm, ⟨14, _⟩ => ⟨S8192x1792, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .bf16⟩
  | .local _ .vmem, ⟨5, _⟩ => ⟨S512x512, .bf16⟩
  | .local _ .vmem, ⟨6, _⟩ => ⟨S512x256, .bf16⟩
  | .local _ .vmem, ⟨7, _⟩ => ⟨S512x256, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S1x1024, .f32⟩
  | .local _ .vmem, ⟨13, _⟩ => ⟨S1792x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | .local _ .vmem, ⟨19, _⟩ => ⟨S512x1792, .bf16⟩
  | .local _ .vmem, ⟨20, _⟩ => ⟨S512x1792, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1792x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1792 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S8192x1024 : Shape := ⟨2, ![8192, 1024]⟩
abbrev S8192x512 : Shape := ⟨2, ![8192, 512]⟩
abbrev S8192x256 : Shape := ⟨2, ![8192, 256]⟩
abbrev S1024 : Shape := ⟨1, ![1024]⟩
abbrev S1024x1792 : Shape := ⟨2, ![1024, 1792]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x1792 : Shape := ⟨2, ![8192, 1792]⟩

abbrev nBuf : Space → Nat
  | .hbm => 84
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .bf16⟩
  | .hbm, ⟨3, _⟩ => ⟨S8192x256, .bf16⟩
  | .hbm, ⟨4, _⟩ => ⟨S8192x512, .bf16⟩
  | .hbm, ⟨5, _⟩ => ⟨S8192x512, .bf16⟩
  | .hbm, ⟨6, _⟩ => ⟨S1024, .f32⟩
  | .hbm, ⟨7, _⟩ => ⟨S1024x1792, .f32⟩
  | .hbm, ⟨8, _⟩ => ⟨S8192x512, .f32⟩
  | .hbm, ⟨9, _⟩ => ⟨S8192x256, .f32⟩
  | .hbm, ⟨10, _⟩ => ⟨S8192x512, .f32⟩
  | .hbm, ⟨11, _⟩ => ⟨S8192x512, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1792, .f32⟩
  | .hbm, ⟨33, _⟩ => ⟨S8192x512, .f32⟩
  | .hbm, ⟨34, _⟩ => ⟨S8192x256, .f32⟩
  | .hbm, ⟨35, _⟩ => ⟨S8192x512, .f32⟩
  | .hbm, ⟨36, _⟩ => ⟨S8192x512, .f32⟩
  | .hbm, ⟨37, _⟩ => ⟨S8192x1792, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S8192x1024, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S8192x1, .f32⟩
  | .hbm, ⟨76, _⟩ => ⟨S8192x1024, .f32⟩
  | .hbm, ⟨77, _⟩ => ⟨S8192x1024, .f32⟩
  | .hbm, ⟨78, _⟩ => ⟨S1x1024, .f32⟩
  | .hbm, ⟨79, _⟩ => ⟨S8192x1024, .f32⟩
  | .hbm, ⟨80, _⟩ => ⟨S8192x1024, .f32⟩
  | .hbm, ⟨81, _⟩ => ⟨S8192x1024, .bf16⟩
  | .hbm, ⟨82, _⟩ => ⟨S1x1024, .f32⟩
  | .hbm, ⟨83, _⟩ => ⟨S8192x1792, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_8 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩

abbrev nD : Nat := 1
abbrev τ : Topo := Topo.v7x

variable {F : FTy → Type} [FloatOps F]
-- ==== Kernel3.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S8192x8x512 : Shape := ⟨3, ![8192, 8, 512]⟩
abbrev S8x8192x512 : Shape := ⟨3, ![8, 8192, 512]⟩
abbrev S512x1024 : Shape := ⟨2, ![512, 1024]⟩
abbrev S8x512x512 : Shape := ⟨3, ![8, 512, 512]⟩
abbrev S512 : Shape := ⟨1, ![512]⟩
abbrev S512x1 : Shape := ⟨2, ![512, 1]⟩
abbrev S512x512 : Shape := ⟨2, ![512, 512]⟩
abbrev S1x512x512 : Shape := ⟨3, ![1, 512, 512]⟩

abbrev nBuf : Space → Nat
  | .hbm => 34
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S8192x4096, .bf16⟩
  | .hbm, ⟨23, _⟩ => ⟨S8192x8x512, .bf16⟩
  | .hbm, ⟨24, _⟩ => ⟨S8x8192x512, .bf16⟩
  | .hbm, ⟨25, _⟩ => ⟨S1x1024, .f32⟩
  | .hbm, ⟨26, _⟩ => ⟨S4096x1024, .f32⟩
  | .hbm, ⟨27, _⟩ => ⟨S4096x1024, .bf16⟩
  | .hbm, ⟨28, _⟩ => ⟨S4096x1024, .bf16⟩
  | .hbm, ⟨29, _⟩ => ⟨S8192x1024, .f32⟩
  | .hbm, ⟨30, _⟩ => ⟨S8x8192x512, .bf16⟩
  | .hbm, ⟨31, _⟩ => ⟨S8192x1024, .bf16⟩
  | .hbm, ⟨32, _⟩ => ⟨S1x1024, .f32⟩
  | .hbm, ⟨33, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x512x512, .bf16⟩
  | .local _ .vmem, ⟨5, _⟩ => ⟨S8x512x512, .bf16⟩
  | .local _ .vmem, ⟨6, _⟩ => ⟨S1x1024, .f32⟩
  | .local _ .vmem, ⟨7, _⟩ => ⟨S4096x1024, .bf16⟩
  | .local _ .vmem, ⟨8, _⟩ => ⟨S4096x1024, .bf16⟩
  | .local _ .vmem, ⟨9, _⟩ => ⟨S512x1024, .f32⟩
  | .local _ .vmem, ⟨10, _⟩ => ⟨S512x1024, .f32⟩
  | .local _ .vmem, ⟨11, _⟩ => ⟨S8x512x512, .bf16⟩
  | .local _ .vmem, ⟨12, _⟩ => ⟨S8x512x512, .bf16⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21_0 : Ref sig .tc := ⟨.hbm, 29, rfl⟩
abbrev main_v21_1 : Ref sig .tc := ⟨.hbm, 30, rfl⟩
abbrev main_v21_2 : Ref sig .tc := ⟨.hbm, 31, rfl⟩
abbrev main_v21_3 : Ref sig .tc := ⟨.hbm, 32, rfl⟩
abbrev main_v21_4 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192x4096 : Shape := ⟨2, ![8192, 4096]⟩
abbrev S8192 : Shape := ⟨1, ![8192]⟩
abbrev S8192x1 : Shape := ⟨2, ![8192, 1]⟩
abbrev S1x1024 : Shape := ⟨2, ![1, 1024]⟩
abbrev S8192x8x512 : Shape := ⟨3, ![8192, 8, 512]⟩
abbrev S8x8192x512 : Shape := ⟨3, ![8, 8192, 512]⟩

abbrev nBuf : Space → Nat
  | .hbm => 98
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S_, .f32⟩
  | .hbm, ⟨6, _⟩ => ⟨S8192x4096, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x4096, .f32⟩
  | .hbm, ⟨28, _⟩ => ⟨S8192x4096, .f32⟩
  | .hbm, ⟨29, _⟩ => ⟨S_, .f32⟩
  | .hbm, ⟨30, _⟩ => ⟨S8192x4096, .f32⟩
  | .hbm, ⟨31, _⟩ => ⟨S8192x4096, .f32⟩
  | .hbm, ⟨32, _⟩ => ⟨S_, .f32⟩
  | .hbm, ⟨33, _⟩ => ⟨S8192x4096, .f32⟩
  | .hbm, ⟨34, _⟩ => ⟨S8192x4096, .i1⟩
  | .hbm, ⟨35, _⟩ => ⟨S_, .f32⟩
  | .hbm, ⟨36, _⟩ => ⟨S8192x4096, .f32⟩
  | .hbm, ⟨37, _⟩ => ⟨S8192x4096, .f32⟩
  | .hbm, ⟨38, _⟩ => ⟨S_, .f32⟩
  | .hbm, ⟨39, _⟩ => ⟨S8192x4096, .f32⟩
  | .hbm, ⟨40, _⟩ => ⟨S8192x4096, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x4096, .f32⟩
  | .hbm, ⟨45, _⟩ => ⟨S8192x4096, .f32⟩
  | .hbm, ⟨46, _⟩ => ⟨S_, .f32⟩
  | .hbm, ⟨47, _⟩ => ⟨S8192x4096, .f32⟩
  | .hbm, ⟨48, _⟩ => ⟨S8192x4096, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x8x512, .f32⟩
  | .hbm, ⟨77, _⟩ => ⟨S8x8192x512, .f32⟩
  | .hbm, ⟨78, _⟩ => ⟨S8x8192x512, .bf16⟩
  | .hbm, ⟨79, _⟩ => ⟨S8192x1024, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S8192x1, .f32⟩
  | .hbm, ⟨90, _⟩ => ⟨S8192x1024, .f32⟩
  | .hbm, ⟨91, _⟩ => ⟨S8192x1024, .f32⟩
  | .hbm, ⟨92, _⟩ => ⟨S1x1024, .f32⟩
  | .hbm, ⟨93, _⟩ => ⟨S8192x1024, .f32⟩
  | .hbm, ⟨94, _⟩ => ⟨S8192x1024, .f32⟩
  | .hbm, ⟨95, _⟩ => ⟨S8192x1024, .bf16⟩
  | .hbm, ⟨96, _⟩ => ⟨S1x1024, .f32⟩
  | .hbm, ⟨97, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_cst_12 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_13 : Ref sig .tc := ⟨.hbm, 80, rfl⟩
abbrev main_v59 : Ref sig .tc := ⟨.hbm, 81, rfl⟩
abbrev main_v60 : Ref sig .tc := ⟨.hbm, 82, rfl⟩
abbrev main_cst_14 : Ref sig .tc := ⟨.hbm, 83, rfl⟩
abbrev main_v61 : Ref sig .tc := ⟨.hbm, 84, rfl⟩
abbrev main_v62 : Ref sig .tc := ⟨.hbm, 85, rfl⟩
abbrev main_cst_15 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩

abbrev nD : Nat := 1
abbrev τ : Topo := Topo.v7x

variable {F : FTy → Type} [FloatOps F]
-- ==== Kernel4.lean ====
abbrev S4x8x128x256 : Shape := ⟨4, ![4, 8, 128, 256]⟩
abbrev S128x256 : Shape := ⟨2, ![128, 256]⟩
abbrev S128x128 : Shape := ⟨2, ![128, 128]⟩
abbrev S4x8x128x128 : Shape := ⟨4, ![4, 8, 128, 128]⟩
abbrev S4x2x4x128x128 : Shape := ⟨5, ![4, 2, 4, 128, 128]⟩
abbrev S4x2x128x4x128 : Shape := ⟨5, ![4, 2, 128, 4, 128]⟩
abbrev S4x2x128x512 : Shape := ⟨4, ![4, 2, 128, 512]⟩
abbrev S8x128 : Shape := ⟨2, ![8, 128]⟩
abbrev S1x128 : Shape := ⟨2, ![1, 128]⟩
abbrev S1x1x128x128 : Shape := ⟨4, ![1, 1, 128, 128]⟩
abbrev S1x128x128 : Shape := ⟨3, ![1, 128, 128]⟩
abbrev S1 : Shape := ⟨1, ![1]⟩
abbrev S1x1x1 : Shape := ⟨3, ![1, 1, 1]⟩

abbrev nBuf : Space → Nat
  | .hbm => 18
  | .vmem => 3
  | .smem => 0
  | _ => 0

abbrev bufTy : (tb : Table) → Fin (tcTables nBuf tb) → BufTy
  | .hbm, ⟨0, _⟩ => ⟨S4x8x128x256, .f32⟩
  | .hbm, ⟨1, _⟩ => ⟨S128x256, .i32⟩
  | .hbm, ⟨2, _⟩ => ⟨S128x128, .i32⟩
  | .hbm, ⟨3, _⟩ => ⟨S128x128, .i32⟩
  | .hbm, ⟨4, _⟩ => ⟨S128x128, .i1⟩
  | .hbm, ⟨5, _⟩ => ⟨S4x8x128x128, .f32⟩
  | .hbm, ⟨6, _⟩ => ⟨S4x8x128x128, .f32⟩
  | .hbm, ⟨7, _⟩ => ⟨S4x8x128x128, .i1⟩
  | .hbm, ⟨8, _⟩ => ⟨S4x8x128x128, .f32⟩
  | .hbm, ⟨9, _⟩ => ⟨S4x2x4x128x128, .f32⟩
  | .hbm, ⟨10, _⟩ => ⟨S4x2x128x4x128, .f32⟩
  | .hbm, ⟨11, _⟩ => ⟨S128x128, .i1⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S128x128, .i32⟩
  | .hbm, ⟨16, _⟩ => ⟨S4x2x128x512, .f32⟩
  | .hbm, ⟨17, _⟩ => ⟨S8x128, .f32⟩
  | .local _ .vmem, ⟨0, _⟩ => ⟨S4x2x128x512, .f32⟩
  | .local _ .vmem, ⟨1, _⟩ => ⟨S128x128, .i32⟩
  | .local _ .vmem, ⟨2, _⟩ => ⟨S8x128, .f32⟩
  | _, _ => ⟨S4x8x128x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4x2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference4Ideal.lean ====
abbrev S4x8x128x256 : Shape := ⟨4, ![4, 8, 128, 256]⟩
abbrev S128x256 : Shape := ⟨2, ![128, 256]⟩
abbrev S_ : Shape := ⟨0, ![]⟩
abbrev S32x8 : Shape := ⟨2, ![32, 8]⟩
abbrev S128x256x1 : Shape := ⟨3, ![128, 256, 1]⟩
abbrev S128x256x8 : Shape := ⟨3, ![128, 256, 8]⟩
abbrev S8x128x256 : Shape := ⟨3, ![8, 128, 256]⟩
abbrev S8x32 : Shape := ⟨2, ![8, 32]⟩
abbrev S8x96 : Shape := ⟨2, ![8, 96]⟩
abbrev S8x128 : Shape := ⟨2, ![8, 128]⟩

abbrev nBuf : Space → Nat
  | .hbm => 48
  | .vmem => 0
  | .smem => 0
  | _ => 0

abbrev bufTy : (tb : Table) → Fin (tcTables nBuf tb) → BufTy
  | .hbm, ⟨0, _⟩ => ⟨S4x8x128x256, .f32⟩
  | .hbm, ⟨1, _⟩ => ⟨S128x256, .i32⟩
  | .hbm, ⟨2, _⟩ => ⟨S_, .f32⟩
  | .hbm, ⟨3, _⟩ => ⟨S32x8, .f32⟩
  | .hbm, ⟨4, _⟩ => ⟨S128x256, .i32⟩
  | .hbm, ⟨5, _⟩ => ⟨S_, .i32⟩
  | .hbm, ⟨6, _⟩ => ⟨S128x256, .i32⟩
  | .hbm, ⟨7, _⟩ => ⟨S128x256, .i32⟩
  | .hbm, ⟨8, _⟩ => ⟨S128x256, .i32⟩
  | .hbm, ⟨9, _⟩ => ⟨S128x256, .i32⟩
  | .hbm, ⟨10, _⟩ => ⟨S_, .i32⟩
  | .hbm, ⟨11, _⟩ => ⟨S128x256, .i32⟩
  | .hbm, ⟨12, _⟩ => ⟨S128x256, .i1⟩
  | .hbm, ⟨13, _⟩ => ⟨S_, .i32⟩
  | .hbm, ⟨14, _⟩ => ⟨S128x256, .i32⟩
  | .hbm, ⟨15, _⟩ => ⟨S128x256, .i1⟩
  | .hbm, ⟨16, _⟩ => ⟨S128x256, .i1⟩
  | .hbm, ⟨17, _⟩ => ⟨S_, .i32⟩
  | .hbm, ⟨18, _⟩ => ⟨S128x256, .i32⟩
  | .hbm, ⟨19, _⟩ => ⟨S128x256, .i1⟩
  | .hbm, ⟨20, _⟩ => ⟨S_, .i32⟩
  | .hbm, ⟨21, _⟩ => ⟨S128x256, .i32⟩
  | .hbm, ⟨22, _⟩ => ⟨S128x256, .i32⟩
  | .hbm, ⟨23, _⟩ => ⟨S128x256, .i32⟩
  | .hbm, ⟨24, _⟩ => ⟨S128x256x1, .i32⟩
  | .hbm, ⟨25, _⟩ => ⟨S128x256x8, .f32⟩
  | .hbm, ⟨26, _⟩ => ⟨S8x128x256, .f32⟩
  | .hbm, ⟨27, _⟩ => ⟨S_, .f32⟩
  | .hbm, ⟨28, _⟩ => ⟨S_, .f32⟩
  | .hbm, ⟨29, _⟩ => ⟨S8x128x256, .i1⟩
  | .hbm, ⟨30, _⟩ => ⟨S8x128x256, .f32⟩
  | .hbm, ⟨31, _⟩ => ⟨S8x128x256, .f32⟩
  | .hbm, ⟨32, _⟩ => ⟨S_, .f32⟩
  | .hbm, ⟨33, _⟩ => ⟨S8x128x256, .f32⟩
  | .hbm, ⟨34, _⟩ => ⟨S4x8x128x256, .f32⟩
  | .hbm, ⟨35, _⟩ => ⟨S_, .f32⟩
  | .hbm, ⟨36, _⟩ => ⟨S8x128x256, .f32⟩
  | .hbm, ⟨37, _⟩ => ⟨S_, .f32⟩
  | .hbm, ⟨38, _⟩ => ⟨S8x128x256, .f32⟩
  | .hbm, ⟨39, _⟩ => ⟨S8x128x256, .f32⟩
  | .hbm, ⟨40, _⟩ => ⟨S128x256x8, .f32⟩
  | .hbm, ⟨41, _⟩ => ⟨S_, .f32⟩
  | .hbm, ⟨42, _⟩ => ⟨S32x8, .f32⟩
  | .hbm, ⟨43, _⟩ => ⟨S32x8, .f32⟩
  | .hbm, ⟨44, _⟩ => ⟨S8x32, .f32⟩
  | .hbm, ⟨45, _⟩ => ⟨S_, .f32⟩
  | .hbm, ⟨46, _⟩ => ⟨S8x96, .f32⟩
  | .hbm, ⟨47, _⟩ => ⟨S8x128, .f32⟩
  | _, _ => ⟨S4x8x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_call0_v0 : Ref sig .tc := ⟨.hbm, 28, rfl⟩
abbrev main_v19_1 : Ref sig .tc := ⟨.hbm, 29, rfl⟩
abbrev main_call0_v2 : Ref sig .tc := ⟨.hbm, 30, rfl⟩
abbrev main_v19_0 : Ref sig .tc := ⟨.hbm, 31, rfl⟩
abbrev main_call0_cst : Ref sig .tc := ⟨.hbm, 32, rfl⟩
abbrev main_v19_2 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_call1_cst : Ref sig .tc := ⟨.hbm, 37, rfl⟩
abbrev main_call1_v0 : Ref sig .tc := ⟨.hbm, 38, rfl⟩
abbrev main_v22 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩
abbrev main_v28 : Ref sig .tc := ⟨.hbm, 47, rfl⟩

abbrev nD : Nat := 1
abbrev τ : Topo := Topo.v7x

variable {F : FTy → Type} [FloatOps F]
-- ==== Kernel5.lean ====
abbrev S8192x512 : Shape := ⟨2, ![8192, 512]⟩
abbrev S8192x256 : Shape := ⟨2, ![8192, 256]⟩
abbrev S8x128x256 : Shape := ⟨3, ![8, 128, 256]⟩
abbrev S8 : Shape := ⟨1, ![8]⟩
abbrev S64 : Shape := ⟨1, ![64]⟩
abbrev S512 : Shape := ⟨1, ![512]⟩
abbrev S128x128 : Shape := ⟨2, ![128, 128]⟩
abbrev S8x128x128 : Shape := ⟨3, ![8, 128, 128]⟩
abbrev S2x4x128x128 : Shape := ⟨4, ![2, 4, 128, 128]⟩
abbrev S2x128x4x128 : Shape := ⟨4, ![2, 128, 4, 128]⟩
abbrev S2x128x512 : Shape := ⟨3, ![2, 128, 512]⟩
abbrev S1x64 : Shape := ⟨2, ![1, 64]⟩
abbrev S1x512 : Shape := ⟨2, ![1, 512]⟩
abbrev S64x1 : Shape := ⟨2, ![64, 1]⟩
abbrev S1024x512 : Shape := ⟨2, ![1024, 512]⟩
abbrev S1024x256 : Shape := ⟨2, ![1024, 256]⟩
abbrev S128x256 : Shape := ⟨2, ![128, 256]⟩
abbrev S128x512 : Shape := ⟨2, ![128, 512]⟩
abbrev S256x128 : Shape := ⟨2, ![256, 128]⟩
abbrev S128x64 : Shape := ⟨2, ![128, 64]⟩
abbrev S128 : Shape := ⟨1, ![128]⟩
abbrev S128x1 : Shape := ⟨2, ![128, 1]⟩
abbrev S64x128 : Shape := ⟨2, ![64, 128]⟩
abbrev S512x128 : Shape := ⟨2, ![512, 128]⟩
abbrev S64x512 : Shape := ⟨2, ![64, 512]⟩
abbrev S1x128x512 : Shape := ⟨3, ![1, 128, 512]⟩
abbrev S1 : Shape := ⟨1, ![1]⟩

abbrev nBuf : Space → Nat
  | .hbm => 24
  | .vmem => 15
  | .smem => 1
  | _ => 0

abbrev bufTy : (tb : Table) → Fin (tcTables nBuf tb) → BufTy
  | .hbm, ⟨0, _⟩ => ⟨S8192x512, .f32⟩
  | .hbm, ⟨1, _⟩ => ⟨S8192x256, .f32⟩
  | .hbm, ⟨2, _⟩ => ⟨S8x128x256, .f32⟩
  | .hbm, ⟨3, _⟩ => ⟨S8, .f32⟩
  | .hbm, ⟨4, _⟩ => ⟨S64, .f32⟩
  | .hbm, ⟨5, _⟩ => ⟨S64, .f32⟩
  | .hbm, ⟨6, _⟩ => ⟨S512, .f32⟩
  | .hbm, ⟨7, _⟩ => ⟨S128x128, .i32⟩
  | .hbm, ⟨8, _⟩ => ⟨S128x128, .i32⟩
  | .hbm, ⟨9, _⟩ => ⟨S128x128, .i1⟩
  | .hbm, ⟨10, _⟩ => ⟨S8x128x128, .f32⟩
  | .hbm, ⟨11, _⟩ => ⟨S8x128x128, .f32⟩
  | .hbm, ⟨12, _⟩ => ⟨S8x128x128, .i1⟩
  | .hbm, ⟨13, _⟩ => ⟨S8x128x128, .f32⟩
  | .hbm, ⟨14, _⟩ => ⟨S2x4x128x128, .f32⟩
  | .hbm, ⟨15, _⟩ => ⟨S2x128x4x128, .f32⟩
  | .hbm, ⟨16, _⟩ => ⟨S2x128x512, .f32⟩
  | .hbm, ⟨17, _⟩ => ⟨S1x64, .f32⟩
  | .hbm, ⟨18, _⟩ => ⟨S1x64, .f32⟩
  | .hbm, ⟨19, _⟩ => ⟨S1x512, .f32⟩
  | .hbm, ⟨20, _⟩ => ⟨S64x1, .f32⟩
  | .hbm, ⟨21, _⟩ => ⟨S64x1, .f32⟩
  | .hbm, ⟨22, _⟩ => ⟨S8192x512, .f32⟩
  | .hbm, ⟨23, _⟩ => ⟨S8192x512, .bf16⟩
  | .local _ .vmem, ⟨0, _⟩ => ⟨S1024x512, .f32⟩
  | .local _ .vmem, ⟨1, _⟩ => ⟨S1024x512, .f32⟩
  | .local _ .vmem, ⟨2, _⟩ => ⟨S1024x256, .f32⟩
  | .local _ .vmem, ⟨3, _⟩ => ⟨S1024x256, .f32⟩
  | .local _ .vmem, ⟨4, _⟩ => ⟨S128x256, .f32⟩
  | .local _ .vmem, ⟨5, _⟩ => ⟨S128x256, .f32⟩
  | .local _ .vmem, ⟨6, _⟩ => ⟨S2x128x512, .f32⟩
  | .local _ .vmem, ⟨7, _⟩ => ⟨S64x1, .f32⟩
  | .local _ .vmem, ⟨8, _⟩ => ⟨S1x64, .f32⟩
  | .local _ .vmem, ⟨9, _⟩ => ⟨S64x1, .f32⟩
  | .local _ .vmem, ⟨10, _⟩ => ⟨S1x512, .f32⟩
  | .local _ .vmem, ⟨11, _⟩ => ⟨S1024x512, .f32⟩
  | .local _ .vmem, ⟨12, _⟩ => ⟨S1024x512, .f32⟩
  | .local _ .vmem, ⟨13, _⟩ => ⟨S1024x512, .bf16⟩
  | .local _ .vmem, ⟨14, _⟩ => ⟨S1024x512, .bf16⟩
  | .local _ .smem, ⟨0, _⟩ => ⟨S8, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel5Ideal.lean ====
variable {F : FTy → Type} [FloatOps F] [Named F]
def κ : String → Option EReal := fun
  | "mask" => some ⊥
  | _ => none
-- ==== Reference5Ideal.lean ====
abbrev S8192x512 : Shape := ⟨2, ![8192, 512]⟩
abbrev S8192x256 : Shape := ⟨2, ![8192, 256]⟩
abbrev S8x128x256 : Shape := ⟨3, ![8, 128, 256]⟩
abbrev S8 : Shape := ⟨1, ![8]⟩
abbrev S64 : Shape := ⟨1, ![64]⟩
abbrev S512 : Shape := ⟨1, ![512]⟩
abbrev S8192x128 : Shape := ⟨2, ![8192, 128]⟩
abbrev S8192x8x64 : Shape := ⟨3, ![8192, 8, 64]⟩
abbrev S_ : Shape := ⟨0, ![]⟩
abbrev S8192x8 : Shape := ⟨2, ![8192, 8]⟩
abbrev S8192x8x1 : Shape := ⟨3, ![8192, 8, 1]⟩
abbrev S1x1x64 : Shape := ⟨3, ![1, 1, 64]⟩
abbrev S8192x2x64 : Shape := ⟨3, ![8192, 2, 64]⟩
abbrev S8192x2 : Shape := ⟨2, ![8192, 2]⟩
abbrev S8192x2x1 : Shape := ⟨3, ![8192, 2, 1]⟩
abbrev S64x128x256 : Shape := ⟨3, ![64, 128, 256]⟩
abbrev S2x4x128x256 : Shape := ⟨4, ![2, 4, 128, 256]⟩
abbrev S64x128x2x4x64 : Shape := ⟨5, ![64, 128, 2, 4, 64]⟩
abbrev S128x2x64 : Shape := ⟨3, ![128, 2, 64]⟩
abbrev S8320x2x64 : Shape := ⟨3, ![8320, 2, 64]⟩
abbrev S64x128x2x64 : Shape := ⟨4, ![64, 128, 2, 64]⟩
abbrev S64x256x2x64 : Shape := ⟨4, ![64, 256, 2, 64]⟩
abbrev S64x2x256x128x4 : Shape := ⟨5, ![64, 2, 256, 128, 4]⟩
abbrev S64x2x4x128x256 : Shape := ⟨5, ![64, 2, 4, 128, 256]⟩
abbrev S1x2x4x128x256 : Shape := ⟨5, ![1, 2, 4, 128, 256]⟩
abbrev S64x1x1x128x256 : Shape := ⟨5, ![64, 1, 1, 128, 256]⟩
abbrev S2x4 : Shape := ⟨2, ![2, 4]⟩
abbrev S1x2x4x1x1 : Shape := ⟨5, ![1, 2, 4, 1, 1]⟩
abbrev S64x2x4x128 : Shape := ⟨4, ![64, 2, 4, 128]⟩
abbrev S64x2x4x128x1 : Shape := ⟨5, ![64, 2, 4, 128, 1]⟩
abbrev S64x2x64x4x128 : Shape := ⟨5, ![64, 2, 64, 4, 128]⟩
abbrev S8192 : Shape := ⟨1, ![8192]⟩
abbrev S8192x1 : Shape := ⟨2, ![8192, 1]⟩
abbrev S1x512 : Shape := ⟨2, ![1, 512]⟩

abbrev nBuf : Space → Nat
  | .hbm => 138
  | .vmem => 0
  | .smem => 0
  | _ => 0

abbrev hbmTy0_0 (i : Nat) : BufTy := match i % 128 with
  | 0 => ⟨S8192x512, .f32⟩
  | 1 => ⟨S8192x256, .f32⟩
  | 2 => ⟨S8x128x256, .f32⟩
  | 3 => ⟨S8, .f32⟩
  | 4 => ⟨S64, .f32⟩
  | 5 => ⟨S64, .f32⟩
  | 6 => ⟨S512, .f32⟩
  | 7 => ⟨S8192x128, .f32⟩
  | 8 => ⟨S8192x128, .f32⟩
  | 9 => ⟨S8192x8x64, .f32⟩
  | 10 => ⟨S8192x8x64, .f32⟩
  | 11 => ⟨S_, .f32⟩
  | 12 => ⟨S8192x8, .f32⟩
  | 13 => ⟨S8192x8x1, .f32⟩
  | 14 => ⟨S_, .f32⟩
  | 15 => ⟨S8192x8x1, .f32⟩
  | 16 => ⟨S8192x8x1, .f32⟩
  | 17 => ⟨S_, .f32⟩
  | 18 => ⟨S8192x8x1, .f32⟩
  | 19 => ⟨S8192x8x1, .f32⟩
  | 20 => ⟨S8192x8x1, .f32⟩
  | 21 => ⟨S8192x8x64, .f32⟩
  | 22 => ⟨S8192x8x64, .f32⟩
  | 23 => ⟨S1x1x64, .f32⟩
  | 24 => ⟨S8192x8x64, .f32⟩
  | 25 => ⟨S8192x8x64, .f32⟩
  | 26 => ⟨S8192x2x64, .f32⟩
  | 27 => ⟨S8192x2x64, .f32⟩
  | 28 => ⟨S_, .f32⟩
  | 29 => ⟨S8192x2, .f32⟩
  | 30 => ⟨S8192x2x1, .f32⟩
  | 31 => ⟨S_, .f32⟩
  | 32 => ⟨S8192x2x1, .f32⟩
  | 33 => ⟨S8192x2x1, .f32⟩
  | 34 => ⟨S_, .f32⟩
  | 35 => ⟨S8192x2x1, .f32⟩
  | 36 => ⟨S8192x2x1, .f32⟩
  | 37 => ⟨S8192x2x1, .f32⟩
  | 38 => ⟨S8192x2x64, .f32⟩
  | 39 => ⟨S8192x2x64, .f32⟩
  | 40 => ⟨S1x1x64, .f32⟩
  | 41 => ⟨S8192x2x64, .f32⟩
  | 42 => ⟨S8192x2x64, .f32⟩
  | 43 => ⟨S8192x2x64, .f32⟩
  | 44 => ⟨S64x128x256, .i32⟩
  | 45 => ⟨S64x128x256, .i32⟩
  | 46 => ⟨S64x128x256, .i32⟩
  | 47 => ⟨S_, .i32⟩
  | 48 => ⟨S64x128x256, .i32⟩
  | 49 => ⟨S64x128x256, .i32⟩
  | 50 => ⟨S64x128x256, .i32⟩
  | 51 => ⟨S_, .i32⟩
  | 52 => ⟨S64x128x256, .i32⟩
  | 53 => ⟨S64x128x256, .i1⟩
  | 54 => ⟨S_, .i32⟩
  | 55 => ⟨S64x128x256, .i32⟩
  | 56 => ⟨S64x128x256, .i1⟩
  | 57 => ⟨S64x128x256, .i1⟩
  | 58 => ⟨S_, .i32⟩
  | 59 => ⟨S64x128x256, .i32⟩
  | 60 => ⟨S64x128x256, .i32⟩
  | 61 => ⟨S_, .i32⟩
  | 62 => ⟨S64x128x256, .i32⟩
  | 63 => ⟨S64x128x256, .i32⟩
  | 64 => ⟨S64x128x256, .i32⟩
  | 65 => ⟨S_, .i32⟩
  | 66 => ⟨S64x128x256, .i32⟩
  | 67 => ⟨S64x128x256, .i1⟩
  | 68 => ⟨S64x128x256, .i1⟩
  | 69 => ⟨S2x4x128x256, .f32⟩
  | 70 => ⟨S64x128x2x4x64, .f32⟩
  | 71 => ⟨S_, .f32⟩
  | 72 => ⟨S128x2x64, .f32⟩
  | 73 => ⟨S8320x2x64, .f32⟩
  | 74 => ⟨S8192x2x64, .f32⟩
  | 75 => ⟨S64x128x2x64, .f32⟩
  | 76 => ⟨S64x128x2x64, .f32⟩
  | 77 => ⟨S64x256x2x64, .f32⟩
  | 78 => ⟨S_, .f32⟩
  | 79 => ⟨S128x2x64, .f32⟩
  | 80 => ⟨S8320x2x64, .f32⟩
  | 81 => ⟨S8192x2x64, .f32⟩
  | 82 => ⟨S64x128x2x64, .f32⟩
  | 83 => ⟨S64x128x2x64, .f32⟩
  | 84 => ⟨S64x256x2x64, .f32⟩
  | 85 => ⟨S64x2x256x128x4, .f32⟩
  | 86 => ⟨S64x2x4x128x256, .f32⟩
  | 87 => ⟨S_, .f32⟩
  | 88 => ⟨S64x2x4x128x256, .f32⟩
  | 89 => ⟨S64x2x4x128x256, .f32⟩
  | 90 => ⟨S1x2x4x128x256, .f32⟩
  | 91 => ⟨S64x2x4x128x256, .f32⟩
  | 92 => ⟨S64x2x4x128x256, .f32⟩
  | 93 => ⟨S64x1x1x128x256, .i1⟩
  | 94 => ⟨S_, .f32⟩
  | 95 => ⟨S_, .f32⟩
  | 96 => ⟨S64x2x4x128x256, .i1⟩
  | 97 => ⟨S64x2x4x128x256, .f32⟩
  | 98 => ⟨S64x2x4x128x256, .f32⟩
  | 99 => ⟨S2x4, .f32⟩
  | 100 => ⟨S1x2x4x1x1, .f32⟩
  | 101 => ⟨S_, .f32⟩
  | 102 => ⟨S64x2x4x128, .f32⟩
  | 103 => ⟨S64x2x4x128x1, .f32⟩
  | 104 => ⟨S64x2x4x128x1, .f32⟩
  | 105 => ⟨S64x2x4x128x1, .f32⟩
  | 106 => ⟨S64x2x4x128x256, .f32⟩
  | 107 => ⟨S64x2x4x128x256, .f32⟩
  | 108 => ⟨S64x2x4x128x256, .f32⟩
  | 109 => ⟨S_, .f32⟩
  | 110 => ⟨S64x2x4x128, .f32⟩
  | 111 => ⟨S64x2x4x128x1, .f32⟩
  | 112 => ⟨S64x2x4x128x1, .f32⟩
  | 113 => ⟨S64x2x4x128x1, .f32⟩
  | 114 => ⟨S64x2x4x128x1, .f32⟩
  | 115 => ⟨S64x2x4x128x1, .f32⟩
  | 116 => ⟨S64x2x4x128x256, .f32⟩
  | 117 => ⟨S64x2x4x128x256, .f32⟩
  | 118 => ⟨S64x2x64x4x128, .f32⟩
  | 119 => ⟨S64x128x2x4x64, .f32⟩
  | 120 => ⟨S8192x512, .f32⟩
  | 121 => ⟨S8192x512, .f32⟩
  | 122 => ⟨S_, .f32⟩
  | 123 => ⟨S8192, .f32⟩
  | 124 => ⟨S8192x1, .f32⟩
  | 125 => ⟨S_, .f32⟩
  | 126 => ⟨S8192x1, .f32⟩
  | 127 => ⟨S8192x1, .f32⟩
  | _ => ⟨S8192x512, .f32⟩

abbrev hbmTy0_1 (i : Nat) : BufTy := match i % 128 with
  | 0 => ⟨S_, .f32⟩
  | 1 => ⟨S8192x1, .f32⟩
  | 2 => ⟨S8192x1, .f32⟩
  | 3 => ⟨S8192x1, .f32⟩
  | 4 => ⟨S8192x512, .f32⟩
  | 5 => ⟨S8192x512, .f32⟩
  | 6 => ⟨S1x512, .f32⟩
  | 7 => ⟨S8192x512, .f32⟩
  | 8 => ⟨S8192x512, .f32⟩
  | 9 => ⟨S8192x512, .bf16⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_5 : Ref sig .tc := ⟨.hbm, 51, rfl⟩
abbrev main_v37 : Ref sig .tc := ⟨.hbm, 52, rfl⟩
abbrev main_v38 : Ref sig .tc := ⟨.hbm, 53, rfl⟩
abbrev main_c_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_7 : Ref sig .tc := ⟨.hbm, 58, rfl⟩
abbrev main_v42 : Ref sig .tc := ⟨.hbm, 59, rfl⟩
abbrev main_v43 : Ref sig .tc := ⟨.hbm, 60, rfl⟩
abbrev main_c_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_11 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_12 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_13 : Ref sig .tc := ⟨.hbm, 94, rfl⟩
abbrev main_call0_v0 : Ref sig .tc := ⟨.hbm, 95, rfl⟩
abbrev main_call0_v1 : Ref sig .tc := ⟨.hbm, 96, rfl⟩
abbrev main_call0_v2 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_14 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_15 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_16 : Ref sig .tc := ⟨.hbm, 122, rfl⟩
abbrev main_v94 : Ref sig .tc := ⟨.hbm, 123, rfl⟩
abbrev main_v95 : Ref sig .tc := ⟨.hbm, 124, rfl⟩
abbrev main_cst_17 : Ref sig .tc := ⟨.hbm, 125, rfl⟩
abbrev main_v96 : Ref sig .tc := ⟨.hbm, 126, rfl⟩
abbrev main_v97 : Ref sig .tc := ⟨.hbm, 127, rfl⟩
abbrev main_cst_18 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩

abbrev nD : Nat := 1
abbrev τ : Topo := Topo.v7x

variable {F : FTy → Type} [FloatOps F]
-- ==== Kernel6.lean ====
abbrev S8192x512 : Shape := ⟨2, ![8192, 512]⟩
abbrev S31x512 : Shape := ⟨2, ![31, 512]⟩
abbrev S512 : Shape := ⟨1, ![512]⟩
abbrev S_ : Shape := ⟨0, ![]⟩
abbrev S32x512 : Shape := ⟨2, ![32, 512]⟩
abbrev S1x512 : Shape := ⟨2, ![1, 512]⟩
abbrev S512x512 : Shape := ⟨2, ![512, 512]⟩
abbrev S544x512 : Shape := ⟨2, ![544, 512]⟩
abbrev S88x512 : Shape := ⟨2, ![88, 512]⟩
abbrev S64x512 : Shape := ⟨2, ![64, 512]⟩
abbrev S80x512 : Shape := ⟨2, ![80, 512]⟩
abbrev S64 : Shape := ⟨1, ![64]⟩
abbrev S64x1 : Shape := ⟨2, ![64, 1]⟩

abbrev nBuf : Space → Nat
  | .hbm => 16
  | .vmem => 19
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S31x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S_, .i32⟩
  | .hbm, ⟨8, _⟩ => ⟨S_, .f32⟩
  | .hbm, ⟨9, _⟩ => ⟨S32x512, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S8192x512, .f32⟩
  | .hbm, ⟨15, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S32x512, .f32⟩
  | .local _ .vmem, ⟨5, _⟩ => ⟨S32x512, .f32⟩
  | .local _ .vmem, ⟨6, _⟩ => ⟨S32x512, .f32⟩
  | .local _ .vmem, ⟨7, _⟩ => ⟨S32x512, .f32⟩
  | .local _ .vmem, ⟨8, _⟩ => ⟨S32x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S512x512, .f32⟩
  | .local _ .vmem, ⟨14, _⟩ => ⟨S512x512, .f32⟩
  | .local _ .vmem, ⟨15, _⟩ => ⟨S512x512, .bf16⟩
  | .local _ .vmem, ⟨16, _⟩ => ⟨S512x512, .bf16⟩
  | .local _ .vmem, ⟨17, _⟩ => ⟨S544x512, .f32⟩
  | .local _ .vmem, ⟨18, _⟩ => ⟨S88x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S8192x512 : Shape := ⟨2, ![8192, 512]⟩
abbrev S31x512 : Shape := ⟨2, ![31, 512]⟩
abbrev S512 : Shape := ⟨1, ![512]⟩
abbrev S_ : Shape := ⟨0, ![]⟩
abbrev S30x512 : Shape := ⟨2, ![30, 512]⟩
abbrev S8222x512 : Shape := ⟨2, ![8222, 512]⟩
abbrev S1x512 : Shape := ⟨2, ![1, 512]⟩
abbrev S8192 : Shape := ⟨1, ![8192]⟩
abbrev S8192x1 : Shape := ⟨2, ![8192, 1]⟩

abbrev nBuf : Space → Nat
  | .hbm => 296
  | .vmem => 0
  | .smem => 0
  | _ => 0

abbrev hbmTy0_0 (i : Nat) : BufTy := match i % 128 with
  | 0 => ⟨S8192x512, .f32⟩
  | 1 => ⟨S8192x512, .f32⟩
  | 2 => ⟨S31x512, .f32⟩
  | 3 => ⟨S512, .f32⟩
  | 4 => ⟨S512, .f32⟩
  | 5 => ⟨S512, .f32⟩
  | 6 => ⟨S512, .f32⟩
  | 7 => ⟨S8192x512, .f32⟩
  | 8 => ⟨S8192x512, .f32⟩
  | 9 => ⟨S_, .f32⟩
  | 10 => ⟨S8192x512, .f32⟩
  | 11 => ⟨S8192x512, .f32⟩
  | 12 => ⟨S_, .f32⟩
  | 13 => ⟨S8192x512, .f32⟩
  | 14 => ⟨S8192x512, .f32⟩
  | 15 => ⟨S8192x512, .f32⟩
  | 16 => ⟨S_, .f32⟩
  | 17 => ⟨S30x512, .f32⟩
  | 18 => ⟨S8222x512, .f32⟩
  | 19 => ⟨S_, .f32⟩
  | 20 => ⟨S8192x512, .f32⟩
  | 21 => ⟨S8192x512, .f32⟩
  | 22 => ⟨S1x512, .f32⟩
  | 23 => ⟨S512, .f32⟩
  | 24 => ⟨S1x512, .f32⟩
  | 25 => ⟨S8192x512, .f32⟩
  | 26 => ⟨S8192x512, .f32⟩
  | 27 => ⟨S8192x512, .f32⟩
  | 28 => ⟨S8192x512, .f32⟩
  | 29 => ⟨S1x512, .f32⟩
  | 30 => ⟨S512, .f32⟩
  | 31 => ⟨S1x512, .f32⟩
  | 32 => ⟨S8192x512, .f32⟩
  | 33 => ⟨S8192x512, .f32⟩
  | 34 => ⟨S8192x512, .f32⟩
  | 35 => ⟨S8192x512, .f32⟩
  | 36 => ⟨S1x512, .f32⟩
  | 37 => ⟨S512, .f32⟩
  | 38 => ⟨S1x512, .f32⟩
  | 39 => ⟨S8192x512, .f32⟩
  | 40 => ⟨S8192x512, .f32⟩
  | 41 => ⟨S8192x512, .f32⟩
  | 42 => ⟨S8192x512, .f32⟩
  | 43 => ⟨S1x512, .f32⟩
  | 44 => ⟨S512, .f32⟩
  | 45 => ⟨S1x512, .f32⟩
  | 46 => ⟨S8192x512, .f32⟩
  | 47 => ⟨S8192x512, .f32⟩
  | 48 => ⟨S8192x512, .f32⟩
  | 49 => ⟨S8192x512, .f32⟩
  | 50 => ⟨S1x512, .f32⟩
  | 51 => ⟨S512, .f32⟩
  | 52 => ⟨S1x512, .f32⟩
  | 53 => ⟨S8192x512, .f32⟩
  | 54 => ⟨S8192x512, .f32⟩
  | 55 => ⟨S8192x512, .f32⟩
  | 56 => ⟨S8192x512, .f32⟩
  | 57 => ⟨S1x512, .f32⟩
  | 58 => ⟨S512, .f32⟩
  | 59 => ⟨S1x512, .f32⟩
  | 60 => ⟨S8192x512, .f32⟩
  | 61 => ⟨S8192x512, .f32⟩
  | 62 => ⟨S8192x512, .f32⟩
  | 63 => ⟨S8192x512, .f32⟩
  | 64 => ⟨S1x512, .f32⟩
  | 65 => ⟨S512, .f32⟩
  | 66 => ⟨S1x512, .f32⟩
  | 67 => ⟨S8192x512, .f32⟩
  | 68 => ⟨S8192x512, .f32⟩
  | 69 => ⟨S8192x512, .f32⟩
  | 70 => ⟨S8192x512, .f32⟩
  | 71 => ⟨S1x512, .f32⟩
  | 72 => ⟨S512, .f32⟩
  | 73 => ⟨S1x512, .f32⟩
  | 74 => ⟨S8192x512, .f32⟩
  | 75 => ⟨S8192x512, .f32⟩
  | 76 => ⟨S8192x512, .f32⟩
  | 77 => ⟨S8192x512, .f32⟩
  | 78 => ⟨S1x512, .f32⟩
  | 79 => ⟨S512, .f32⟩
  | 80 => ⟨S1x512, .f32⟩
  | 81 => ⟨S8192x512, .f32⟩
  | 82 => ⟨S8192x512, .f32⟩
  | 83 => ⟨S8192x512, .f32⟩
  | 84 => ⟨S8192x512, .f32⟩
  | 85 => ⟨S1x512, .f32⟩
  | 86 => ⟨S512, .f32⟩
  | 87 => ⟨S1x512, .f32⟩
  | 88 => ⟨S8192x512, .f32⟩
  | 89 => ⟨S8192x512, .f32⟩
  | 90 => ⟨S8192x512, .f32⟩
  | 91 => ⟨S8192x512, .f32⟩
  | 92 => ⟨S1x512, .f32⟩
  | 93 => ⟨S512, .f32⟩
  | 94 => ⟨S1x512, .f32⟩
  | 95 => ⟨S8192x512, .f32⟩
  | 96 => ⟨S8192x512, .f32⟩
  | 97 => ⟨S8192x512, .f32⟩
  | 98 => ⟨S8192x512, .f32⟩
  | 99 => ⟨S1x512, .f32⟩
  | 100 => ⟨S512, .f32⟩
  | 101 => ⟨S1x512, .f32⟩
  | 102 => ⟨S8192x512, .f32⟩
  | 103 => ⟨S8192x512, .f32⟩
  | 104 => ⟨S8192x512, .f32⟩
  | 105 => ⟨S8192x512, .f32⟩
  | 106 => ⟨S1x512, .f32⟩
  | 107 => ⟨S512, .f32⟩
  | 108 => ⟨S1x512, .f32⟩
  | 109 => ⟨S8192x512, .f32⟩
  | 110 => ⟨S8192x512, .f32⟩
  | 111 => ⟨S8192x512, .f32⟩
  | 112 => ⟨S8192x512, .f32⟩
  | 113 => ⟨S1x512, .f32⟩
  | 114 => ⟨S512, .f32⟩
  | 115 => ⟨S1x512, .f32⟩
  | 116 => ⟨S8192x512, .f32⟩
  | 117 => ⟨S8192x512, .f32⟩
  | 118 => ⟨S8192x512, .f32⟩
  | 119 => ⟨S8192x512, .f32⟩
  | 120 => ⟨S1x512, .f32⟩
  | 121 => ⟨S512, .f32⟩
  | 122 => ⟨S1x512, .f32⟩
  | 123 => ⟨S8192x512, .f32⟩
  | 124 => ⟨S8192x512, .f32⟩
  | 125 => ⟨S8192x512, .f32⟩
  | 126 => ⟨S8192x512, .f32⟩
  | 127 => ⟨S1x512, .f32⟩
  | _ => ⟨S8192x512, .f32⟩

abbrev hbmTy0_1 (i : Nat) : BufTy := match i % 128 with
  | 0 => ⟨S512, .f32⟩
  | 1 => ⟨S1x512, .f32⟩
  | 2 => ⟨S8192x512, .f32⟩
  | 3 => ⟨S8192x512, .f32⟩
  | 4 => ⟨S8192x512, .f32⟩
  | 5 => ⟨S8192x512, .f32⟩
  | 6 => ⟨S1x512, .f32⟩
  | 7 => ⟨S512, .f32⟩
  | 8 => ⟨S1x512, .f32⟩
  | 9 => ⟨S8192x512, .f32⟩
  | 10 => ⟨S8192x512, .f32⟩
  | 11 => ⟨S8192x512, .f32⟩
  | 12 => ⟨S8192x512, .f32⟩
  | 13 => ⟨S1x512, .f32⟩
  | 14 => ⟨S512, .f32⟩
  | 15 => ⟨S1x512, .f32⟩
  | 16 => ⟨S8192x512, .f32⟩
  | 17 => ⟨S8192x512, .f32⟩
  | 18 => ⟨S8192x512, .f32⟩
  | 19 => ⟨S8192x512, .f32⟩
  | 20 => ⟨S1x512, .f32⟩
  | 21 => ⟨S512, .f32⟩
  | 22 => ⟨S1x512, .f32⟩
  | 23 => ⟨S8192x512, .f32⟩
  | 24 => ⟨S8192x512, .f32⟩
  | 25 => ⟨S8192x512, .f32⟩
  | 26 => ⟨S8192x512, .f32⟩
  | 27 => ⟨S1x512, .f32⟩
  | 28 => ⟨S512, .f32⟩
  | 29 => ⟨S1x512, .f32⟩
  | 30 => ⟨S8192x512, .f32⟩
  | 31 => ⟨S8192x512, .f32⟩
  | 32 => ⟨S8192x512, .f32⟩
  | 33 => ⟨S8192x512, .f32⟩
  | 34 => ⟨S1x512, .f32⟩
  | 35 => ⟨S512, .f32⟩
  | 36 => ⟨S1x512, .f32⟩
  | 37 => ⟨S8192x512, .f32⟩
  | 38 => ⟨S8192x512, .f32⟩
  | 39 => ⟨S8192x512, .f32⟩
  | 40 => ⟨S8192x512, .f32⟩
  | 41 => ⟨S1x512, .f32⟩
  | 42 => ⟨S512, .f32⟩
  | 43 => ⟨S1x512, .f32⟩
  | 44 => ⟨S8192x512, .f32⟩
  | 45 => ⟨S8192x512, .f32⟩
  | 46 => ⟨S8192x512, .f32⟩
  | 47 => ⟨S8192x512, .f32⟩
  | 48 => ⟨S1x512, .f32⟩
  | 49 => ⟨S512, .f32⟩
  | 50 => ⟨S1x512, .f32⟩
  | 51 => ⟨S8192x512, .f32⟩
  | 52 => ⟨S8192x512, .f32⟩
  | 53 => ⟨S8192x512, .f32⟩
  | 54 => ⟨S8192x512, .f32⟩
  | 55 => ⟨S1x512, .f32⟩
  | 56 => ⟨S512, .f32⟩
  | 57 => ⟨S1x512, .f32⟩
  | 58 => ⟨S8192x512, .f32⟩
  | 59 => ⟨S8192x512, .f32⟩
  | 60 => ⟨S8192x512, .f32⟩
  | 61 => ⟨S8192x512, .f32⟩
  | 62 => ⟨S1x512, .f32⟩
  | 63 => ⟨S512, .f32⟩
  | 64 => ⟨S1x512, .f32⟩
  | 65 => ⟨S8192x512, .f32⟩
  | 66 => ⟨S8192x512, .f32⟩
  | 67 => ⟨S8192x512, .f32⟩
  | 68 => ⟨S8192x512, .f32⟩
  | 69 => ⟨S1x512, .f32⟩
  | 70 => ⟨S512, .f32⟩
  | 71 => ⟨S1x512, .f32⟩
  | 72 => ⟨S8192x512, .f32⟩
  | 73 => ⟨S8192x512, .f32⟩
  | 74 => ⟨S8192x512, .f32⟩
  | 75 => ⟨S8192x512, .f32⟩
  | 76 => ⟨S1x512, .f32⟩
  | 77 => ⟨S512, .f32⟩
  | 78 => ⟨S1x512, .f32⟩
  | 79 => ⟨S8192x512, .f32⟩
  | 80 => ⟨S8192x512, .f32⟩
  | 81 => ⟨S8192x512, .f32⟩
  | 82 => ⟨S8192x512, .f32⟩
  | 83 => ⟨S1x512, .f32⟩
  | 84 => ⟨S512, .f32⟩
  | 85 => ⟨S1x512, .f32⟩
  | 86 => ⟨S8192x512, .f32⟩
  | 87 => ⟨S8192x512, .f32⟩
  | 88 => ⟨S8192x512, .f32⟩
  | 89 => ⟨S8192x512, .f32⟩
  | 90 => ⟨S1x512, .f32⟩
  | 91 => ⟨S512, .f32⟩
  | 92 => ⟨S1x512, .f32⟩
  | 93 => ⟨S8192x512, .f32⟩
  | 94 => ⟨S8192x512, .f32⟩
  | 95 => ⟨S8192x512, .f32⟩
  | 96 => ⟨S8192x512, .f32⟩
  | 97 => ⟨S1x512, .f32⟩
  | 98 => ⟨S512, .f32⟩
  | 99 => ⟨S1x512, .f32⟩
  | 100 => ⟨S8192x512, .f32⟩
  | 101 => ⟨S8192x512, .f32⟩
  | 102 => ⟨S8192x512, .f32⟩
  | 103 => ⟨S8192x512, .f32⟩
  | 104 => ⟨S1x512, .f32⟩
  | 105 => ⟨S512, .f32⟩
  | 106 => ⟨S1x512, .f32⟩
  | 107 => ⟨S8192x512, .f32⟩
  | 108 => ⟨S8192x512, .f32⟩
  | 109 => ⟨S8192x512, .f32⟩
  | 110 => ⟨S1x512, .f32⟩
  | 111 => ⟨S8192x512, .f32⟩
  | 112 => ⟨S8192x512, .f32⟩
  | 113 => ⟨S_, .f32⟩
  | 114 => ⟨S8192, .f32⟩
  | 115 => ⟨S8192x1, .f32⟩
  | 116 => ⟨S_, .f32⟩
  | 117 => ⟨S8192x1, .f32⟩
  | 118 => ⟨S8192x1, .f32⟩
  | 119 => ⟨S8192x512, .f32⟩
  | 120 => ⟨S8192x512, .f32⟩
  | 121 => ⟨S8192x512, .f32⟩
  | 122 => ⟨S_, .f32⟩
  | 123 => ⟨S8192, .f32⟩
  | 124 => ⟨S8192x1, .f32⟩
  | 125 => ⟨S_, .f32⟩
  | 126 => ⟨S8192x1, .f32⟩
  | 127 => ⟨S8192x1, .f32⟩
  | _ => ⟨S8192x512, .f32⟩

abbrev hbmTy0_2 (i : Nat) : BufTy := match i % 128 with
  | 0 => ⟨S8192x512, .f32⟩
  | 1 => ⟨S8192x512, .f32⟩
  | 2 => ⟨S_, .f32⟩
  | 3 => ⟨S8192x1, .f32⟩
  | 4 => ⟨S8192x1, .f32⟩
  | 5 => ⟨S8192x1, .f32⟩
  | 6 => ⟨S8192x512, .f32⟩
  | 7 => ⟨S8192x512, .f32⟩
  | 8 => ⟨S1x512, .f32⟩
  | 9 => ⟨S8192x512, .f32⟩
  | 10 => ⟨S8192x512, .f32⟩
  | 11 => ⟨S1x512, .f32⟩
  | 12 => ⟨S8192x512, .f32⟩
  | 13 => ⟨S8192x512, .f32⟩
  | 14 => ⟨S8192x512, .f32⟩
  | 15 => ⟨S8192x512, .f32⟩
  | 16 => ⟨S_, .f32⟩
  | 17 => ⟨S8192x512, .f32⟩
  | 18 => ⟨S8192x512, .f32⟩
  | 19 => ⟨S_, .f32⟩
  | 20 => ⟨S8192x512, .f32⟩
  | 21 => ⟨S8192x512, .f32⟩
  | 22 => ⟨S8192x512, .f32⟩
  | 23 => ⟨S8192x512, .f32⟩
  | 24 => ⟨S_, .f32⟩
  | 25 => ⟨S8192, .f32⟩
  | 26 => ⟨S8192x1, .f32⟩
  | 27 => ⟨S_, .f32⟩
  | 28 => ⟨S8192x1, .f32⟩
  | 29 => ⟨S8192x1, .f32⟩
  | 30 => ⟨S_, .f32⟩
  | 31 => ⟨S8192x1, .f32⟩
  | 32 => ⟨S8192x1, .f32⟩
  | 33 => ⟨S8192x1, .f32⟩
  | 34 => ⟨S8192x512, .f32⟩
  | 35 => ⟨S8192x512, .f32⟩
  | 36 => ⟨S1x512, .f32⟩
  | 37 => ⟨S8192x512, .f32⟩
  | 38 => ⟨S8192x512, .f32⟩
  | 39 => ⟨S8192x512, .bf16⟩
  | _ => ⟨S8192x512, .f32⟩

abbrev hbmTy (i : Nat) : BufTy := match i / 128 with
  | 0 => hbmTy0_0 i
  | 1 => hbmTy0_1 i
  | 2 => hbmTy0_2 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_cst_3 : Ref sig .tc := ⟨.hbm, 241, rfl⟩
abbrev main_v230 : Ref sig .tc := ⟨.hbm, 242, rfl⟩
abbrev main_v231 : Ref sig .tc := ⟨.hbm, 243, rfl⟩
abbrev main_cst_4 : Ref sig .tc := ⟨.hbm, 244, rfl⟩
abbrev main_v232 : Ref sig .tc := ⟨.hbm, 245, rfl⟩
abbrev main_v233 : Ref sig .tc := ⟨.hbm, 246, rfl⟩
abbrev main_v234 : Ref sig .tc := ⟨.hbm, 247, rfl⟩
abbrev main_v235 : Ref sig .tc := ⟨.hbm, 248, rfl⟩
abbrev main_v236 : Ref sig .tc := ⟨.hbm, 249, rfl⟩
abbrev main_cst_5 : Ref sig .tc := ⟨.hbm, 250, rfl⟩
abbrev main_v237 : Ref sig .tc := ⟨.hbm, 251, rfl⟩
abbrev main_v238 : Ref sig .tc := ⟨.hbm, 252, rfl⟩
abbrev main_cst_6 : Ref sig .tc := ⟨.hbm, 253, rfl⟩
abbrev main_v239 : Ref sig .tc := ⟨.hbm, 254, rfl⟩
abbrev main_v240 : Ref sig .tc := ⟨.hbm, 255, rfl⟩
abbrev main_v241 : Ref sig .tc := ⟨.hbm, 256, rfl⟩
abbrev main_v242 : Ref sig .tc := ⟨.hbm, 257, rfl⟩
abbrev main_cst_7 : Ref sig .tc := ⟨.hbm, 258, rfl⟩
abbrev main_v243 : Ref sig .tc := ⟨.hbm, 259, rfl⟩
abbrev main_v244 : Ref sig .tc := ⟨.hbm, 260, rfl⟩
abbrev main_v245 : Ref sig .tc := ⟨.hbm, 261, rfl⟩
abbrev main_v246 : Ref sig .tc := ⟨.hbm, 262, rfl⟩
abbrev main_v247 : Ref sig .tc := ⟨.hbm, 263, rfl⟩
abbrev main_v248 : Ref sig .tc := ⟨.hbm, 264, rfl⟩
abbrev main_v249 : Ref sig .tc := ⟨.hbm, 265, rfl⟩
abbrev main_v250 : Ref sig .tc := ⟨.hbm, 266, rfl⟩
abbrev main_v251 : Ref sig .tc := ⟨.hbm, 267, rfl⟩
abbrev main_v252 : Ref sig .tc := ⟨.hbm, 268, rfl⟩
abbrev main_v253 : Ref sig .tc := ⟨.hbm, 269, rfl⟩
abbrev main_call0_v0 : Ref sig .tc := ⟨.hbm, 270, rfl⟩
abbrev main_call0_v1 : Ref sig .tc := ⟨.hbm, 271, rfl⟩
abbrev main_call0_cst : Ref sig .tc := ⟨.hbm, 272, rfl⟩
abbrev main_call0_v2 : Ref sig .tc := ⟨.hbm, 273, rfl⟩
abbrev main_call0_v3 : Ref sig .tc := ⟨.hbm, 274, rfl⟩
abbrev main_call0_cst_0 : Ref sig .tc := ⟨.hbm, 275, rfl⟩
abbrev main_call0_v4 : Ref sig .tc := ⟨.hbm, 276, rfl⟩
abbrev main_call0_v5 : Ref sig .tc := ⟨.hbm, 277, rfl⟩
abbrev main_v254 : Ref sig .tc := ⟨.hbm, 278, rfl⟩
abbrev main_v255 : Ref sig .tc := ⟨.hbm, 279, rfl⟩
abbrev main_cst_8 : Ref sig .tc := ⟨.hbm, 280, rfl⟩
abbrev main_v256 : Ref sig .tc := ⟨.hbm, 281, rfl⟩
abbrev main_v257 : Ref sig .tc := ⟨.hbm, 282, rfl⟩
abbrev main_cst_9 : Ref sig .tc := ⟨.hbm, 283, rfl⟩
abbrev main_v258 : Ref sig .tc := ⟨.hbm, 284, rfl⟩
abbrev main_v259 : Ref sig .tc := ⟨.hbm, 285, rfl⟩
abbrev main_cst_10 : Ref sig .tc := ⟨.hbm, 286, rfl⟩
abbrev main_v260 : Ref sig .tc := ⟨.hbm, 287, rfl⟩
abbrev main_v261 : Ref sig .tc := ⟨.hbm, 288, rfl⟩
abbrev main_v262 : Ref sig .tc := ⟨.hbm, 289, rfl⟩
abbrev main_v263 : Ref sig .tc := ⟨.hbm, 290, rfl⟩
abbrev main_v264 : Ref sig .tc := ⟨.hbm, 291, rfl⟩
abbrev main_v265 : Ref sig .tc := ⟨.hbm, 292, rfl⟩
abbrev main_v266 : Ref sig .tc := ⟨.hbm, 293, rfl⟩
abbrev main_v267 : Ref sig .tc := ⟨.hbm, 294, rfl⟩
abbrev main_v268 : Ref sig .tc := ⟨.hbm, 295, rfl⟩

abbrev nD : Nat := 1
abbrev τ : Topo := Topo.v7x

variable {F : FTy → Type} [FloatOps F]
-- ==== Kernel7.lean ====
abbrev S8192x512 : Shape := ⟨2, ![8192, 512]⟩
abbrev S31x512 : Shape := ⟨2, ![31, 512]⟩
abbrev S512 : Shape := ⟨1, ![512]⟩
abbrev S_ : Shape := ⟨0, ![]⟩
abbrev S30x512 : Shape := ⟨2, ![30, 512]⟩
abbrev S8222x512 : Shape := ⟨2, ![8222, 512]⟩
abbrev S1x512 : Shape := ⟨2, ![1, 512]⟩
abbrev S32x512 : Shape := ⟨2, ![32, 512]⟩
abbrev S40x512 : Shape := ⟨2, ![40, 512]⟩
abbrev S512x512 : Shape := ⟨2, ![512, 512]⟩
abbrev S544x512 : Shape := ⟨2, ![544, 512]⟩
abbrev S256x512 : Shape := ⟨2, ![256, 512]⟩
abbrev S88x512 : Shape := ⟨2, ![88, 512]⟩
abbrev S64x512 : Shape := ⟨2, ![64, 512]⟩
abbrev S64 : Shape := ⟨1, ![64]⟩
abbrev S64x1 : Shape := ⟨2, ![64, 1]⟩
abbrev S8x512 : Shape := ⟨2, ![8, 512]⟩
abbrev S8x8x512 : Shape := ⟨3, ![8, 8, 512]⟩
abbrev S32 : Shape := ⟨1, ![32]⟩
abbrev S32x1 : Shape := ⟨2, ![32, 1]⟩
abbrev S80x512 : Shape := ⟨2, ![80, 512]⟩

abbrev nBuf : Space → Nat
  | .hbm => 251
  | .vmem => 30
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S31x512, .f32⟩
  | 4 => ⟨S512, .f32⟩
  | 5 => ⟨S512, .f32⟩
  | 6 => ⟨S512, .f32⟩
  | 7 => ⟨S512, .f32⟩
  | 8 => ⟨S8192x512, .f32⟩
  | 9 => ⟨S8192x512, .f32⟩
  | 10 => ⟨S_, .f32⟩
  | 11 => ⟨S8192x512, .f32⟩
  | 12 => ⟨S8192x512, .f32⟩
  | 13 => ⟨S_, .f32⟩
  | 14 => ⟨S8192x512, .f32⟩
  | 15 => ⟨S8192x512, .f32⟩
  | 16 => ⟨S8192x512, .f32⟩
  | 17 => ⟨S_, .f32⟩
  | 18 => ⟨S30x512, .f32⟩
  | 19 => ⟨S8222x512, .f32⟩
  | 20 => ⟨S_, .f32⟩
  | 21 => ⟨S8192x512, .f32⟩
  | 22 => ⟨S8192x512, .f32⟩
  | 23 => ⟨S1x512, .f32⟩
  | 24 => ⟨S512, .f32⟩
  | 25 => ⟨S1x512, .f32⟩
  | 26 => ⟨S8192x512, .f32⟩
  | 27 => ⟨S8192x512, .f32⟩
  | 28 => ⟨S8192x512, .f32⟩
  | 29 => ⟨S8192x512, .f32⟩
  | 30 => ⟨S1x512, .f32⟩
  | 31 => ⟨S512, .f32⟩
  | 32 => ⟨S1x512, .f32⟩
  | 33 => ⟨S8192x512, .f32⟩
  | 34 => ⟨S8192x512, .f32⟩
  | 35 => ⟨S8192x512, .f32⟩
  | 36 => ⟨S8192x512, .f32⟩
  | 37 => ⟨S1x512, .f32⟩
  | 38 => ⟨S512, .f32⟩
  | 39 => ⟨S1x512, .f32⟩
  | 40 => ⟨S8192x512, .f32⟩
  | 41 => ⟨S8192x512, .f32⟩
  | 42 => ⟨S8192x512, .f32⟩
  | 43 => ⟨S8192x512, .f32⟩
  | 44 => ⟨S1x512, .f32⟩
  | 45 => ⟨S512, .f32⟩
  | 46 => ⟨S1x512, .f32⟩
  | 47 => ⟨S8192x512, .f32⟩
  | 48 => ⟨S8192x512, .f32⟩
  | 49 => ⟨S8192x512, .f32⟩
  | 50 => ⟨S8192x512, .f32⟩
  | 51 => ⟨S1x512, .f32⟩
  | 52 => ⟨S512, .f32⟩
  | 53 => ⟨S1x512, .f32⟩
  | 54 => ⟨S8192x512, .f32⟩
  | 55 => ⟨S8192x512, .f32⟩
  | 56 => ⟨S8192x512, .f32⟩
  | 57 => ⟨S8192x512, .f32⟩
  | 58 => ⟨S1x512, .f32⟩
  | 59 => ⟨S512, .f32⟩
  | 60 => ⟨S1x512, .f32⟩
  | 61 => ⟨S8192x512, .f32⟩
  | 62 => ⟨S8192x512, .f32⟩
  | 63 => ⟨S8192x512, .f32⟩
  | 64 => ⟨S8192x512, .f32⟩
  | 65 => ⟨S1x512, .f32⟩
  | 66 => ⟨S512, .f32⟩
  | 67 => ⟨S1x512, .f32⟩
  | 68 => ⟨S8192x512, .f32⟩
  | 69 => ⟨S8192x512, .f32⟩
  | 70 => ⟨S8192x512, .f32⟩
  | 71 => ⟨S8192x512, .f32⟩
  | 72 => ⟨S1x512, .f32⟩
  | 73 => ⟨S512, .f32⟩
  | 74 => ⟨S1x512, .f32⟩
  | 75 => ⟨S8192x512, .f32⟩
  | 76 => ⟨S8192x512, .f32⟩
  | 77 => ⟨S8192x512, .f32⟩
  | 78 => ⟨S8192x512, .f32⟩
  | 79 => ⟨S1x512, .f32⟩
  | 80 => ⟨S512, .f32⟩
  | 81 => ⟨S1x512, .f32⟩
  | 82 => ⟨S8192x512, .f32⟩
  | 83 => ⟨S8192x512, .f32⟩
  | 84 => ⟨S8192x512, .f32⟩
  | 85 => ⟨S8192x512, .f32⟩
  | 86 => ⟨S1x512, .f32⟩
  | 87 => ⟨S512, .f32⟩
  | 88 => ⟨S1x512, .f32⟩
  | 89 => ⟨S8192x512, .f32⟩
  | 90 => ⟨S8192x512, .f32⟩
  | 91 => ⟨S8192x512, .f32⟩
  | 92 => ⟨S8192x512, .f32⟩
  | 93 => ⟨S1x512, .f32⟩
  | 94 => ⟨S512, .f32⟩
  | 95 => ⟨S1x512, .f32⟩
  | 96 => ⟨S8192x512, .f32⟩
  | 97 => ⟨S8192x512, .f32⟩
  | 98 => ⟨S8192x512, .f32⟩
  | 99 => ⟨S8192x512, .f32⟩
  | 100 => ⟨S1x512, .f32⟩
  | 101 => ⟨S512, .f32⟩
  | 102 => ⟨S1x512, .f32⟩
  | 103 => ⟨S8192x512, .f32⟩
  | 104 => ⟨S8192x512, .f32⟩
  | 105 => ⟨S8192x512, .f32⟩
  | 106 => ⟨S8192x512, .f32⟩
  | 107 => ⟨S1x512, .f32⟩
  | 108 => ⟨S512, .f32⟩
  | 109 => ⟨S1x512, .f32⟩
  | 110 => ⟨S8192x512, .f32⟩
  | 111 => ⟨S8192x512, .f32⟩
  | 112 => ⟨S8192x512, .f32⟩
  | 113 => ⟨S8192x512, .f32⟩
  | 114 => ⟨S1x512, .f32⟩
  | 115 => ⟨S512, .f32⟩
  | 116 => ⟨S1x512, .f32⟩
  | 117 => ⟨S8192x512, .f32⟩
  | 118 => ⟨S8192x512, .f32⟩
  | 119 => ⟨S8192x512, .f32⟩
  | 120 => ⟨S8192x512, .f32⟩
  | 121 => ⟨S1x512, .f32⟩
  | 122 => ⟨S512, .f32⟩
  | 123 => ⟨S1x512, .f32⟩
  | 124 => ⟨S8192x512, .f32⟩
  | 125 => ⟨S8192x512, .f32⟩
  | 126 => ⟨S8192x512, .f32⟩
  | 127 => ⟨S8192x512, .f32⟩
  | _ => ⟨S8192x512, .f32⟩

abbrev hbmTy0_1 (i : Nat) : BufTy := match i % 128 with
  | 0 => ⟨S1x512, .f32⟩
  | 1 => ⟨S512, .f32⟩
  | 2 => ⟨S1x512, .f32⟩
  | 3 => ⟨S8192x512, .f32⟩
  | 4 => ⟨S8192x512, .f32⟩
  | 5 => ⟨S8192x512, .f32⟩
  | 6 => ⟨S8192x512, .f32⟩
  | 7 => ⟨S1x512, .f32⟩
  | 8 => ⟨S512, .f32⟩
  | 9 => ⟨S1x512, .f32⟩
  | 10 => ⟨S8192x512, .f32⟩
  | 11 => ⟨S8192x512, .f32⟩
  | 12 => ⟨S8192x512, .f32⟩
  | 13 => ⟨S8192x512, .f32⟩
  | 14 => ⟨S1x512, .f32⟩
  | 15 => ⟨S512, .f32⟩
  | 16 => ⟨S1x512, .f32⟩
  | 17 => ⟨S8192x512, .f32⟩
  | 18 => ⟨S8192x512, .f32⟩
  | 19 => ⟨S8192x512, .f32⟩
  | 20 => ⟨S8192x512, .f32⟩
  | 21 => ⟨S1x512, .f32⟩
  | 22 => ⟨S512, .f32⟩
  | 23 => ⟨S1x512, .f32⟩
  | 24 => ⟨S8192x512, .f32⟩
  | 25 => ⟨S8192x512, .f32⟩
  | 26 => ⟨S8192x512, .f32⟩
  | 27 => ⟨S8192x512, .f32⟩
  | 28 => ⟨S1x512, .f32⟩
  | 29 => ⟨S512, .f32⟩
  | 30 => ⟨S1x512, .f32⟩
  | 31 => ⟨S8192x512, .f32⟩
  | 32 => ⟨S8192x512, .f32⟩
  | 33 => ⟨S8192x512, .f32⟩
  | 34 => ⟨S8192x512, .f32⟩
  | 35 => ⟨S1x512, .f32⟩
  | 36 => ⟨S512, .f32⟩
  | 37 => ⟨S1x512, .f32⟩
  | 38 => ⟨S8192x512, .f32⟩
  | 39 => ⟨S8192x512, .f32⟩
  | 40 => ⟨S8192x512, .f32⟩
  | 41 => ⟨S8192x512, .f32⟩
  | 42 => ⟨S1x512, .f32⟩
  | 43 => ⟨S512, .f32⟩
  | 44 => ⟨S1x512, .f32⟩
  | 45 => ⟨S8192x512, .f32⟩
  | 46 => ⟨S8192x512, .f32⟩
  | 47 => ⟨S8192x512, .f32⟩
  | 48 => ⟨S8192x512, .f32⟩
  | 49 => ⟨S1x512, .f32⟩
  | 50 => ⟨S512, .f32⟩
  | 51 => ⟨S1x512, .f32⟩
  | 52 => ⟨S8192x512, .f32⟩
  | 53 => ⟨S8192x512, .f32⟩
  | 54 => ⟨S8192x512, .f32⟩
  | 55 => ⟨S8192x512, .f32⟩
  | 56 => ⟨S1x512, .f32⟩
  | 57 => ⟨S512, .f32⟩
  | 58 => ⟨S1x512, .f32⟩
  | 59 => ⟨S8192x512, .f32⟩
  | 60 => ⟨S8192x512, .f32⟩
  | 61 => ⟨S8192x512, .f32⟩
  | 62 => ⟨S8192x512, .f32⟩
  | 63 => ⟨S1x512, .f32⟩
  | 64 => ⟨S512, .f32⟩
  | 65 => ⟨S1x512, .f32⟩
  | 66 => ⟨S8192x512, .f32⟩
  | 67 => ⟨S8192x512, .f32⟩
  | 68 => ⟨S8192x512, .f32⟩
  | 69 => ⟨S8192x512, .f32⟩
  | 70 => ⟨S1x512, .f32⟩
  | 71 => ⟨S512, .f32⟩
  | 72 => ⟨S1x512, .f32⟩
  | 73 => ⟨S8192x512, .f32⟩
  | 74 => ⟨S8192x512, .f32⟩
  | 75 => ⟨S8192x512, .f32⟩
  | 76 => ⟨S8192x512, .f32⟩
  | 77 => ⟨S1x512, .f32⟩
  | 78 => ⟨S512, .f32⟩
  | 79 => ⟨S1x512, .f32⟩
  | 80 => ⟨S8192x512, .f32⟩
  | 81 => ⟨S8192x512, .f32⟩
  | 82 => ⟨S8192x512, .f32⟩
  | 83 => ⟨S8192x512, .f32⟩
  | 84 => ⟨S1x512, .f32⟩
  | 85 => ⟨S512, .f32⟩
  | 86 => ⟨S1x512, .f32⟩
  | 87 => ⟨S8192x512, .f32⟩
  | 88 => ⟨S8192x512, .f32⟩
  | 89 => ⟨S8192x512, .f32⟩
  | 90 => ⟨S8192x512, .f32⟩
  | 91 => ⟨S1x512, .f32⟩
  | 92 => ⟨S512, .f32⟩
  | 93 => ⟨S1x512, .f32⟩
  | 94 => ⟨S8192x512, .f32⟩
  | 95 => ⟨S8192x512, .f32⟩
  | 96 => ⟨S8192x512, .f32⟩
  | 97 => ⟨S8192x512, .f32⟩
  | 98 => ⟨S1x512, .f32⟩
  | 99 => ⟨S512, .f32⟩
  | 100 => ⟨S1x512, .f32⟩
  | 101 => ⟨S8192x512, .f32⟩
  | 102 => ⟨S8192x512, .f32⟩
  | 103 => ⟨S8192x512, .f32⟩
  | 104 => ⟨S8192x512, .f32⟩
  | 105 => ⟨S1x512, .f32⟩
  | 106 => ⟨S512, .f32⟩
  | 107 => ⟨S1x512, .f32⟩
  | 108 => ⟨S8192x512, .f32⟩
  | 109 => ⟨S8192x512, .f32⟩
  | 110 => ⟨S8192x512, .f32⟩
  | 111 => ⟨S1x512, .f32⟩
  | 112 => ⟨S8192x512, .f32⟩
  | 113 => ⟨S8192x512, .f32⟩
  | 114 => ⟨S_, .i32⟩
  | 115 => ⟨S_, .f32⟩
  | 116 => ⟨S32x512, .f32⟩
  | 117 => ⟨S1x512, .f32⟩
  | 118 => ⟨S1x512, .f32⟩
  | 119 => ⟨S1x512, .f32⟩
  | 120 => ⟨S8192x512, .bf16⟩
  | 121 => ⟨S8192x512, .bf16⟩
  | 122 => ⟨S40x512, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S32x512, .f32⟩
  | .local _ .vmem, ⟨3, _⟩ => ⟨S32x512, .f32⟩
  | .local _ .vmem, ⟨4, _⟩ => ⟨S512x512, .f32⟩
  | .local _ .vmem, ⟨5, _⟩ => ⟨S512x512, .f32⟩
  | .local _ .vmem, ⟨6, _⟩ => ⟨S32x512, .f32⟩
  | .local _ .vmem, ⟨7, _⟩ => ⟨S32x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S32x512, .f32⟩
  | .local _ .vmem, ⟨13, _⟩ => ⟨S32x512, .f32⟩
  | .local _ .vmem, ⟨14, _⟩ => ⟨S32x512, .f32⟩
  | .local _ .vmem, ⟨15, _⟩ => ⟨S32x512, .f32⟩
  | .local _ .vmem, ⟨16, _⟩ => ⟨S32x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S40x512, .f32⟩
  | .local _ .vmem, ⟨25, _⟩ => ⟨S544x512, .f32⟩
  | .local _ .vmem, ⟨26, _⟩ => ⟨S544x512, .f32⟩
  | .local _ .vmem, ⟨27, _⟩ => ⟨S256x512, .f32⟩
  | .local _ .vmem, ⟨28, _⟩ => ⟨S32x512, .f32⟩
  | .local _ .vmem, ⟨29, _⟩ => ⟨S88x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_v187 : Ref sig .tc := ⟨.hbm, 199, rfl⟩
abbrev main_v188 : Ref sig .tc := ⟨.hbm, 200, rfl⟩
abbrev main_v189 : Ref sig .tc := ⟨.hbm, 201, rfl⟩
abbrev main_v190 : Ref sig .tc := ⟨.hbm, 202, rfl⟩
abbrev main_v191 : Ref sig .tc := ⟨.hbm, 203, rfl⟩
abbrev main_v192 : Ref sig .tc := ⟨.hbm, 204, rfl⟩
abbrev main_v193 : Ref sig .tc := ⟨.hbm, 205, rfl⟩
abbrev main_v194 : Ref sig .tc := ⟨.hbm, 206, rfl⟩
abbrev main_v195 : Ref sig .tc := ⟨.hbm, 207, rfl⟩
abbrev main_v196 : Ref sig .tc := ⟨.hbm, 208, rfl⟩
abbrev main_v197 : Ref sig .tc := ⟨.hbm, 209, rfl⟩
abbrev main_v198 : Ref sig .tc := ⟨.hbm, 210, rfl⟩
abbrev main_v199 : Ref sig .tc := ⟨.hbm, 211, rfl⟩
abbrev main_v200 : Ref sig .tc := ⟨.hbm, 212, rfl⟩
abbrev main_v201 : Ref sig .tc := ⟨.hbm, 213, rfl⟩
abbrev main_v202 : Ref sig .tc := ⟨.hbm, 214, rfl⟩
abbrev main_v203 : Ref sig .tc := ⟨.hbm, 215, rfl⟩
abbrev main_v204 : Ref sig .tc := ⟨.hbm, 216, rfl⟩
abbrev main_v205 : Ref sig .tc := ⟨.hbm, 217, rfl⟩
abbrev main_v206 : Ref sig .tc := ⟨.hbm, 218, rfl⟩
abbrev main_v207 : Ref sig .tc := ⟨.hbm, 219, rfl⟩
abbrev main_v208 : Ref sig .tc := ⟨.hbm, 220, rfl⟩
abbrev main_v209 : Ref sig .tc := ⟨.hbm, 221, rfl⟩
abbrev main_v210 : Ref sig .tc := ⟨.hbm, 222, rfl⟩
abbrev main_v211 : Ref sig .tc := ⟨.hbm, 223, rfl⟩
abbrev main_v212 : Ref sig .tc := ⟨.hbm, 224, rfl⟩
abbrev main_v213 : Ref sig .tc := ⟨.hbm, 225, rfl⟩
abbrev main_v214 : Ref sig .tc := ⟨.hbm, 226, rfl⟩
abbrev main_v215 : Ref sig .tc := ⟨.hbm, 227, rfl⟩
abbrev main_v216 : Ref sig .tc := ⟨.hbm, 228, rfl⟩
abbrev main_v217 : Ref sig .tc := ⟨.hbm, 229, rfl⟩
abbrev main_v218 : Ref sig .tc := ⟨.hbm, 230, rfl⟩
abbrev main_v219 : Ref sig .tc := ⟨.hbm, 231, rfl⟩
abbrev main_v220 : Ref sig .tc := ⟨.hbm, 232, rfl⟩
abbrev main_v221 : Ref sig .tc := ⟨.hbm, 233, rfl⟩
abbrev main_v222 : Ref sig .tc := ⟨.hbm, 234, rfl⟩
abbrev main_v223 : Ref sig .tc := ⟨.hbm, 235, rfl⟩
abbrev main_v224 : Ref sig .tc := ⟨.hbm, 236, rfl⟩
abbrev main_v225 : Ref sig .tc := ⟨.hbm, 237, rfl⟩
abbrev main_v226 : Ref sig .tc := ⟨.hbm, 238, rfl⟩
abbrev main_v227 : Ref sig .tc := ⟨.hbm, 239, rfl⟩
abbrev main_v228 : Ref sig .tc := ⟨.hbm, 240, rfl⟩
abbrev main_v229 : Ref sig .tc := ⟨.hbm, 241, rfl⟩
abbrev main_c : Ref sig .tc := ⟨.hbm, 242, rfl⟩
abbrev main_call0_v0 : Ref sig .tc := ⟨.hbm, 243, rfl⟩
abbrev main_v230 : Ref sig .tc := ⟨.hbm, 244, rfl⟩
abbrev main_v231 : Ref sig .tc := ⟨.hbm, 245, rfl⟩
abbrev main_v232 : Ref sig .tc := ⟨.hbm, 246, rfl⟩
abbrev main_v233 : Ref sig .tc := ⟨.hbm, 247, rfl⟩
abbrev main_v234_0 : Ref sig .tc := ⟨.hbm, 248, rfl⟩
abbrev main_v234_1 : Ref sig .tc := ⟨.hbm, 249, rfl⟩
abbrev main_v234_2 : Ref sig .tc := ⟨.hbm, 250, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32_3708 : BitVec 32 := 15#32
  let v5501 : BitVec 1 := Scalar.cmpi .eq arg0 c15_i32_3708
  let v5502 : BitVec 32 := Scalar.extui v5501
  let c0_i32_3709 : BitVec 32 := 0#32
  let v5503 : BitVec 1 := Scalar.cmpi .ne v5502 c0_i32_3709
  v5503

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S40x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Kernel8.lean ====
abbrev S8192x1024 : Shape := ⟨2, ![8192, 1024]⟩
abbrev S1024 : Shape := ⟨1, ![1024]⟩
abbrev S1024x1792 : Shape := ⟨2, ![1024, 1792]⟩
abbrev S1x1024 : Shape := ⟨2, ![1, 1024]⟩
abbrev S1792x1024 : Shape := ⟨2, ![1792, 1024]⟩
abbrev S8192x512 : Shape := ⟨2, ![8192, 512]⟩
abbrev S8192x256 : Shape := ⟨2, ![8192, 256]⟩
abbrev S512x1024 : Shape := ⟨2, ![512, 1024]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S512x1792 : Shape := ⟨2, ![512, 1792]⟩

abbrev nBuf : Space → Nat
  | .hbm => 10
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1792, .f32⟩
  | .hbm, ⟨3, _⟩ => ⟨S1x1024, .f32⟩
  | .hbm, ⟨4, _⟩ => ⟨S1792x1024, .f32⟩
  | .hbm, ⟨5, _⟩ => ⟨S1792x1024, .bf16⟩
  | .hbm, ⟨6, _⟩ => ⟨S8192x512, .f32⟩
  | .hbm, ⟨7, _⟩ => ⟨S8192x256, .f32⟩
  | .hbm, ⟨8, _⟩ => ⟨S8192x512, .f32⟩
  | .hbm, ⟨9, _⟩ => ⟨S8192x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1792x1024, .bf16⟩
  | .local _ .vmem, ⟨4, _⟩ => ⟨S512x512, .f32⟩
  | .local _ .vmem, ⟨5, _⟩ => ⟨S512x512, .f32⟩
  | .local _ .vmem, ⟨6, _⟩ => ⟨S512x256, .f32⟩
  | .local _ .vmem, ⟨7, _⟩ => ⟨S512x256, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1792x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S8192x1024 : Shape := ⟨2, ![8192, 1024]⟩
abbrev S1024 : Shape := ⟨1, ![1024]⟩
abbrev S1024x1792 : Shape := ⟨2, ![1024, 1792]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x1792 : Shape := ⟨2, ![8192, 1792]⟩
abbrev S8192x512 : Shape := ⟨2, ![8192, 512]⟩
abbrev S8192x256 : Shape := ⟨2, ![8192, 256]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1792, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1792, .f32⟩
  | .hbm, ⟨20, _⟩ => ⟨S8192x512, .f32⟩
  | .hbm, ⟨21, _⟩ => ⟨S8192x256, .f32⟩
  | .hbm, ⟨22, _⟩ => ⟨S8192x512, .f32⟩
  | .hbm, ⟨23, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel9.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S8x8192x512 : Shape := ⟨3, ![8, 8192, 512]⟩
abbrev S512x1024 : Shape := ⟨2, ![512, 1024]⟩
abbrev S8x512x512 : Shape := ⟨3, ![8, 512, 512]⟩
abbrev S512 : Shape := ⟨1, ![512]⟩
abbrev S512x1 : Shape := ⟨2, ![512, 1]⟩
abbrev S512x512 : Shape := ⟨2, ![512, 512]⟩
abbrev S1x512x512 : Shape := ⟨3, ![1, 512, 512]⟩

abbrev nBuf : Space → Nat
  | .hbm => 10
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S4096x1024, .bf16⟩
  | .hbm, ⟨8, _⟩ => ⟨S8192x1024, .f32⟩
  | .hbm, ⟨9, _⟩ => ⟨S8x8192x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4096x1024, .bf16⟩
  | .local _ .vmem, ⟨4, _⟩ => ⟨S4096x1024, .bf16⟩
  | .local _ .vmem, ⟨5, _⟩ => ⟨S512x1024, .f32⟩
  | .local _ .vmem, ⟨6, _⟩ => ⟨S512x1024, .f32⟩
  | .local _ .vmem, ⟨7, _⟩ => ⟨S8x512x512, .bf16⟩
  | .local _ .vmem, ⟨8, _⟩ => ⟨S8x512x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S8192x8x512 : Shape := ⟨3, ![8192, 8, 512]⟩
abbrev S8x8192x512 : Shape := ⟨3, ![8, 8192, 512]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S8192x8x512, .f32⟩
  | .hbm, ⟨22, _⟩ => ⟨S8x8192x512, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S8192x1024, .f32⟩
  | .hbm, ⟨28, _⟩ => ⟨S8192x1024, .f32⟩
  | .hbm, ⟨29, _⟩ => ⟨S8x8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel10.lean ====
abbrev S8192x1024 : Shape := ⟨2, ![8192, 1024]⟩
abbrev S1024 : Shape := ⟨1, ![1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S8192x8x512 : Shape := ⟨3, ![8192, 8, 512]⟩
abbrev S8x8192x512 : Shape := ⟨3, ![8, 8192, 512]⟩
abbrev S4096x1024 : Shape := ⟨2, ![4096, 1024]⟩
abbrev S1x4096x512 : Shape := ⟨3, ![1, 4096, 512]⟩
abbrev S512x1024 : Shape := ⟨2, ![512, 1024]⟩
abbrev S4096x512 : Shape := ⟨2, ![4096, 512]⟩

abbrev nBuf : Space → Nat
  | .hbm => 26
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x4096, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S8192x4096, .bf16⟩
  | .hbm, ⟨22, _⟩ => ⟨S8192x8x512, .bf16⟩
  | .hbm, ⟨23, _⟩ => ⟨S8x8192x512, .bf16⟩
  | .hbm, ⟨24, _⟩ => ⟨S8192x1024, .bf16⟩
  | .hbm, ⟨25, _⟩ => ⟨S4096x1024, .bf16⟩
  | .local _ .vmem, ⟨0, _⟩ => ⟨S1x4096x512, .bf16⟩
  | .local _ .vmem, ⟨1, _⟩ => ⟨S1x4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v18 : BitVec 1 := Scalar.cmpi .eq arg1 c1_i32
  let v19 : BitVec 32 := Scalar.extui v18
  let c0_i32_10 : BitVec 32 := 0#32
  let v20 : BitVec 1 := Scalar.cmpi .ne v19 c0_i32_10
  v20

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference10Ideal.lean ====
abbrev S8192x1024 : Shape := ⟨2, ![8192, 1024]⟩
abbrev S1024 : Shape := ⟨1, ![1024]⟩
abbrev S1024x4096 : Shape := ⟨2, ![1024, 4096]⟩
abbrev S_ : Shape := ⟨0, ![]⟩
abbrev S4096x1024 : Shape := ⟨2, ![4096, 1024]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x4096, .f32⟩
  | .hbm, ⟨4, _⟩ => ⟨S_, .f32⟩
  | .hbm, ⟨5, _⟩ => ⟨S4096x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S8192x1024, .f32⟩
  | .hbm, ⟨28, _⟩ => ⟨S1024x4096, .f32⟩
  | .hbm, ⟨29, _⟩ => ⟨S4096x1024, .f32⟩
  | .hbm, ⟨30, _⟩ => ⟨S4096x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Kernel11.lean ====
abbrev S8192x1024 : Shape := ⟨2, ![8192, 1024]⟩
abbrev S1024x1024 : Shape := ⟨2, ![1024, 1024]⟩
abbrev S8192x512 : Shape := ⟨2, ![8192, 512]⟩
abbrev S512x1024 : Shape := ⟨2, ![512, 1024]⟩
abbrev S512x512 : Shape := ⟨2, ![512, 512]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .bf16⟩
  | .hbm, ⟨3, _⟩ => ⟨S8192x512, .f32⟩
  | .hbm, ⟨4, _⟩ => ⟨S8192x512, .f32⟩
  | .hbm, ⟨5, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x1024, .bf16⟩
  | .local _ .vmem, ⟨8, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference11Ideal.lean ====
abbrev S8192x1024 : Shape := ⟨2, ![8192, 1024]⟩
abbrev S1024x1024 : Shape := ⟨2, ![1024, 1024]⟩
abbrev S_ : Shape := ⟨0, ![]⟩
abbrev S8192x512 : Shape := ⟨2, ![8192, 512]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S_, .f32⟩
  | .hbm, ⟨3, _⟩ => ⟨S8192x512, .f32⟩
  | .hbm, ⟨4, _⟩ => ⟨S_, .f32⟩
  | .hbm, ⟨5, _⟩ => ⟨S8192x512, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x512, .f32⟩
  | .hbm, ⟨10, _⟩ => ⟨S8192x512, .f32⟩
  | .hbm, ⟨11, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel12.lean ====
abbrev S32x8 : Shape := ⟨2, ![32, 8]⟩
abbrev S128x256 : Shape := ⟨2, ![128, 256]⟩
abbrev S128x128 : Shape := ⟨2, ![128, 128]⟩
abbrev S2x128x512 : Shape := ⟨3, ![2, 128, 512]⟩
abbrev S1x1 : Shape := ⟨2, ![1, 1]⟩
abbrev S1x128x128 : Shape := ⟨3, ![1, 128, 128]⟩

abbrev nBuf : Space → Nat
  | .hbm => 10
  | .vmem => 2
  | .smem => 1
  | _ => 0

abbrev bufTy : (tb : Table) → Fin (tcTables nBuf tb) → BufTy
  | .hbm, ⟨0, _⟩ => ⟨S32x8, .f32⟩
  | .hbm, ⟨1, _⟩ => ⟨S128x256, .i32⟩
  | .hbm, ⟨2, _⟩ => ⟨S128x128, .i32⟩
  | .hbm, ⟨3, _⟩ => ⟨S128x128, .i32⟩
  | .hbm, ⟨4, _⟩ => ⟨S128x128, .i1⟩
  | .hbm, ⟨5, _⟩ => ⟨S128x128, .i32⟩
  | .hbm, ⟨6, _⟩ => ⟨S128x128, .i32⟩
  | .hbm, ⟨7, _⟩ => ⟨S128x128, .i32⟩
  | .hbm, ⟨8, _⟩ => ⟨S128x128, .i32⟩
  | .hbm, ⟨9, _⟩ => ⟨S2x128x512, .f32⟩
  | .local _ .vmem, ⟨0, _⟩ => ⟨S128x128, .i32⟩
  | .local _ .vmem, ⟨1, _⟩ => ⟨S2x128x512, .f32⟩
  | .local _ .smem, ⟨0, _⟩ => ⟨S32x8, .f32⟩
  | _, _ => ⟨S32x8, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg1_0 : Ref sig .tc := ⟨.vmem, 0, rfl⟩
abbrev cc0_stg2_0 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference12Ideal.lean ====
abbrev S32x8 : Shape := ⟨2, ![32, 8]⟩
abbrev S128x256 : Shape := ⟨2, ![128, 256]⟩
abbrev S_ : Shape := ⟨0, ![]⟩
abbrev S128x256x1 : Shape := ⟨3, ![128, 256, 1]⟩
abbrev S128x256x8 : Shape := ⟨3, ![128, 256, 8]⟩
abbrev S8x128x256 : Shape := ⟨3, ![8, 128, 256]⟩
abbrev S128 : Shape := ⟨1, ![128]⟩
abbrev S1x1x128 : Shape := ⟨3, ![1, 1, 128]⟩
abbrev S1x128x1 : Shape := ⟨3, ![1, 128, 1]⟩
abbrev S1x128x128 : Shape := ⟨3, ![1, 128, 128]⟩
abbrev S8x128x128 : Shape := ⟨3, ![8, 128, 128]⟩
abbrev S2x4x128x128 : Shape := ⟨4, ![2, 4, 128, 128]⟩
abbrev S2x128x4x128 : Shape := ⟨4, ![2, 128, 4, 128]⟩
abbrev S2x128x512 : Shape := ⟨3, ![2, 128, 512]⟩

abbrev nBuf : Space → Nat
  | .hbm => 44
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S128x256, .i32⟩
  | .hbm, ⟨2, _⟩ => ⟨S128x256, .i32⟩
  | .hbm, ⟨3, _⟩ => ⟨S_, .i32⟩
  | .hbm, ⟨4, _⟩ => ⟨S128x256, .i32⟩
  | .hbm, ⟨5, _⟩ => ⟨S128x256, .i32⟩
  | .hbm, ⟨6, _⟩ => ⟨S128x256, .i32⟩
  | .hbm, ⟨7, _⟩ => ⟨S128x256, .i32⟩
  | .hbm, ⟨8, _⟩ => ⟨S_, .i32⟩
  | .hbm, ⟨9, _⟩ => ⟨S128x256, .i32⟩
  | .hbm, ⟨10, _⟩ => ⟨S128x256, .i1⟩
  | .hbm, ⟨11, _⟩ => ⟨S_, .i32⟩
  | .hbm, ⟨12, _⟩ => ⟨S128x256, .i32⟩
  | .hbm, ⟨13, _⟩ => ⟨S128x256, .i1⟩
  | .hbm, ⟨14, _⟩ => ⟨S128x256, .i1⟩
  | .hbm, ⟨15, _⟩ => ⟨S_, .i32⟩
  | .hbm, ⟨16, _⟩ => ⟨S128x256, .i32⟩
  | .hbm, ⟨17, _⟩ => ⟨S128x256, .i1⟩
  | .hbm, ⟨18, _⟩ => ⟨S_, .i32⟩
  | .hbm, ⟨19, _⟩ => ⟨S128x256, .i32⟩
  | .hbm, ⟨20, _⟩ => ⟨S128x256, .i32⟩
  | .hbm, ⟨21, _⟩ => ⟨S128x256, .i32⟩
  | .hbm, ⟨22, _⟩ => ⟨S128x256x1, .i32⟩
  | .hbm, ⟨23, _⟩ => ⟨S128x256x8, .f32⟩
  | .hbm, ⟨24, _⟩ => ⟨S8x128x256, .f32⟩
  | .hbm, ⟨25, _⟩ => ⟨S_, .f32⟩
  | .hbm, ⟨26, _⟩ => ⟨S_, .f32⟩
  | .hbm, ⟨27, _⟩ => ⟨S8x128x256, .i1⟩
  | .hbm, ⟨28, _⟩ => ⟨S8x128x256, .f32⟩
  | .hbm, ⟨29, _⟩ => ⟨S8x128x256, .f32⟩
  | .hbm, ⟨30, _⟩ => ⟨S128, .i32⟩
  | .hbm, ⟨31, _⟩ => ⟨S1x1x128, .i32⟩
  | .hbm, ⟨32, _⟩ => ⟨S128, .i32⟩
  | .hbm, ⟨33, _⟩ => ⟨S1x128x1, .i32⟩
  | .hbm, ⟨34, _⟩ => ⟨S1x128x128, .i32⟩
  | .hbm, ⟨35, _⟩ => ⟨S1x128x128, .i32⟩
  | .hbm, ⟨36, _⟩ => ⟨S1x128x128, .i1⟩
  | .hbm, ⟨37, _⟩ => ⟨S8x128x128, .f32⟩
  | .hbm, ⟨38, _⟩ => ⟨S8x128x128, .f32⟩
  | .hbm, ⟨39, _⟩ => ⟨S8x128x128, .i1⟩
  | .hbm, ⟨40, _⟩ => ⟨S8x128x128, .f32⟩
  | .hbm, ⟨41, _⟩ => ⟨S2x4x128x128, .f32⟩
  | .hbm, ⟨42, _⟩ => ⟨S2x128x4x128, .f32⟩
  | .hbm, ⟨43, _⟩ => ⟨S2x128x512, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_v10 : Ref sig .tc := ⟨.hbm, 16, rfl⟩
abbrev main_v11 : Ref sig .tc := ⟨.hbm, 17, rfl⟩
abbrev main_c_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call1_v0 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Kernel13.lean ====
abbrev S8192x1024 : Shape := ⟨2, ![8192, 1024]⟩
abbrev S8192x512 : Shape := ⟨2, ![8192, 512]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 8
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1024x1024, .f32⟩
  | .hbm, ⟨4, _⟩ => ⟨S8192x512, .bf16⟩
  | .hbm, ⟨5, _⟩ => ⟨S8192x512, .bf16⟩
  | .hbm, ⟨6, _⟩ => ⟨S1024x1024, .bf16⟩
  | .hbm, ⟨7, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference13Ideal.lean ====
abbrev S8192x1024 : Shape := ⟨2, ![8192, 1024]⟩
abbrev S8192x512 : Shape := ⟨2, ![8192, 512]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel14.lean ====
abbrev S8x128x1024 : Shape := ⟨3, ![8, 128, 1024]⟩
abbrev S4x128x1024 : Shape := ⟨3, ![4, 128, 1024]⟩
abbrev S1x128x1024 : Shape := ⟨3, ![1, 128, 1024]⟩
abbrev S128x1024 : Shape := ⟨2, ![128, 1024]⟩

abbrev nBuf : Space → Nat
  | .hbm => 15
  | .vmem => 22
  | .smem => 0
  | _ => 0

abbrev bufTy : (tb : Table) → Fin (tcTables nBuf tb) → BufTy
  | .hbm, ⟨0, _⟩ => ⟨S8x128x1024, .f32⟩
  | .hbm, ⟨1, _⟩ => ⟨S8x128x1024, .f32⟩
  | .hbm, ⟨2, _⟩ => ⟨S8x128x1024, .f32⟩
  | .hbm, ⟨3, _⟩ => ⟨S8x128x1024, .f32⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S8x128x1024, .bf16⟩
  | .hbm, ⟨8, _⟩ => ⟨S8x128x1024, .bf16⟩
  | .hbm, ⟨9, _⟩ => ⟨S8x128x1024, .bf16⟩
  | .hbm, ⟨10, _⟩ => ⟨S8x128x1024, .bf16⟩
  | .hbm, ⟨11, _⟩ => ⟨S4x128x1024, .f32⟩
  | .hbm, ⟨12, _⟩ => ⟨S4x128x1024, .f32⟩
  | .hbm, ⟨13, _⟩ => ⟨S4x128x1024, .f32⟩
  | .hbm, ⟨14, _⟩ => ⟨S4x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S8x128x1024, .bf16⟩
  | .local _ .vmem, ⟨5, _⟩ => ⟨S8x128x1024, .bf16⟩
  | .local _ .vmem, ⟨6, _⟩ => ⟨S8x128x1024, .bf16⟩
  | .local _ .vmem, ⟨7, _⟩ => ⟨S8x128x1024, .bf16⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .vmem, ⟨18, _⟩ => ⟨S1x128x1024, .f32⟩
  | .local _ .vmem, ⟨19, _⟩ => ⟨S1x128x1024, .f32⟩
  | .local _ .vmem, ⟨20, _⟩ => ⟨S1x128x1024, .f32⟩
  | .local _ .vmem, ⟨21, _⟩ => ⟨S1x128x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .slt arg0 c2_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .slt arg0 c3_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference14Ideal.lean ====
abbrev S8x128x1024 : Shape := ⟨3, ![8, 128, 1024]⟩
abbrev S4x128x1024 : Shape := ⟨3, ![4, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S8x128x1024, .f32⟩
  | .hbm, ⟨2, _⟩ => ⟨S8x128x1024, .f32⟩
  | .hbm, ⟨3, _⟩ => ⟨S8x128x1024, .f32⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S_, .f32⟩
  | .hbm, ⟨8, _⟩ => ⟨S128x1024, .f32⟩
  | .hbm, ⟨9, _⟩ => ⟨S_, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S_, .f32⟩
  | .hbm, ⟨14, _⟩ => ⟨S128x1024, .f32⟩
  | .hbm, ⟨15, _⟩ => ⟨S1x128x1024, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S4x128x1024, .f32⟩
  | .hbm, ⟨20, _⟩ => ⟨S_, .f32⟩
  | .hbm, ⟨21, _⟩ => ⟨S4x128x1024, .f32⟩
  | .hbm, ⟨22, _⟩ => ⟨S4x128x1024, .f32⟩
  | .hbm, ⟨23, _⟩ => ⟨S_, .f32⟩
  | .hbm, ⟨24, _⟩ => ⟨S4x128x1024, .f32⟩
  | .hbm, ⟨25, _⟩ => ⟨S4x128x1024, .f32⟩
  | .hbm, ⟨26, _⟩ => ⟨S4x128x1024, .f32⟩
  | .hbm, ⟨27, _⟩ => ⟨S_, .f32⟩
  | .hbm, ⟨28, _⟩ => ⟨S4x128x1024, .f32⟩
  | .hbm, ⟨29, _⟩ => ⟨S4x128x1024, .f32⟩
  | .hbm, ⟨30, _⟩ => ⟨S4x128x1024, .f32⟩
  | .hbm, ⟨31, _⟩ => ⟨S_, .f32⟩
  | .hbm, ⟨32, _⟩ => ⟨S4x128x1024, .f32⟩
  | .hbm, ⟨33, _⟩ => ⟨S4x128x1024, .f32⟩
  | .hbm, ⟨34, _⟩ => ⟨S4x128x1024, .f32⟩
  | .hbm, ⟨35, _⟩ => ⟨S_, .f32⟩
  | .hbm, ⟨36, _⟩ => ⟨S4x128x1024, .f32⟩
  | .hbm, ⟨37, _⟩ => ⟨S4x128x1024, .f32⟩
  | .hbm, ⟨38, _⟩ => ⟨S_, .f32⟩
  | .hbm, ⟨39, _⟩ => ⟨S4x128x1024, .f32⟩
  | .hbm, ⟨40, _⟩ => ⟨S4x128x1024, .f32⟩
  | .hbm, ⟨41, _⟩ => ⟨S4x128x1024, .f32⟩
  | .hbm, ⟨42, _⟩ => ⟨S_, .f32⟩
  | .hbm, ⟨43, _⟩ => ⟨S4x128x1024, .f32⟩
  | .hbm, ⟨44, _⟩ => ⟨S4x128x1024, .f32⟩
  | .hbm, ⟨45, _⟩ => ⟨S4x128x1024, .f32⟩
  | .hbm, ⟨46, _⟩ => ⟨S_, .f32⟩
  | .hbm, ⟨47, _⟩ => ⟨S4x128x1024, .f32⟩
  | .hbm, ⟨48, _⟩ => ⟨S4x128x1024, .f32⟩
  | .hbm, ⟨49, _⟩ => ⟨S4x128x1024, .f32⟩
  | .hbm, ⟨50, _⟩ => ⟨S_, .f32⟩
  | .hbm, ⟨51, _⟩ => ⟨S4x128x1024, .f32⟩
  | .hbm, ⟨52, _⟩ => ⟨S4x128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_cst_2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_9 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_10 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_11 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Kernel15.lean ====
abbrev S32x8 : Shape := ⟨2, ![32, 8]⟩
abbrev S4x1024 : Shape := ⟨2, ![4, 1024]⟩
abbrev S4x31x64 : Shape := ⟨3, ![4, 31, 64]⟩

abbrev nBuf : Space → Nat
  | .hbm => 21
  | .vmem => 21
  | .smem => 0
  | _ => 0

abbrev bufTy : (tb : Table) → Fin (tcTables nBuf tb) → BufTy
  | .hbm, ⟨0, _⟩ => ⟨S32x8, .f32⟩
  | .hbm, ⟨1, _⟩ => ⟨S4x1024, .f32⟩
  | .hbm, ⟨2, _⟩ => ⟨S4x31x64, .f32⟩
  | .hbm, ⟨3, _⟩ => ⟨S32x8, .f32⟩
  | .hbm, ⟨4, _⟩ => ⟨S4x1024, .f32⟩
  | .hbm, ⟨5, _⟩ => ⟨S4x31x64, .f32⟩
  | .hbm, ⟨6, _⟩ => ⟨S32x8, .f32⟩
  | .hbm, ⟨7, _⟩ => ⟨S4x1024, .f32⟩
  | .hbm, ⟨8, _⟩ => ⟨S4x31x64, .f32⟩
  | .hbm, ⟨9, _⟩ => ⟨S32x8, .f32⟩
  | .hbm, ⟨10, _⟩ => ⟨S4x1024, .f32⟩
  | .hbm, ⟨11, _⟩ => ⟨S4x31x64, .f32⟩
  | .hbm, ⟨12, _⟩ => ⟨S32x8, .f32⟩
  | .hbm, ⟨13, _⟩ => ⟨S4x1024, .f32⟩
  | .hbm, ⟨14, _⟩ => ⟨S4x31x64, .f32⟩
  | .hbm, ⟨15, _⟩ => ⟨S32x8, .f32⟩
  | .hbm, ⟨16, _⟩ => ⟨S4x1024, .f32⟩
  | .hbm, ⟨17, _⟩ => ⟨S4x31x64, .f32⟩
  | .hbm, ⟨18, _⟩ => ⟨S32x8, .f32⟩
  | .hbm, ⟨19, _⟩ => ⟨S4x1024, .f32⟩
  | .hbm, ⟨20, _⟩ => ⟨S4x31x64, .f32⟩
  | .local _ .vmem, ⟨0, _⟩ => ⟨S32x8, .f32⟩
  | .local _ .vmem, ⟨1, _⟩ => ⟨S4x1024, .f32⟩
  | .local _ .vmem, ⟨2, _⟩ => ⟨S4x31x64, .f32⟩
  | .local _ .vmem, ⟨3, _⟩ => ⟨S32x8, .f32⟩
  | .local _ .vmem, ⟨4, _⟩ => ⟨S4x1024, .f32⟩
  | .local _ .vmem, ⟨5, _⟩ => ⟨S4x31x64, .f32⟩
  | .local _ .vmem, ⟨6, _⟩ => ⟨S32x8, .f32⟩
  | .local _ .vmem, ⟨7, _⟩ => ⟨S4x1024, .f32⟩
  | .local _ .vmem, ⟨8, _⟩ => ⟨S4x31x64, .f32⟩
  | .local _ .vmem, ⟨9, _⟩ => ⟨S32x8, .f32⟩
  | .local _ .vmem, ⟨10, _⟩ => ⟨S4x1024, .f32⟩
  | .local _ .vmem, ⟨11, _⟩ => ⟨S4x31x64, .f32⟩
  | .local _ .vmem, ⟨12, _⟩ => ⟨S32x8, .f32⟩
  | .local _ .vmem, ⟨13, _⟩ => ⟨S4x1024, .f32⟩
  | .local _ .vmem, ⟨14, _⟩ => ⟨S4x31x64, .f32⟩
  | .local _ .vmem, ⟨15, _⟩ => ⟨S32x8, .f32⟩
  | .local _ .vmem, ⟨16, _⟩ => ⟨S4x1024, .f32⟩
  | .local _ .vmem, ⟨17, _⟩ => ⟨S4x31x64, .f32⟩
  | .local _ .vmem, ⟨18, _⟩ => ⟨S32x8, .f32⟩
  | .local _ .vmem, ⟨19, _⟩ => ⟨S4x1024, .f32⟩
  | .local _ .vmem, ⟨20, _⟩ => ⟨S4x31x64, .f32⟩
  | _, _ => ⟨S32x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x31x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x31x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x31x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x31x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4x31x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S32x8 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S4x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S4x31x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S32x8 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S4x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S4x31x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== Reference15Ideal.lean ====
abbrev S32x8 : Shape := ⟨2, ![32, 8]⟩
abbrev S4x1024 : Shape := ⟨2, ![4, 1024]⟩
abbrev S4x31x64 : Shape := ⟨3, ![4, 31, 64]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S4x1024, .f32⟩
  | .hbm, ⟨2, _⟩ => ⟨S4x31x64, .f32⟩
  | .hbm, ⟨3, _⟩ => ⟨S32x8, .f32⟩
  | .hbm, ⟨4, _⟩ => ⟨S4x1024, .f32⟩
  | .hbm, ⟨5, _⟩ => ⟨S4x31x64, .f32⟩
  | .hbm, ⟨6, _⟩ => ⟨S32x8, .f32⟩
  | .hbm, ⟨7, _⟩ => ⟨S4x1024, .f32⟩
  | .hbm, ⟨8, _⟩ => ⟨S4x31x64, .f32⟩
  | .hbm, ⟨9, _⟩ => ⟨S32x8, .f32⟩
  | .hbm, ⟨10, _⟩ => ⟨S4x1024, .f32⟩
  | .hbm, ⟨11, _⟩ => ⟨S4x31x64, .f32⟩
  | .hbm, ⟨12, _⟩ => ⟨S_, .f32⟩
  | .hbm, ⟨13, _⟩ => ⟨S32x8, .f32⟩
  | .hbm, ⟨14, _⟩ => ⟨S32x8, .f32⟩
  | .hbm, ⟨15, _⟩ => ⟨S_, .f32⟩
  | .hbm, ⟨16, _⟩ => ⟨S32x8, .f32⟩
  | .hbm, ⟨17, _⟩ => ⟨S32x8, .f32⟩
  | .hbm, ⟨18, _⟩ => ⟨S32x8, .f32⟩
  | .hbm, ⟨19, _⟩ => ⟨S_, .f32⟩
  | .hbm, ⟨20, _⟩ => ⟨S32x8, .f32⟩
  | .hbm, ⟨21, _⟩ => ⟨S32x8, .f32⟩
  | .hbm, ⟨22, _⟩ => ⟨S32x8, .f32⟩
  | .hbm, ⟨23, _⟩ => ⟨S_, .f32⟩
  | .hbm, ⟨24, _⟩ => ⟨S32x8, .f32⟩
  | .hbm, ⟨25, _⟩ => ⟨S32x8, .f32⟩
  | .hbm, ⟨26, _⟩ => ⟨S32x8, .f32⟩
  | .hbm, ⟨27, _⟩ => ⟨S_, .f32⟩
  | .hbm, ⟨28, _⟩ => ⟨S32x8, .f32⟩
  | .hbm, ⟨29, _⟩ => ⟨S32x8, .f32⟩
  | .hbm, ⟨30, _⟩ => ⟨S_, .f32⟩
  | .hbm, ⟨31, _⟩ => ⟨S32x8, .f32⟩
  | .hbm, ⟨32, _⟩ => ⟨S32x8, .f32⟩
  | .hbm, ⟨33, _⟩ => ⟨S32x8, .f32⟩
  | .hbm, ⟨34, _⟩ => ⟨S_, .f32⟩
  | .hbm, ⟨35, _⟩ => ⟨S32x8, .f32⟩
  | .hbm, ⟨36, _⟩ => ⟨S32x8, .f32⟩
  | .hbm, ⟨37, _⟩ => ⟨S32x8, .f32⟩
  | .hbm, ⟨38, _⟩ => ⟨S_, .f32⟩
  | .hbm, ⟨39, _⟩ => ⟨S32x8, .f32⟩
  | .hbm, ⟨40, _⟩ => ⟨S32x8, .f32⟩
  | .hbm, ⟨41, _⟩ => ⟨S32x8, .f32⟩
  | .hbm, ⟨42, _⟩ => ⟨S_, .f32⟩
  | .hbm, ⟨43, _⟩ => ⟨S32x8, .f32⟩
  | .hbm, ⟨44, _⟩ => ⟨S32x8, .f32⟩
  | .hbm, ⟨45, _⟩ => ⟨S_, .f32⟩
  | .hbm, ⟨46, _⟩ => ⟨S4x1024, .f32⟩
  | .hbm, ⟨47, _⟩ => ⟨S4x1024, .f32⟩
  | .hbm, ⟨48, _⟩ => ⟨S_, .f32⟩
  | .hbm, ⟨49, _⟩ => ⟨S4x1024, .f32⟩
  | .hbm, ⟨50, _⟩ => ⟨S4x1024, .f32⟩
  | .hbm, ⟨51, _⟩ => ⟨S4x1024, .f32⟩
  | .hbm, ⟨52, _⟩ => ⟨S_, .f32⟩
  | .hbm, ⟨53, _⟩ => ⟨S4x1024, .f32⟩
  | .hbm, ⟨54, _⟩ => ⟨S4x1024, .f32⟩
  | .hbm, ⟨55, _⟩ => ⟨S4x1024, .f32⟩
  | .hbm, ⟨56, _⟩ => ⟨S_, .f32⟩
  | .hbm, ⟨57, _⟩ => ⟨S4x1024, .f32⟩
  | .hbm, ⟨58, _⟩ => ⟨S4x1024, .f32⟩
  | .hbm, ⟨59, _⟩ => ⟨S4x1024, .f32⟩
  | .hbm, ⟨60, _⟩ => ⟨S_, .f32⟩
  | .hbm, ⟨61, _⟩ => ⟨S4x1024, .f32⟩
  | .hbm, ⟨62, _⟩ => ⟨S4x1024, .f32⟩
  | .hbm, ⟨63, _⟩ => ⟨S_, .f32⟩
  | .hbm, ⟨64, _⟩ => ⟨S4x1024, .f32⟩
  | .hbm, ⟨65, _⟩ => ⟨S4x1024, .f32⟩
  | .hbm, ⟨66, _⟩ => ⟨S4x1024, .f32⟩
  | .hbm, ⟨67, _⟩ => ⟨S_, .f32⟩
  | .hbm, ⟨68, _⟩ => ⟨S4x1024, .f32⟩
  | .hbm, ⟨69, _⟩ => ⟨S4x1024, .f32⟩
  | .hbm, ⟨70, _⟩ => ⟨S4x1024, .f32⟩
  | .hbm, ⟨71, _⟩ => ⟨S_, .f32⟩
  | .hbm, ⟨72, _⟩ => ⟨S4x1024, .f32⟩
  | .hbm, ⟨73, _⟩ => ⟨S4x1024, .f32⟩
  | .hbm, ⟨74, _⟩ => ⟨S4x1024, .f32⟩
  | .hbm, ⟨75, _⟩ => ⟨S_, .f32⟩
  | .hbm, ⟨76, _⟩ => ⟨S4x1024, .f32⟩
  | .hbm, ⟨77, _⟩ => ⟨S4x1024, .f32⟩
  | .hbm, ⟨78, _⟩ => ⟨S_, .f32⟩
  | .hbm, ⟨79, _⟩ => ⟨S4x31x64, .f32⟩
  | .hbm, ⟨80, _⟩ => ⟨S4x31x64, .f32⟩
  | .hbm, ⟨81, _⟩ => ⟨S_, .f32⟩
  | .hbm, ⟨82, _⟩ => ⟨S4x31x64, .f32⟩
  | .hbm, ⟨83, _⟩ => ⟨S4x31x64, .f32⟩
  | .hbm, ⟨84, _⟩ => ⟨S4x31x64, .f32⟩
  | .hbm, ⟨85, _⟩ => ⟨S_, .f32⟩
  | .hbm, ⟨86, _⟩ => ⟨S4x31x64, .f32⟩
  | .hbm, ⟨87, _⟩ => ⟨S4x31x64, .f32⟩
  | .hbm, ⟨88, _⟩ => ⟨S4x31x64, .f32⟩
  | .hbm, ⟨89, _⟩ => ⟨S_, .f32⟩
  | .hbm, ⟨90, _⟩ => ⟨S4x31x64, .f32⟩
  | .hbm, ⟨91, _⟩ => ⟨S4x31x64, .f32⟩
  | .hbm, ⟨92, _⟩ => ⟨S4x31x64, .f32⟩
  | .hbm, ⟨93, _⟩ => ⟨S_, .f32⟩
  | .hbm, ⟨94, _⟩ => ⟨S4x31x64, .f32⟩
  | .hbm, ⟨95, _⟩ => ⟨S4x31x64, .f32⟩
  | .hbm, ⟨96, _⟩ => ⟨S_, .f32⟩
  | .hbm, ⟨97, _⟩ => ⟨S4x31x64, .f32⟩
  | .hbm, ⟨98, _⟩ => ⟨S4x31x64, .f32⟩
  | .hbm, ⟨99, _⟩ => ⟨S4x31x64, .f32⟩
  | .hbm, ⟨100, _⟩ => ⟨S_, .f32⟩
  | .hbm, ⟨101, _⟩ => ⟨S4x31x64, .f32⟩
  | .hbm, ⟨102, _⟩ => ⟨S4x31x64, .f32⟩
  | .hbm, ⟨103, _⟩ => ⟨S4x31x64, .f32⟩
  | .hbm, ⟨104, _⟩ => ⟨S_, .f32⟩
  | .hbm, ⟨105, _⟩ => ⟨S4x31x64, .f32⟩
  | .hbm, ⟨106, _⟩ => ⟨S4x31x64, .f32⟩
  | .hbm, ⟨107, _⟩ => ⟨S4x31x64, .f32⟩
  | .hbm, ⟨108, _⟩ => ⟨S_, .f32⟩
  | .hbm, ⟨109, _⟩ => ⟨S4x31x64, .f32⟩
  | .hbm, ⟨110, _⟩ => ⟨S4x31x64, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Proof.Reals.lean ====
/-
  Constants of the programs as real numbers, and facts about extended reals which the value proofs share.
-/
module

public import Idealize.ShloMosaic.Lib.IdealHost
public import Idealize.ShloMosaic.Lib.Pointwise
public import Idealize.ShloMosaic.Lib.Pipeline.ValueKit

@[expose] public section

noncomputable section

namespace Cert.Reals

open Idealize.ShloMosaic

theorem half : Ideal.ofBits .f32 0x3F000000#32 = ((1 / 2 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem k1024 : Ideal.ofBits .f32 0x44800000#32 = ((1024 : ℝ) : EReal) := by
  simp [Ideal.ofBits, Ideal.ieee, -EReal.coe_mul]; norm_num

theorem neg_half : Ideal.ofBits .f32 0xBF000000#32 = ((-(1 / 2) : ℝ) : EReal) := by
  simp [Ideal.ofBits, Ideal.ieee, -EReal.coe_mul]; norm_num

theorem one : Ideal.ofBits .f32 0x3F800000#32 = ((1 : ℝ) : EReal) := by
  simp [Ideal.ofBits, Ideal.ieee, -EReal.coe_mul]; norm_num

/-- The small number under the norm's root is a positive real. -/
theorem eps_pos : ∃ e : ℝ, 0 < e ∧ Ideal.ofBits .f32 0x358637BD#32 = (e : EReal) := by
  refine ⟨_, ?_, by simp [Ideal.ofBits, Ideal.ieee, -EReal.coe_mul]; rfl⟩
  positivity

theorem inf : Ideal.ofBits .f32 0x7F800000#32 = ⊤ := by
  simp [Ideal.ofBits, Ideal.ieee]

/-- A real factor that is not negative goes under a finite sum, whatever the terms are. -/
theorem mul_sum_of_real {n : ℕ} (a : ℝ) (ha : 0 ≤ a) (f : Fin n → EReal) :
    (a : EReal) * ∑ i, f i = ∑ i, (a : EReal) * f i := by
  induction n with
  | zero => simp
  | succ n ih =>
    rw [Fin.sum_univ_succ, Fin.sum_univ_succ,
      EReal.left_distrib_of_nonneg_of_ne_top (by exact_mod_cast ha) (EReal.coe_ne_top _), ih]

/-- A real factor that is not negative times the sum over `S * n` indices, taken `n` at a time. -/
theorem mul_sum_points {L : ℕ} (S n : ℕ) (hL : L = S * n) (a : ℝ) (ha : 0 ≤ a) (f : Fin L → EReal) :
    (a : EReal) * ∑ i, f i
      = ∑ s : Fin S, (a : EReal) * ∑ k : Fin n, f ⟨s.val * n + k.val, Fin.mul_add_lt_of_eq_mul hL s k⟩ := by
  rw [← Fin.sum_mul_add_fin S n f hL, mul_sum_of_real a ha]

end Cert.Reals

end
-- ==== Proof.Loss.lean ====
/-
  The loss call: what its two result arrays hold after the run, and that this is the reference's loss and gradient.
-/
module

public import proofs.«01_k».proof.Proof.Reals
public import proofs.«01_k».proof.Proof.Gen.KernelIdeal.Value
public import proofs.«01_k».proof.Proof.Gen.ReferenceIdeal.Read
public import Idealize.ShloMosaic.Lib.Pipeline.ValueKit
public import Idealize.ShloMosaic.Lib.Pointwise
public import Idealize.ShloMosaic.Lib.Claim

@[expose] public section

set_option maxRecDepth 16384

noncomputable section

namespace Cert.KernelIdeal.LossValue

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0]
    ∧ win0_3.index t = ![t.val, 0] :=
  (by decide +kernel : ∀ t : Fin grid0.N, _)

/-- The gradient as an array: the difference, divided by the row length. -/
def grad (y t : FVec Ideal S8192x1024 .f32) : FVec Ideal S8192x1024 .f32 := fun i =>
  Ideal.div (y i - t i) (Ideal.ofBits .f32 0x44800000#32)

theorem pay3_at (a b : FVec Ideal S512x1024 .f32) (j : S512x1024.Idx) :
    k0_pay3 (F := Ideal) a b j = Ideal.div (a j - b j) (Ideal.ofBits .f32 0x44800000#32) := by
  pointwise [k0_pay3, k0_pay2]

theorem final_d (c : Dev nD) : (dats m 0 c).arrAt 3 cfg0.N
    = grad (m ((c : Thread nD τ).loc main_arg0)) (m ((c : Thread nD τ).loc main_arg1)) := by
  refine (dats m 0 c).arrAt_eq_of_covers 3 _ (by decide +kernel) fun t _ y => ?_
  blk_simp
  rw [after0_3]
  by_cases h : t.val % 16 = 0
  · rw [outsAt0_A m c t h]; frame_out
    rw [pay3_at, grad]
    blk_point [iblk, V, idx t]
  · rw [outsAt0_B m c t h]; frame_out
    rw [pay3_at, grad]
    blk_point [iblk, V, idx t]

theorem pay1_at (j : S8x128.Idx) : k0_pay1 (F := Ideal) j = 0 := by pointwise [k0_pay1]

/-- One row's loss. -/
def row (y t : FVec Ideal S8192x1024 .f32) (i : Fin 8192) : EReal :=
  Ideal.div (∑ k : Fin 1024, (y (ix2 i k) - t (ix2 i k)) * (y (ix2 i k) - t (ix2 i k))) (Ideal.ofBits .f32 0x44800000#32)

theorem pay4_at (a b : FVec Ideal S512x1024 .f32) (acc : FVec Ideal S8x128 .f32) (j : S8x128.Idx) :
    k0_pay4 (F := Ideal) a b acc j = acc j + Ideal.ofBits .f32 0x3F000000#32 * ∑ r : Fin 512,
      Ideal.div (∑ k : Fin 1024, (a (ix2 r k) - b (ix2 r k)) * (a (ix2 r k) - b (ix2 r k))) (Ideal.ofBits .f32 0x44800000#32) := by
  pointwise [k0_pay4, k0_pay2]
  simp only [Finset.univ_unique, Finset.sum_singleton]

theorem final_l (c : Dev nD) : (dats m 0 c).arrAt 2 cfg0.N
    = fun _ => Ideal.ofBits .f32 0x3F000000#32
        * ∑ i, row (m ((c : Thread nD τ).loc main_arg0)) (m ((c : Thread nD τ).loc main_arg1)) i := by
  refine (dats m 0 c).arrAt_eq_of_after_last 2 t0_15 (by decide +kernel) _ fun j => ?_
  blk_simp
  rw [after0_2, Pipeline.eq_sum_fin_of_reset_step_apply_last (fun n h => (outsAt0 m c n h).1) 16 (fun _ => 0) _
    (fun t h j => by rw [outsAt0_A m c t h]; frame_out; rw [pay4_at, pay1_at])
    (fun t h j => by rw [outsAt0_B m c t h]; frame_out; rw [pay4_at])
    (le_of_eq N_0) t0_15 rfl j, zero_add]
  rw [Reals.half]
  refine Eq.trans ?_ (Reals.mul_sum_points 16 512 rfl _ (by norm_num) _).symm
  refine Fin.sum_fin_congr fun p => ?_
  unfold row
  blk_point [iblk, V, idx p]

theorem ref_d (y t : FVec Ideal S8192x1024 .f32) : Cert.ReferenceIdeal.Read.val_main_v14 (F := Ideal) y t = grad y t := by
  funext i
  pointwise [Cert.ReferenceIdeal.Read.val_main_v14, Cert.ReferenceIdeal.Read.val_main_v13, Cert.ReferenceIdeal.Read.val_main_v12, Cert.ReferenceIdeal.Read.val_main_v11, Cert.ReferenceIdeal.Read.val_main_v10, Cert.ReferenceIdeal.Read.val_main_v9, Cert.ReferenceIdeal.Read.val_main_v3, Cert.ReferenceIdeal.Read.val_main_v2, Cert.ReferenceIdeal.Read.val_main_v0, Cert.ReferenceIdeal.Read.val_main_cst, Cert.ReferenceIdeal.Read.val_main_cst_4, Cert.ReferenceIdeal.Read.val_main_cst_5, Cert.ReferenceIdeal.Read.val_main_cst_6, grad]
  rw [Reals.half, Reals.k1024, Reals.two, Ideal.div_coe (by norm_num), Ideal.div_coe (by norm_num), ← mul_assoc,
    ← EReal.coe_mul, ← EReal.coe_mul, mul_comm]
  norm_num

theorem ref_l (y t : FVec Ideal S8192x1024 .f32) : Cert.ReferenceIdeal.Read.val_main_v15 (F := Ideal) y t
    = fun _ => Ideal.ofBits .f32 0x3F000000#32 * ∑ i, row y t i := by
  funext i
  rw [← Cert.ReferenceIdeal.Read.val_main_v15_eq]
  pointwise [row]

end Cert.KernelIdeal.LossValue

end
-- ==== Proof.LossClaims.lean ====
/-
  The claims about the loss call: frames of the kernel, of its ideal reading and of the reference, and their agreement.
-/
module

public import proofs.«01_k».proof.Defs
public import proofs.«01_k».proof.Proof.Loss
public import proofs.«01_k».proof.Proof.Gen.Kernel.Frame
public import proofs.«01_k».proof.Proof.Gen.ReferenceIdeal.Run

@[expose] public section

set_option maxRecDepth 16384

noncomputable section

namespace Cert.LossClaims

open Idealize.ShloMosaic Idealize.ShloMosaic.TcCoe Idealize.SL.Sem

theorem frame_kernel : Cert.quiescent_Kernel := fun m ρ _ => Cert.Kernel.Gen.frame m ρ

theorem frame_ideal : Cert.quiescent_KernelIdeal := fun m ρ _ => Cert.KernelIdeal.Gen.frame m ρ

theorem frame_reference : Cert.quiescent_ReferenceIdeal := fun m ρ _ =>
  (θ_run Cert.ReferenceIdeal.defs _ _).mono
    (fun r h => ⟨fun c => ⟨(h c).2.2.1, (h c).2.2.2⟩, sem_eq_zero_of_no_sems (by decide) r.2⟩)
    (Cert.ReferenceIdeal.Value.run (F := Ideal) m ρ)

theorem algebraic : Cert.algebraic_KernelIdeal_ReferenceIdeal := by
  intro m g m' g' _ hagree
  refine ⟨fun c => (Cert.KernelIdeal.Gen.dats m 0 c).arrAt 2 _, fun c => (Cert.KernelIdeal.Gen.dats m 0 c).arrAt 3 _,
    Cert.KernelIdeal.Value.run_blocks m g, ?_⟩
  refine (θ_run Cert.ReferenceIdeal.defs _ _).mono (fun r h c => ?_) (Cert.ReferenceIdeal.Value.run (F := Ideal) m' g')
  obtain ⟨h15, h14, h0, h1⟩ := h c
  refine ⟨(h15.trans (Cert.ReferenceIdeal.Read.val_main_v15_eq _ _)).trans ?_,
    (h14.trans (Cert.ReferenceIdeal.Read.val_main_v14_eq _ _)).trans ?_, h0, h1⟩
  · rw [(hagree c).1, (hagree c).2]
    exact (Cert.KernelIdeal.LossValue.ref_l _ _).trans (Cert.KernelIdeal.LossValue.final_l m c).symm
  · rw [(hagree c).1, (hagree c).2]
    exact (Cert.KernelIdeal.LossValue.ref_d _ _).trans (Cert.KernelIdeal.LossValue.final_d m c).symm

end Cert.LossClaims

end
-- ==== Proof.Finite.lean ====
/-
  Extended reals that are real numbers, and what the operations of a norm do to them.
-/
module

public import proofs.«01_k».proof.Proof.Reals

@[expose] public section

noncomputable section

namespace Cert.Finite

open Idealize.ShloMosaic

/-- An extended real that is a real number. -/
def IsR (x : EReal) : Prop := ∃ r : ℝ, x = r

theorem coe (r : ℝ) : IsR (r : EReal) := ⟨r, rfl⟩

theorem IsR.add {x y : EReal} : IsR x → IsR y → IsR (x + y) := by
  rintro ⟨a, rfl⟩ ⟨b, rfl⟩; exact ⟨a + b, (EReal.coe_add _ _).symm⟩

theorem IsR.sub {x y : EReal} : IsR x → IsR y → IsR (x - y) := by
  rintro ⟨a, rfl⟩ ⟨b, rfl⟩; exact ⟨a - b, (EReal.coe_sub _ _).symm⟩

theorem IsR.mul {x y : EReal} : IsR x → IsR y → IsR (x * y) := by
  rintro ⟨a, rfl⟩ ⟨b, rfl⟩; exact ⟨a * b, (EReal.coe_mul _ _).symm⟩

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem IsR.sum {ι : Type} (s : Finset ι) {f : ι → EReal} (h : ∀ i, IsR (f i)) : IsR (∑ i ∈ s, f i) := by
  choose g hg using h
  exact ⟨∑ i ∈ s, g i, by rw [coe_sum]; exact Finset.sum_congr rfl fun i _ => hg i⟩

theorem IsR.div {x y : EReal} (hx : IsR x) (hy : IsR y) (h : y ≠ 0) : IsR (Ideal.div x y) := by
  obtain ⟨b, rfl⟩ := hy
  rw [Ideal.div_coe (by exact_mod_cast h)]
  exact hx.mul ⟨_, rfl⟩

/-- What is strictly between the infinities in absolute value is real. -/
theorem isR_of_abs_lt {x : EReal} (h : max x (-x) < ⊤) : IsR x := by
  induction x using EReal.rec with
  | bot => simp at h
  | coe r => exact ⟨r, rfl⟩
  | top => simp at h

theorem rsqrt_pos {v : ℝ} (h : 0 < v) : Ideal.rsqrt (v : EReal) = (((Real.sqrt v)⁻¹ : ℝ) : EReal) := by
  rw [Ideal.rsqrt_coe, if_neg (not_lt.2 h.le), if_neg h.ne']

theorem div_real {a b : ℝ} (h : b ≠ 0) : Ideal.div (a : EReal) (b : EReal) = ((a / b : ℝ) : EReal) := by
  rw [Ideal.div_coe h, ← EReal.coe_mul, mul_one_div]

/-- The mean square of a row, with the constant under the root. -/
def msq {n : ℕ} (c e : ℝ) (x : Fin n → EReal) : EReal := Ideal.div (∑ k, x k * x k) (c : EReal) + (e : EReal)

theorem msq_real {n : ℕ} {c e : ℝ} (hc : 0 < c) (he : 0 < e) (x : Fin n → ℝ) :
    ∃ v : ℝ, 0 < v ∧ msq c e (fun k => (x k : EReal)) = (v : EReal) := by
  refine ⟨(∑ k, x k * x k) / c + e, ?_, ?_⟩
  · have : 0 ≤ ∑ k, x k * x k := Finset.sum_nonneg fun k _ => mul_self_nonneg _
    positivity
  · simp only [msq, ← EReal.coe_mul, ← coe_sum]
    rw [div_real hc.ne', ← EReal.coe_add]

theorem isR_rsqrt {n : ℕ} {c e : ℝ} (hc : 0 < c) (he : 0 < e) {x : Fin n → EReal} (hx : ∀ k, IsR (x k)) :
    IsR (Ideal.rsqrt (msq c e x)) := by
  choose x' hx' using hx
  obtain rfl : x = fun k => (x' k : EReal) := funext hx'
  obtain ⟨v, hv, h⟩ := msq_real hc he x'
  rw [h, rsqrt_pos hv]; exact coe _

/-- The gradient of a row's mean-square norm: the normalised form against the quotient rule's. -/
theorem norm_bwd {n : ℕ} {c e : ℝ} (hc : 0 < c) (he : 0 < e) {x a : Fin n → EReal} (hx : ∀ k, IsR (x k))
    (ha : ∀ k, IsR (a k)) (d : EReal) (j : Fin n) :
    d + Ideal.rsqrt (msq c e x) * (a j - (x j * Ideal.rsqrt (msq c e x))
        * Ideal.div (∑ k, a k * (x k * Ideal.rsqrt (msq c e x))) (c : EReal))
      = d + a j * Ideal.rsqrt (msq c e x)
        + x j * Ideal.div ((∑ k, x k * a k) * (((-(1 / 2) : ℝ) : EReal) * Ideal.div (Ideal.rsqrt (msq c e x)) (msq c e x)))
          (c : EReal)
        + Ideal.div ((∑ k, x k * a k) * (((-(1 / 2) : ℝ) : EReal) * Ideal.div (Ideal.rsqrt (msq c e x)) (msq c e x)))
          (c : EReal) * x j := by
  choose x' hx' using hx
  choose a' ha' using ha
  obtain rfl : x = fun k => (x' k : EReal) := funext hx'
  obtain rfl : a = fun k => (a' k : EReal) := funext ha'
  obtain ⟨v, hv, h⟩ := msq_real hc he x'
  rw [h, rsqrt_pos hv, div_real hv.ne']
  simp only [← EReal.coe_mul, ← coe_sum]
  rw [div_real hc.ne', div_real hc.ne', ← EReal.coe_mul, ← EReal.coe_mul, ← EReal.coe_mul, ← EReal.coe_sub,
    ← EReal.coe_mul, add_assoc, add_assoc, ← EReal.coe_add, ← EReal.coe_add]
  congr 2
  have hs : (Real.sqrt v)⁻¹ * (Real.sqrt v)⁻¹ = v⁻¹ := by rw [← mul_inv, Real.mul_self_sqrt hv.le]
  have hsum : ∑ k, a' k * (x' k * (Real.sqrt v)⁻¹) = (∑ k, x' k * a' k) * (Real.sqrt v)⁻¹ := by
    rw [Finset.sum_mul]; exact Finset.sum_congr rfl fun k _ => by ring
  rw [hsum, div_eq_mul_inv (Real.sqrt v)⁻¹ v, ← hs]
  ring

/-- The same with the programs' own constants: rows of 1024, and the reference's cotangent of a column of one. -/
theorem norm_bwd_1024 {x a : Fin 1024 → EReal} (hx : ∀ k, IsR (x k)) (ha : ∀ k, IsR (a k)) (d : EReal) (j : Fin 1024)
    (v s : EReal) (hv : v = Ideal.div (∑ k, x k * x k) (Ideal.ofBits .f32 0x44800000#32) + Ideal.ofBits .f32 0x358637BD#32)
    (hs : s = Ideal.div ((∑ k, x k * a k) * (Ideal.ofBits .f32 0xBF000000#32 * Ideal.div (Ideal.rsqrt v) v))
      (Ideal.ofBits .f32 0x44800000#32)) :
    d + Ideal.rsqrt v * (a j - x j * Ideal.rsqrt v
        * Ideal.div (∑ k, a k * (x k * Ideal.rsqrt v)) (Ideal.ofBits .f32 0x44800000#32))
      = d + a j * Ideal.rsqrt v + x j * s + s * x j := by
  obtain ⟨e, he, h⟩ := Reals.eps_pos
  subst hs hv
  rw [h, Reals.k1024, Reals.neg_half]
  exact norm_bwd (by norm_num) he hx ha d j

/-- An array whose absolute values all compare below infinity holds reals only. -/
theorem isR_of_finite {s : Shape} {x : FVec Ideal s .f32} {h}
    (hh : cmpf .olt (Host.absf x) (broadcastInDim s ![] h (constant (F := Ideal) ⟨0, ![]⟩ .f32 0x7F800000#32))
      = fun _ => 1#1) (i : s.Idx) : IsR (x i) := by
  have hi := congrFun hh i
  pointwise [] at hi
  rw [Reals.inf] at hi
  refine isR_of_abs_lt ?_
  by_contra hc
  have hd : decide ((FloatOps.absf (F := Ideal) (φ := .f32) (x i)) < (⊤ : EReal)) = false := decide_eq_false hc
  rw [hd] at hi
  exact absurd hi (by decide)

end Cert.Finite

end
-- ==== Proof.Rows.lean ====
/-
  An array of 8192 rows taken 512 rows at a time.
-/
module

public import proofs.«01_k».proof.Proof.Reals
public import Idealize.ShloMosaic.Lib.Pipeline.ValueKit

@[expose] public section

noncomputable section

namespace Cert.Rows

open Idealize.ShloMosaic

/-- The whole array's row under row `r` of block `t`. -/
def row (t : Fin 16) (r : Fin 512) : Fin 8192 := ⟨t.val * 512 + r.val, by omega⟩

/-- The rows of an array which block `t` holds. -/
def rows {n : ℕ} {e : FTy} (t : Fin 16) (x : FVec Ideal ⟨2, ![8192, n]⟩ e) : FVec Ideal ⟨2, ![512, n]⟩ e := fun j =>
  x (ix2 (row t (j 0)) (j 1))

theorem sum_rows (f : Fin 8192 → EReal) : ∑ r, f r = ∑ t : Fin 16, ∑ r : Fin 512, f (row t r) :=
  (Fin.sum_mul_add_fin 16 512 f rfl).symm

end Cert.Rows

end
-- ==== Proof.Norm.lean ====
/-
  The root-mean-square norm of a row, and the gradient of it as the kernels compute it.
-/
module

public import proofs.«01_k».proof.Proof.Finite
public import proofs.«01_k».proof.Proof.Rows

@[expose] public section

noncomputable section

namespace Cert.Norm

open Idealize.ShloMosaic

/-- What stands under the root of a row's norm. -/
def ms {R : ℕ} (x : FVec Ideal ⟨2, ![R, 1024]⟩ .f32) (r : Fin R) : EReal :=
  Ideal.div (∑ k : Fin 1024, x (ix2 r k) * x (ix2 r k)) (Ideal.ofBits .f32 0x44800000#32) + Ideal.ofBits .f32 0x358637BD#32

theorem isR_ms {R : ℕ} {x : FVec Ideal ⟨2, ![R, 1024]⟩ .f32} (hx : ∀ i, Finite.IsR (x i)) (r : Fin R) :
    Finite.IsR (Ideal.rsqrt (ms x r)) := by
  obtain ⟨e, he, h⟩ := Reals.eps_pos
  unfold ms
  rw [h, Reals.k1024]
  exact Finite.isR_rsqrt (x := fun k => x (ix2 r k)) (by norm_num) he fun k => hx _

/-- The gradient of the norm in its normalised form, added to what the layer's other path gives. -/
def dx {R : ℕ} (d x : FVec Ideal ⟨2, ![R, 1024]⟩ .f32) (a : Fin R → Fin 1024 → EReal) (r : Fin R) (j : Fin 1024) : EReal :=
  d (ix2 r j) + Ideal.rsqrt (ms x r) * (a r j - x (ix2 r j) * Ideal.rsqrt (ms x r)
    * Ideal.div (∑ k : Fin 1024, a r k * (x (ix2 r k) * Ideal.rsqrt (ms x r))) (Ideal.ofBits .f32 0x44800000#32))

/-- The normed row, times the norm's factor. -/
def hOut (x : FVec Ideal ⟨2, ![8192, 1024]⟩ .f32) (g : FVec Ideal ⟨1, ![1024]⟩ .f32) : FVec Ideal ⟨2, ![8192, 1024]⟩ .bf16 :=
  fun j => x j * Ideal.rsqrt (ms x (j 0)) * g (ix1 (j 1))

end Cert.Norm

end
-- ==== Proof.InProj.lean ====
/-
  The call which takes the cotangents of the in projection back to the layer's input: the arrays its run leaves.
-/
module

public import proofs.«01_k».proof.Proof.Finite
public import proofs.«01_k».proof.Proof.Norm
public import proofs.«01_k».proof.Proof.Gen.Kernel2Ideal.Value
public import Idealize.ShloMosaic.Lib.Pipeline.ValueKit
public import Idealize.ShloMosaic.Lib.Pointwise
public import Idealize.ShloMosaic.Lib.Claim

@[expose] public section

set_option maxRecDepth 16384

noncomputable section

namespace Cert.Kernel2Ideal.InValue

open Cert.Kernel2Ideal Cert.Kernel2Ideal.Gen Idealize.ShloMosaic Idealize.ShloMosaic.TcCoe Idealize.SL.Sem
open Cert.Rows Cert.Norm
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_8.index t = ![t.val, 0] ∧ win0_9.index t = ![t.val, 0]
    ∧ win0_11.index t = ![t.val, 0]
    ∧ win0_6.index t = ![0, 0] ∧ win0_7.index t = ![0, 0] :=
  (by decide +kernel : ∀ t : Fin grid0.N, _)

/-- The four cotangents of the in projection side by side. -/
def dz {R : ℕ} (q : FVec Ideal ⟨2, ![R, 512]⟩ .bf16) (kv : FVec Ideal ⟨2, ![R, 256]⟩ .bf16)
    (u gt : FVec Ideal ⟨2, ![R, 512]⟩ .bf16) (r : Fin R) (z : Fin 1792) : EReal :=
  if h : z.val < 512 then q (ix2 r ⟨z.val, h⟩)
  else if h : z.val - 512 < 256 then kv (ix2 r ⟨z.val - 512, h⟩)
  else if h : z.val - 512 - 256 < 512 then u (ix2 r ⟨z.val - 512 - 256, h⟩)
  else gt (ix2 r ⟨z.val - 512 - 256 - 512, by omega⟩)

/-- The normed row's cotangent. -/
def dh {R : ℕ} (q : FVec Ideal ⟨2, ![R, 512]⟩ .bf16) (kv : FVec Ideal ⟨2, ![R, 256]⟩ .bf16)
    (u gt : FVec Ideal ⟨2, ![R, 512]⟩ .bf16) (w : FVec Ideal S1024x1792 .f32) (r : Fin R) (k : Fin 1024) : EReal :=
  ∑ z : Fin 1792, dz q kv u gt r z * w (ix2 k z)

theorem pay8_at (q kv u gt) (j : S512x1792.Idx) : k0_pay8 (F := Ideal) q kv u gt j = dz q kv u gt (j 0) (j 1) := by
  pointwise [k0_pay8, dz]

theorem pay9_at (q kv u gt w) (j : S512x1024.Idx) :
    k0_pay9 (F := Ideal) q kv u gt w j = ∑ z : Fin 1792, dz q kv u gt (j 0) z * w (ix2 z (j 1)) := by
  pointwise [k0_pay9]
  exact Finset.sum_congr rfl fun z _ => by rw [pay8_at]; rfl

theorem pay7_at (x : FVec Ideal S512x1024 .f32) (g : FVec Ideal S1x1024 .f32) (j : S512x1024.Idx) :
    k0_pay7 (F := Ideal) x g j = x j * Ideal.rsqrt (ms x (j 0)) * g (ix2 0 (j 1)) := by
  pointwise [k0_pay7, k0_pay6, k0_pay5, k0_pay4, ms]

theorem pay2_at (x d : FVec Ideal S512x1024 .f32) (g : FVec Ideal S1x1024 .f32) (h : FVec Ideal S512x1024 .f32)
    (j : S512x1024.Idx) : k0_pay2 (F := Ideal) (k0_pay4 x) (k0_pay5 x) (k0_pay6 g) h d j
      = dx d x (fun r k => h (ix2 r k) * g (ix2 0 k)) (j 0) (j 1) := by
  pointwise [k0_pay2, k0_pay6, k0_pay5, k0_pay4, dx, ms]

theorem pay1_at (x : FVec Ideal S512x1024 .f32) (h : FVec Ideal S512x1024 .f32) (acc : FVec Ideal S1x1024 .f32)
    (j : S1x1024.Idx) : k0_pay1 (F := Ideal) (k0_pay5 x) h acc j
      = acc j + ∑ r : Fin 512, h (ix2 r (j 1)) * (x (ix2 r (j 1)) * Ideal.rsqrt (ms x r)) := by
  pointwise [k0_pay1, k0_pay5, k0_pay4, ms]

theorem pay3_at (j : S1x1024.Idx) : k0_pay3 (F := Ideal) j = 0 := by pointwise [k0_pay3]

/-- The four result arrays, as functions of the call's arguments. -/
def dzOut (q : FVec Ideal S8192x512 .bf16) (kv : FVec Ideal S8192x256 .bf16) (u gt : FVec Ideal S8192x512 .bf16) :
    FVec Ideal S8192x1792 .bf16 := fun j => dz q kv u gt (j 0) (j 1)

def dxOut (d x : FVec Ideal S8192x1024 .f32) (q : FVec Ideal S8192x512 .bf16) (kv : FVec Ideal S8192x256 .bf16)
    (u gt : FVec Ideal S8192x512 .bf16) (g : FVec Ideal S1024 .f32) (w : FVec Ideal S1024x1792 .f32) :
    FVec Ideal S8192x1024 .f32 := fun j =>
  dx d x (fun r k => dh q kv u gt w r k * g (ix1 k)) (j 0) (j 1)

def dgOut (x : FVec Ideal S8192x1024 .f32) (q : FVec Ideal S8192x512 .bf16) (kv : FVec Ideal S8192x256 .bf16)
    (u gt : FVec Ideal S8192x512 .bf16) (w : FVec Ideal S1024x1792 .f32) : FVec Ideal S1x1024 .f32 := fun j =>
  ∑ r : Fin 8192, dh q kv u gt w r (j 1) * (x (ix2 r (j 1)) * Ideal.rsqrt (ms x r))

/-- A grid point as the number of its block. -/
def pt (t : Fin cfg0.N) : Fin 16 := ⟨t.val, lt_of_lt_of_eq t.isLt N_0⟩

theorem in_0 (c : Dev nD) (t : Fin cfg0.N) : iblk m c 0 t = rows (e := .f32) (pt t) (m ((c : Thread nD τ).loc main_arg0)) := by
  funext j; unfold rows row pt; blk_point [iblk, V, idx t]

theorem in_1 (c : Dev nD) (t : Fin cfg0.N) : iblk m c 1 t = rows (e := .f32) (pt t) (m ((c : Thread nD τ).loc main_arg1)) := by
  funext j; unfold rows row pt; blk_point [iblk, V, idx t]

theorem in_2 (c : Dev nD) (t : Fin cfg0.N) : iblk m c 2 t = rows (e := .bf16) (pt t) (m ((c : Thread nD τ).loc main_arg2)) := by
  funext j; unfold rows row pt; blk_point [iblk, V, idx t]

theorem in_3 (c : Dev nD) (t : Fin cfg0.N) : iblk m c 3 t = rows (e := .bf16) (pt t) (m ((c : Thread nD τ).loc main_arg3)) := by
  funext j; unfold rows row pt; blk_point [iblk, V, idx t]

theorem in_4 (c : Dev nD) (t : Fin cfg0.N) : iblk m c 4 t = rows (e := .bf16) (pt t) (m ((c : Thread nD τ).loc main_arg4)) := by
  funext j; unfold rows row pt; blk_point [iblk, V, idx t]

theorem in_5 (c : Dev nD) (t : Fin cfg0.N) : iblk m c 5 t = rows (e := .bf16) (pt t) (m ((c : Thread nD τ).loc main_arg5)) := by
  funext j; unfold rows row pt; blk_point [iblk, V, idx t]

theorem in_6 (c : Dev nD) (t : Fin cfg0.N) : iblk m c 6 t
    = fun j : S1x1024.Idx => (m ((c : Thread nD τ).loc main_arg6) : FVec Ideal S1024 .f32) (ix1 (j 1)) := by
  funext j; blk_point [iblk, V, idx t]

theorem in_7 (c : Dev nD) (t : Fin cfg0.N) : iblk m c 7 t
    = fun j : S1792x1024.Idx => (m ((c : Thread nD τ).loc main_arg7) : FVec Ideal S1024x1792 .f32) (ix2 (j 1) (j 0)) := by
  funext j; blk_point [iblk, V, idx t]

theorem o_8 (t : Fin cfg0.N) (y : S512x1024.Idx) : ix2 (row (pt t) (y 0)) (y 1) = ((View.whole main_v3_0).slice (win0_8.rect t)).emb y := by
  unfold row pt; blk_point [idx t]

theorem o_9 (t : Fin cfg0.N) (y : S512x1024.Idx) : ix2 (row (pt t) (y 0)) (y 1) = ((View.whole main_v3_1).slice (win0_9.rect t)).emb y := by
  unfold row pt; blk_point [idx t]

theorem o_11 (t : Fin cfg0.N) (y : S512x1792.Idx) : ix2 (row (pt t) (y 0)) (y 1) = ((View.whole main_v3_3).slice (win0_11.rect t)).emb y := by
  unfold row pt; blk_point [idx t]

theorem final_dz (c : Dev nD) : (dats m 0 c).arrAt 11 cfg0.N
    = dzOut (m ((c : Thread nD τ).loc main_arg2)) (m ((c : Thread nD τ).loc main_arg3))
        (m ((c : Thread nD τ).loc main_arg4)) (m ((c : Thread nD τ).loc main_arg5)) := by
  refine (dats m 0 c).arrAt_eq_of_covers 11 _ (by decide +kernel) fun t _ y => ?_
  blk_simp
  rw [after0_11]
  by_cases h : t.val % 16 = 0
  · rw [outsAt0_A m c t h]; frame_out
    rw [pay8_at, in_2, in_3, in_4, in_5]
    exact congrArg (dzOut _ _ _ _) (o_11 t y)
  · rw [outsAt0_B m c t h]; frame_out
    rw [pay8_at, in_2, in_3, in_4, in_5]
    exact congrArg (dzOut _ _ _ _) (o_11 t y)

theorem final_h (c : Dev nD) : (dats m 0 c).arrAt 9 cfg0.N
    = hOut (m ((c : Thread nD τ).loc main_arg1)) (m ((c : Thread nD τ).loc main_arg6)) := by
  refine (dats m 0 c).arrAt_eq_of_covers 9 _ (by decide +kernel) fun t _ y => ?_
  blk_simp
  rw [after0_9]
  by_cases h : t.val % 16 = 0
  · rw [outsAt0_A m c t h]; frame_out
    rw [pay7_at, in_1, in_6]
    exact congrArg (hOut _ _) (o_9 t y)
  · rw [outsAt0_B m c t h]; frame_out
    rw [pay7_at, in_1, in_6]
    exact congrArg (hOut _ _) (o_9 t y)

theorem final_dx (c : Dev nD) : (dats m 0 c).arrAt 8 cfg0.N
    = dxOut (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7)) := by
  refine (dats m 0 c).arrAt_eq_of_covers 8 _ (by decide +kernel) fun t _ y => ?_
  blk_simp
  rw [after0_8]
  by_cases h : t.val % 16 = 0
  · rw [outsAt0_A m c t h]; frame_out
    rw [pay2_at, in_0, in_1, in_2, in_3, in_4, in_5, in_6, in_7]
    simp only [pay9_at]
    exact congrArg (dxOut _ _ _ _ _ _ _ _) (o_8 t y)
  · rw [outsAt0_B m c t h]; frame_out
    rw [pay2_at, in_0, in_1, in_2, in_3, in_4, in_5, in_6, in_7]
    simp only [pay9_at]
    exact congrArg (dxOut _ _ _ _ _ _ _ _) (o_8 t y)

/-- What block `t` adds to the gradient of the norm's factor. -/
def dgAdd (x : FVec Ideal S8192x1024 .f32) (q : FVec Ideal S8192x512 .bf16) (kv : FVec Ideal S8192x256 .bf16)
    (u gt : FVec Ideal S8192x512 .bf16) (w : FVec Ideal S1024x1792 .f32) (t : Fin 16) (j : S1x1024.Idx) : EReal :=
  ∑ r : Fin 512, dh q kv u gt w (row t r) (j 1) * (x (ix2 (row t r) (j 1)) * Ideal.rsqrt (ms x (row t r)))

theorem step_dg (x : FVec Ideal S8192x1024 .f32) (q : FVec Ideal S8192x512 .bf16) (kv : FVec Ideal S8192x256 .bf16)
    (u gt : FVec Ideal S8192x512 .bf16) (w : FVec Ideal S1024x1792 .f32) (t : Fin 16) (acc : FVec Ideal S1x1024 .f32)
    (j : S1x1024.Idx) : k0_pay1 (F := Ideal) (k0_pay5 (rows t x)) (k0_pay9 (rows t q) (rows t kv) (rows t u) (rows t gt)
        (fun j : S1792x1024.Idx => w (ix2 (j 1) (j 0)))) acc j = acc j + dgAdd x q kv u gt w t j := by
  rw [pay1_at]
  simp only [pay9_at]
  rfl

theorem dg_total (x : FVec Ideal S8192x1024 .f32) (q : FVec Ideal S8192x512 .bf16) (kv : FVec Ideal S8192x256 .bf16)
    (u gt : FVec Ideal S8192x512 .bf16) (w : FVec Ideal S1024x1792 .f32) (j : S1x1024.Idx) :
    dgOut x q kv u gt w j = ∑ t : Fin cfg0.N, dgAdd x q kv u gt w (pt t) j :=
  (sum_rows fun r => dh q kv u gt w r (j 1) * (x (ix2 r (j 1)) * Ideal.rsqrt (ms x r))).trans
    ((finCongr (show cfg0.N = 16 from N_0)).sum_comp fun t => dgAdd x q kv u gt w t j).symm

theorem final_dg (c : Dev nD) : (dats m 0 c).arrAt 10 cfg0.N
    = dgOut (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg7)) := by
  refine (dats m 0 c).arrAt_eq_of_after_last 10 t0_15 (by decide +kernel) _ fun j => ?_
  blk_simp
  rw [after0_10, Pipeline.eq_sum_fin_of_reset_step_apply_last (fun n h => (outsAt0 m c n h).2.2.1) 16 (fun _ => 0)
    (fun t => dgAdd (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg7)) (pt t))
    (fun t h j => by
      rw [outsAt0_A m c t h]; frame_out; rw [in_1, in_2, in_3, in_4, in_5, in_7, step_dg, pay3_at])
    (fun t h j => by rw [outsAt0_B m c t h]; frame_out; rw [in_1, in_2, in_3, in_4, in_5, in_7, step_dg])
    (le_of_eq N_0) t0_15 rfl j, zero_add]
  exact (dg_total _ _ _ _ _ _ _).symm

end Cert.Kernel2Ideal.InValue

end
-- ==== Proof.InProjRef.lean ====
/-
  The reference of the in projection's backward call, read entry by entry, against the arrays the kernel leaves.
-/
module

public import proofs.«01_k».proof.Proof.InProj
public import proofs.«01_k».proof.Proof.Gen.Reference2Ideal.Read

@[expose] public section

set_option maxRecDepth 16384

noncomputable section

namespace Cert.Kernel2Ideal.InValue

open Idealize.ShloMosaic Cert.Finite Cert.Norm
open Cert.Kernel2Ideal (S8192x1024 S8192x512 S8192x256 S1024 S1024x1792 S1x1024 S8192x1792)
open Cert.Reference2Ideal.Read

variable (d x : FVec Ideal S8192x1024 .f32) (q : FVec Ideal S8192x512 .bf16) (kv : FVec Ideal S8192x256 .bf16)
  (u gt : FVec Ideal S8192x512 .bf16) (g : FVec Ideal S1024 .f32) (w : FVec Ideal S1024x1792 .f32)

theorem ref_dz : val_main_v63 (F := Ideal) q kv u gt = dzOut q kv u gt := by
  funext j
  pointwise [val_main_v63, dzOut, dz]

theorem ref_h : val_main_v61 (F := Ideal) x g = hOut x g := by
  funext j
  rw [← val_main_v61_eq]
  pointwise [hOut, ms]

theorem ref_cat (j : S8192x1792.Idx) : val_main_v25 (F := Ideal) q kv u gt j = dz q kv u gt (j 0) (j 1) := by
  pointwise [val_main_v25, val_main_v0, val_main_v1, val_main_v2, val_main_v3, dz]

theorem ref_dh (j : S8192x1024.Idx) : val_main_v26 (F := Ideal) q kv u gt w j = dh q kv u gt w (j 0) (j 1) := by
  pointwise [val_main_v26]
  simp only [ref_cat]
  rfl

theorem ref_dg : val_main_v62 (F := Ideal) x q kv u gt w = dgOut x q kv u gt w := by
  funext j
  pointwise [val_main_v62, val_main_v32, val_main_v29, val_main_v28, val_main_v27, val_main_v16, val_main_v15, val_main_v11, val_main_v10, val_main_v9, val_main_v8, val_main_v7, val_main_v6, val_main_v5, val_main_v4, val_main_cst, val_main_cst_0, val_main_cst_1, val_main_cst_3, val_main_cst_4]
  simp only [ref_dh, Finset.univ_unique, Finset.sum_singleton]
  exact Finset.sum_congr rfl fun r _ => mul_comm _ _

theorem ref_dx (hx : ∀ i, IsR (x i)) (hq : ∀ i, IsR (q i)) (hkv : ∀ i, IsR (kv i)) (hu : ∀ i, IsR (u i))
    (hgt : ∀ i, IsR (gt i)) (hg : ∀ i, IsR (g i)) (hw : ∀ i, IsR (w i)) :
    val_main_v47 (F := Ideal) d x q kv u gt g w = dxOut d x q kv u gt g w := by
  have hz : ∀ r z, IsR (dz q kv u gt r z) := fun r z => by
    unfold dz; split_ifs
    · exact hq _
    · exact hkv _
    · exact hu _
    · exact hgt _
  have ha : ∀ r k, IsR (dh q kv u gt w r k * g (ix1 k)) := fun r k =>
    (IsR.sum _ fun z => (hz r z).mul (hw _)).mul (hg _)
  funext j
  obtain ⟨r, k, rfl⟩ : ∃ r k, j = ix2 r k := ⟨j 0, j 1, eq_ix2 j⟩
  pointwise [val_main_v47, val_main_v46, val_main_v45, val_main_v44, val_main_v43, val_main_v42, val_main_v41, val_main_v40, val_main_v39, val_main_v38, val_main_v37, val_main_v36, val_main_v35, val_main_v34, val_main_v33, val_main_v31, val_main_v30, val_main_v17, val_main_v14, val_main_v13, val_main_v12, val_main_v11, val_main_v10, val_main_v9, val_main_v8, val_main_v7, val_main_v6, val_main_v5, val_main_v4, val_main_cst, val_main_cst_0, val_main_cst_1, val_main_cst_2, val_main_cst_5, val_main_cst_6, val_main_cst_7]
  simp only [ref_dh, Finset.univ_unique, Finset.sum_singleton]
  exact (norm_bwd_1024 (x := fun k => x (ix2 r k)) (a := fun k => dh q kv u gt w r k * g (ix1 k))
    (fun k => hx _) (fun k => ha _ k) (d (ix2 r k)) k _ _ rfl rfl).symm

end Cert.Kernel2Ideal.InValue

end
-- ==== Proof.InProjClaims.lean ====
/-
  The claims about the in projection's backward call: frames and, for finite arguments, agreement with its reference.
-/
module

public import proofs.«01_k».proof.Defs
public import proofs.«01_k».proof.Proof.InProjRef
public import proofs.«01_k».proof.Proof.Gen.Kernel2.Frame
public import proofs.«01_k».proof.Proof.Gen.Reference2Ideal.Run

@[expose] public section

set_option maxRecDepth 16384

noncomputable section

namespace Cert.InProjClaims

open Idealize.ShloMosaic Idealize.ShloMosaic.TcCoe Idealize.SL.Sem Cert.Kernel2Ideal.InValue Cert.Finite

theorem frame_kernel : Cert.quiescent_Kernel2 := fun m ρ _ => Cert.Kernel2.Gen.frame m ρ

theorem frame_ideal : Cert.quiescent_Kernel2Ideal := fun m ρ _ => Cert.Kernel2Ideal.Gen.frame m ρ

theorem frame_reference : Cert.quiescent_Reference2Ideal := fun m ρ _ =>
  (θ_run Cert.Reference2Ideal.defs _ _).mono
    (fun r h => ⟨fun c => (h c).2.2.2.2, sem_eq_zero_of_no_sems (by decide) r.2⟩)
    (Cert.Reference2Ideal.Value.run (F := Ideal) m ρ)

section

variable [hPre : Cert.Pre_finite2.Facts]

theorem frame_ideal_finite : Cert.quiescent_Kernel2Ideal_pre_finite2 := fun m ρ _ => frame_ideal m ρ trivial

theorem frame_reference_finite : Cert.quiescent_Reference2Ideal_pre_finite2 := fun m ρ _ => frame_reference m ρ trivial

theorem algebraic : Cert.algebraic_Kernel2Ideal_Reference2Ideal_pre_finite2 := by
  intro m g m' g' hfin hagree
  refine ⟨fun c => (Cert.Kernel2Ideal.Gen.dats m 0 c).arrAt 8 _, fun c => (Cert.Kernel2Ideal.Gen.dats m 0 c).arrAt 9 _,
    fun c => (Cert.Kernel2Ideal.Gen.dats m 0 c).arrAt 10 _, fun c => (Cert.Kernel2Ideal.Gen.dats m 0 c).arrAt 11 _,
    Cert.Kernel2Ideal.Value.run_blocks m g, ?_⟩
  refine (θ_run Cert.Reference2Ideal.defs _ _).mono (fun r h c => ?_) (Cert.Reference2Ideal.Value.run (F := Ideal) m' g')
  obtain ⟨h47, h61, h62, h63, hargs⟩ := h c
  obtain ⟨a0, a1, a2, a3, a4, a5, a6, a7⟩ := hagree c
  obtain ⟨f1, f2, f3, f4, f5, f6, f7⟩ := hfin c
  refine ⟨(h47.trans (Cert.Reference2Ideal.Read.val_main_v47_eq _ _)).trans ?_,
    (h61.trans (Cert.Reference2Ideal.Read.val_main_v61_eq _ _)).trans ?_,
    (h62.trans (Cert.Reference2Ideal.Read.val_main_v62_eq _ _ _ _ _ _)).trans ?_,
    (h63.trans (Cert.Reference2Ideal.Read.val_main_v63_eq _ _ _ _)).trans ?_, hargs⟩
  · rw [a0, a1, a2, a3, a4, a5, a6, a7]
    exact (ref_dx _ _ _ _ _ _ _ _ (isR_of_finite f1) (isR_of_finite f2) (isR_of_finite f3) (isR_of_finite f4)
      (isR_of_finite f5) (isR_of_finite f6) (isR_of_finite f7)).trans (final_dx m c).symm
  · rw [a1, a6]; exact (ref_h _ _).trans (final_h m c).symm
  · rw [a1, a2, a3, a4, a5, a7]; exact (ref_dg _ _ _ _ _ _).trans (final_dg m c).symm
  · rw [a2, a3, a4, a5]; exact (ref_dz _ _ _ _).trans (final_dz m c).symm

end

end Cert.InProjClaims

end
-- ==== Proof.Mlp.lean ====
/-
  The feed-forward layer's backward call, one block of rows: its payloads read entry by entry.
-/
module

public import proofs.«01_k».proof.Proof.Finite
public import proofs.«01_k».proof.Proof.Norm
public import proofs.«01_k».proof.Proof.Gen.Kernel3Ideal.Value
public import Idealize.ShloMosaic.Lib.Pipeline.ValueKit
public import Idealize.ShloMosaic.Lib.Pointwise

@[expose] public section

set_option maxRecDepth 16384

noncomputable section

namespace Cert.Kernel3Ideal.MlpValue

open Cert.Kernel3Ideal Cert.Kernel3Ideal.Gen Idealize.ShloMosaic Idealize.ShloMosaic.TcCoe Idealize.SL.Sem
open Cert.Rows Cert.Norm

/-- The hidden unit under lane `z` of chunk `c`. -/
def col (c : Fin 8) (z : Fin 512) : Fin 4096 := ⟨c.val * 512 + z.val, by omega⟩

theorem sum_cols (f : Fin 4096 → EReal) : ∑ r, f r = ∑ c : Fin 8, ∑ z : Fin 512, f (col c z) :=
  (Fin.sum_mul_add_fin 8 512 f rfl).symm

/-- A chunk's rows of a weight. -/
def ldw (w : FVec Ideal S4096x1024 .bf16) (c : Fin 8) : FVec Ideal S512x1024 .bf16 := fun j => w (ix2 (col c (j 0)) (j 1))

/-- A chunk of the saved hidden units. -/
def ldu (u : FVec Ideal S8x512x512 .bf16) (c : Fin 8) : FVec Ideal S1x512x512 .bf16 := fun j => u (ix3 c (j 1) (j 2))

theorem ld_w (w : FVec Ideal S4096x1024 .bf16) (c : Fin 8) (o : ℕ) (ho : o = c.val * 512) (inb) :
    View.ld (Val := Elt Ideal) (e' := EltTy.bf16) w (Rect.unit (s := S4096x1024) ![o, 0] ![512, 1024] inb) = ldw w c := by
  subst ho
  funext j
  unfold ldw col
  pointwise []

theorem ld_u (u : FVec Ideal S8x512x512 .bf16) (c : Fin 8) (o : ℕ) (ho : o = c.val) (inb) :
    View.ld (Val := Elt Ideal) (e' := EltTy.bf16) u (Rect.unit (s := S8x512x512) ![o, 0, 0] ![1, 512, 512] inb) = ldu u c := by
  subst ho
  funext j
  unfold ldu
  pointwise []

/-- One chunk's cotangent of the hidden units. -/
def dupc (d : FVec Ideal S512x1024 .f32) (wd : FVec Ideal S512x1024 .bf16) (u : FVec Ideal S1x512x512 .bf16) (r z : Fin 512) : EReal :=
  (∑ k : Fin 1024, d (ix2 r k) * wd (ix2 z k)) * (Ideal.ofBits .f32 0x40000000#32 * max (u (ix3 0 r z)) 0)

/-- What one chunk adds to the normed row's cotangent. -/
def ch (d : FVec Ideal S512x1024 .f32) (wd : FVec Ideal S512x1024 .bf16) (u : FVec Ideal S1x512x512 .bf16)
    (wu : FVec Ideal S512x1024 .bf16) (r : Fin 512) (k : Fin 1024) : EReal :=
  ∑ z : Fin 512, dupc d wd u r z * wu (ix2 z k)

theorem dh_at (d : FVec Ideal S512x1024 .f32) (a0 a1 a2 a3 a4 a5 a6 a7 b0 b1 b2 b3 b4 b5 b6 b7 : FVec Ideal S512x1024 .bf16)
    (u0 u1 u2 u3 u4 u5 u6 u7 : FVec Ideal S1x512x512 .bf16) (j : S512x1024.Idx) :
    k0_pay3 (F := Ideal) (k0_pay33 (k0_pay7 d) (k0_pay28 (k0_pay7 d) (k0_pay25 (k0_pay7 d) (k0_pay19 (k0_pay7 d) k0_pay12
        (k0_pay13 d a0) (k0_pay14 u0) (FloatOps.ofBits FTy.f32 1073741824#32) b0 a1 u1 b1) (k0_pay20 (k0_pay7 d) a2) u2 b2 a3 u3 b3)
        a4 u4 b4) (k0_pay29 (k0_pay7 d) a5 u5) b5 a6 u6 b6) (k0_pay34 (k0_pay7 d) a7) (k0_pay35 u7) b7 j
      = ch d a0 u0 b0 (j 0) (j 1) + ch d a1 u1 b1 (j 0) (j 1) + ch d a2 u2 b2 (j 0) (j 1) + ch d a3 u3 b3 (j 0) (j 1)
        + ch d a4 u4 b4 (j 0) (j 1) + ch d a5 u5 b5 (j 0) (j 1) + ch d a6 u6 b6 (j 0) (j 1) + ch d a7 u7 b7 (j 0) (j 1) := by
  pointwise [k0_pay3, k0_pay33, k0_pay28, k0_pay25, k0_pay19, k0_pay12, k0_pay13, k0_pay14, k0_pay20, k0_pay29, k0_pay34,
    k0_pay35, k0_pay1, k0_pay7, k0_pay15, k0_pay17, k0_pay21, k0_pay23, k0_pay26, k0_pay31, ch, dupc]

section

variable (d : FVec Ideal S512x1024 .f32) (a : FVec Ideal S512x1024 .bf16) (u : FVec Ideal S1x512x512 .bf16) (r z : Fin 512)

theorem pay16_at : k0_pay16 (F := Ideal) (k0_pay13 d a) (k0_pay14 u) (FloatOps.ofBits FTy.f32 1073741824#32) (ix3 0 r z)
    = dupc d a u r z := by
  pointwise [k0_pay16, k0_pay15, k0_pay14, k0_pay13, k0_pay7, dupc]

theorem pay18_at : k0_pay18 (F := Ideal) (k0_pay7 d) a u (ix3 0 r z) = dupc d a u r z := by
  pointwise [k0_pay18, k0_pay17, k0_pay7, dupc]

theorem pay22_at : k0_pay22 (F := Ideal) (k0_pay20 (k0_pay7 d) a) u (ix3 0 r z) = dupc d a u r z := by
  pointwise [k0_pay22, k0_pay21, k0_pay20, k0_pay7, dupc]

theorem pay24_at : k0_pay24 (F := Ideal) (k0_pay7 d) a u (ix3 0 r z) = dupc d a u r z := by
  pointwise [k0_pay24, k0_pay23, k0_pay7, dupc]

theorem pay27_at : k0_pay27 (F := Ideal) (k0_pay7 d) a u (ix3 0 r z) = dupc d a u r z := by
  pointwise [k0_pay27, k0_pay26, k0_pay7, dupc]

theorem pay30_at : k0_pay30 (F := Ideal) (k0_pay7 d) a u (ix3 0 r z) = dupc d a u r z := by
  pointwise [k0_pay30, k0_pay29, k0_pay7, dupc]

theorem pay32_at : k0_pay32 (F := Ideal) (k0_pay7 d) a u (ix3 0 r z) = dupc d a u r z := by
  pointwise [k0_pay32, k0_pay31, k0_pay7, dupc]

theorem pay2_at : k0_pay2 (F := Ideal) (k0_pay34 (k0_pay7 d) a) (k0_pay35 u) (ix3 0 r z) = dupc d a u r z := by
  pointwise [k0_pay2, k0_pay1, k0_pay34, k0_pay35, k0_pay7, dupc]

end

theorem pay5_at (d x : FVec Ideal S512x1024 .f32) (g : FVec Ideal S1x1024 .f32) (a b c e) (j : S512x1024.Idx) :
    k0_pay5 (F := Ideal) d (k0_pay8 x) (k0_pay9 x) (k0_pay10 g) a b c e j
      = dx d x (fun r k => k0_pay3 a b c e (ix2 r k) * g (ix2 0 k)) (j 0) (j 1) := by
  pointwise [k0_pay5, k0_pay8, k0_pay9, k0_pay10, dx, ms]

theorem pay4_at (x : FVec Ideal S512x1024 .f32) (a b c e) (acc : FVec Ideal S1x1024 .f32) (j : S1x1024.Idx) :
    k0_pay4 (F := Ideal) (k0_pay9 x) a b c e acc j
      = acc j + ∑ r : Fin 512, k0_pay3 a b c e (ix2 r (j 1)) * (x (ix2 r (j 1)) * Ideal.rsqrt (ms x r)) := by
  pointwise [k0_pay4, k0_pay8, k0_pay9, ms]

theorem pay11_at (x : FVec Ideal S512x1024 .f32) (g : FVec Ideal S1x1024 .f32) (j : S512x1024.Idx) :
    k0_pay11 (F := Ideal) x g j = x j * Ideal.rsqrt (ms x (j 0)) * g (ix2 0 (j 1)) := by
  pointwise [k0_pay11, k0_pay8, k0_pay9, k0_pay10, ms]

theorem pay6_at (j : S1x1024.Idx) : k0_pay6 (F := Ideal) j = 0 := by pointwise [k0_pay6]

theorem pay7_at (d : FVec Ideal S512x1024 .f32) (j : S512x1024.Idx) : k0_pay7 (F := Ideal) d j = d j := by pointwise [k0_pay7]

/-- The saved hidden units, from the layer's own arguments. -/
def up (x : FVec Ideal S8192x1024 .f32) (g : FVec Ideal S1024 .f32) (w : FVec Ideal S1024x4096 .f32) (r : Fin 8192)
    (f : Fin 4096) : EReal :=
  ∑ k : Fin 1024, x (ix2 r k) * Ideal.rsqrt (ms x r) * g (ix1 k) * w (ix2 k f)

/-- The hidden units' cotangent. -/
def dup (d x : FVec Ideal S8192x1024 .f32) (g : FVec Ideal S1024 .f32) (w : FVec Ideal S1024x4096 .f32)
    (wd : FVec Ideal S4096x1024 .f32) (r : Fin 8192) (f : Fin 4096) : EReal :=
  (∑ k : Fin 1024, d (ix2 r k) * wd (ix2 f k)) * (Ideal.ofBits .f32 0x40000000#32 * max (up x g w r f) 0)

/-- The normed row's cotangent. -/
def dh (d x : FVec Ideal S8192x1024 .f32) (g : FVec Ideal S1024 .f32) (w : FVec Ideal S1024x4096 .f32)
    (wd : FVec Ideal S4096x1024 .f32) (r : Fin 8192) (k : Fin 1024) : EReal :=
  ∑ f : Fin 4096, dup d x g w wd r f * w (ix2 k f)

variable (d x : FVec Ideal S8192x1024 .f32) (g : FVec Ideal S1024 .f32) (w : FVec Ideal S1024x4096 .f32)
  (wd : FVec Ideal S4096x1024 .f32)

/-- The block's part of the saved hidden units, as the call gets it: a chunk of units first. -/
def upBlk (t : Fin 16) : FVec Ideal S8x512x512 .bf16 := fun j => up x g w (row t (j 1)) (col (j 0) (j 2))

/-- The first weight as the call gets it. -/
def wT : FVec Ideal S4096x1024 .bf16 := fun j => w (ix2 (j 1) (j 0))

/-- The second weight as the call gets it. -/
def wD : FVec Ideal S4096x1024 .bf16 := fun j => wd j

theorem dupc_eq (t : Fin 16) (c : Fin 8) (r z : Fin 512) :
    dupc (rows t d) (ldw (wD wd) c) (ldu (upBlk x g w t) c) r z = dup d x g w wd (row t r) (col c z) := rfl

theorem ch_eq (t : Fin 16) (c : Fin 8) (r : Fin 512) (k : Fin 1024) :
    ch (rows t d) (ldw (wD wd) c) (ldu (upBlk x g w t) c) (ldw (wT w) c) r k
      = ∑ z : Fin 512, dup d x g w wd (row t r) (col c z) * w (ix2 k (col c z)) := rfl

theorem dh_eq (t : Fin 16) (r : Fin 512) (k : Fin 1024) : dh d x g w wd (row t r) k
    = ∑ c : Fin 8, ch (rows t d) (ldw (wD wd) c) (ldu (upBlk x g w t) c) (ldw (wT w) c) r k :=
  sum_cols fun f => dup d x g w wd (row t r) f * w (ix2 k f)

/-- The normed row's cotangent, from a block's loads. -/
theorem dh_blk (t : Fin 16) (j : S512x1024.Idx) :
    k0_pay3 (F := Ideal) (k0_pay33 (k0_pay7 (rows t d)) (k0_pay28 (k0_pay7 (rows t d)) (k0_pay25 (k0_pay7 (rows t d))
        (k0_pay19 (k0_pay7 (rows t d)) k0_pay12 (k0_pay13 (rows t d) (ldw (wD wd) 0)) (k0_pay14 (ldu (upBlk x g w t) 0))
          (FloatOps.ofBits FTy.f32 1073741824#32) (ldw (wT w) 0) (ldw (wD wd) 1) (ldu (upBlk x g w t) 1) (ldw (wT w) 1))
        (k0_pay20 (k0_pay7 (rows t d)) (ldw (wD wd) 2)) (ldu (upBlk x g w t) 2) (ldw (wT w) 2)
        (ldw (wD wd) 3) (ldu (upBlk x g w t) 3) (ldw (wT w) 3)) (ldw (wD wd) 4) (ldu (upBlk x g w t) 4) (ldw (wT w) 4))
        (k0_pay29 (k0_pay7 (rows t d)) (ldw (wD wd) 5) (ldu (upBlk x g w t) 5)) (ldw (wT w) 5)
        (ldw (wD wd) 6) (ldu (upBlk x g w t) 6) (ldw (wT w) 6)) (k0_pay34 (k0_pay7 (rows t d)) (ldw (wD wd) 7))
        (k0_pay35 (ldu (upBlk x g w t) 7)) (ldw (wT w) 7) j = dh d x g w wd (row t (j 0)) (j 1) := by
  rw [dh_at]
  exact ((dh_eq d x g w wd t (j 0) (j 1)).trans (Fin.sum_univ_eight _)).symm

end Cert.Kernel3Ideal.MlpValue

end
-- ==== Proof.MlpFinal.lean ====
/-
  The feed-forward layer's backward call: the arrays its run leaves.
-/
module

public import proofs.«01_k».proof.Proof.Mlp
public import Idealize.ShloMosaic.Lib.Claim

@[expose] public section

set_option maxRecDepth 16384

noncomputable section

namespace Cert.Kernel3Ideal.MlpValue

open Cert.Kernel3Ideal Cert.Kernel3Ideal.Gen Idealize.ShloMosaic Idealize.ShloMosaic.TcCoe Idealize.SL.Sem
open Cert.Rows Cert.Norm
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0]
    ∧ win0_2.index t = ![0, t.val, 0] ∧ win0_3.index t = ![0, 0] ∧ win0_4.index t = ![0, 0]
    ∧ win0_5.index t = ![0, 0] ∧ win0_6.index t = ![t.val, 0] ∧ win0_7.index t = ![0, t.val, 0]
    ∧ win0_8.index t = ![t.val, 0] ∧ win0_10.index t = ![t.val, 0] :=
  (by decide +kernel : ∀ t : Fin grid0.N, _)

/-- A grid point as the number of its block. -/
def pt (t : Fin cfg0.N) : Fin 16 := ⟨t.val, lt_of_lt_of_eq t.isLt N_0⟩

/-- The call's arguments on a device. -/
abbrev A0 (c : Dev nD) : FVec Ideal S8192x1024 .f32 := m ((c : Thread nD τ).loc main_arg0)
abbrev A1 (c : Dev nD) : FVec Ideal S8192x1024 .f32 := m ((c : Thread nD τ).loc main_arg1)
abbrev A2 (c : Dev nD) : FVec Ideal S1024 .f32 := m ((c : Thread nD τ).loc main_arg2)
abbrev A3 (c : Dev nD) : FVec Ideal S1024x4096 .f32 := m ((c : Thread nD τ).loc main_arg3)
abbrev A4 (c : Dev nD) : FVec Ideal S4096x1024 .f32 := m ((c : Thread nD τ).loc main_arg4)

theorem in_0 (c : Dev nD) (t : Fin cfg0.N) : iblk m c 0 t = rows (e := .f32) (pt t) (A0 m c) := by
  funext j; unfold rows row pt; blk_point [iblk, V, idx t]

theorem in_1 (c : Dev nD) (t : Fin cfg0.N) : iblk m c 1 t = rows (e := .f32) (pt t) (A1 m c) := by
  funext j; unfold rows row pt; blk_point [iblk, V, idx t]

theorem in_3 (c : Dev nD) (t : Fin cfg0.N) : iblk m c 3 t = fun j : S1x1024.Idx => A2 m c (ix1 (j 1)) := by
  funext j; blk_point [iblk, V, idx t]

theorem in_4 (c : Dev nD) (t : Fin cfg0.N) : iblk m c 4 t = wT (A3 m c) := by
  funext j; unfold wT; blk_point [iblk, V, idx t]

theorem in_5 (c : Dev nD) (t : Fin cfg0.N) : iblk m c 5 t = wD (A4 m c) := by
  funext j; unfold wD; blk_point [iblk, V, idx t]

/-- The hidden units the host lays out for the call. -/
def hostUp (c : Dev nD) : FVec Ideal S8x8192x512 .bf16 := StableHlo.after hostOps0 (fun b => m (c, b)) (Proc.tc.devRef main_v16)

theorem host_up (c : Dev nD) : hostUp m c = fun i => up (A1 m c) (A2 m c) (A3 m c) (i 1) (col (i 0) (i 2)) := by
  unfold hostUp
  after_results_simp
  funext i
  unfold up ms
  pointwise []
  rfl

theorem o_2 (t : Fin cfg0.N) (j : S8x512x512.Idx) :
    ((View.whole main_v16).slice (win0_2.rect t)).emb j = ix3 (j 0) (row (pt t) (j 1)) (j 2) := by
  unfold row pt; blk_point [idx t]

theorem in_2_host (c : Dev nD) (t : Fin cfg0.N) : iblk m c 2 t = fun j : S8x512x512.Idx =>
    hostUp m c (((View.whole main_v16).slice (win0_2.rect t)).emb j) := rfl

theorem at_emb (U : Fin 8192 → Fin 4096 → EReal) (t : Fin cfg0.N) (j : S8x512x512.Idx) :
    (fun i : S8x8192x512.Idx => U (i 1) (col (i 0) (i 2))) (((View.whole main_v16).slice (win0_2.rect t)).emb j)
      = U (row (pt t) (j 1)) (col (j 0) (j 2)) := by
  rw [o_2]; rfl

theorem up_emb (c : Dev nD) (t : Fin cfg0.N) (j : S8x512x512.Idx) :
    hostUp m c (((View.whole main_v16).slice (win0_2.rect t)).emb j) = upBlk (A1 m c) (A2 m c) (A3 m c) (pt t) j := by
  rw [host_up]
  unfold upBlk
  exact at_emb (up (A1 m c) (A2 m c) (A3 m c)) t j

theorem in_2 (c : Dev nD) (t : Fin cfg0.N) : iblk m c 2 t = upBlk (A1 m c) (A2 m c) (A3 m c) (pt t) := by
  rw [in_2_host]
  exact funext (up_emb m c t)

theorem o_6 (t : Fin cfg0.N) (y : S512x1024.Idx) :
    ix2 (row (pt t) (y 0)) (y 1) = ((View.whole main_v21_0).slice (win0_6.rect t)).emb y := by
  unfold row pt; blk_point [idx t]

theorem o_7 (t : Fin cfg0.N) (y : S8x512x512.Idx) :
    ix3 (y 0) (row (pt t) (y 1)) (y 2) = ((View.whole main_v21_1).slice (win0_7.rect t)).emb y := by
  unfold row pt; blk_point [idx t]

theorem o_8 (t : Fin cfg0.N) (y : S512x1024.Idx) :
    ix2 (row (pt t) (y 0)) (y 1) = ((View.whole main_v21_2).slice (win0_8.rect t)).emb y := by
  unfold row pt; blk_point [idx t]

theorem o_10 (t : Fin cfg0.N) (y : S512x1024.Idx) :
    ix2 (row (pt t) (y 0)) (y 1) = ((View.whole main_v21_4).slice (win0_10.rect t)).emb y := by
  unfold row pt; blk_point [idx t]

section

variable (d x : FVec Ideal S8192x1024 .f32) (g : FVec Ideal S1024 .f32) (w : FVec Ideal S1024x4096 .f32)
  (wd : FVec Ideal S4096x1024 .f32)

/-- The call's results, as functions of its arguments. -/
def dxOut : FVec Ideal S8192x1024 .f32 := fun j => dx d x (fun r k => dh d x g w wd r k * g (ix1 k)) (j 0) (j 1)

def dupOut : FVec Ideal S8x8192x512 .bf16 := fun j => dup d x g w wd (j 1) (col (j 0) (j 2))

def dgOut : FVec Ideal S1x1024 .f32 := fun j =>
  ∑ r : Fin 8192, dh d x g w wd r (j 1) * (x (ix2 r (j 1)) * Ideal.rsqrt (ms x r))

/-- What block `t` adds to the gradient of the norm's factor. -/
def dgAdd (t : Fin 16) (j : S1x1024.Idx) : EReal :=
  ∑ r : Fin 512, dh d x g w wd (row t r) (j 1) * (x (ix2 (row t r) (j 1)) * Ideal.rsqrt (ms x (row t r)))

theorem dg_total (j : S1x1024.Idx) : dgOut d x g w wd j = ∑ t : Fin cfg0.N, dgAdd d x g w wd (pt t) j :=
  (sum_rows fun r => dh d x g w wd r (j 1) * (x (ix2 r (j 1)) * Ideal.rsqrt (ms x r))).trans
    ((finCongr (show cfg0.N = 16 from N_0)).sum_comp fun t => dgAdd d x g w wd t j).symm

end

theorem final_h (c : Dev nD) : (dats m 0 c).arrAt 8 cfg0.N = hOut (A1 m c) (A2 m c) := by
  refine (dats m 0 c).arrAt_eq_of_covers 8 _ (by decide +kernel) fun t _ y => ?_
  blk_simp
  rw [after0_8]
  by_cases h : t.val % 16 = 0
  · rw [outsAt0_A m c t h]; frame_out
    rw [pay11_at, in_1, in_3]
    exact congrArg (hOut _ _) (o_8 t y)
  · rw [outsAt0_B m c t h]; frame_out
    rw [pay11_at, in_1, in_3]
    exact congrArg (hOut _ _) (o_8 t y)

theorem final_db (c : Dev nD) : (dats m 0 c).arrAt 10 cfg0.N = A0 m c := by
  refine (dats m 0 c).arrAt_eq_of_covers 10 _ (by decide +kernel) fun t _ y => ?_
  blk_simp
  rw [after0_10]
  by_cases h : t.val % 16 = 0
  · rw [outsAt0_A m c t h]; frame_out
    rw [pay7_at, in_0]
    exact congrArg (A0 m c) (o_10 t y)
  · rw [outsAt0_B m c t h]; frame_out
    rw [pay7_at, in_0]
    exact congrArg (A0 m c) (o_10 t y)

theorem final_dx (c : Dev nD) : (dats m 0 c).arrAt 6 cfg0.N = dxOut (A0 m c) (A1 m c) (A2 m c) (A3 m c) (A4 m c) := by
  refine (dats m 0 c).arrAt_eq_of_covers 6 _ (by decide +kernel) fun t _ y => ?_
  blk_simp
  rw [after0_6]
  by_cases h : t.val % 16 = 0
  · rw [outsAt0_A m c t h]; frame_out
    rw [in_0, in_1, in_2, in_3, in_4, in_5, pay5_at]
    simp only [ld_w _ 0 0 rfl, ld_w _ 1 512 rfl, ld_w _ 2 1024 rfl, ld_w _ 3 1536 rfl, ld_w _ 4 2048 rfl, ld_w _ 5 2560 rfl,
      ld_w _ 6 3072 rfl, ld_w _ 7 3584 rfl, ld_u _ 0 0 rfl, ld_u _ 1 1 rfl, ld_u _ 2 2 rfl, ld_u _ 3 3 rfl, ld_u _ 4 4 rfl,
      ld_u _ 5 5 rfl, ld_u _ 6 6 rfl, ld_u _ 7 7 rfl, dh_blk]
    exact congrArg (dxOut _ _ _ _ _) (o_6 t y)
  · rw [outsAt0_B m c t h]; frame_out
    rw [in_0, in_1, in_2, in_3, in_4, in_5, pay5_at]
    simp only [ld_w _ 0 0 rfl, ld_w _ 1 512 rfl, ld_w _ 2 1024 rfl, ld_w _ 3 1536 rfl, ld_w _ 4 2048 rfl, ld_w _ 5 2560 rfl,
      ld_w _ 6 3072 rfl, ld_w _ 7 3584 rfl, ld_u _ 0 0 rfl, ld_u _ 1 1 rfl, ld_u _ 2 2 rfl, ld_u _ 3 3 rfl, ld_u _ 4 4 rfl,
      ld_u _ 5 5 rfl, ld_u _ 6 6 rfl, ld_u _ 7 7 rfl, dh_blk]
    exact congrArg (dxOut _ _ _ _ _) (o_6 t y)

theorem eq_ix3_one (x : S1x512x512.Idx) : x = ix3 0 (x 1) (x 2) :=
  (eq_ix3 x).trans (congrArg (fun i : Fin 1 => (ix3 i (x 1) (x 2) : S1x512x512.Idx)) (Subsingleton.elim (α := Fin 1) (x 0) 0))

/-- A chunk of a block of the hidden units' cotangent, at its place in the block. -/
theorem dup_tile (d x : FVec Ideal S8192x1024 .f32) (g : FVec Ideal S1024 .f32) (w : FVec Ideal S1024x4096 .f32)
    (wd : FVec Ideal S4096x1024 .f32) (t : Fin cfg0.N) (c : Fin 8) (r z : Fin 512) (y : S8x512x512.Idx)
    (h0 : (y 0).val = c.val + (0 : Fin 1).val) (h1 : (y 1).val = r.val) (h2 : (y 2).val = z.val) :
    dupc (rows (pt t) d) (ldw (wD wd) c) (ldu (upBlk x g w (pt t)) c) r z
      = dupOut d x g w wd (ix3 (y 0) (row (pt t) (y 1)) (y 2)) := by
  have e0 : y 0 = c := Fin.ext (by omega)
  have e1 : y 1 = r := Fin.ext h1
  have e2 : y 2 = z := Fin.ext h2
  rw [dupc_eq]
  show _ = dup d x g w wd (row (pt t) (y 1)) (col (y 0) (y 2))
  rw [e0, e1, e2]

/-- A block's chunks, stored one by one, are the block. -/
theorem dup_block (d x : FVec Ideal S8192x1024 .f32) (g : FVec Ideal S1024 .f32) (w : FVec Ideal S1024x4096 .f32)
    (wd : FVec Ideal S4096x1024 .f32) (t : Fin cfg0.N) (y : S8x512x512.Idx) :
    View.canon (Val := Elt Ideal) (e := EltTy.bf16) [
      ⟨Rect.unit (s := S8x512x512) ![7, 0, 0] ![1, 512, 512] inb_S8x512x512_S1x512x512_7_0_0, k0_pay2 (k0_pay34 (k0_pay7 (rows (pt t) d))
          (View.ld (Val := Elt Ideal) (e' := EltTy.bf16) (wD wd) (Rect.unit (s := S4096x1024) ![3584, 0] ![512, 1024] inb_S4096x1024_S512x1024_3584_0))) (k0_pay35
          (View.ld (Val := Elt Ideal) (e' := EltTy.bf16) (upBlk x g w (pt t)) (Rect.unit (s := S8x512x512) ![7, 0, 0] ![1, 512, 512] inb_S8x512x512_S1x512x512_7_0_0)))⟩,
      ⟨Rect.unit (s := S8x512x512) ![6, 0, 0] ![1, 512, 512] inb_S8x512x512_S1x512x512_6_0_0, k0_pay32 (k0_pay7 (rows (pt t) d))
          (View.ld (Val := Elt Ideal) (e' := EltTy.bf16) (wD wd) (Rect.unit (s := S4096x1024) ![3072, 0] ![512, 1024] inb_S4096x1024_S512x1024_3072_0))
          (View.ld (Val := Elt Ideal) (e' := EltTy.bf16) (upBlk x g w (pt t)) (Rect.unit (s := S8x512x512) ![6, 0, 0] ![1, 512, 512] inb_S8x512x512_S1x512x512_6_0_0))⟩,
      ⟨Rect.unit (s := S8x512x512) ![5, 0, 0] ![1, 512, 512] inb_S8x512x512_S1x512x512_5_0_0, k0_pay30 (k0_pay7 (rows (pt t) d))
          (View.ld (Val := Elt Ideal) (e' := EltTy.bf16) (wD wd) (Rect.unit (s := S4096x1024) ![2560, 0] ![512, 1024] inb_S4096x1024_S512x1024_2560_0))
          (View.ld (Val := Elt Ideal) (e' := EltTy.bf16) (upBlk x g w (pt t)) (Rect.unit (s := S8x512x512) ![5, 0, 0] ![1, 512, 512] inb_S8x512x512_S1x512x512_5_0_0))⟩,
      ⟨Rect.unit (s := S8x512x512) ![4, 0, 0] ![1, 512, 512] inb_S8x512x512_S1x512x512_4_0_0, k0_pay27 (k0_pay7 (rows (pt t) d))
          (View.ld (Val := Elt Ideal) (e' := EltTy.bf16) (wD wd) (Rect.unit (s := S4096x1024) ![2048, 0] ![512, 1024] inb_S4096x1024_S512x1024_2048_0))
          (View.ld (Val := Elt Ideal) (e' := EltTy.bf16) (upBlk x g w (pt t)) (Rect.unit (s := S8x512x512) ![4, 0, 0] ![1, 512, 512] inb_S8x512x512_S1x512x512_4_0_0))⟩,
      ⟨Rect.unit (s := S8x512x512) ![3, 0, 0] ![1, 512, 512] inb_S8x512x512_S1x512x512_3_0_0, k0_pay24 (k0_pay7 (rows (pt t) d))
          (View.ld (Val := Elt Ideal) (e' := EltTy.bf16) (wD wd) (Rect.unit (s := S4096x1024) ![1536, 0] ![512, 1024] inb_S4096x1024_S512x1024_1536_0))
          (View.ld (Val := Elt Ideal) (e' := EltTy.bf16) (upBlk x g w (pt t)) (Rect.unit (s := S8x512x512) ![3, 0, 0] ![1, 512, 512] inb_S8x512x512_S1x512x512_3_0_0))⟩,
      ⟨Rect.unit (s := S8x512x512) ![2, 0, 0] ![1, 512, 512] inb_S8x512x512_S1x512x512_2_0_0, k0_pay22 (k0_pay20 (k0_pay7 (rows (pt t) d))
          (View.ld (Val := Elt Ideal) (e' := EltTy.bf16) (wD wd) (Rect.unit (s := S4096x1024) ![1024, 0] ![512, 1024] inb_S4096x1024_S512x1024_1024_0)))
          (View.ld (Val := Elt Ideal) (e' := EltTy.bf16) (upBlk x g w (pt t)) (Rect.unit (s := S8x512x512) ![2, 0, 0] ![1, 512, 512] inb_S8x512x512_S1x512x512_2_0_0))⟩,
      ⟨Rect.unit (s := S8x512x512) ![1, 0, 0] ![1, 512, 512] inb_S8x512x512_S1x512x512_1_0_0, k0_pay18 (k0_pay7 (rows (pt t) d))
          (View.ld (Val := Elt Ideal) (e' := EltTy.bf16) (wD wd) (Rect.unit (s := S4096x1024) ![512, 0] ![512, 1024] inb_S4096x1024_S512x1024_512_0))
          (View.ld (Val := Elt Ideal) (e' := EltTy.bf16) (upBlk x g w (pt t)) (Rect.unit (s := S8x512x512) ![1, 0, 0] ![1, 512, 512] inb_S8x512x512_S1x512x512_1_0_0))⟩,
      ⟨Rect.unit (s := S8x512x512) ![0, 0, 0] ![1, 512, 512] inb_S8x512x512_S1x512x512_0_0_0, k0_pay16 (k0_pay13 (rows (pt t) d)
          (View.ld (Val := Elt Ideal) (e' := EltTy.bf16) (wD wd) (Rect.unit (s := S4096x1024) ![0, 0] ![512, 1024] inb_S4096x1024_S512x1024_0_0))) (k0_pay14
          (View.ld (Val := Elt Ideal) (e' := EltTy.bf16) (upBlk x g w (pt t)) (Rect.unit (s := S8x512x512) ![0, 0, 0] ![1, 512, 512] inb_S8x512x512_S1x512x512_0_0_0))) (FloatOps.ofBits FTy.f32 1073741824#32)⟩] y = dupOut d x g w wd (ix3 (y 0) (row (pt t) (y 1)) (y 2)) := by
  canon_tiles x' h
  all_goals obtain ⟨r, z, rfl⟩ : ∃ r z, x' = ix3 0 r z := ⟨x' 1, x' 2, eq_ix3_one x'⟩
  · rw [ld_w _ 7 3584 rfl, ld_u _ 7 7 rfl, pay2_at]
    exact dup_tile _ _ _ _ _ t 7 r z y h0 h1 h2
  · rw [ld_w _ 6 3072 rfl, ld_u _ 6 6 rfl, pay32_at]
    exact dup_tile _ _ _ _ _ t 6 r z y h0 h1 h2
  · rw [ld_w _ 5 2560 rfl, ld_u _ 5 5 rfl, pay30_at]
    exact dup_tile _ _ _ _ _ t 5 r z y h0 h1 h2
  · rw [ld_w _ 4 2048 rfl, ld_u _ 4 4 rfl, pay27_at]
    exact dup_tile _ _ _ _ _ t 4 r z y h0 h1 h2
  · rw [ld_w _ 3 1536 rfl, ld_u _ 3 3 rfl, pay24_at]
    exact dup_tile _ _ _ _ _ t 3 r z y h0 h1 h2
  · rw [ld_w _ 2 1024 rfl, ld_u _ 2 2 rfl, pay22_at]
    exact dup_tile _ _ _ _ _ t 2 r z y h0 h1 h2
  · rw [ld_w _ 1 512 rfl, ld_u _ 1 1 rfl, pay18_at]
    exact dup_tile _ _ _ _ _ t 1 r z y h0 h1 h2
  · rw [ld_w _ 0 0 rfl, ld_u _ 0 0 rfl, pay16_at]
    exact dup_tile _ _ _ _ _ t 0 r z y (h0.trans (Nat.zero_add _).symm) h1 h2

theorem final_dup (c : Dev nD) : (dats m 0 c).arrAt 7 cfg0.N = dupOut (A0 m c) (A1 m c) (A2 m c) (A3 m c) (A4 m c) := by
  refine (dats m 0 c).arrAt_eq_of_covers 7 _ (by decide +kernel) fun t _ y => ?_
  blk_simp
  rw [after0_7]
  by_cases h : t.val % 16 = 0
  · rw [outsAt0_A m c t h]; frame_out
    rw [in_0, in_2, in_5, ← o_7 t y]
    exact dup_block _ _ _ _ _ t y
  · rw [outsAt0_B m c t h]; frame_out
    rw [in_0, in_2, in_5, ← o_7 t y]
    exact dup_block _ _ _ _ _ t y

theorem final_dg (c : Dev nD) : (dats m 0 c).arrAt 9 cfg0.N = dgOut (A0 m c) (A1 m c) (A2 m c) (A3 m c) (A4 m c) := by
  refine (dats m 0 c).arrAt_eq_of_after_last 9 t0_15 (by decide +kernel) _ fun j => ?_
  blk_simp
  rw [after0_9, Pipeline.eq_sum_fin_of_reset_step_apply_last (fun n h => (outsAt0 m c n h).2.2.2.1) 16 (fun _ => 0)
    (fun t => dgAdd (A0 m c) (A1 m c) (A2 m c) (A3 m c) (A4 m c) (pt t))
    (fun t h j => by
      rw [outsAt0_A m c t h]; frame_out; rw [in_0, in_1, in_2, in_4, in_5, pay4_at, pay6_at]
      simp only [ld_w _ 0 0 rfl, ld_w _ 1 512 rfl, ld_w _ 2 1024 rfl, ld_w _ 3 1536 rfl, ld_w _ 4 2048 rfl, ld_w _ 5 2560 rfl,
        ld_w _ 6 3072 rfl, ld_w _ 7 3584 rfl, ld_u _ 0 0 rfl, ld_u _ 1 1 rfl, ld_u _ 2 2 rfl, ld_u _ 3 3 rfl, ld_u _ 4 4 rfl,
        ld_u _ 5 5 rfl, ld_u _ 6 6 rfl, ld_u _ 7 7 rfl, dh_blk]
      rfl)
    (fun t h j => by
      rw [outsAt0_B m c t h]; frame_out; rw [in_0, in_1, in_2, in_4, in_5, pay4_at]
      simp only [ld_w _ 0 0 rfl, ld_w _ 1 512 rfl, ld_w _ 2 1024 rfl, ld_w _ 3 1536 rfl, ld_w _ 4 2048 rfl, ld_w _ 5 2560 rfl,
        ld_w _ 6 3072 rfl, ld_w _ 7 3584 rfl, ld_u _ 0 0 rfl, ld_u _ 1 1 rfl, ld_u _ 2 2 rfl, ld_u _ 3 3 rfl, ld_u _ 4 4 rfl,
        ld_u _ 5 5 rfl, ld_u _ 6 6 rfl, ld_u _ 7 7 rfl, dh_blk]
      rfl)
    (le_of_eq N_0) t0_15 rfl j, zero_add]
  exact (dg_total _ _ _ _ _ _).symm

end Cert.Kernel3Ideal.MlpValue

end
-- ==== Proof.MlpRef.lean ====
/-
  The reference of the feed-forward layer's backward call, read entry by entry, against the arrays the kernel leaves.
-/
module

public import proofs.«01_k».proof.Proof.MlpFinal
public import proofs.«01_k».proof.Proof.Gen.Reference3Ideal.Read

@[expose] public section

set_option maxRecDepth 16384

noncomputable section

namespace Cert.Kernel3Ideal.MlpValue

open Idealize.ShloMosaic Cert.Finite Cert.Norm
open Cert.Kernel3Ideal (S8192x1024 S1024 S1024x4096 S4096x1024 S8x8192x512 S1x1024)
open Cert.Reference3Ideal.Read
open Cert.Reference3Ideal (S8192x4096)

variable (d x : FVec Ideal S8192x1024 .f32) (g : FVec Ideal S1024 .f32) (w : FVec Ideal S1024x4096 .f32)
  (wd : FVec Ideal S4096x1024 .f32)

/-- Where the unit is off, both sides are zero. -/
theorem relu_sq (a u : EReal) : (if 0 < u then a * (Ideal.ofBits .f32 0x40000000#32 * max u 0) else 0)
    = a * (Ideal.ofBits .f32 0x40000000#32 * max u 0) := by
  split_ifs with h
  · rfl
  · rw [max_eq_right (not_lt.mp h), mul_zero, mul_zero]

theorem ref_up (r : Fin 8192) (f : Fin 4096) : val_main_v18 (F := Ideal) x g w (ix2 r f) = up x g w r f := by
  unfold up ms
  pointwise [val_main_v18, val_main_v17, val_main_v16, val_main_v15, val_main_v14, val_main_v13, val_main_v12, val_main_v8,
    val_main_v7, val_main_v6, val_main_v5, val_main_v4, val_main_v3, val_main_v2, val_main_v1, val_main_v0, val_main_cst,
    val_main_cst_0, val_main_cst_1, val_main_cst_2]

theorem ref_dup (r : Fin 8192) (f : Fin 4096) : val_main_v32 (F := Ideal) d x g w wd (ix2 r f) = dup d x g w wd r f := by
  refine Eq.trans ?_ (relu_sq (∑ k : Fin 1024, d (ix2 r k) * wd (ix2 f k)) (up x g w r f))
  rw [← ref_up]
  pointwise [val_main_v32, val_main_v31, val_main_v30, val_main_v29, val_main_v28, val_main_v25, val_main_v24, val_main_v21,
    val_main_v20, val_main_v19, val_main_call0_v0, val_main_call0_cst, val_main_cst_4, val_main_cst_6, val_main_cst_7]

theorem ref_dh (r : Fin 8192) (k : Fin 1024) : val_main_v33 (F := Ideal) d x g w wd (ix2 r k) = dh d x g w wd r k := by
  pointwise [val_main_v33]
  simp only [ref_dup]
  rfl

theorem ref_h : val_main_v71 (F := Ideal) x g = hOut x g := by
  funext j
  rw [← val_main_v71_eq]
  pointwise [hOut, ms]

theorem ref_db : val_main_v73 (F := Ideal) d = d := by
  funext j
  pointwise [val_main_v73]

theorem ref_dupOut : val_main_v57 (F := Ideal) d x g w wd = dupOut d x g w wd := by
  funext j
  pointwise [val_main_v57, val_main_v56, val_main_v55]
  exact ref_dup d x g w wd (j 1) (col (j 0) (j 2))

theorem ref_dg : val_main_v72 (F := Ideal) d x g w wd = dgOut d x g w wd := by
  funext j
  obtain ⟨z, k, rfl⟩ : ∃ z k, j = ix2 z k := ⟨j 0, j 1, eq_ix2 j⟩
  pointwise [val_main_v72, val_main_v39, val_main_v36, val_main_v35, val_main_v34, val_main_v13, val_main_v12, val_main_v8,
    val_main_v7, val_main_v6, val_main_v5, val_main_v4, val_main_v3, val_main_v2, val_main_v1, val_main_cst_0, val_main_cst_1,
    val_main_cst_2, val_main_cst_8, val_main_cst_9]
  simp only [ref_dh, Finset.univ_unique, Finset.sum_singleton]
  exact Finset.sum_congr rfl fun r _ => mul_comm _ _

theorem isR_dup (hd : ∀ i, IsR (d i)) (hx : ∀ i, IsR (x i)) (hg : ∀ i, IsR (g i)) (hw : ∀ i, IsR (w i))
    (hwd : ∀ i, IsR (wd i)) (r : Fin 8192) (f : Fin 4096) : IsR (dup d x g w wd r f) := by
  have hu : IsR (up x g w r f) := IsR.sum _ fun k => (((hx _).mul (isR_ms hx r)).mul (hg _)).mul (hw _)
  obtain ⟨v, hv⟩ := hu
  unfold dup
  rw [hv, Reals.two]
  refine (IsR.sum _ fun k => (hd _).mul (hwd _)).mul ((coe 2).mul ?_)
  rcases max_choice (v : EReal) 0 with h | h <;> rw [h]
  · exact coe v
  · exact coe 0

theorem isR_dh (hd : ∀ i, IsR (d i)) (hx : ∀ i, IsR (x i)) (hg : ∀ i, IsR (g i)) (hw : ∀ i, IsR (w i))
    (hwd : ∀ i, IsR (wd i)) (r : Fin 8192) (k : Fin 1024) : IsR (dh d x g w wd r k) :=
  IsR.sum _ fun f => (isR_dup d x g w wd hd hx hg hw hwd r f).mul (hw _)

theorem ref_dx (hx : ∀ i, IsR (x i)) (ha : ∀ r k, IsR (dh d x g w wd r k * g (ix1 k))) :
    val_main_v54 (F := Ideal) d x g w wd = dxOut d x g w wd := by
  funext j
  obtain ⟨r, k, rfl⟩ : ∃ r k, j = ix2 r k := ⟨j 0, j 1, eq_ix2 j⟩
  pointwise [val_main_v54, val_main_v53, val_main_v52, val_main_v51, val_main_v50, val_main_v49, val_main_v48, val_main_v47,
    val_main_v46, val_main_v45, val_main_v44, val_main_v43, val_main_v42, val_main_v41, val_main_v40, val_main_v38,
    val_main_v37, val_main_v14, val_main_v11, val_main_v10, val_main_v9, val_main_v8, val_main_v7, val_main_v6, val_main_v5,
    val_main_v4, val_main_v3, val_main_v2, val_main_v1, val_main_cst_0, val_main_cst_1, val_main_cst_2, val_main_cst_3,
    val_main_cst_10, val_main_cst_11, val_main_cst_12]
  simp only [ref_dh, Finset.univ_unique, Finset.sum_singleton]
  exact (norm_bwd_1024 (x := fun k => x (ix2 r k)) (a := fun k => dh d x g w wd r k * g (ix1 k))
    (fun k => hx _) (fun k => ha _ k) (d (ix2 r k)) k _ _ rfl rfl).symm

end Cert.Kernel3Ideal.MlpValue

end
-- ==== Proof.MlpClaims.lean ====
/-
  The claims about the feed-forward layer's backward call: frames and, for finite arguments, agreement with its reference.
-/
module

public import proofs.«01_k».proof.Defs
public import proofs.«01_k».proof.Proof.MlpRef
public import proofs.«01_k».proof.Proof.Gen.Kernel3.Frame
public import proofs.«01_k».proof.Proof.Gen.Reference3Ideal.Run

@[expose] public section

set_option maxRecDepth 16384

noncomputable section

namespace Cert.MlpClaims

open Idealize.ShloMosaic Idealize.ShloMosaic.TcCoe Idealize.SL.Sem Cert.Kernel3Ideal.MlpValue Cert.Finite

theorem frame_kernel : Cert.quiescent_Kernel3 := fun m ρ _ => Cert.Kernel3.Gen.frame m ρ

theorem frame_ideal : Cert.quiescent_Kernel3Ideal := fun m ρ _ => Cert.Kernel3Ideal.Gen.frame m ρ

theorem frame_reference : Cert.quiescent_Reference3Ideal := fun m ρ _ =>
  (θ_run Cert.Reference3Ideal.defs _ _).mono
    (fun r h => ⟨fun c => (h c).2.2.2.2.2, sem_eq_zero_of_no_sems (by decide) r.2⟩)
    (Cert.Reference3Ideal.Value.run (F := Ideal) m ρ)

section

variable [hPre : Cert.Pre_finite3.Facts]

theorem frame_ideal_finite : Cert.quiescent_Kernel3Ideal_pre_finite3 := fun m ρ _ => frame_ideal m ρ trivial

theorem frame_reference_finite : Cert.quiescent_Reference3Ideal_pre_finite3 := fun m ρ _ => frame_reference m ρ trivial

theorem algebraic : Cert.algebraic_Kernel3Ideal_Reference3Ideal_pre_finite3 := by
  intro m g m' g' hfin hagree
  refine ⟨fun c => (Cert.Kernel3Ideal.Gen.dats m 0 c).arrAt 6 _, fun c => (Cert.Kernel3Ideal.Gen.dats m 0 c).arrAt 7 _,
    fun c => (Cert.Kernel3Ideal.Gen.dats m 0 c).arrAt 8 _, fun c => (Cert.Kernel3Ideal.Gen.dats m 0 c).arrAt 9 _,
    fun c => (Cert.Kernel3Ideal.Gen.dats m 0 c).arrAt 10 _, Cert.Kernel3Ideal.Value.run_blocks m g, ?_⟩
  refine (θ_run Cert.Reference3Ideal.defs _ _).mono (fun r h c => ?_) (Cert.Reference3Ideal.Value.run (F := Ideal) m' g')
  obtain ⟨h54, h57, h71, h72, h73, hargs⟩ := h c
  obtain ⟨a0, a1, a2, a3, a4⟩ := hagree c
  obtain ⟨f0, f1, f2, f3, f4⟩ := hfin c
  refine ⟨(h54.trans (Cert.Reference3Ideal.Read.val_main_v54_eq _ _)).trans ?_,
    (h57.trans (Cert.Reference3Ideal.Read.val_main_v57_eq _ _ _ _ _)).trans ?_,
    (h71.trans (Cert.Reference3Ideal.Read.val_main_v71_eq _ _)).trans ?_,
    (h72.trans (Cert.Reference3Ideal.Read.val_main_v72_eq _ _ _ _ _)).trans ?_,
    (h73.trans (Cert.Reference3Ideal.Read.val_main_v73_eq _)).trans ?_, hargs⟩
  · rw [a0, a1, a2, a3, a4]
    exact (ref_dx _ _ _ _ _ (isR_of_finite f1) fun r k => (isR_dh _ _ _ _ _ (isR_of_finite f0) (isR_of_finite f1)
      (isR_of_finite f2) (isR_of_finite f3) (isR_of_finite f4) r k).mul (isR_of_finite f2 _)).trans (final_dx m c).symm
  · rw [a0, a1, a2, a3, a4]; exact (ref_dupOut _ _ _ _ _).trans (final_dup m c).symm
  · rw [a1, a2]; exact (ref_h _ _).trans (final_h m c).symm
  · rw [a0, a1, a2, a3, a4]; exact (ref_dg _ _ _ _ _).trans (final_dg m c).symm
  · rw [a0]; exact (ref_db _).trans (final_db m c).symm

end

end Cert.MlpClaims

end
-- ==== Proof.BiasStages.lean ====
/-
  The bias gradient's kernel body: what it leaves, head by head, as a chain of one stage per bucket.
-/
module

public import proofs.«01_k».proof.Proof.Rows
public import proofs.«01_k».proof.Proof.Gen.Kernel4Ideal.Value

@[expose] public section

set_option maxRecDepth 16384

noncomputable section

namespace Cert.Kernel4Ideal.BiasValue

open Cert.Kernel4Ideal Cert.Kernel4Ideal.Gen Idealize.ShloMosaic Idealize.ShloMosaic.TcCoe

/-- One bucket: the lane of the bucket's number takes the sum of the entries in the bucket. -/
def stage (bk : IVec S128x128 32) (tot : FVec Ideal S128x128 .f32) (b : BitVec 32) (prev : FVec Ideal S1x128 .f32) : FVec Ideal S1x128 .f32 :=
  select (cmpi .eq (iota .tc S1x128 32 [1] iota_S1x128_d1_w32) (broadcast S1x128 b))
    (broadcast S1x128 (extractAt ![0, 0, 0] (shapeCast S1x1x1 (multiReduction .add [1, 2] S1
      (shapeCast S1x128x128 (select (cmpi .eq bk (broadcast S128x128 b)) tot (broadcast S128x128 (Scalar.ofBits .f32 0x00000000#32)))
        shapeCasts_S128x128_S1x128x128) 0x00000000#32 reduces_S1x128x128_S1 (.inl rfl) rfl) shapeCasts_S1_S1x1x1) inpos_S1x1x1_p0_0_0)) prev

/-- The first `n` buckets. -/
def stages (bk : IVec S128x128 32) (tot : FVec Ideal S128x128 .f32) : ℕ → FVec Ideal S1x128 .f32
  | 0 => broadcast S1x128 (Scalar.ofBits .f32 0x00000000#32)
  | n + 1 => stage bk tot (BitVec.ofNat 32 n) (stages bk tot n)

/-- The sum of the entries in a bucket. -/
def inBucket (bk : IVec S128x128 32) (tot : FVec Ideal S128x128 .f32) (b : BitVec 32) : EReal :=
  ∑ k : Fin 128, ∑ q : Fin 128, if bk (ix2 k q) = b then tot (ix2 k q) else 0

theorem stage_apply (bk : IVec S128x128 32) (tot : FVec Ideal S128x128 .f32) (b : BitVec 32) (prev : FVec Ideal S1x128 .f32) (c : Fin 128) :
    stage bk tot b prev (ix2 0 c) = if BitVec.ofNat 32 c.val = b then inBucket bk tot b else prev (ix2 0 c) := by
  pointwise [stage, inBucket]
  simp only [WordCmp.cmpi_eq_eq, WordCmp.select_decide]

theorem stages_apply (bk : IVec S128x128 32) (tot : FVec Ideal S128x128 .f32) (c : Fin 128) :
    ∀ n, n ≤ 32 → stages bk tot n (ix2 0 c) = if c.val < n then inBucket bk tot (BitVec.ofNat 32 c.val) else 0
  | 0, _ => by
    show broadcast S1x128 (Scalar.ofBits (F := Ideal) .f32 0x00000000#32) (ix2 0 c) = _
    pointwise []
    simp
  | n + 1, h => by
    show stage bk tot (BitVec.ofNat 32 n) (stages bk tot n) (ix2 0 c) = _
    rw [stage_apply, stages_apply bk tot c n (by omega)]
    have e : BitVec.ofNat 32 c.val = BitVec.ofNat 32 n ↔ c.val = n := by
      have := c.isLt
      constructor
      · intro q
        have := congrArg BitVec.toNat q
        simp only [BitVec.toNat_ofNat] at this
        omega
      · intro q; rw [q]
    by_cases q : c.val = n
    · rw [if_pos (e.2 q), if_pos (by omega), q]
    · rw [if_neg fun h => q (e.1 h)]
      by_cases q' : c.val < n
      · rw [if_pos q', if_pos (by omega)]
      · rw [if_neg q', if_neg (by omega)]

theorem pieces (x0 : FVec Ideal S4x2x128x512 .f32) (x1 : IVec S128x128 32) :
    out0_2 (F := Ideal) x0 x1 = View.canon [⟨r0_40, stages (k0_pay203 (F := Ideal) x0 x1) (k0_pay213 (F := Ideal) x0 x1) 32⟩, ⟨r0_35, stages (k0_pay203 (F := Ideal) x0 x1) (k0_pay211 (F := Ideal) x0 x1) 32⟩,
      ⟨r0_30, stages (k0_pay203 (F := Ideal) x0 x1) (k0_pay209 (F := Ideal) x0 x1) 32⟩, ⟨r0_25, stages (k0_pay203 (F := Ideal) x0 x1) (k0_pay208 (F := Ideal) x0 x1) 32⟩,
      ⟨r0_20, stages (k0_pay203 (F := Ideal) x0 x1) (k0_pay207 (F := Ideal) x0 x1) 32⟩, ⟨r0_15, stages (k0_pay203 (F := Ideal) x0 x1) (k0_pay206 (F := Ideal) x0 x1) 32⟩,
      ⟨r0_10, stages (k0_pay203 (F := Ideal) x0 x1) (k0_pay205 (F := Ideal) x0 x1) 32⟩, ⟨r0_5, stages (k0_pay203 (F := Ideal) x0 x1) (k0_pay204 (F := Ideal) x0 x1) 32⟩] := by
  unfold out0_2
  rfl

/-- The four layers' folded gradient of a head, added up. -/
def total (x0 : FVec Ideal S4x2x128x512 .f32) (h : Fin 8) : FVec Ideal S128x128 .f32 :=
  fun j => ∑ l : Fin 4, x0 (ix4 l ⟨h.val / 4, by omega⟩ (j 0) ⟨h.val % 4 * 128 + (j 1).val, by have := (j 1).isLt; change (j 1).val < 128 at this; omega⟩)

theorem tot0 (x0 : FVec Ideal S4x2x128x512 .f32) (x1 : IVec S128x128 32) : k0_pay204 (F := Ideal) x0 x1 = total x0 0 := by
  funext j
  obtain ⟨k, q, rfl⟩ : ∃ k q, j = ix2 k q := ⟨j 0, j 1, eq_ix2 j⟩
  pointwise [k0_pay204, k0_pay3, total, Fin.sum_univ_four]

theorem tot1 (x0 : FVec Ideal S4x2x128x512 .f32) (x1 : IVec S128x128 32) : k0_pay205 (F := Ideal) x0 x1 = total x0 1 := by
  funext j
  obtain ⟨k, q, rfl⟩ : ∃ k q, j = ix2 k q := ⟨j 0, j 1, eq_ix2 j⟩
  pointwise [k0_pay205, k0_pay30, total, Fin.sum_univ_four]

theorem tot2 (x0 : FVec Ideal S4x2x128x512 .f32) (x1 : IVec S128x128 32) : k0_pay206 (F := Ideal) x0 x1 = total x0 2 := by
  funext j
  obtain ⟨k, q, rfl⟩ : ∃ k q, j = ix2 k q := ⟨j 0, j 1, eq_ix2 j⟩
  pointwise [k0_pay206, k0_pay55, total, Fin.sum_univ_four]

theorem tot3 (x0 : FVec Ideal S4x2x128x512 .f32) (x1 : IVec S128x128 32) : k0_pay207 (F := Ideal) x0 x1 = total x0 3 := by
  funext j
  obtain ⟨k, q, rfl⟩ : ∃ k q, j = ix2 k q := ⟨j 0, j 1, eq_ix2 j⟩
  pointwise [k0_pay207, k0_pay78, total, Fin.sum_univ_four]

theorem tot4 (x0 : FVec Ideal S4x2x128x512 .f32) (x1 : IVec S128x128 32) : k0_pay208 (F := Ideal) x0 x1 = total x0 4 := by
  funext j
  obtain ⟨k, q, rfl⟩ : ∃ k q, j = ix2 k q := ⟨j 0, j 1, eq_ix2 j⟩
  pointwise [k0_pay208, k0_pay105, total, Fin.sum_univ_four]

theorem tot5 (x0 : FVec Ideal S4x2x128x512 .f32) (x1 : IVec S128x128 32) : k0_pay209 (F := Ideal) x0 x1 = total x0 5 := by
  funext j
  obtain ⟨k, q, rfl⟩ : ∃ k q, j = ix2 k q := ⟨j 0, j 1, eq_ix2 j⟩
  pointwise [k0_pay209, k0_pay132, total, Fin.sum_univ_four]

theorem tot6 (x0 : FVec Ideal S4x2x128x512 .f32) (x1 : IVec S128x128 32) : k0_pay211 (F := Ideal) x0 x1 = total x0 6 := by
  funext j
  obtain ⟨k, q, rfl⟩ : ∃ k q, j = ix2 k q := ⟨j 0, j 1, eq_ix2 j⟩
  pointwise [k0_pay211, k0_pay156, k0_pay210, k0_pay155, total, Fin.sum_univ_four]

theorem tot7 (x0 : FVec Ideal S4x2x128x512 .f32) (x1 : IVec S128x128 32) : k0_pay213 (F := Ideal) x0 x1 = total x0 7 := by
  funext j
  obtain ⟨k, q, rfl⟩ : ∃ k q, j = ix2 k q := ⟨j 0, j 1, eq_ix2 j⟩
  pointwise [k0_pay213, k0_pay179, k0_pay212, k0_pay178, total, Fin.sum_univ_four]

theorem table (x0 : FVec Ideal S4x2x128x512 .f32) (x1 : IVec S128x128 32) : k0_pay203 (F := Ideal) x0 x1 = x1 := by
  funext j
  obtain ⟨k, q, rfl⟩ : ∃ k q, j = ix2 k q := ⟨j 0, j 1, eq_ix2 j⟩
  pointwise [k0_pay203, k0_pay2]

/-- What the body leaves: a head's row holds a lane per bucket, then zeros. -/
def rowsOut (x0 : FVec Ideal S4x2x128x512 .f32) (x1 : IVec S128x128 32) : FVec Ideal S8x128 .f32 :=
  fun y => if (y 1).val < 32 then inBucket x1 (total x0 (y 0)) (BitVec.ofNat 32 (y 1).val) else 0

/-- A head's chain of stages is its row of the result. -/
theorem row_tile (x0 : FVec Ideal S4x2x128x512 .f32) (x1 : IVec S128x128 32) (h : Fin 8) (x : S1x128.Idx) :
    stages x1 (total x0 h) 32 x = rowsOut x0 x1 (ix2 h (x 1)) := by
  obtain ⟨c, rfl⟩ : ∃ c : Fin 128, x = ix2 0 c :=
    ⟨x 1, (eq_ix2 x).trans (congrArg (fun i : Fin 1 => (ix2 i (x 1) : S1x128.Idx)) (Subsingleton.elim (α := Fin 1) (x 0) 0))⟩
  exact stages_apply x1 (total x0 h) c 32 (le_refl _)

theorem out_rows (x0 : FVec Ideal S4x2x128x512 .f32) (x1 : IVec S128x128 32) : out0_2 (F := Ideal) x0 x1 = rowsOut x0 x1 := by
  rw [pieces, table, tot0, tot1, tot2, tot3, tot4, tot5, tot6, tot7]
  funext y
  refine View.canon_apply_of_pieces (Val := Elt Ideal) (e := .f32) (rowsOut x0 x1) _ ?_ y (cover0_2 _ _ _ _ _ _ _ _ y)
  intro pc hpc x
  simp only [List.mem_cons, List.not_mem_nil, or_false] at hpc
  rcases hpc with rfl | rfl | rfl | rfl | rfl | rfl | rfl | rfl
  · exact (row_tile x0 x1 7 x).trans (congrArg (rowsOut x0 x1) (by blk_point []))
  · exact (row_tile x0 x1 6 x).trans (congrArg (rowsOut x0 x1) (by blk_point []))
  · exact (row_tile x0 x1 5 x).trans (congrArg (rowsOut x0 x1) (by blk_point []))
  · exact (row_tile x0 x1 4 x).trans (congrArg (rowsOut x0 x1) (by blk_point []))
  · exact (row_tile x0 x1 3 x).trans (congrArg (rowsOut x0 x1) (by blk_point []))
  · exact (row_tile x0 x1 2 x).trans (congrArg (rowsOut x0 x1) (by blk_point []))
  · exact (row_tile x0 x1 1 x).trans (congrArg (rowsOut x0 x1) (by blk_point []))
  · exact (row_tile x0 x1 0 x).trans (congrArg (rowsOut x0 x1) (by blk_point []))

end Cert.Kernel4Ideal.BiasValue

end
-- ==== Proof.Bias.lean ====
/-
  The bias gradient's call: the folded arrays the host prepares, and the array the run leaves.
-/
module

public import proofs.«01_k».proof.Proof.BiasStages
public import Idealize.ShloMosaic.Lib.Claim

@[expose] public section

set_option maxRecDepth 16384

noncomputable section

namespace Cert.Kernel4Ideal.BiasValue

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- The call's arguments on a device. -/
abbrev A0 (c : Dev nD) : FVec Ideal S4x8x128x256 .f32 := m ((c : Thread nD τ).loc main_arg0)
abbrev A1 (c : Dev nD) : IVec S128x256 32 := m ((c : Thread nD τ).loc main_arg1)

/-- Which of the 256 keys the folded key `k` stands for at the query `q`: the second half's up to the diagonal, the first half's above it. -/
def side (k q : Fin 128) : Fin 256 := if k.val ≤ q.val then ⟨128 + k.val, by omega⟩ else ⟨k.val, by omega⟩

theorem up_to (k q : Fin 128) : IntOp.cmpi .sle (BitVec.ofNat 32 k.val) (BitVec.ofNat 32 q.val) = BitVec.ofBool (decide (k.val ≤ q.val)) := by
  rw [WordCmp.cmpi_sle_eq, WordCmp.toInt_ofNat_of_lt (w := 32) (show k.val < 2 ^ (32 - 1) by omega),
    WordCmp.toInt_ofNat_of_lt (w := 32) (show q.val < 2 ^ (32 - 1) by omega)]
  simp

abbrev ops : List (HloOp τ sig (Elt Ideal)) := List.flatten [hostOps0, hostOps0_1, hostOps0_2, hostOps0_3, hostOps0_4]

/-- The folded table and the folded gradient the host lays out for the call. -/
def hostTable (c : Dev nD) : IVec S128x128 32 := StableHlo.after (ops) (fun b => m (c, b)) (Proc.tc.devRef main_v12)
def hostGrad (c : Dev nD) : FVec Ideal S4x2x128x512 .f32 := StableHlo.after (ops) (fun b => m (c, b)) (Proc.tc.devRef main_v13)

theorem host_table (c : Dev nD) (k q : Fin 128) : hostTable m c (ix2 k q) = A1 m c (ix2 q (side k q)) := by
  unfold hostTable ops
  simp only [List.flatten_cons, List.flatten_nil, List.cons_append, List.nil_append]
  after_results_simp
  pointwise []
  show select (cmpi CmpIPredicate.sle (iotaInDim S128x128 32 1) (iotaInDim S128x128 32 0))
      (extractStridedSlice S128x128 ![0, 128] (A1 m c) slices_S128x256_S128x128_0_128)
      (extractStridedSlice S128x128 ![0, 0] (A1 m c) slices_S128x256_S128x128_0_0) (ix2 q k) = _
  pointwise []
  rw [up_to, WordCmp.select_decide]
  unfold side
  split_ifs with h
  · exact congrArg (A1 m c) (congrArg (ix2 q) (Fin.ext (by omega)))
  · exact congrArg (A1 m c) (congrArg (ix2 q) (Fin.ext (by omega)))

theorem host_grad (c : Dev nD) (l : Fin 4) (h : Fin 8) (k q : Fin 128) :
    hostGrad m c (ix4 l ⟨h.val / 4, by omega⟩ k ⟨h.val % 4 * 128 + q.val, by omega⟩) = A0 m c (ix4 l h q (side k q)) := by
  unfold hostGrad ops
  simp only [List.flatten_cons, List.flatten_nil, List.cons_append, List.nil_append]
  after_results_simp
  pointwise []
  have e : (⟨h.val / 4 * 4 + (h.val % 4 * 128 + q.val) / 128, by omega⟩ : Fin 8) = h := Fin.ext (by show h.val / 4 * 4 + (h.val % 4 * 128 + q.val) / 128 = h.val; omega)
  rw [e]
  show select (broadcastInDim S4x8x128x128 ![2, 3] bcast_S128x128_S4x8x128x128_2_3 (cmpi CmpIPredicate.sle (iotaInDim S128x128 32 1) (iotaInDim S128x128 32 0)))
      (extractStridedSlice S4x8x128x128 ![0, 0, 0, 128] (A0 m c) slices_S4x8x128x256_S4x8x128x128_0_0_0_128)
      (extractStridedSlice S4x8x128x128 ![0, 0, 0, 0] (A0 m c) slices_S4x8x128x256_S4x8x128x128_0_0_0_0) (ix4 l h q k) = _
  pointwise []
  rw [up_to, WordCmp.select_decide]
  unfold side
  split_ifs with h
  · exact congrArg (A0 m c) (congrArg (ix4 l _ q) (Fin.ext (by omega)))
  · exact congrArg (A0 m c) (congrArg (ix4 l _ q) (Fin.ext (by omega)))

theorem idx : ∀ t : Fin cfg0.N, win0_0.index t = ![0, 0, 0, 0] ∧ win0_1.index t = ![0, 0] ∧ win0_2.index t = ![0, 0] :=
  (by decide +kernel : ∀ t : Fin grid0.N, _)

theorem e_0 (t : Fin cfg0.N) (j : S4x2x128x512.Idx) : ((View.whole main_v13).slice (win0_0.rect t)).emb j = j := by
  blk_point [idx t]

theorem e_1 (t : Fin cfg0.N) (j : S128x128.Idx) : ((View.whole main_v12).slice (win0_1.rect t)).emb j = j := by
  blk_point [idx t]

theorem o_2 (t : Fin cfg0.N) (j : S8x128.Idx) : j = ((View.whole main_v14).slice (win0_2.rect t)).emb j := by
  blk_point [idx t]

theorem in_0_host (c : Dev nD) (t : Fin cfg0.N) : iblk m c 0 t = fun j : S4x2x128x512.Idx =>
    hostGrad m c (((View.whole main_v13).slice (win0_0.rect t)).emb j) := rfl

theorem in_1_host (c : Dev nD) (t : Fin cfg0.N) : iblk m c 1 t = fun j : S128x128.Idx =>
    hostTable m c (((View.whole main_v12).slice (win0_1.rect t)).emb j) := rfl

theorem in_0 (c : Dev nD) (t : Fin cfg0.N) : iblk m c 0 t = hostGrad m c := by
  rw [in_0_host]; exact funext fun j => congrArg (hostGrad m c) (e_0 t j)

theorem in_1 (c : Dev nD) (t : Fin cfg0.N) : iblk m c 1 t = hostTable m c := by
  rw [in_1_host]; exact funext fun j => congrArg (hostTable m c) (e_1 t j)

theorem final (c : Dev nD) : (dats m 0 c).arrAt 2 cfg0.N = rowsOut (hostGrad m c) (hostTable m c) := by
  refine (dats m 0 c).arrAt_eq_of_covers 2 _ (by decide +kernel) fun t _ y => ?_
  blk_simp
  rw [after0_2, in_0, in_1, out_rows]
  exact congrArg (rowsOut (hostGrad m c) (hostTable m c)) (o_2 t y)

end Cert.Kernel4Ideal.BiasValue

end
-- ==== Proof.BiasRef.lean ====
/-
  The reference of the bias gradient's call, read entry by entry.
-/
module

public import proofs.«01_k».proof.Proof.Rows
public import proofs.«01_k».proof.Proof.Gen.Reference4Ideal.Read
public import Idealize.ShloMosaic.Lib.Routing.OpsPair

@[expose] public section

set_option maxRecDepth 16384

noncomputable section

namespace Cert.Kernel4Ideal.BiasValue

open Idealize.ShloMosaic
open Cert.Reference4Ideal (S4x8x128x256 S128x256 S8x128x256 S128x256x8 S128x256x1 S32x8 S8x128)
open Cert.Reference4Ideal.Read

variable (ct : FVec Ideal S4x8x128x256 .f32) (bk : IVec S128x256 32)

abbrev dims := Cert.Reference4Ideal.scatter_S32x8_S128x256x1_S128x256x8_2_0_0_2

theorem start_row (idx : IVec S128x256x1 32) (q : Fin 128) (j : Fin 256) (h : Fin 8) :
    dims.start (ix3 q j h) idx 0 = (idx (ix3 q j 0)).toInt := by
  unfold ScatterDims.start
  rw [dif_pos (show (0 : Fin 2) ∈ dims.scatterDimsToOperandDims from (by decide : (0 : Fin 2) ∈ ([0] : List (Fin 2))))]
  refine congrArg (fun z => (idx z).toInt) (funext fun a => ?_)
  unfold ScatterDims.siIdx
  match a with
  | ⟨0, _⟩ =>
    rw [dif_neg (show ¬ ((⟨0, by decide⟩ : Fin 3).val = dims.indexVectorDim) from (by decide : ¬ (0 : ℕ) = 2))]
    rfl
  | ⟨1, _⟩ =>
    rw [dif_neg (show ¬ ((⟨1, by decide⟩ : Fin 3).val = dims.indexVectorDim) from (by decide : ¬ (1 : ℕ) = 2))]
    rfl
  | ⟨2, _⟩ =>
    rw [dif_pos (show (⟨2, by decide⟩ : Fin 3).val = dims.indexVectorDim from rfl)]
    rfl

theorem start_head (idx : IVec S128x256x1 32) (q : Fin 128) (j : Fin 256) (h : Fin 8) : dims.start (ix3 q j h) idx 1 = 0 := by
  unfold ScatterDims.start
  rw [dif_neg (show ¬ (1 : Fin 2) ∈ dims.scatterDimsToOperandDims from (by decide : ¬ (1 : Fin 2) ∈ ([0] : List (Fin 2))))]

theorem window_row (q : Fin 128) (j : Fin 256) (h : Fin 8) : dims.window (ix3 q j h) 0 = 0 := by
  unfold ScatterDims.window
  rw [dif_neg (show ¬ (0 : Fin 2) ∈ dims.sKept from (by decide : ¬ (0 : Fin 2) ∈ ([1] : List (Fin 2))))]

theorem window_head (q : Fin 128) (j : Fin 256) (h : Fin 8) : dims.window (ix3 q j h) 1 = h.val := by
  unfold ScatterDims.window
  rw [dif_pos (show (1 : Fin 2) ∈ dims.sKept from (by decide : (1 : Fin 2) ∈ ([1] : List (Fin 2))))]
  rfl

theorem lands (idx : IVec S128x256x1 32) (q : Fin 128) (j : Fin 256) (h h' : Fin 8) (b : Fin 32) :
    dims.resultIdx? (ix3 q j h') idx = some (ix2 b h) ↔ (idx (ix3 q j 0)).toInt = (b.val : Int) ∧ h' = h := by
  rw [Routing.resultIdx?_eq_some]
  constructor
  · intro e
    have e0 := e 0
    have e1 := e 1
    rw [start_row, window_row] at e0
    rw [start_head, window_head] at e1
    change _ = ((b.val : ℕ) : Int) at e0
    change _ = ((h.val : ℕ) : Int) at e1
    exact ⟨by omega, Fin.ext (by omega)⟩
  · rintro ⟨e, rfl⟩ a
    match a with
    | ⟨0, _⟩ =>
      refine (congrArg₂ (fun x y => x + ((y : ℕ) : Int)) (start_row idx q j h') (window_row q j h')).trans ?_
      show _ = ((b.val : ℕ) : Int)
      omega
    | ⟨1, _⟩ =>
      refine (congrArg₂ (fun x y => x + ((y : ℕ) : Int)) (start_head idx q j h') (window_head q j h')).trans ?_
      show _ = ((h'.val : ℕ) : Int)
      omega

theorem dist (q : Fin 128) (j : Fin 256) :
    (IntOp.subi (IntOp.addi (BitVec.ofNat 32 q.val) 128#32) (BitVec.ofNat 32 j.val)).toInt = (q.val : Int) + 128 - j.val := by
  have := q.isLt
  have := j.isLt
  unfold IntOp.subi IntOp.addi
  rw [BitVec.toInt_sub, BitVec.toInt_add]
  rw [WordCmp.toInt_ofNat_of_lt (w := 32) (show q.val < 2 ^ 31 by omega), WordCmp.toInt_ofNat_of_lt (w := 32) (show j.val < 2 ^ 31 by omega)]
  rw [show (128#32).toInt = 128 from rfl, Int.bmod_def, Int.bmod_def]
  omega

theorem ref_masked (q : Fin 128) (j : Fin 256) (h : Fin 8) :
    val_main_v22 (F := Ideal) ct (ix3 h q j) = if j.val ≤ q.val + 128 ∧ q.val < j.val then ∑ l : Fin 4, ct (ix4 l h q j) else 0 := by
  pointwise [val_main_v22, val_main_v21, val_main_v19_1, val_main_v10, val_main_v9, val_main_v8, val_main_v7, val_main_v6, val_main_v5, val_main_v4, val_main_v3, val_main_v2, val_main_v1, val_main_c, val_main_c_0, val_main_c_1, val_main_c_2, val_main_cst_5, val_main_call1_v0, val_main_call1_cst]
  rw [WordCmp.cmpi_sge_eq, WordCmp.cmpi_slt_eq, dist, WordCmp.andi_ofBool, ← Bool.decide_and, WordCmp.select_decide]
  refine if_congr ?_ rfl rfl
  show ((0 : Int) ≤ _ ∧ _ < (128 : Int)) ↔ _
  omega

/-- The reference's table: at a bucket and a head, the window's entries of the bucket, summed over the layers. -/
def inTable (b : Fin 32) (h : Fin 8) : EReal :=
  ∑ q : Fin 128, ∑ j : Fin 256, if (bk (ix2 q j)).toInt = (b.val : Int) then
    (if j.val ≤ q.val + 128 ∧ q.val < j.val then ∑ l : Fin 4, ct (ix4 l h q j) else 0) else 0

theorem ref_index (hb : ∀ i, 0 ≤ (bk i).toInt) (q : Fin 128) (j : Fin 256) : val_main_v16 (F := Ideal) bk (ix3 q j 0) = bk (ix2 q j) := by
  pointwise [val_main_v16, val_main_v15, val_main_v14, val_main_v13, val_main_v12, val_main_v11, val_main_c_2, val_main_c_3]
  exact Routing.wrap_of_lt _ _ ((WordCmp.toInt_nonneg_iff_lt_half _).1 (hb _))

theorem ref_table (hb : ∀ i, 0 ≤ (bk i).toInt) (b : Fin 32) (h : Fin 8) :
    val_main_v25 (F := Ideal) ct bk (ix2 b h) = inTable ct bk b h := by
  unfold val_main_v25 Host.scatterAdd
  rw [Ideal.hostScatterAdd_def]
  unfold Ideal.hostScatterAdd
  rw [Finset.sum_filter, sum_idx3]
  have e0 : val_main_v24 (F := Ideal) (ix2 b h) = 0 := by pointwise [val_main_v24, val_main_cst_6]
  rw [e0, zero_add]
  unfold inTable
  refine Finset.sum_congr rfl fun q _ => Finset.sum_congr rfl fun j _ => ?_
  have e : ∀ h' : Fin 8, (if dims.resultIdx? (ix3 q j h') (val_main_v16 (F := Ideal) bk) = some (ix2 b h)
      then val_main_v23 (F := Ideal) ct (ix3 q j h') else 0)
      = if h' = h then (if (bk (ix2 q j)).toInt = (b.val : Int) then val_main_v23 (F := Ideal) ct (ix3 q j h') else 0) else 0 := fun h' => by
    simp only [lands, ref_index bk hb]
    by_cases q1 : h' = h <;> by_cases q2 : (bk (ix2 q j)).toInt = (b.val : Int) <;> simp [q1, q2]
  refine (Finset.sum_congr rfl fun h' _ => e h').trans ?_
  rw [Finset.sum_ite_eq' Finset.univ h, if_pos (Finset.mem_univ _)]
  have e2 : val_main_v23 (F := Ideal) ct (ix3 q j h) = val_main_v22 (F := Ideal) ct (ix3 h q j) := by pointwise [val_main_v23]
  rw [e2, ref_masked]

theorem ref_out (hb : ∀ i, 0 ≤ (bk i).toInt) (h : Fin 8) (c : Fin 128) :
    val_main_v28 (F := Ideal) ct bk (ix2 h c) = if hc : c.val < 32 then inTable ct bk ⟨c.val, hc⟩ h else 0 := by
  pointwise [val_main_v28, val_main_v26, val_main_v27, val_main_cst_7]
  split_ifs with hc
  · exact ref_table ct bk hb ⟨c.val, hc⟩ h
  · rfl

end Cert.Kernel4Ideal.BiasValue

end
-- ==== Proof.BiasClaims.lean ====
/-
  The claims about the bias gradient's call: frames and, for bucket numbers that are not negative, agreement with its reference.
-/
module

public import proofs.«01_k».proof.Defs
public import proofs.«01_k».proof.Proof.Bias
public import proofs.«01_k».proof.Proof.BiasRef
public import proofs.«01_k».proof.Proof.Gen.Kernel4.Frame
public import proofs.«01_k».proof.Proof.Gen.Reference4Ideal.Run
public import proofs.«01_k».proof.Proof.Gen.Pre_natural4

@[expose] public section

set_option maxRecDepth 16384

noncomputable section

namespace Cert.BiasClaims

open Idealize.ShloMosaic Idealize.ShloMosaic.TcCoe Idealize.SL.Sem Cert.Kernel4Ideal.BiasValue
open Cert.Reference4Ideal (S4x8x128x256 S128x256)

theorem frame_kernel : Cert.quiescent_Kernel4 := fun m ρ _ => Cert.Kernel4.Gen.frame m ρ

theorem frame_ideal : Cert.quiescent_Kernel4Ideal := fun m ρ _ => Cert.Kernel4Ideal.Gen.frame m ρ

theorem frame_reference : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run (F := Ideal) m ρ)

/-- A sum over the 256 keys that only the window's keys enter is a sum over the 128 folded keys. -/
theorem sum_folded (q : Fin 128) (f : Fin 256 → EReal) :
    (∑ j : Fin 256, if j.val ≤ q.val + 128 ∧ q.val < j.val then f j else 0) = ∑ k : Fin 128, f (side k q) := by
  refine (Fin.sum_univ_add (a := 128) (b := 128) fun j => if j.val ≤ q.val + 128 ∧ q.val < j.val then f j else 0).trans ?_
  rw [← Finset.sum_add_distrib]
  refine Finset.sum_congr rfl fun k _ => ?_
  have hk := k.isLt
  have hq := q.isLt
  simp only [Fin.val_castAdd, Fin.val_natAdd]
  unfold side
  by_cases h : k.val ≤ q.val
  · rw [if_neg (by omega), if_pos (by omega), if_pos h, zero_add]; rfl
  · rw [if_pos (by omega), if_neg (by omega), if_neg h, add_zero]; rfl

/-- A word holds a bucket's number exactly when it reads as that number. -/
theorem word_eq (x : BitVec 32) (c : Fin 32) : x.toInt = (c.val : Int) ↔ x = BitVec.ofNat 32 c.val := by
  have hc : (BitVec.ofNat 32 c.val).toInt = (c.val : Int) := WordCmp.toInt_ofNat_of_lt (w := 32) (show c.val < 2 ^ (32 - 1) by omega)
  exact ⟨fun h => BitVec.eq_of_toInt_eq (h.trans hc.symm), fun h => by rw [h, hc]⟩

theorem inTable_folded (ct : FVec Ideal S4x8x128x256 .f32) (bk : IVec S128x256 32) (b : Fin 32) (h : Fin 8) :
    inTable ct bk b h = ∑ k : Fin 128, ∑ q : Fin 128,
      if bk (ix2 q (side k q)) = BitVec.ofNat 32 b.val then ∑ l : Fin 4, ct (ix4 l h q (side k q)) else 0 := by
  rw [Finset.sum_comm]
  unfold inTable
  refine Finset.sum_congr rfl fun q _ => ?_
  refine Eq.trans (Finset.sum_congr rfl fun j _ => ?_)
    (sum_folded q fun j => if bk (ix2 q j) = BitVec.ofNat 32 b.val then ∑ l : Fin 4, ct (ix4 l h q j) else 0)
  simp only [word_eq]
  split_ifs <;> rfl

section

variable (m : (ℓ : Loc Cert.Kernel4Ideal.nD Cert.Kernel4Ideal.τ Cert.Kernel4Ideal.sig) → Buf (Elt Ideal) ℓ)

theorem total_host (c : Dev Cert.Kernel4Ideal.nD) (h : Fin 8) (k q : Fin 128) :
    total (hostGrad m c) h (ix2 k q) = ∑ l : Fin 4, A0 m c (ix4 l h q (side k q)) :=
  Finset.sum_congr rfl fun l _ => host_grad m c l h k q

theorem agree (c : Dev Cert.Kernel4Ideal.nD) (hb : ∀ i, 0 ≤ (A1 m c i).toInt) :
    Cert.Reference4Ideal.Read.val_main_v28 (F := Ideal) (A0 m c) (A1 m c) = rowsOut (hostGrad m c) (hostTable m c) := by
  funext y
  obtain ⟨h, l, rfl⟩ : ∃ (h : Fin 8) (l : Fin 128), y = ix2 h l := ⟨y 0, y 1, eq_ix2 y⟩
  rw [ref_out _ _ hb]
  show _ = if l.val < 32 then inBucket (hostTable m c) (total (hostGrad m c) h) (BitVec.ofNat 32 l.val) else 0
  split_ifs with hl
  · rw [inTable_folded]
    unfold inBucket
    refine Finset.sum_congr rfl fun k _ => Finset.sum_congr rfl fun q _ => ?_
    rw [host_table, total_host]
  · rfl

end

section

variable [hPre : Cert.Pre_natural4.Facts]

theorem natural {ct : FVec Ideal S4x8x128x256 .f32} {bk : IVec S128x256 32}
    (h : Cert.Pre_natural4.fn (F := Ideal) ct bk = fun _ => 1#1) (i : S128x256.Idx) : 0 ≤ (bk i).toInt := by
  have hi := congrFun h i
  unfold Cert.Pre_natural4.fn at hi
  obtain ⟨q, j, rfl⟩ : ∃ (q : Fin 128) (j : Fin 256), i = ix2 q j := ⟨i 0, i 1, eq_ix2 i⟩
  pointwise [] at hi
  rw [WordCmp.cmpi_sge_eq] at hi
  by_contra hc
  rw [decide_eq_false (by simpa using hc)] at hi
  exact absurd hi (by decide)

theorem frame_ideal_natural : Cert.quiescent_Kernel4Ideal_pre_natural4 := fun m ρ _ => frame_ideal m ρ trivial

theorem frame_reference_natural : Cert.quiescent_Reference4Ideal_pre_natural4 := fun m ρ _ => frame_reference m ρ trivial

theorem algebraic : Cert.algebraic_Kernel4Ideal_Reference4Ideal_pre_natural4 := by
  intro m g m' g' hnat hagree
  refine ⟨fun c => (Cert.Kernel4Ideal.Gen.dats m 0 c).arrAt 2 _, Cert.Kernel4Ideal.Value.run_blocks m g, ?_⟩
  refine (θ_run Cert.Reference4Ideal.defs _ _).mono (fun r h c => ?_) (Cert.Reference4Ideal.Value.run (F := Ideal) m' g')
  obtain ⟨h28, hargs⟩ := h c
  obtain ⟨a0, a1⟩ := hagree c
  refine ⟨(h28.trans (Cert.Reference4Ideal.Read.val_main_v28_eq _ _)).trans ?_, hargs⟩
  rw [a0, a1]
  exact (agree m c (natural (hnat c))).trans (final m c).symm

end

end Cert.BiasClaims

end
-- ==== Proof.AttnBody.lean ====
/-
  The attention's forward kernel body, block of queries by block of queries: what it computes from the block's rows and the
  two blocks of keys it reads.
-/
module

public import proofs.«01_k».proof.Proof.Rows
public import proofs.«01_k».proof.Proof.Gen.Kernel5Ideal.Value

@[expose] public section

set_option maxRecDepth 16384

noncomputable section

namespace Cert.Kernel5Ideal.AttnValue

open Cert.Kernel5Ideal Cert.Kernel5Ideal.Gen Idealize.ShloMosaic Idealize.ShloMosaic.TcCoe

/-- The diagonal's triangle, for the four heads of a group side by side. -/
def tri : IVec S128x512 1 :=
  concatenate S128x512 1 [⟨S128x128, cmpi .sle (iota .tc S128x128 32 [0] iota_S128x128_d0_w32) (iota .tc S128x128 32 [1] iota_S128x128_d1_w32)⟩,
    ⟨S128x128, cmpi .sle (iota .tc S128x128 32 [0] iota_S128x128_d0_w32) (iota .tc S128x128 32 [1] iota_S128x128_d1_w32)⟩,
    ⟨S128x128, cmpi .sle (iota .tc S128x128 32 [0] iota_S128x128_d0_w32) (iota .tc S128x128 32 [1] iota_S128x128_d1_w32)⟩,
    ⟨S128x128, cmpi .sle (iota .tc S128x128 32 [0] iota_S128x128_d0_w32) (iota .tc S128x128 32 [1] iota_S128x128_d1_w32)⟩]
    concatenates_S128x128_S128x128_S128x128_S128x128_S128x512_d1

/-- A block of keys, normed. -/
def normed (x : FVec Ideal S128x64 .f32) (g : FVec Ideal S1x64 .f32) : FVec Ideal S128x64 .bf16 :=
  truncf .bf16 (mulf (mulf x (broadcastTo S128x64 (rsqrt (addf (divf (shapeCast S128x1
    (multiReduction .add [1] S128 (mulf x x) 0x00000000#32 reduces_S128x64_S128 (.inl rfl) rfl) shapeCasts_S128_S128x1)
    (broadcast S128x1 (Scalar.ofBits .f32 0x42800000#32))) (broadcast S128x1 (Scalar.ofBits .f32 0x358637BD#32))))
    broadcasts_S128x1_S128x64)) (broadcastTo S128x64 (shapeCast S1x64 g shapeCasts_S1x64_S1x64) broadcasts_S1x64_S128x64)) bitsLt_bf16_f32

def keys0 (kv : FVec Ideal S128x256 .f32) (g : FVec Ideal S1x64 .f32) : FVec Ideal S128x64 .bf16 :=
  normed (extractStridedSlice S128x64 ![0, 0] kv slices_S128x256_o0_0_S128x64) g

def keys1 (kv : FVec Ideal S128x256 .f32) (g : FVec Ideal S1x64 .f32) : FVec Ideal S128x64 .bf16 :=
  normed (extractStridedSlice S128x64 ![0, 64] kv slices_S128x256_o0_64_S128x64) g

/-- A block of values, turned over. -/
def values0 (kv : FVec Ideal S128x256 .f32) : FVec Ideal S64x128 .bf16 :=
  truncf .bf16 (extractStridedSlice S64x128 ![128, 0] (transpose S256x128 [1, 0] kv transposes_S128x256_p1_0_S256x128)
    slices_S256x128_o128_0_S64x128) bitsLt_bf16_f32

def values1 (kv : FVec Ideal S128x256 .f32) : FVec Ideal S64x128 .bf16 :=
  truncf .bf16 (extractStridedSlice S64x128 ![192, 0] (transpose S256x128 [1, 0] kv transposes_S128x256_p1_0_S256x128)
    slices_S256x128_o192_0_S64x128) bitsLt_bf16_f32

/-- The queries of a group's four heads side by side. -/
def heads0 (q : FVec Ideal S128x512 .f32) : FVec Ideal S64x512 .f32 :=
  concatenate S64x512 1 [⟨S64x128, extractStridedSlice S64x128 ![0, 0] (transpose S512x128 [1, 0] q transposes_S128x512_p1_0_S512x128) slices_S512x128_o0_0_S64x128⟩,
    ⟨S64x128, extractStridedSlice S64x128 ![64, 0] (transpose S512x128 [1, 0] q transposes_S128x512_p1_0_S512x128) slices_S512x128_o64_0_S64x128⟩,
    ⟨S64x128, extractStridedSlice S64x128 ![128, 0] (transpose S512x128 [1, 0] q transposes_S128x512_p1_0_S512x128) slices_S512x128_o128_0_S64x128⟩,
    ⟨S64x128, extractStridedSlice S64x128 ![192, 0] (transpose S512x128 [1, 0] q transposes_S128x512_p1_0_S512x128) slices_S512x128_o192_0_S64x128⟩]
    concatenates_S64x128_S64x128_S64x128_S64x128_S64x512_d1

def heads1 (q : FVec Ideal S128x512 .f32) : FVec Ideal S64x512 .f32 :=
  concatenate S64x512 1 [⟨S64x128, extractStridedSlice S64x128 ![256, 0] (transpose S512x128 [1, 0] q transposes_S128x512_p1_0_S512x128) slices_S512x128_o256_0_S64x128⟩,
    ⟨S64x128, extractStridedSlice S64x128 ![320, 0] (transpose S512x128 [1, 0] q transposes_S128x512_p1_0_S512x128) slices_S512x128_o320_0_S64x128⟩,
    ⟨S64x128, extractStridedSlice S64x128 ![384, 0] (transpose S512x128 [1, 0] q transposes_S128x512_p1_0_S512x128) slices_S512x128_o384_0_S64x128⟩,
    ⟨S64x128, extractStridedSlice S64x128 ![448, 0] (transpose S512x128 [1, 0] q transposes_S128x512_p1_0_S512x128) slices_S512x128_o448_0_S64x128⟩]
    concatenates_S64x128_S64x128_S64x128_S64x128_S64x512_d1

/-- The queries, normed and scaled. -/
def scaled (x : FVec Ideal S64x512 .f32) (g : FVec Ideal S64x1 .f32) : FVec Ideal S64x512 .bf16 :=
  truncf .bf16 (mulf (mulf (mulf x (broadcastTo S64x512 (rsqrt (addf (divf (shapeCast S1x512
    (multiReduction .add [0] S512 (mulf x x) 0x00000000#32 reduces_S64x512_S512 (.inl rfl) rfl) shapeCasts_S512_S1x512)
    (broadcast S1x512 (Scalar.ofBits .f32 0x42800000#32))) (broadcast S1x512 (Scalar.ofBits .f32 0x358637BD#32))))
    broadcasts_S1x512_S64x512)) (broadcastTo S64x512 (shapeCast S64x1 g shapeCasts_S64x1_S64x1) broadcasts_S64x1_S64x512))
    (broadcast S64x512 (Scalar.ofBits .f32 0x3E000000#32))) bitsLt_bf16_f32

/-- A group's scores: up to the diagonal those of the block's own keys, above it those of the block before. -/
def scores (kc kp : FVec Ideal S128x64 .bf16) (q : FVec Ideal S64x512 .bf16) (b : FVec Ideal S1x128x512 .f32) : FVec Ideal S128x512 .f32 :=
  addf (select tri (matmul dot_S128x64_S64x512_S128x512_1_0_0_1_n_n none kc q (constant S128x512 .f32 0x00000000#32))
    (matmul dot_S128x64_S64x512_S128x512_1_0_0_1_n_n none kp q (constant S128x512 .f32 0x00000000#32)))
    (shapeCast S128x512 b shapeCasts_S1x128x512_S128x512)

/-- The lanes from `a` up to `b`. -/
def lanes (a b : BitVec 32) : IVec S1x512 1 :=
  andi (cmpi .sge (iota .tc S1x512 32 [1] iota_S1x512_d1_w32) (broadcast S1x512 a))
    (cmpi .slt (iota .tc S1x512 32 [1] iota_S1x512_d1_w32) (broadcast S1x512 b))

/-- The sinks of a group's four heads side by side. -/
def sinkRow (s0 s1 s2 s3 : EReal) : FVec Ideal S1x512 .f32 :=
  select (lanes 384#32 512#32) (broadcast S1x512 s3) (select (lanes 256#32 384#32) (broadcast S1x512 s2)
    (select (lanes 128#32 256#32) (broadcast S1x512 s1) (select (lanes 0#32 128#32) (broadcast S1x512 s0)
      (broadcast S1x512 (Scalar.ofBits .f32 0x00000000#32)))))

/-- The greatest of a query's scores and its sink. -/
def top (s : FVec Ideal S128x512 .f32) (sink : FVec Ideal S1x512 .f32) : FVec Ideal S1x512 .f32 :=
  maximumf (shapeCast S1x512 (multiReduction .maximumf [0] S512 s 0xFF800000#32 reduces_S128x512_S512 (.inl rfl) rfl) shapeCasts_S512_S1x512) sink

/-- The exponentials of the scores. -/
def expo (s : FVec Ideal S128x512 .f32) (sink : FVec Ideal S1x512 .f32) : FVec Ideal S128x512 .f32 :=
  exp (subf s (broadcastTo S128x512 (top s sink) broadcasts_S1x512_S128x512))

/-- A group's weights. -/
def weights (s : FVec Ideal S128x512 .f32) (sink : FVec Ideal S1x512 .f32) : FVec Ideal S128x512 .bf16 :=
  truncf .bf16 (mulf (expo s sink) (broadcastTo S128x512 (divf (broadcast S1x512 (Scalar.ofBits .f32 0x3F800000#32))
    (addf (shapeCast S1x512 (multiReduction .add [0] S512 (expo s sink) 0x00000000#32 reduces_S128x512_S512 (.inl rfl) rfl) shapeCasts_S512_S1x512)
      (exp (subf sink (top s sink))))) broadcasts_S1x512_S128x512)) bitsLt_bf16_f32

/-- A group's output, turned over. -/
def mixed (vc vp : FVec Ideal S64x128 .bf16) (w : FVec Ideal S128x512 .bf16) : FVec Ideal S64x512 .f32 :=
  addf (matmul dot_S64x128_S128x512_S64x512_1_0_0_1_n_n none vc (select tri w (broadcast S128x512 (Scalar.ofBits .bf16 0x0000#16))) (constant S64x512 .f32 0x00000000#32))
    (matmul dot_S64x128_S128x512_S64x512_1_0_0_1_n_n none vp (select tri (broadcast S128x512 (Scalar.ofBits .bf16 0x0000#16)) w) (constant S64x512 .f32 0x00000000#32))

/-- The two groups' outputs, a row per query. -/
def joined (o p : FVec Ideal S64x512 .f32) : FVec Ideal S128x512 .f32 :=
  transpose S128x512 [1, 0] (concatenate S512x128 0 [⟨S64x128, extractStridedSlice S64x128 ![0, 0] o slices_S64x512_o0_0_S64x128⟩,
    ⟨S64x128, extractStridedSlice S64x128 ![0, 128] o slices_S64x512_o0_128_S64x128⟩,
    ⟨S64x128, extractStridedSlice S64x128 ![0, 256] o slices_S64x512_o0_256_S64x128⟩,
    ⟨S64x128, extractStridedSlice S64x128 ![0, 384] o slices_S64x512_o0_384_S64x128⟩,
    ⟨S64x128, extractStridedSlice S64x128 ![0, 0] p slices_S64x512_o0_0_S64x128⟩,
    ⟨S64x128, extractStridedSlice S64x128 ![0, 128] p slices_S64x512_o0_128_S64x128⟩,
    ⟨S64x128, extractStridedSlice S64x128 ![0, 256] p slices_S64x512_o0_256_S64x128⟩,
    ⟨S64x128, extractStridedSlice S64x128 ![0, 384] p slices_S64x512_o0_384_S64x128⟩]
    concatenates_S64x128_S64x128_S64x128_S64x128_S64x128_S64x128_S64x128_S64x128_S512x128_d0) transposes_S512x128_p1_0_S128x512

/-- A block of rows, normed and scaled by the output's factor. -/
def postNorm (a : FVec Ideal S128x512 .f32) (g : FVec Ideal S1x512 .f32) : FVec Ideal S128x512 .bf16 :=
  truncf .bf16 (mulf (mulf a (broadcastTo S128x512 (rsqrt (addf (divf (shapeCast S128x1
    (multiReduction .add [1] S128 (mulf a a) 0x00000000#32 reduces_S128x512_S128 (.inl rfl) rfl) shapeCasts_S128_S128x1)
    (broadcast S128x1 (Scalar.ofBits .f32 0x44000000#32))) (broadcast S128x1 (Scalar.ofBits .f32 0x358637BD#32))))
    broadcasts_S128x1_S128x512)) (broadcastTo S128x512 (shapeCast S1x512 g shapeCasts_S1x512_S1x512) broadcasts_S1x512_S128x512)) bitsLt_bf16_f32

/-- Scores seen only where there is a key: those of a block that does not exist are the named constant. -/
def seen (h : BitVec 1) (s : FVec Ideal S128x512 .f32) : FVec Ideal S128x512 .f32 :=
  select (ori tri (broadcast S128x512 h)) s (broadcast S128x512 (Named.named (F := Ideal) (φ := .f32) κ "mask" 0xF149F2CA#32))

/-- A block of queries after its block of keys and the one before it. -/
def sub (q : FVec Ideal S128x512 .f32) (kp kc : FVec Ideal S128x256 .f32) (b0 b1 : FVec Ideal S1x128x512 .f32) (s : Fin 8 → EReal)
    (qg : FVec Ideal S64x1 .f32) (kg : FVec Ideal S1x64 .f32) : FVec Ideal S128x512 .f32 :=
  joined (mixed (values0 kc) (values0 kp) (weights (scores (keys0 kc kg) (keys0 kp kg) (scaled (heads0 q) qg) b0) (sinkRow (s 0) (s 1) (s 2) (s 3))))
    (mixed (values1 kc) (values1 kp) (weights (scores (keys1 kc kg) (keys1 kp kg) (scaled (heads1 q) qg) b1) (sinkRow (s 4) (s 5) (s 6) (s 7))))

/-- The first block of queries of a grid point, whose block before may not exist. -/
def sub0 (h : BitVec 1) (q : FVec Ideal S128x512 .f32) (kp kc : FVec Ideal S128x256 .f32) (b0 b1 : FVec Ideal S1x128x512 .f32) (s : Fin 8 → EReal)
    (qg : FVec Ideal S64x1 .f32) (kg : FVec Ideal S1x64 .f32) : FVec Ideal S128x512 .f32 :=
  joined (mixed (values0 kc) (values0 kp) (weights (seen h (scores (keys0 kc kg) (keys0 kp kg) (scaled (heads0 q) qg) b0)) (sinkRow (s 0) (s 1) (s 2) (s 3))))
    (mixed (values1 kc) (values1 kp) (weights (seen h (scores (keys1 kc kg) (keys1 kp kg) (scaled (heads1 q) qg) b1)) (sinkRow (s 4) (s 5) (s 6) (s 7))))

end Cert.Kernel5Ideal.AttnValue

end
-- ==== Proof.AttnAt.lean ====
/-
  The attention's forward kernel body, entry by entry.
-/
module

public import proofs.«01_k».proof.Proof.AttnBody
public import proofs.«01_k».proof.Proof.Reals

@[expose] public section

set_option maxRecDepth 16384

noncomputable section

namespace Cert.Kernel5Ideal.AttnValue

open Cert.Kernel5Ideal Cert.Kernel5Ideal.Gen Idealize.ShloMosaic Idealize.ShloMosaic.TcCoe

/-- The factor that norms a row. -/
def rinv {n : ℕ} (v : Fin n → EReal) (N : BitVec 32) : EReal :=
  Ideal.rsqrt (Ideal.div (∑ e, v e * v e) (Ideal.ofBits .f32 N) + Ideal.ofBits .f32 0x358637BD#32)

/-- The lane of a query of one of a group's four heads. -/
def col (g : Fin 4) (q : Fin 128) : Fin 512 := ⟨g.val * 128 + q.val, by omega⟩

/-- Where a group's head's entry lies in a row of queries, a key's in a row of keys and values, a value's. -/
def hIn (a : Fin 2) (g : Fin 4) (d : Fin 64) : Fin 512 := ⟨(a.val * 4 + g.val) * 64 + d.val, by omega⟩
def kIn (a : Fin 2) (d : Fin 64) : Fin 256 := ⟨a.val * 64 + d.val, by omega⟩
def vIn (a : Fin 2) (d : Fin 64) : Fin 256 := ⟨128 + a.val * 64 + d.val, by omega⟩

theorem up_to (k q : Fin 128) : IntOp.cmpi .sle (BitVec.ofNat 32 k.val) (BitVec.ofNat 32 q.val) = BitVec.ofBool (decide (k.val ≤ q.val)) := by
  rw [WordCmp.cmpi_sle_eq, WordCmp.toInt_ofNat_of_lt (w := 32) (show k.val < 2 ^ (32 - 1) by omega),
    WordCmp.toInt_ofNat_of_lt (w := 32) (show q.val < 2 ^ (32 - 1) by omega)]
  simp

theorem tri_at (k q : Fin 128) (g : Fin 4) : tri (ix2 k (col g q)) = BitVec.ofBool (decide (k.val ≤ q.val)) := by
  rw [← up_to]
  unfold col
  fin_cases g <;> pointwise [tri]
  · rw [dif_neg (by omega), dif_neg (by omega), dif_pos (by omega)]
    simp only [show 256 + q.val - 128 - 128 = q.val by omega]
  · rw [dif_neg (by omega), dif_neg (by omega), dif_neg (by omega)]
    simp only [show 384 + q.val - 128 - 128 - 128 = q.val by omega]

theorem normed_at (x : FVec Ideal S128x64 .f32) (g : FVec Ideal S1x64 .f32) (k : Fin 128) (d : Fin 64) :
    normed x g (ix2 k d) = x (ix2 k d) * rinv (fun e => x (ix2 k e)) 0x42800000#32 * g (ix2 0 d) := by
  unfold rinv
  pointwise [normed]

theorem keys0_at (kv : FVec Ideal S128x256 .f32) (g : FVec Ideal S1x64 .f32) (k : Fin 128) (d : Fin 64) :
    keys0 kv g (ix2 k d) = kv (ix2 k (kIn 0 d)) * rinv (fun e => kv (ix2 k (kIn 0 e))) 0x42800000#32 * g (ix2 0 d) := by
  unfold keys0
  rw [normed_at]
  unfold kIn
  pointwise []

theorem keys1_at (kv : FVec Ideal S128x256 .f32) (g : FVec Ideal S1x64 .f32) (k : Fin 128) (d : Fin 64) :
    keys1 kv g (ix2 k d) = kv (ix2 k (kIn 1 d)) * rinv (fun e => kv (ix2 k (kIn 1 e))) 0x42800000#32 * g (ix2 0 d) := by
  unfold keys1
  rw [normed_at]
  unfold kIn
  pointwise []

theorem values0_at (kv : FVec Ideal S128x256 .f32) (k : Fin 128) (d : Fin 64) : values0 kv (ix2 d k) = kv (ix2 k (vIn 0 d)) := by
  unfold vIn
  pointwise [values0]

theorem values1_at (kv : FVec Ideal S128x256 .f32) (k : Fin 128) (d : Fin 64) : values1 kv (ix2 d k) = kv (ix2 k (vIn 1 d)) := by
  unfold vIn
  pointwise [values1]

theorem heads0_at (q : FVec Ideal S128x512 .f32) (r : Fin 128) (g : Fin 4) (d : Fin 64) :
    heads0 q (ix2 d (col g r)) = q (ix2 r (hIn 0 g d)) := by
  unfold col hIn
  fin_cases g <;> pointwise [heads0]
  · rw [dif_neg (by omega), dif_neg (by omega), dif_pos (by omega)]
    simp only [show 256 + r.val - 128 - 128 = r.val by omega]
  · rw [dif_neg (by omega), dif_neg (by omega), dif_neg (by omega)]
    simp only [show 384 + r.val - 128 - 128 - 128 = r.val by omega]

theorem heads1_at (q : FVec Ideal S128x512 .f32) (r : Fin 128) (g : Fin 4) (d : Fin 64) :
    heads1 q (ix2 d (col g r)) = q (ix2 r (hIn 1 g d)) := by
  unfold col hIn
  fin_cases g <;> pointwise [heads1]
  · rw [dif_neg (by omega), dif_neg (by omega), dif_pos (by omega)]
    simp only [show 256 + r.val - 128 - 128 = r.val by omega]
  · rw [dif_neg (by omega), dif_neg (by omega), dif_neg (by omega)]
    simp only [show 384 + r.val - 128 - 128 - 128 = r.val by omega]

theorem scaled_at (x : FVec Ideal S64x512 .f32) (g : FVec Ideal S64x1 .f32) (d : Fin 64) (c : Fin 512) :
    scaled x g (ix2 d c) = x (ix2 d c) * rinv (fun e => x (ix2 e c)) 0x42800000#32 * g (ix2 d 0) * Ideal.ofBits .f32 0x3E000000#32 := by
  unfold rinv
  pointwise [scaled]

theorem postNorm_at (a : FVec Ideal S128x512 .f32) (g : FVec Ideal S1x512 .f32) (r : Fin 128) (c : Fin 512) :
    postNorm a g (ix2 r c) = a (ix2 r c) * rinv (fun e => a (ix2 r e)) 0x44000000#32 * g (ix2 0 c) := by
  unfold rinv
  pointwise [postNorm]

theorem scores_at (kc kp : FVec Ideal S128x64 .bf16) (q : FVec Ideal S64x512 .bf16) (b : FVec Ideal S1x128x512 .f32) (k r : Fin 128) (g : Fin 4) :
    scores kc kp q b (ix2 k (col g r)) = (if k.val ≤ r.val then ∑ d, kc (ix2 k d) * q (ix2 d (col g r)) else ∑ d, kp (ix2 k d) * q (ix2 d (col g r)))
      + b (ix3 0 k (col g r)) := by
  pointwise [scores]
  rw [tri_at, WordCmp.select_decide]

theorem lanes_at (a b : ℕ) (ha : a < 2 ^ 31) (hb : b < 2 ^ 31) (c : Fin 512) :
    IntOp.andi (IntOp.cmpi .sge (BitVec.ofNat 32 c.val) (BitVec.ofNat 32 a)) (IntOp.cmpi .slt (BitVec.ofNat 32 c.val) (BitVec.ofNat 32 b))
      = BitVec.ofBool (decide (a ≤ c.val ∧ c.val < b)) := by
  rw [WordCmp.cmpi_sge_eq, WordCmp.cmpi_slt_eq, WordCmp.toInt_ofNat_of_lt (w := 32) (show c.val < 2 ^ (32 - 1) by omega),
    WordCmp.toInt_ofNat_of_lt (w := 32) (show a < 2 ^ (32 - 1) by omega), WordCmp.toInt_ofNat_of_lt (w := 32) (show b < 2 ^ (32 - 1) by omega),
    WordCmp.andi_ofBool, ← Bool.decide_and]
  simp

theorem sinkRow_at (s0 s1 s2 s3 : EReal) (r : Fin 128) (g : Fin 4) : sinkRow s0 s1 s2 s3 (ix2 0 (col g r)) = ![s0, s1, s2, s3] g := by
  pointwise [sinkRow, lanes]
  rw [lanes_at 384 512 (by omega) (by omega) (col g r), lanes_at 256 384 (by omega) (by omega) (col g r),
    lanes_at 128 256 (by omega) (by omega) (col g r), lanes_at 0 128 (by omega) (by omega) (col g r)]
  simp only [WordCmp.select_decide]
  unfold col
  have := r.isLt
  fin_cases g
  · rw [if_neg (fun h => by have : 384 ≤ 0 * 128 + r.val := h.1; omega), if_neg (fun h => by have : 256 ≤ 0 * 128 + r.val := h.1; omega),
      if_neg (fun h => by have : 128 ≤ 0 * 128 + r.val := h.1; omega), if_pos ⟨Nat.zero_le _, by show 0 * 128 + r.val < 128; omega⟩]
    rfl
  · rw [if_neg (by simp; omega), if_neg (by simp; omega), if_pos (by simp; omega)]
    rfl
  · rw [if_neg (by simp; omega), if_pos (by simp; omega)]
    rfl
  · rw [if_pos (by simp; omega)]
    rfl

theorem bot : Ideal.ofBits .f32 0xFF800000#32 = ⊥ := by
  simp [Ideal.ofBits, Ideal.ieee]

theorem top_at (s : FVec Ideal S128x512 .f32) (k : FVec Ideal S1x512 .f32) (c : Fin 512) :
    top s k (ix2 0 c) = max (Finset.univ.sup fun j : Fin 128 => s (ix2 j c)) (k (ix2 0 c)) := by
  pointwise [top]
  rw [bot]
  rfl

theorem expo_at (s : FVec Ideal S128x512 .f32) (k : FVec Ideal S1x512 .f32) (j : Fin 128) (c : Fin 512) :
    expo s k (ix2 j c) = Ideal.exp (s (ix2 j c) - top s k (ix2 0 c)) := by
  pointwise [expo]

theorem weights_at (s : FVec Ideal S128x512 .f32) (k : FVec Ideal S1x512 .f32) (j : Fin 128) (c : Fin 512) :
    weights s k (ix2 j c) = expo s k (ix2 j c) * Ideal.div 1 (∑ x, expo s k (ix2 x c) + Ideal.exp (k (ix2 0 c) - top s k (ix2 0 c))) := by
  pointwise [weights]

theorem mixed_at (vc vp : FVec Ideal S64x128 .bf16) (w : FVec Ideal S128x512 .bf16) (d : Fin 64) (r : Fin 128) (g : Fin 4) :
    mixed vc vp w (ix2 d (col g r)) = ∑ k : Fin 128, (if k.val ≤ r.val then vc (ix2 d k) else vp (ix2 d k)) * w (ix2 k (col g r)) := by
  pointwise [mixed]
  rw [← Finset.sum_add_distrib]
  refine Finset.sum_congr rfl fun k _ => ?_
  rw [tri_at, WordCmp.select_decide, WordCmp.select_decide]
  split_ifs
  · exact add_zero _
  · exact zero_add _

/-- The eight pieces of the joined outputs. -/
def parts (o p : FVec Ideal S64x512 .f32) : Fin 8 → FVec Ideal S64x128 .f32 :=
  ![extractStridedSlice S64x128 ![0, 0] o slices_S64x512_o0_0_S64x128, extractStridedSlice S64x128 ![0, 128] o slices_S64x512_o0_128_S64x128,
    extractStridedSlice S64x128 ![0, 256] o slices_S64x512_o0_256_S64x128, extractStridedSlice S64x128 ![0, 384] o slices_S64x512_o0_384_S64x128,
    extractStridedSlice S64x128 ![0, 0] p slices_S64x512_o0_0_S64x128, extractStridedSlice S64x128 ![0, 128] p slices_S64x512_o0_128_S64x128,
    extractStridedSlice S64x128 ![0, 256] p slices_S64x512_o0_256_S64x128, extractStridedSlice S64x128 ![0, 384] p slices_S64x512_o0_384_S64x128]

theorem parts_at (o p : FVec Ideal S64x512 .f32) (r : Fin 128) (a : Fin 2) (g : Fin 4) (d : Fin 64) :
    parts o p ⟨a.val * 4 + g.val, by omega⟩ (ix2 d r) = (if a = 0 then o else p) (ix2 d (col g r)) := by
  unfold col parts
  fin_cases a <;> fin_cases g
  · show extractStridedSlice S64x128 ![0, 0] o slices_S64x512_o0_0_S64x128 (ix2 d r) = _; pointwise []
  · show extractStridedSlice S64x128 ![0, 128] o slices_S64x512_o0_128_S64x128 (ix2 d r) = _; pointwise []
  · show extractStridedSlice S64x128 ![0, 256] o slices_S64x512_o0_256_S64x128 (ix2 d r) = _; pointwise []
  · show extractStridedSlice S64x128 ![0, 384] o slices_S64x512_o0_384_S64x128 (ix2 d r) = _; pointwise []
  · show extractStridedSlice S64x128 ![0, 0] p slices_S64x512_o0_0_S64x128 (ix2 d r) = _; pointwise []
  · show extractStridedSlice S64x128 ![0, 128] p slices_S64x512_o0_128_S64x128 (ix2 d r) = _; pointwise []
  · show extractStridedSlice S64x128 ![0, 256] p slices_S64x512_o0_256_S64x128 (ix2 d r) = _; pointwise []
  · show extractStridedSlice S64x128 ![0, 384] p slices_S64x512_o0_384_S64x128 (ix2 d r) = _; pointwise []

theorem turned (y : FVec Ideal S512x128 .f32) (r : Fin 128) (c : Fin 512) :
    transpose S128x512 [1, 0] y transposes_S512x128_p1_0_S128x512 (ix2 r c) = y (ix2 c r) := by
  pointwise []

theorem joined_at (o p : FVec Ideal S64x512 .f32) (r : Fin 128) (a : Fin 2) (g : Fin 4) (d : Fin 64) :
    joined o p (ix2 r (hIn a g d)) = (if a = 0 then o else p) (ix2 d (col g r)) := by
  rw [← parts_at]
  unfold joined
  have hn : (hIn a g d).val / 64 = a.val * 4 + g.val := by
    show ((a.val * 4 + g.val) * 64 + d.val) / 64 = _
    omega
  refine Eq.trans ?_ (concatenate_ofFn_apply (t := S512x128) 0 (parts o p)
    concatenates_S64x128_S64x128_S64x128_S64x128_S64x128_S64x128_S64x128_S64x128_S512x128_d0 rfl 64 rfl (ix2 (hIn a g d) r)
    ⟨a.val * 4 + g.val, by omega⟩ hn (ix2 d r) ?_ ?_)
  · exact turned _ r _
  · show d.val = ((a.val * 4 + g.val) * 64 + d.val) % 64
    omega
  · intro b hb
    match b with
    | 0 => exact absurd rfl hb
    | 1 => rfl

theorem mask : Named.named (F := Ideal) (φ := .f32) κ "mask" 0xF149F2CA#32 = ⊥ := rfl

theorem seen_at (h : BitVec 1) (s : FVec Ideal S128x512 .f32) (k r : Fin 128) (g : Fin 4) :
    seen h s (ix2 k (col g r)) = if k.val ≤ r.val ∨ h = 1#1 then s (ix2 k (col g r)) else ⊥ := by
  pointwise [seen]
  rw [tri_at, mask, show h = BitVec.ofBool (decide (h = 1#1)) by rcases BitVec.eq_zero_or_eq_one h with rfl | rfl <;> rfl]
  by_cases hk : k.val ≤ r.val <;> by_cases hh : h = 1#1 <;> simp [hk, hh] <;> rfl

end Cert.Kernel5Ideal.AttnValue

end
-- ==== Proof.AttnSub.lean ====
/-
  A block of queries, entry by entry: a mix of values by the weights of the block's folded scores.
-/
module

public import proofs.«01_k».proof.Proof.AttnAt

@[expose] public section

set_option maxRecDepth 16384

noncomputable section

namespace Cert.Kernel5Ideal.AttnValue

open Cert.Kernel5Ideal Cert.Kernel5Ideal.Gen Idealize.ShloMosaic Idealize.ShloMosaic.TcCoe

/-- The greatest of the folded scores and the sink. -/
def peak (s : Fin 128 → EReal) (sink : EReal) : EReal := max (Finset.univ.sup s) sink

/-- The values mixed by the folded scores' weights. -/
def mixOf (s : Fin 128 → EReal) (sink : EReal) (v : Fin 128 → EReal) : EReal :=
  ∑ k, v k * (Ideal.exp (s k - peak s sink) * Ideal.div 1 (∑ x, Ideal.exp (s x - peak s sink) + Ideal.exp (sink - peak s sink)))

/-- A key's entry, normed; a query's, normed and scaled. -/
def keyOf (kv : FVec Ideal S128x256 .f32) (kg : FVec Ideal S1x64 .f32) (a : Fin 2) (k : Fin 128) (d : Fin 64) : EReal :=
  kv (ix2 k (kIn a d)) * rinv (fun e => kv (ix2 k (kIn a e))) 0x42800000#32 * kg (ix2 0 d)

def queryOf (q : FVec Ideal S128x512 .f32) (qg : FVec Ideal S64x1 .f32) (r : Fin 128) (a : Fin 2) (g : Fin 4) (d : Fin 64) : EReal :=
  q (ix2 r (hIn a g d)) * rinv (fun e => q (ix2 r (hIn a g e))) 0x42800000#32 * qg (ix2 d 0) * Ideal.ofBits .f32 0x3E000000#32

variable (q : FVec Ideal S128x512 .f32) (kp kc : FVec Ideal S128x256 .f32) (b0 b1 : FVec Ideal S1x128x512 .f32) (s : Fin 8 → EReal)
  (qg : FVec Ideal S64x1 .f32) (kg : FVec Ideal S1x64 .f32)

/-- A folded score of a head. -/
def scoreOf (a : Fin 2) (g : Fin 4) (r k : Fin 128) : EReal :=
  (if k.val ≤ r.val then ∑ d, keyOf kc kg a k d * queryOf q qg r a g d else ∑ d, keyOf kp kg a k d * queryOf q qg r a g d)
    + (if a = 0 then b0 else b1) (ix3 0 k (col g r))

theorem sinkRow0 (r : Fin 128) (g : Fin 4) : sinkRow (s 0) (s 1) (s 2) (s 3) (ix2 0 (col g r)) = s ⟨(0 : Fin 2).val * 4 + g.val, by simp; omega⟩ := by
  rw [sinkRow_at]
  fin_cases g <;> rfl

theorem sinkRow1 (r : Fin 128) (g : Fin 4) : sinkRow (s 4) (s 5) (s 6) (s 7) (ix2 0 (col g r)) = s ⟨(1 : Fin 2).val * 4 + g.val, by simp; omega⟩ := by
  rw [sinkRow_at]
  fin_cases g <;> rfl

/-- Scores' weights against values, for any scores. -/
theorem mixed_weights (vc vp : FVec Ideal S64x128 .bf16) (sc : FVec Ideal S128x512 .f32) (sk : FVec Ideal S1x512 .f32) (d : Fin 64) (r : Fin 128)
    (g : Fin 4) : mixed vc vp (weights sc sk) (ix2 d (col g r))
      = mixOf (fun k => sc (ix2 k (col g r))) (sk (ix2 0 (col g r))) fun k => if k.val ≤ r.val then vc (ix2 d k) else vp (ix2 d k) := by
  rw [mixed_at]
  simp only [weights_at, expo_at, top_at]
  rfl

theorem scores0 (r k : Fin 128) (g : Fin 4) : scores (keys0 kc kg) (keys0 kp kg) (scaled (heads0 q) qg) b0 (ix2 k (col g r))
    = scoreOf q kp kc b0 b1 qg kg 0 g r k := by
  rw [scores_at]
  simp only [keys0_at, scaled_at, heads0_at]
  rfl

theorem scores1 (r k : Fin 128) (g : Fin 4) : scores (keys1 kc kg) (keys1 kp kg) (scaled (heads1 q) qg) b1 (ix2 k (col g r))
    = scoreOf q kp kc b0 b1 qg kg 1 g r k := by
  rw [scores_at]
  simp only [keys1_at, scaled_at, heads1_at]
  rfl

theorem sub_at (r : Fin 128) (a : Fin 2) (g : Fin 4) (d : Fin 64) : sub q kp kc b0 b1 s qg kg (ix2 r (hIn a g d))
    = mixOf (scoreOf q kp kc b0 b1 qg kg a g r) (s ⟨a.val * 4 + g.val, by omega⟩)
        fun k => if k.val ≤ r.val then kc (ix2 k (vIn a d)) else kp (ix2 k (vIn a d)) := by
  unfold sub
  rw [joined_at]
  fin_cases a
  · refine (mixed_weights _ _ _ _ d r g).trans ?_
    simp only [scores0 q kp kc b0 b1 qg kg, sinkRow0, values0_at]
    rfl
  · refine (mixed_weights _ _ _ _ d r g).trans ?_
    simp only [scores1 q kp kc b0 b1 qg kg, sinkRow1, values1_at]
    rfl

theorem sub0_at (h : BitVec 1) (r : Fin 128) (a : Fin 2) (g : Fin 4) (d : Fin 64) : sub0 h q kp kc b0 b1 s qg kg (ix2 r (hIn a g d))
    = mixOf (fun k => if k.val ≤ r.val ∨ h = 1#1 then scoreOf q kp kc b0 b1 qg kg a g r k else ⊥) (s ⟨a.val * 4 + g.val, by omega⟩)
        fun k => if k.val ≤ r.val then kc (ix2 k (vIn a d)) else kp (ix2 k (vIn a d)) := by
  unfold sub0
  rw [joined_at]
  fin_cases a
  · refine (mixed_weights _ _ _ _ d r g).trans ?_
    simp only [seen_at, scores0 q kp kc b0 b1 qg kg, sinkRow0, values0_at]
    rfl
  · refine (mixed_weights _ _ _ _ d r g).trans ?_
    simp only [seen_at, scores1 q kp kc b0 b1 qg kg, sinkRow1, values1_at]
    rfl

end Cert.Kernel5Ideal.AttnValue

end
-- ==== Proof.AttnSpec.lean ====
/-
  What the attention computes from its arguments, entry by entry.
-/
module

public import proofs.«01_k».proof.Proof.AttnSub

@[expose] public section

set_option maxRecDepth 16384

noncomputable section

namespace Cert.Kernel5Ideal.AttnValue

open Cert.Kernel5Ideal Cert.Kernel5Ideal.Gen Idealize.ShloMosaic Idealize.ShloMosaic.TcCoe

/-- A position of the sequence from its block and its place in it; the block before. -/
def pos (n : Fin 64) (r : Fin 128) : Fin 8192 := ⟨n.val * 128 + r.val, by omega⟩
def before (n : Fin 64) : Fin 64 := ⟨n.val - 1, by omega⟩

def head (a : Fin 2) (g : Fin 4) : Fin 8 := ⟨a.val * 4 + g.val, by omega⟩

/-- Which of the 256 keys the folded key `k` stands for at the query `r`. -/
def side (k r : Fin 128) : Fin 256 := if k.val ≤ r.val then ⟨128 + k.val, by omega⟩ else ⟨k.val, by omega⟩

variable (zq : FVec Ideal S8192x512 .f32) (zkv : FVec Ideal S8192x256 .f32) (bias : FVec Ideal S8x128x256 .f32) (sinks : FVec Ideal S8 .f32)
  (qg kg : FVec Ideal S64 .f32) (og : FVec Ideal S512 .f32)

/-- A position's normed key and query, and its value. -/
def keyAt (t : Fin 8192) (a : Fin 2) (d : Fin 64) : EReal :=
  zkv (ix2 t (kIn a d)) * rinv (fun e => zkv (ix2 t (kIn a e))) 0x42800000#32 * kg (ix1 d)

def queryAt (t : Fin 8192) (a : Fin 2) (g : Fin 4) (d : Fin 64) : EReal :=
  zq (ix2 t (hIn a g d)) * rinv (fun e => zq (ix2 t (hIn a g e))) 0x42800000#32 * qg (ix1 d)

def valueAt (t : Fin 8192) (a : Fin 2) (d : Fin 64) : EReal := zkv (ix2 t (vIn a d))

/-- The position of the key that a folded key stands for. -/
def keyPos (n : Fin 64) (r k : Fin 128) : Fin 8192 := if k.val ≤ r.val then pos n k else pos (before n) k

/-- A folded score: of a key before the sequence's start it is minus infinity. -/
def score (n : Fin 64) (r : Fin 128) (a : Fin 2) (g : Fin 4) (k : Fin 128) : EReal :=
  if k.val ≤ r.val ∨ 0 < n.val then
    ∑ d, keyAt zkv kg (keyPos n r k) a d * (queryAt zq qg (pos n r) a g d * Ideal.ofBits .f32 0x3E000000#32) + bias (ix3 (head a g) r (side k r))
  else ⊥

/-- The attention's output. -/
def attn (n : Fin 64) (r : Fin 128) (a : Fin 2) (g : Fin 4) (d : Fin 64) : EReal :=
  mixOf (score zq zkv bias qg kg n r a g) (sinks (ix1 (head a g))) fun k => valueAt zkv (keyPos n r k) a d

def aOut : FVec Ideal S8192x512 .f32 := fun j =>
  attn zq zkv bias sinks qg kg ⟨(j 0).val / 128, Nat.div_lt_of_lt_mul (j 0).isLt⟩ ⟨(j 0).val % 128, Nat.mod_lt _ (by decide)⟩
    ⟨(j 1).val / 256, Nat.div_lt_of_lt_mul (j 1).isLt⟩ ⟨(j 1).val / 64 % 4, Nat.mod_lt _ (by decide)⟩ ⟨(j 1).val % 64, Nat.mod_lt _ (by decide)⟩

theorem aOut_at (n : Fin 64) (r : Fin 128) (a : Fin 2) (g : Fin 4) (d : Fin 64) :
    aOut zq zkv bias sinks qg kg (ix2 (pos n r) (hIn a g d)) = attn zq zkv bias sinks qg kg n r a g d := by
  unfold aOut
  congr 1
  · exact Fin.ext (by show (n.val * 128 + r.val) / 128 = _; omega)
  · exact Fin.ext (by show (n.val * 128 + r.val) % 128 = _; omega)
  · exact Fin.ext (by show ((a.val * 4 + g.val) * 64 + d.val) / 256 = _; omega)
  · exact Fin.ext (by show ((a.val * 4 + g.val) * 64 + d.val) / 64 % 4 = _; omega)
  · exact Fin.ext (by show ((a.val * 4 + g.val) * 64 + d.val) % 64 = _; omega)

/-- Every entry's index is of this form. -/
theorem split_row (t : Fin 8192) : ∃ n r, t = pos n r :=
  ⟨⟨t.val / 128, by omega⟩, ⟨t.val % 128, by omega⟩, Fin.ext (by show t.val = t.val / 128 * 128 + t.val % 128; omega)⟩

theorem split_lane (c : Fin 512) : ∃ a g d, c = hIn a g d :=
  ⟨⟨c.val / 256, by omega⟩, ⟨c.val / 64 % 4, by omega⟩, ⟨c.val % 64, by omega⟩,
    Fin.ext (by show c.val = (c.val / 256 * 4 + c.val / 64 % 4) * 64 + c.val % 64; omega)⟩

/-- The output, normed and scaled. -/
def mixOut : FVec Ideal S8192x512 .bf16 := fun j =>
  aOut zq zkv bias sinks qg kg j * rinv (fun e => aOut zq zkv bias sinks qg kg (ix2 (j 0) e)) 0x44000000#32 * og (ix1 (j 1))

end Cert.Kernel5Ideal.AttnValue

end
-- ==== Proof.AttnRef.lean ====
/-
  The attention's reference, read entry by entry.
-/
module

public import proofs.«01_k».proof.Proof.AttnSpec
public import proofs.«01_k».proof.Proof.Gen.Reference5Ideal.Read

@[expose] public section

set_option maxRecDepth 16384

noncomputable section

namespace Cert.Kernel5Ideal.AttnValue

open Idealize.ShloMosaic
open Cert.Kernel5Ideal (S8192x512 S8192x256 S8x128x256 S8 S64 S512)
open Cert.Reference5Ideal.Read

variable (zq : FVec Ideal S8192x512 .f32) (zkv : FVec Ideal S8192x256 .f32) (bias : FVec Ideal S8x128x256 .f32) (sinks : FVec Ideal S8 .f32)
  (qg kg : FVec Ideal S64 .f32) (og : FVec Ideal S512 .f32)

/-- The reference's key and query norms and its values. -/
theorem ref_key (t : Fin 8192) (a : Fin 2) (d : Fin 64) : val_main_v29 (F := Ideal) zkv kg (ix3 t a d) = keyAt zkv kg t a d := by
  unfold keyAt rinv kIn
  pointwise [val_main_v29, val_main_v28, val_main_v27, val_main_v26, val_main_v25, val_main_v24, val_main_v23, val_main_v22, val_main_v21,
    val_main_v20, val_main_v19, val_main_v18, val_main_v17, val_main_v16, val_main_v0, val_main_cst_2, val_main_cst_3, val_main_cst_4]

theorem ref_value (t : Fin 8192) (a : Fin 2) (d : Fin 64) : val_main_v30 (F := Ideal) zkv (ix3 t a d) = valueAt zkv t a d := by
  unfold valueAt vIn
  pointwise [val_main_v30, val_main_v1]
  exact congrArg (fun q => zkv (ix2 t q)) (Fin.ext (by show 128 + (a.val * 64 + d.val) = 128 + a.val * 64 + d.val; omega))

theorem ref_query (n : Fin 64) (r : Fin 128) (a : Fin 2) (g : Fin 4) (d : Fin 64) :
    val_main_v51 (F := Ideal) zq qg (ix5 n r a g d) = queryAt zq qg (pos n r) a g d := by
  unfold queryAt rinv hIn pos
  pointwise [val_main_v51, val_main_v15, val_main_v14, val_main_v13, val_main_v12, val_main_v11, val_main_v10, val_main_v9, val_main_v8,
    val_main_v7, val_main_v6, val_main_v5, val_main_v4, val_main_v3, val_main_v2, val_main_cst, val_main_cst_0, val_main_cst_1]

/-- Whether row r of block n attends to place j of its two blocks of keys. -/
def inWindow (n : Fin 64) (r : Fin 128) (j : Fin 256) : Prop := j.val ≤ r.val + 128 ∧ r.val < j.val ∧ (128 ≤ j.val ∨ 0 < n.val)

instance (n : Fin 64) (r : Fin 128) (j : Fin 256) : Decidable (inWindow n r j) := inferInstanceAs (Decidable (_ ∧ _ ∧ _))

/-- Two blocks of a sequence laid end to end, the one before block n and block n, are the sequence at these places. -/
theorem ref_keys (n : Fin 64) (r : Fin 128) (j : Fin 256) (a : Fin 2) (d : Fin 64) (k : Fin 128) (hj : j = side k r) (h : inWindow n r j) :
    val_main_v57 (F := Ideal) zkv kg (ix4 n j a d) = keyAt zkv kg (keyPos n r k) a d := by
  unfold inWindow at h
  rw [← ref_key]
  pointwise [val_main_v57, val_main_v56, val_main_v55, val_main_v54, val_main_v53, val_main_v52, val_main_cst_10]
  subst hj
  unfold side at h ⊢
  unfold keyPos pos before
  by_cases hk : k.val ≤ r.val
  · simp only [if_pos hk] at h ⊢
    rw [dif_neg (by omega)]
    exact congrArg _ (congrArg (fun t => ix3 t a d) (Fin.ext (by show n.val * 128 + (128 + k.val - 128) = n.val * 128 + k.val; omega)))
  · simp only [if_neg hk] at h ⊢
    rw [dif_pos k.isLt, dif_neg (by omega)]
    exact congrArg _ (congrArg (fun t => ix3 t a d) (Fin.ext (by show n.val * 128 + k.val - 128 = (n.val - 1) * 128 + k.val; omega)))

theorem ref_values (n : Fin 64) (r : Fin 128) (j : Fin 256) (a : Fin 2) (d : Fin 64) (k : Fin 128) (hj : j = side k r) (h : inWindow n r j) :
    val_main_v63 (F := Ideal) zkv (ix4 n j a d) = valueAt zkv (keyPos n r k) a d := by
  unfold inWindow at h
  rw [← ref_value]
  pointwise [val_main_v63, val_main_v62, val_main_v61, val_main_v60, val_main_v59, val_main_v58, val_main_cst_11]
  subst hj
  unfold side at h ⊢
  unfold keyPos pos before
  by_cases hk : k.val ≤ r.val
  · simp only [if_pos hk] at h ⊢
    rw [dif_neg (by omega)]
    exact congrArg _ (congrArg (fun t => ix3 t a d) (Fin.ext (by show n.val * 128 + (128 + k.val - 128) = n.val * 128 + k.val; omega)))
  · simp only [if_neg hk] at h ⊢
    rw [dif_pos k.isLt, dif_neg (by omega)]
    exact congrArg _ (congrArg (fun t => ix3 t a d) (Fin.ext (by show n.val * 128 + k.val - 128 = (n.val - 1) * 128 + k.val; omega)))

/-- The query's place less the key's, and the key's position in the sequence, read off the words. -/
theorem gap (q : Fin 128) (j : Fin 256) :
    (IntOp.subi (IntOp.addi (BitVec.ofNat 32 q.val) 128#32) (BitVec.ofNat 32 j.val)).toInt = (q.val : Int) + 128 - j.val := by
  have := q.isLt
  have := j.isLt
  unfold IntOp.subi IntOp.addi
  rw [BitVec.toInt_sub, BitVec.toInt_add]
  rw [WordCmp.toInt_ofNat_of_lt (w := 32) (show q.val < 2 ^ 31 by omega), WordCmp.toInt_ofNat_of_lt (w := 32) (show j.val < 2 ^ 31 by omega)]
  rw [show (128#32).toInt = 128 from rfl, Int.bmod_def, Int.bmod_def]
  omega

theorem place (n : Fin 64) (j : Fin 256) :
    (IntOp.addi (IntOp.muli (IntOp.subi (BitVec.ofNat 32 n.val) 1#32) 128#32) (BitVec.ofNat 32 j.val)).toInt
      = ((n.val : Int) - 1) * 128 + j.val := by
  have := n.isLt
  have := j.isLt
  unfold IntOp.subi IntOp.addi IntOp.muli
  rw [BitVec.toInt_add, BitVec.toInt_mul, BitVec.toInt_sub]
  rw [WordCmp.toInt_ofNat_of_lt (w := 32) (show n.val < 2 ^ 31 by omega), WordCmp.toInt_ofNat_of_lt (w := 32) (show j.val < 2 ^ 31 by omega)]
  rw [show (128#32).toInt = 128 from rfl, show (1#32).toInt = 1 from rfl, Int.bmod_def, Int.bmod_def, Int.bmod_def]
  omega

theorem ref_valid (n : Fin 64) (r : Fin 128) (j : Fin 256) :
    val_main_v49 (F := Ideal) (ix3 n r j) = BitVec.ofBool (decide (inWindow n r j)) := by
  pointwise [val_main_v49, val_main_v48, val_main_v47, val_main_v46, val_main_v45, val_main_v44, val_main_v43, val_main_v42, val_main_v41,
    val_main_v40, val_main_v39, val_main_v38, val_main_v37, val_main_v36, val_main_v35, val_main_v34, val_main_v33, val_main_v32, val_main_v31,
    val_main_c, val_main_c_5, val_main_c_6, val_main_c_7, val_main_c_8, val_main_c_9]
  rw [WordCmp.cmpi_sge_eq, WordCmp.cmpi_slt_eq, WordCmp.cmpi_sge_eq, gap, place, WordCmp.andi_ofBool, WordCmp.andi_ofBool, ← Bool.decide_and,
    ← Bool.decide_and]
  refine congrArg BitVec.ofBool (decide_eq_decide.2 ?_)
  show (((0 : Int) ≤ _ ∧ _ < (128 : Int)) ∧ (0 : Int) ≤ _) ↔ _
  unfold inWindow
  omega

theorem ref_dot (n : Fin 64) (a : Fin 2) (g : Fin 4) (r : Fin 128) (j : Fin 256) :
    val_main_v64 (F := Ideal) zq zkv qg kg (ix5 n a j r g)
      = ∑ d : Fin 64, val_main_v57 (F := Ideal) zkv kg (ix4 n j a d) * val_main_v51 (F := Ideal) zq qg (ix5 n r a g d) := by
  pointwise [val_main_v64]

theorem ref_scaled (n : Fin 64) (a : Fin 2) (g : Fin 4) (r : Fin 128) (j : Fin 256) :
    val_main_v67 (F := Ideal) zq zkv qg kg (ix5 n a g r j)
      = val_main_v64 (F := Ideal) zq zkv qg kg (ix5 n a j r g) * FloatOps.ofBits (F := Ideal) .f32 0x3E000000#32 := by
  pointwise [val_main_v67, val_main_v66, val_main_v65, val_main_cst_12]

theorem ref_bias (n : Fin 64) (a : Fin 2) (g : Fin 4) (r : Fin 128) (j : Fin 256) :
    val_main_v69 (F := Ideal) bias (ix5 n a g r j) = bias (ix3 (head a g) r j) := by
  unfold head
  pointwise [val_main_v69, val_main_v68, val_main_v50]

theorem ref_mask (n : Fin 64) (a : Fin 2) (g : Fin 4) (r : Fin 128) (j : Fin 256) :
    val_main_call0_v1 (F := Ideal) (ix5 n a g r j) = val_main_v49 (F := Ideal) (ix3 n r j) := by
  pointwise [val_main_call0_v1, val_main_v71]

theorem ref_bot (n : Fin 64) (a : Fin 2) (g : Fin 4) (r : Fin 128) (j : Fin 256) : val_main_call0_v2 (F := Ideal) (ix5 n a g r j) = (⊥ : EReal) := by
  rw [val_main_call0_v2_apply, val_main_call0_v0_apply, val_main_cst_13_apply]
  exact bot

/-- The reference's scores: the scaled inner products with the bias where the place is inWindow, −∞ elsewhere. -/
theorem ref_score (n : Fin 64) (a : Fin 2) (g : Fin 4) (r : Fin 128) (j : Fin 256) :
    val_main_v72 (F := Ideal) zq zkv bias qg kg (ix5 n a g r j)
      = if inWindow n r j then (∑ d : Fin 64, val_main_v57 (F := Ideal) zkv kg (ix4 n j a d) * queryAt zq qg (pos n r) a g d)
          * FloatOps.ofBits (F := Ideal) .f32 0x3E000000#32 + bias (ix3 (head a g) r j) else (⊥ : EReal) := by
  rw [val_main_v72_apply, ref_mask, ref_valid, WordCmp.select_decide, val_main_v70_apply, ref_scaled, ref_dot, ref_bias, ref_bot]
  simp only [ref_query]
  rfl

/-- A maximum along the last axis, whatever the array. -/
theorem max_last (y : FVec Ideal Cert.Reference5Ideal.S64x2x4x128x256 .f32)
    (hr : Cert.Reference5Ideal.S64x2x4x128x256.ReducesTo [4] Cert.Reference5Ideal.S64x2x4x128) (hu : 0 < Cert.Reference5Ideal.S_.numel)
    (n : Fin 64) (a : Fin 2) (g : Fin 4) (r : Fin 128) :
    Host.reduce (FloatOps.maximumf (F := Ideal) (φ := .f32)) y (val_main_cst_14 (F := Ideal)) hr hu (ix4 n a g r)
      = Finset.univ.sup fun j : Fin 256 => y (ix5 n a g r j) := by
  rw [Host.reduce_eq_fold_single _ y _ _ (by decide) hu, val_main_cst_14_apply]
  refine Eq.trans (congrArg (fun f => Finset.fold _ _ f Finset.univ) (a₂ := fun j : Fin 256 => y (ix5 n a g r j)) (funext fun j => ?_)) ?_
  · exact congrArg y (funext fun e => Fin.ext (by match e with | ⟨0, _⟩ => rfl | ⟨1, _⟩ => rfl | ⟨2, _⟩ => rfl | ⟨3, _⟩ => rfl | ⟨4, _⟩ => rfl))
  · refine (congrArg (fun z => Finset.fold _ z _ Finset.univ) bot).trans ?_
    rfl

theorem ref_max (n : Fin 64) (a : Fin 2) (g : Fin 4) (r : Fin 128) :
    val_main_v75 (F := Ideal) zq zkv bias qg kg (ix4 n a g r)
      = Finset.univ.sup fun j : Fin 256 => val_main_v72 (F := Ideal) zq zkv bias qg kg (ix5 n a g r j) := by
  unfold val_main_v75
  generalize val_main_v72 (F := Ideal) zq zkv bias qg kg = y
  exact max_last y _ _ n a g r

theorem ref_peak (n : Fin 64) (a : Fin 2) (g : Fin 4) (r : Fin 128) :
    val_main_v78 (F := Ideal) zq zkv bias sinks qg kg (ix5 n a g r 0)
      = max (Finset.univ.sup fun j : Fin 256 => val_main_v72 (F := Ideal) zq zkv bias qg kg (ix5 n a g r j)) (sinks (ix1 (head a g))) := by
  rw [val_main_v78_apply, val_main_v76_apply, ← ref_max, show idx_main_v76 (ix5 n a g r 0) = ix4 n a g r from
    funext fun a => match a with | ⟨0, _⟩ => rfl | ⟨1, _⟩ => rfl | ⟨2, _⟩ => rfl | ⟨3, _⟩ => rfl]
  unfold head
  generalize val_main_v75 (F := Ideal) zq zkv bias qg kg = y
  pointwise [val_main_v77, val_main_v74, val_main_v73]

theorem ref_exp (n : Fin 64) (a : Fin 2) (g : Fin 4) (r : Fin 128) (j : Fin 256) :
    val_main_v81 (F := Ideal) zq zkv bias sinks qg kg (ix5 n a g r j)
      = Ideal.exp (val_main_v72 (F := Ideal) zq zkv bias qg kg (ix5 n a g r j) - val_main_v78 (F := Ideal) zq zkv bias sinks qg kg (ix5 n a g r 0)) := by
  pointwise [val_main_v81, val_main_v80, val_main_v79]

theorem ref_weight (n : Fin 64) (a : Fin 2) (g : Fin 4) (r : Fin 128) (j : Fin 256) :
    val_main_v89 (F := Ideal) zq zkv bias sinks qg kg (ix5 n a g r j)
      = Ideal.div (val_main_v81 (F := Ideal) zq zkv bias sinks qg kg (ix5 n a g r j))
          (∑ x : Fin 256, val_main_v81 (F := Ideal) zq zkv bias sinks qg kg (ix5 n a g r x)
            + Ideal.exp (sinks (ix1 (head a g)) - val_main_v78 (F := Ideal) zq zkv bias sinks qg kg (ix5 n a g r 0))) := by
  unfold head
  pointwise [val_main_v89, val_main_v88, val_main_v87, val_main_v86, val_main_v85, val_main_v84, val_main_v83, val_main_v82, val_main_v74,
    val_main_v73, val_main_cst_15]

theorem ref_out (n : Fin 64) (r : Fin 128) (a : Fin 2) (g : Fin 4) (d : Fin 64) :
    val_main_v92 (F := Ideal) zq zkv bias sinks qg kg (ix2 (pos n r) (hIn a g d))
      = ∑ x : Fin 256, val_main_v63 (F := Ideal) zkv (ix4 n x a d) * val_main_v89 (F := Ideal) zq zkv bias sinks qg kg (ix5 n a g r x) := by
  unfold pos hIn
  pointwise [val_main_v92, val_main_v91, val_main_v90]

theorem ref_mix (t : Fin 8192) (c : Fin 512) :
    val_main_v106 (F := Ideal) zq zkv bias sinks qg kg og (ix2 t c) = val_main_v92 (F := Ideal) zq zkv bias sinks qg kg (ix2 t c)
      * rinv (fun e => val_main_v92 (F := Ideal) zq zkv bias sinks qg kg (ix2 t e)) 0x44000000#32 * og (ix1 c) := by
  unfold rinv
  pointwise [val_main_v106, val_main_v105, val_main_v104, val_main_v103, val_main_v102, val_main_v101, val_main_v100, val_main_v99,
    val_main_v98, val_main_v97, val_main_v96, val_main_v95, val_main_v94, val_main_v93, val_main_cst_16, val_main_cst_17, val_main_cst_18]

end Cert.Kernel5Ideal.AttnValue

end
-- ==== Proof.AttnMath.lean ====
/-
  A query's weights over the 256 keys of two blocks are its weights over the 128 folded keys.
-/
module

public import proofs.«01_k».proof.Proof.AttnSpec
public import proofs.«01_k».proof.Proof.Finite

@[expose] public section

set_option maxRecDepth 16384

noncomputable section

namespace Cert.Kernel5Ideal.AttnValue

open Idealize.ShloMosaic Cert.Finite

theorem exp_nonneg (x : EReal) : 0 ≤ Ideal.exp x := by
  induction x using EReal.rec with
  | bot => exact le_refl _
  | coe r => rw [Ideal.exp_coe]; exact_mod_cast (Real.exp_pos r).le
  | top => exact le_top

theorem exp_ne_zero {x : EReal} (h : IsR x) : Ideal.exp x ≠ 0 := by
  obtain ⟨r, rfl⟩ := h
  rw [Ideal.exp_coe]; exact_mod_cast (Real.exp_pos r).ne'

/-- A key is in a query's window exactly when a folded key stands for it. -/
theorem side_in (k r : Fin 128) : r.val < (side k r).val ∧ (side k r).val ≤ r.val + 128 := by
  unfold side
  by_cases h : k.val ≤ r.val
  · rw [if_pos h]; exact ⟨by show r.val < 128 + k.val; omega, by show 128 + k.val ≤ _; omega⟩
  · rw [if_neg h]; exact ⟨by show r.val < k.val; omega, by show k.val ≤ _; omega⟩

theorem side_of (r : Fin 128) (j : Fin 256) (h : r.val < j.val ∧ j.val ≤ r.val + 128) : ∃ k, side k r = j := by
  by_cases hj : 128 ≤ j.val
  · refine ⟨⟨j.val - 128, by omega⟩, ?_⟩
    unfold side
    rw [if_pos (by show j.val - 128 ≤ r.val; omega)]
    exact Fin.ext (by show 128 + (j.val - 128) = j.val; omega)
  · refine ⟨⟨j.val, by omega⟩, ?_⟩
    unfold side
    rw [if_neg (by show ¬ j.val ≤ r.val; omega)]

theorem sum_window (r : Fin 128) (f : Fin 256 → EReal) (h : ∀ j : Fin 256, ¬ (r.val < j.val ∧ j.val ≤ r.val + 128) → f j = 0) :
    ∑ j, f j = ∑ k, f (side k r) := by
  refine (Fin.sum_univ_add (a := 128) (b := 128) f).trans ?_
  rw [← Finset.sum_add_distrib]
  refine Finset.sum_congr rfl fun k _ => ?_
  unfold side
  by_cases hk : k.val ≤ r.val
  · rw [if_pos hk, h (Fin.castAdd 128 k) (by simp only [Fin.val_castAdd]; omega), zero_add]; rfl
  · rw [if_neg hk, h (Fin.natAdd 128 k) (by simp only [Fin.val_natAdd]; omega), add_zero]; rfl

theorem sup_window (r : Fin 128) (f : Fin 256 → EReal) (h : ∀ j : Fin 256, ¬ (r.val < j.val ∧ j.val ≤ r.val + 128) → f j = ⊥) :
    Finset.univ.sup f = Finset.univ.sup fun k => f (side k r) := by
  refine le_antisymm (Finset.sup_le fun j _ => ?_) (Finset.sup_le fun k _ => Finset.le_sup (f := f) (Finset.mem_univ _))
  by_cases hj : r.val < j.val ∧ j.val ≤ r.val + 128
  · obtain ⟨k, rfl⟩ := side_of r j hj
    exact Finset.le_sup (f := fun k => f (side k r)) (Finset.mem_univ k)
  · rw [h j hj]; exact bot_le

/-- With a real sink and no score at plus infinity the peak is real. -/
theorem peak_real {s : Fin 128 → EReal} {sink : EReal} (hs : ∀ k, s k ≠ ⊤) (hk : IsR sink) : IsR (peak s sink) := by
  obtain ⟨t, rfl⟩ := hk
  have hlt : peak s (t : EReal) < ⊤ :=
    max_lt ((Finset.sup_lt_iff (bot_lt_top)).2 fun k _ => lt_top_iff_ne_top.2 (hs k)) (EReal.coe_lt_top t)
  have hgt : ⊥ < peak s (t : EReal) := lt_of_lt_of_le (EReal.bot_lt_coe t) (le_max_right _ _)
  exact ⟨(peak s t).toReal, (EReal.coe_toReal hlt.ne hgt.ne').symm⟩

theorem total_ne_zero {s : Fin 128 → EReal} {sink : EReal} (hs : ∀ k, s k ≠ ⊤) (hk : IsR sink) :
    ∑ x, Ideal.exp (s x - peak s sink) + Ideal.exp (sink - peak s sink) ≠ 0 := by
  intro h
  have h0 : 0 ≤ ∑ x, Ideal.exp (s x - peak s sink) := Finset.sum_nonneg fun _ _ => exp_nonneg _
  have h1 := exp_ne_zero (hk.sub (peak_real hs hk))
  have h2 : Ideal.exp (sink - peak s sink) ≤ 0 := h ▸ le_add_of_nonneg_left h0
  exact h1 (le_antisymm h2 (exp_nonneg _))

/-- The mix over 256 keys, those outside the window at minus infinity, is the mix over the folded keys. -/
theorem mix_folded (r : Fin 128) (S V : Fin 256 → EReal) (s v : Fin 128 → EReal) (sink : EReal)
    (hin : ∀ k, S (side k r) = s k) (hout : ∀ j : Fin 256, ¬ (r.val < j.val ∧ j.val ≤ r.val + 128) → S j = ⊥)
    (hv : ∀ k, s k ≠ ⊥ → V (side k r) = v k) (hs : ∀ k, s k ≠ ⊤) (hk : IsR sink) :
    ∑ j, V j * Ideal.div (Ideal.exp (S j - max (Finset.univ.sup S) sink))
        (∑ x, Ideal.exp (S x - max (Finset.univ.sup S) sink) + Ideal.exp (sink - max (Finset.univ.sup S) sink))
      = mixOf s sink v := by
  have hp : max (Finset.univ.sup S) sink = peak s sink := by
    unfold peak
    rw [sup_window r S hout]
    simp only [hin]
  rw [hp]
  have hz : ∀ x : EReal, x = ⊥ → Ideal.exp (x - peak s sink) = 0 := by
    rintro x rfl
    rw [sub_eq_add_neg, EReal.bot_add, Ideal.exp_bot]
  rw [sum_window r (fun x => Ideal.exp (S x - peak s sink)) fun j hj => hz _ (hout j hj)]
  simp only [hin]
  have hd := total_ne_zero hs hk
  unfold mixOf
  generalize ∑ x, Ideal.exp (s x - peak s sink) + Ideal.exp (sink - peak s sink) = D at hd
  have hdiv : ∀ x, Ideal.div x D = x * D⁻¹ := fun x => if_neg hd
  simp only [hdiv, one_mul]
  rw [sum_window r (fun j => V j * (Ideal.exp (S j - peak s sink) * D⁻¹)) fun j hj => by rw [hz _ (hout j hj), zero_mul, mul_zero]]
  refine Finset.sum_congr rfl fun k _ => ?_
  rw [hin]
  by_cases hb : s k = ⊥
  · rw [hz _ hb, zero_mul, mul_zero, mul_zero]
  · rw [hv k hb]

theorem mul_self_nonneg' (x : EReal) : 0 ≤ x * x := by
  induction x using EReal.rec with
  | bot => rw [EReal.bot_mul_bot]; exact le_top
  | coe r => exact_mod_cast mul_self_nonneg r
  | top => rw [EReal.top_mul_top]; exact le_top

/-- An entry of a row times the row's inverse root mean square is real, whatever the row: that of a row with an
    infinite entry is zero. -/
theorem isR_normed {n : ℕ} {N : BitVec 32} {c : ℝ} (hc : 0 < c) (hN : Ideal.ofBits .f32 N = (c : EReal)) (v : Fin n → EReal) (j : Fin n) :
    IsR (v j * rinv v N) := by
  obtain ⟨e, he, hb⟩ := Reals.eps_pos
  have hr : rinv v N = Ideal.rsqrt (msq c e v) := by unfold rinv msq; rw [hN, hb]
  by_cases h : ∀ k, IsR (v k)
  · rw [hr]; exact (h j).mul (isR_rsqrt hc he h)
  · obtain ⟨k, hk⟩ := not_forall.1 h
    have hkk : v k * v k = ⊤ := by
      generalize v k = x at hk
      induction x using EReal.rec with
      | bot => exact EReal.bot_mul_bot
      | coe r => exact absurd (coe r) hk
      | top => exact EReal.top_mul_top
    have hsum : ∑ e, v e * v e = ⊤ := top_le_iff.1
      (hkk ▸ Finset.single_le_sum (f := fun e => v e * v e) (fun _ _ => mul_self_nonneg' _) (Finset.mem_univ k))
    have : rinv v N = 0 := by
      rw [hr]; unfold msq
      rw [hsum, Ideal.div_coe hc.ne', EReal.top_mul_coe_of_pos (by positivity), EReal.top_add_coe, Ideal.rsqrt_top]
    rw [this, mul_zero]; exact coe 0

theorem k64 : Ideal.ofBits .f32 0x42800000#32 = ((64 : ℝ) : EReal) := by
  simp [Ideal.ofBits, Ideal.ieee, -EReal.coe_mul]; norm_num

theorem eighth : Ideal.ofBits .f32 0x3E000000#32 = ((1 / 8 : ℝ) : EReal) := by
  simp [Ideal.ofBits, Ideal.ieee, -EReal.coe_mul]; norm_num

end Cert.Kernel5Ideal.AttnValue

end
-- ==== Proof.AttnEq.lean ====
/-
  The attention's reference computes what its call computes.
-/
module

public import proofs.«01_k».proof.Proof.AttnRef
public import proofs.«01_k».proof.Proof.AttnMath

@[expose] public section

set_option maxRecDepth 16384

noncomputable section

namespace Cert.Kernel5Ideal.AttnValue

open Idealize.ShloMosaic Cert.Finite
open Cert.Kernel5Ideal (S8192x512 S8192x256 S8x128x256 S8 S64 S512)
open Cert.Reference5Ideal.Read

variable (zq : FVec Ideal S8192x512 .f32) (zkv : FVec Ideal S8192x256 .f32) (bias : FVec Ideal S8x128x256 .f32) (sinks : FVec Ideal S8 .f32)
  (qg kg : FVec Ideal S64 .f32) (og : FVec Ideal S512 .f32)

theorem isR_key (hk : ∀ i, IsR (kg i)) (t : Fin 8192) (a : Fin 2) (d : Fin 64) : IsR (keyAt zkv kg t a d) :=
  (isR_normed (by norm_num) k64 (fun e => zkv (ix2 t (kIn a e))) d).mul (hk _)

theorem isR_query (hq : ∀ i, IsR (qg i)) (t : Fin 8192) (a : Fin 2) (g : Fin 4) (d : Fin 64) : IsR (queryAt zq qg t a g d) :=
  (isR_normed (by norm_num) k64 (fun e => zq (ix2 t (hIn a g e))) d).mul (hq _)

theorem side_seen (n : Fin 64) (r k : Fin 128) : inWindow n r (side k r) ↔ k.val ≤ r.val ∨ 0 < n.val := by
  unfold inWindow side
  by_cases h : k.val ≤ r.val
  · rw [if_pos h]; show (128 + k.val ≤ _ ∧ _ < 128 + k.val ∧ (128 ≤ 128 + k.val ∨ _)) ↔ _; omega
  · rw [if_neg h]; show (k.val ≤ _ ∧ _ < k.val ∧ (128 ≤ k.val ∨ _)) ↔ _; omega

theorem score_ne_top (hb : ∀ i, IsR (bias i)) (hq : ∀ i, IsR (qg i)) (hk : ∀ i, IsR (kg i)) (n : Fin 64) (r : Fin 128) (a : Fin 2) (g : Fin 4)
    (k : Fin 128) : score zq zkv bias qg kg n r a g k ≠ ⊤ := by
  unfold score
  split
  · have h : IsR (∑ d, keyAt zkv kg (keyPos n r k) a d * (queryAt zq qg (pos n r) a g d * Ideal.ofBits .f32 0x3E000000#32)
        + bias (ix3 (head a g) r (side k r))) :=
      (IsR.sum _ fun d => (isR_key zkv kg hk _ a d).mul ((isR_query zq qg hq _ a g d).mul (eighth ▸ coe _))).add (hb _)
    obtain ⟨x, hx⟩ := h
    rw [hx]; exact EReal.coe_ne_top x
  · exact bot_ne_top

theorem ref_score_in (n : Fin 64) (a : Fin 2) (g : Fin 4) (r : Fin 128) (k : Fin 128) :
    val_main_v72 (F := Ideal) zq zkv bias qg kg (ix5 n a g r (side k r)) = score zq zkv bias qg kg n r a g k := by
  rw [ref_score]
  unfold score
  by_cases h : inWindow n r (side k r)
  · rw [if_pos h, if_pos ((side_seen n r k).1 h)]
    refine congrArg (· + _) ?_
    show _ * Ideal.ofBits .f32 0x3E000000#32 = _
    rw [eighth, mul_comm, Reals.mul_sum_of_real _ (by norm_num)]
    refine Finset.sum_congr rfl fun d _ => ?_
    rw [ref_keys zkv kg n r _ a d k rfl h, mul_comm, mul_assoc]
  · rw [if_neg h, if_neg (fun h' => h ((side_seen n r k).2 h'))]

theorem ref_score_out (n : Fin 64) (a : Fin 2) (g : Fin 4) (r : Fin 128) (j : Fin 256) (h : ¬ (r.val < j.val ∧ j.val ≤ r.val + 128)) :
    val_main_v72 (F := Ideal) zq zkv bias qg kg (ix5 n a g r j) = ⊥ := by
  rw [ref_score, if_neg]
  unfold inWindow
  omega

theorem ref_attn (hb : ∀ i, IsR (bias i)) (hs : ∀ i, IsR (sinks i)) (hq : ∀ i, IsR (qg i)) (hk : ∀ i, IsR (kg i)) :
    val_main_v92 (F := Ideal) zq zkv bias sinks qg kg = aOut zq zkv bias sinks qg kg := by
  funext i
  obtain ⟨t, c, rfl⟩ : ∃ t c, i = ix2 t c := ⟨i 0, i 1, eq_ix2 i⟩
  obtain ⟨n, r, rfl⟩ := split_row t
  obtain ⟨a, g, d, rfl⟩ := split_lane c
  rw [ref_out, aOut_at]
  simp only [ref_weight, ref_exp, ref_peak]
  refine mix_folded r (fun j => val_main_v72 (F := Ideal) zq zkv bias qg kg (ix5 n a g r j))
    (fun j => val_main_v63 (F := Ideal) zkv (ix4 n j a d)) _ _ _ (fun k => ref_score_in zq zkv bias qg kg n a g r k)
    (fun j h => ref_score_out zq zkv bias qg kg n a g r j h) (fun k h => ?_) (fun k => score_ne_top zq zkv bias qg kg hb hq hk n r a g k) (hs _)
  refine ref_values zkv n r _ a d k rfl ?_
  by_contra hw
  refine h ?_
  unfold score
  rw [if_neg (fun h' => hw ((side_seen n r k).2 h'))]

theorem ref_normed (hb : ∀ i, IsR (bias i)) (hs : ∀ i, IsR (sinks i)) (hq : ∀ i, IsR (qg i)) (hk : ∀ i, IsR (kg i)) :
    val_main_v106 (F := Ideal) zq zkv bias sinks qg kg og = mixOut zq zkv bias sinks qg kg og := by
  funext i
  obtain ⟨t, c, rfl⟩ : ∃ t c, i = ix2 t c := ⟨i 0, i 1, eq_ix2 i⟩
  rw [ref_mix, ref_attn zq zkv bias sinks qg kg hb hs hq hk]
  rfl

end Cert.Kernel5Ideal.AttnValue

end
-- ==== Proof.AttnWords.lean ====
/-
  The attention's forward kernel body: the arrays its run names are the blocks of `AttnBody`.
-/
module

public import proofs.«01_k».proof.Proof.AttnBody

@[expose] public section

set_option maxRecDepth 16384

noncomputable section

namespace Cert.Kernel5Ideal.AttnValue

open Cert.Kernel5Ideal Cert.Kernel5Ideal.Gen Idealize.ShloMosaic Idealize.ShloMosaic.TcCoe

section

variable (c : Dev nD) (i : grid0.Coords) (arg1 : Memref sig .tc .vmem S1024x512 .f32) (harg1 : arg1.IsWhole)
  (arg2 : Memref sig .tc .vmem S1024x256 .f32) (harg2 : arg2.IsWhole) (arg3 : Memref sig .tc .vmem S128x256 .f32) (harg3 : arg3.IsWhole)
  (arg4 : Memref sig .tc .vmem S2x128x512 .f32) (harg4 : arg4.IsWhole) (arg5 : Memref sig .tc .smem S8 .f32) (harg5 : arg5.IsWhole)
  (arg6 : Memref sig .tc .vmem S64x1 .f32) (harg6 : arg6.IsWhole) (arg7 : Memref sig .tc .vmem S1x64 .f32) (harg7 : arg7.IsWhole)
  (arg8 : Memref sig .tc .vmem S64x1 .f32) (harg8 : arg8.IsWhole) (arg9 : Memref sig .tc .vmem S1x512 .f32) (harg9 : arg9.IsWhole)
  (arg10 : Memref sig .tc .vmem S1024x512 .f32) (harg10 : arg10.IsWhole) (arg11 : Memref sig .tc .vmem S1024x512 .bf16) (harg11 : arg11.IsWhole)
  (x0 : FVec Ideal S1024x512 .f32) (x1 : FVec Ideal S1024x256 .f32) (x2 : FVec Ideal S128x256 .f32) (x3 : FVec Ideal S2x128x512 .f32)
  (x4 : FVec Ideal S8 .f32) (x5 : FVec Ideal S64x1 .f32) (x6 : FVec Ideal S1x64 .f32) (x7 : FVec Ideal S64x1 .f32) (x8 : FVec Ideal S1x512 .f32)

/-- Reading a block of rows. -/
theorem rows_in {w : ℕ} (n : Fin 8) : ∀ a, (![128 * n.val, 0] : Fin 2 → ℕ) a + (![128, w] : Fin 2 → ℕ) a ≤ (![1024, w] : Fin 2 → ℕ) a := by
  intro a
  have := n.isLt
  match a with
  | 0 => show 128 * n.val + 128 ≤ 1024; omega
  | 1 => show 0 + w ≤ w; omega

def qAt (n : Fin 8) : FVec Ideal S128x512 .f32 :=
  View.readAt (Elt Ideal) arg1.view (Rect.unit (s := S1024x512) ![128 * n.val, 0] S128x512.size (rows_in n)).toLoadRect (harg1.unread x0)

def kvAt (n : Fin 8) : FVec Ideal S128x256 .f32 :=
  View.readAt (Elt Ideal) arg2.view (Rect.unit (s := S1024x256) ![128 * n.val, 0] S128x256.size (rows_in n)).toLoadRect (harg2.unread x1)

def kvBefore : FVec Ideal S128x256 .f32 :=
  View.readAt (Elt Ideal) arg3.view (Rect.unit (s := S128x256) ![0, 0] S128x256.size inb_S128x256_S128x256_0_0).toLoadRect (harg3.unread x2)

def bias0 : FVec Ideal S1x128x512 .f32 :=
  View.readAt (Elt Ideal) arg4.view (Rect.unit (s := S2x128x512) ![0, 0, 0] S1x128x512.size inb_S2x128x512_S1x128x512_0_0_0).toLoadRect (harg4.unread x3)

def bias1 : FVec Ideal S1x128x512 .f32 :=
  View.readAt (Elt Ideal) arg4.view (Rect.unit (s := S2x128x512) ![1, 0, 0] S1x128x512.size inb_S2x128x512_S1x128x512_1_0_0).toLoadRect (harg4.unread x3)

theorem sink_in (n : Fin 8) : ∀ a, (![n.val] : Fin 1 → ℕ) a + (![1] : Fin 1 → ℕ) a ≤ (![8] : Fin 1 → ℕ) a := by
  intro a
  have := n.isLt
  match a with
  | 0 => show n.val + 1 ≤ 8; omega

def sinkAt (n : Fin 8) : EReal :=
  View.readAt (Elt Ideal) arg5.view (Rect.unit (s := S8) ![n.val] S1.size (sink_in n)).toLoadRect (harg5.unread x4) (Shape.Idx.first (lt_of_lt_of_eq Nat.one_pos numel1_S1.symm))

def qGain : FVec Ideal S64x1 .f32 :=
  View.readAt (Elt Ideal) arg6.view (Rect.unit (s := S64x1) ![0, 0] S64x1.size inb_S64x1_S64x1_0_0).toLoadRect (harg6.unread x5)

def kGain : FVec Ideal S1x64 .f32 :=
  View.readAt (Elt Ideal) arg7.view (Rect.unit (s := S1x64) ![0, 0] S1x64.size inb_S1x64_S1x64_0_0).toLoadRect (harg7.unread x6)

def oGain : FVec Ideal S1x512 .f32 :=
  View.readAt (Elt Ideal) arg9.view (Rect.unit (s := S1x512) ![0, 0] S1x512.size inb_S1x512_S1x512_0_0).toLoadRect (harg9.unread x8)

/-- A block of queries, as the run reads its rows. -/
def blockAt : Fin 8 → FVec Ideal S128x512 .f32
  | ⟨0, _⟩ => sub0 (Scalar.cmpi .sgt (BitVec.ofNat 32 (i 0).val) 0#32) (qAt arg1 harg1 x0 0) (kvBefore arg3 harg3 x2) (kvAt arg2 harg2 x1 0)
      (bias0 arg4 harg4 x3) (bias1 arg4 harg4 x3) (sinkAt arg5 harg5 x4) (qGain arg6 harg6 x5) (kGain arg7 harg7 x6)
  | ⟨n + 1, h⟩ => sub (qAt arg1 harg1 x0 ⟨n + 1, h⟩) (kvAt arg2 harg2 x1 ⟨n, by omega⟩) (kvAt arg2 harg2 x1 ⟨n + 1, h⟩)
      (bias0 arg4 harg4 x3) (bias1 arg4 harg4 x3) (sinkAt arg5 harg5 x4) (qGain arg6 harg6 x5) (kGain arg7 harg7 x6)

/-- The eight blocks' pieces of an output, last first. -/
def pieces {e : EltTy} (f : Fin 8 → S128x512.Idx → Elt Ideal e) : List (View.Piece (Elt Ideal) S1024x512 e) :=
  [7, 6, 5, 4, 3, 2, 1, 0].map fun n => ⟨Rect.unit (s := S1024x512) ![128 * n.val, 0] S128x512.size (rows_in n), f n⟩

theorem out_a : out0_A_9 (F := Ideal) c i arg1 harg1 arg2 harg2 arg3 harg3 arg4 harg4 arg5 harg5 arg6 harg6 arg7 harg7 arg8 harg8 arg9 harg9
      arg10 harg10 arg11 harg11 x0 x1 x2 x3 x4 x5 x6 x7 x8
    = View.canon (pieces (e := .f32) (blockAt i arg1 harg1 arg2 harg2 arg3 harg3 arg4 harg4 arg5 harg5 arg6 harg6 arg7 harg7 x0 x1 x2 x3 x4 x5 x6)) := by
  unfold out0_A_9
  rw [View.read_writes_junk_eq_canon]
  refine congrArg View.canon ?_
  rfl

theorem out_mix : out0_A_10 (F := Ideal) c i arg1 harg1 arg2 harg2 arg3 harg3 arg4 harg4 arg5 harg5 arg6 harg6 arg7 harg7 arg8 harg8 arg9 harg9
      arg10 harg10 arg11 harg11 x0 x1 x2 x3 x4 x5 x6 x7 x8
    = View.canon (pieces (e := .bf16) fun n => postNorm (blockAt i arg1 harg1 arg2 harg2 arg3 harg3 arg4 harg4 arg5 harg5 arg6 harg6 arg7 harg7 x0 x1 x2 x3 x4 x5 x6 n)
        (oGain arg9 harg9 x8)) := by
  unfold out0_A_10
  rw [View.read_writes_junk_eq_canon]
  refine congrArg View.canon ?_
  rfl

end

end Cert.Kernel5Ideal.AttnValue

end
-- ==== Proof.AttnBlock.lean ====
/-
  A grid point's blocks of queries are blocks of the attention's output.
-/
module

public import proofs.«01_k».proof.Proof.AttnSpec
public import proofs.«01_k».proof.Proof.AttnWords

@[expose] public section

set_option maxRecDepth 16384

noncomputable section

namespace Cert.Kernel5Ideal.AttnValue

open Cert.Kernel5Ideal Cert.Kernel5Ideal.Gen Idealize.ShloMosaic Idealize.ShloMosaic.TcCoe

section

variable (i : grid0.Coords) (arg1 : Memref sig .tc .vmem S1024x512 .f32) (harg1 : arg1.IsWhole)
  (arg2 : Memref sig .tc .vmem S1024x256 .f32) (harg2 : arg2.IsWhole) (arg3 : Memref sig .tc .vmem S128x256 .f32) (harg3 : arg3.IsWhole)
  (arg4 : Memref sig .tc .vmem S2x128x512 .f32) (harg4 : arg4.IsWhole) (arg5 : Memref sig .tc .smem S8 .f32) (harg5 : arg5.IsWhole)
  (arg6 : Memref sig .tc .vmem S64x1 .f32) (harg6 : arg6.IsWhole) (arg7 : Memref sig .tc .vmem S1x64 .f32) (harg7 : arg7.IsWhole)
  (arg9 : Memref sig .tc .vmem S1x512 .f32) (harg9 : arg9.IsWhole)
  (x0 : FVec Ideal S1024x512 .f32) (x1 : FVec Ideal S1024x256 .f32) (x2 : FVec Ideal S128x256 .f32) (x3 : FVec Ideal S2x128x512 .f32)
  (x4 : FVec Ideal S8 .f32) (x5 : FVec Ideal S64x1 .f32) (x6 : FVec Ideal S1x64 .f32) (x8 : FVec Ideal S1x512 .f32)

/-- A row of a grid point's rows. -/
def inRows (n : Fin 8) (r : Fin 128) : Fin 1024 := ⟨128 * n.val + r.val, by omega⟩

theorem qAt_at (n : Fin 8) (r : Fin 128) (c : Fin 512) : qAt arg1 harg1 x0 n (ix2 r c) = x0 (ix2 (inRows n r) c) := by
  unfold qAt inRows
  rw [View.readAt_eq_ld, harg1.read_unread]
  pointwise []

theorem kvAt_at (n : Fin 8) (r : Fin 128) (c : Fin 256) : kvAt arg2 harg2 x1 n (ix2 r c) = x1 (ix2 (inRows n r) c) := by
  unfold kvAt inRows
  rw [View.readAt_eq_ld, harg2.read_unread]
  pointwise []

theorem kvBefore_at (r : Fin 128) (c : Fin 256) : kvBefore arg3 harg3 x2 (ix2 r c) = x2 (ix2 r c) := by
  unfold kvBefore
  rw [View.readAt_eq_ld, harg3.read_unread]
  pointwise []

theorem bias_at (a : Fin 2) (k : Fin 128) (c : Fin 512) : (if a = 0 then bias0 arg4 harg4 x3 else bias1 arg4 harg4 x3) (ix3 0 k c) = x3 (ix3 a k c) := by
  fin_cases a
  · show bias0 arg4 harg4 x3 (ix3 0 k c) = _
    unfold bias0
    rw [View.readAt_eq_ld, harg4.read_unread]
    pointwise []
  · show bias1 arg4 harg4 x3 (ix3 0 k c) = _
    unfold bias1
    rw [View.readAt_eq_ld, harg4.read_unread]
    pointwise []

theorem sinkAt_at (n : Fin 8) : sinkAt arg5 harg5 x4 n = x4 (ix1 n) := by
  unfold sinkAt
  rw [View.readAt_eq_ld, harg5.read_unread]
  pointwise []

theorem qGain_at (d : Fin 64) : qGain arg6 harg6 x5 (ix2 d 0) = x5 (ix2 d 0) := by
  unfold qGain
  rw [View.readAt_eq_ld, harg6.read_unread]
  pointwise []

theorem kGain_at (d : Fin 64) : kGain arg7 harg7 x6 (ix2 0 d) = x6 (ix2 0 d) := by
  unfold kGain
  rw [View.readAt_eq_ld, harg7.read_unread]
  pointwise []

theorem oGain_at (d : Fin 512) : oGain arg9 harg9 x8 (ix2 0 d) = x8 (ix2 0 d) := by
  unfold oGain
  rw [View.readAt_eq_ld, harg9.read_unread]
  pointwise []

end

section

variable {zq : FVec Ideal S8192x512 .f32} {zkv : FVec Ideal S8192x256 .f32} {bias : FVec Ideal S8x128x256 .f32} {sinks : FVec Ideal S8 .f32}
  {qg kg : FVec Ideal S64 .f32} {q : FVec Ideal S128x512 .f32} {kp kc : FVec Ideal S128x256 .f32} {b0 b1 : FVec Ideal S1x128x512 .f32}
  {s : Fin 8 → EReal} {qc : FVec Ideal S64x1 .f32} {kr : FVec Ideal S1x64 .f32} {n : Fin 64}
  (hq : ∀ r c, q (ix2 r c) = zq (ix2 (pos n r) c)) (hc : ∀ k c, kc (ix2 k c) = zkv (ix2 (pos n k) c))
  (hp : ∀ k c, kp (ix2 k c) = zkv (ix2 (pos (before n) k) c))
  (hb : ∀ (a : Fin 2) (g : Fin 4) (r k : Fin 128), (if a = 0 then b0 else b1) (ix3 0 k (col g r)) = bias (ix3 (head a g) r (side k r)))
  (hs : ∀ h, s h = sinks (ix1 h)) (hqg : ∀ d, qc (ix2 d 0) = qg (ix1 d)) (hkg : ∀ d, kr (ix2 0 d) = kg (ix1 d))

include hq hc hp hb hqg hkg in
theorem score_block (a : Fin 2) (g : Fin 4) (r k : Fin 128) : scoreOf q kp kc b0 b1 qc kr a g r k
    = ∑ d, keyAt zkv kg (keyPos n r k) a d * (queryAt zq qg (pos n r) a g d * Ideal.ofBits .f32 0x3E000000#32) + bias (ix3 (head a g) r (side k r)) := by
  unfold scoreOf
  rw [hb]
  refine congrArg (· + _) ?_
  have e : ∀ d, queryOf q qc r a g d = queryAt zq qg (pos n r) a g d * Ideal.ofBits .f32 0x3E000000#32 := fun d => by
    unfold queryOf queryAt
    simp only [hq, hqg]
  unfold keyPos keyOf keyAt
  simp only [hc, hp, hkg, e]
  split_ifs <;> rfl

include hc hp in
theorem value_block (a : Fin 2) (d : Fin 64) (r k : Fin 128) :
    (if k.val ≤ r.val then kc (ix2 k (vIn a d)) else kp (ix2 k (vIn a d))) = valueAt zkv (keyPos n r k) a d := by
  unfold keyPos valueAt
  simp only [hc, hp]
  split_ifs <;> rfl

include hq hc hp hb hs hqg hkg in
theorem sub_block (hn : 0 < n.val) (r : Fin 128) (a : Fin 2) (g : Fin 4) (d : Fin 64) :
    sub q kp kc b0 b1 s qc kr (ix2 r (hIn a g d)) = attn zq zkv bias sinks qg kg n r a g d := by
  rw [sub_at]
  simp only [value_block hc hp, hs]
  unfold attn
  refine congrArg (fun f => mixOf f _ _) (funext fun k => ?_)
  rw [score_block hq hc hp hb hqg hkg]
  exact (if_pos (Or.inr hn)).symm

include hq hc hp hb hs hqg hkg in
theorem sub0_block (h : BitVec 1) (hh : h = 1#1 ↔ 0 < n.val) (r : Fin 128) (a : Fin 2) (g : Fin 4) (d : Fin 64) :
    sub0 h q kp kc b0 b1 s qc kr (ix2 r (hIn a g d)) = attn zq zkv bias sinks qg kg n r a g d := by
  rw [sub0_at]
  simp only [value_block hc hp, hs, hh]
  unfold attn
  refine congrArg (fun f => mixOf f _ _) (funext fun k => ?_)
  rw [score_block hq hc hp hb hqg hkg]
  rfl

end

section

variable {zq : FVec Ideal S8192x512 .f32} {zkv : FVec Ideal S8192x256 .f32} {bias : FVec Ideal S8x128x256 .f32} {sinks : FVec Ideal S8 .f32}
  {qg kg : FVec Ideal S64 .f32}
  (i : grid0.Coords) (arg1 : Memref sig .tc .vmem S1024x512 .f32) (harg1 : arg1.IsWhole)
  (arg2 : Memref sig .tc .vmem S1024x256 .f32) (harg2 : arg2.IsWhole) (arg3 : Memref sig .tc .vmem S128x256 .f32) (harg3 : arg3.IsWhole)
  (arg4 : Memref sig .tc .vmem S2x128x512 .f32) (harg4 : arg4.IsWhole) (arg5 : Memref sig .tc .smem S8 .f32) (harg5 : arg5.IsWhole)
  (arg6 : Memref sig .tc .vmem S64x1 .f32) (harg6 : arg6.IsWhole) (arg7 : Memref sig .tc .vmem S1x64 .f32) (harg7 : arg7.IsWhole)
  (x0 : FVec Ideal S1024x512 .f32) (x1 : FVec Ideal S1024x256 .f32) (x2 : FVec Ideal S128x256 .f32) (x3 : FVec Ideal S2x128x512 .f32)
  (x5 : FVec Ideal S64x1 .f32) (x6 : FVec Ideal S1x64 .f32)

/-- The block of the sequence that a grid point's block is; the sequence's position that a grid point's row is. -/
def blockOf (t n : Fin 8) : Fin 64 := ⟨t.val * 8 + n.val, by omega⟩
def rowOf (t : Fin 8) (r : Fin 1024) : Fin 8192 := ⟨t.val * 1024 + r.val, by omega⟩

theorem rowOf_inRows (t n : Fin 8) (r : Fin 128) : rowOf t (inRows n r) = pos (blockOf t n) r :=
  Fin.ext (by show t.val * 1024 + (128 * n.val + r.val) = (t.val * 8 + n.val) * 128 + r.val; omega)

theorem has_before : ∀ t : Fin 8, Scalar.cmpi .sgt (BitVec.ofNat 32 t.val) 0#32 = 1#1 ↔ 0 < (blockOf t 0).val := by
  decide

theorem block_at (t : Fin 8) (hi : (i 0).val = t.val) (h0 : ∀ r c, x0 (ix2 r c) = zq (ix2 (rowOf t r) c))
    (h1 : ∀ r c, x1 (ix2 r c) = zkv (ix2 (rowOf t r) c)) (h2 : ∀ r c, x2 (ix2 r c) = zkv (ix2 (pos (before (blockOf t 0)) r) c))
    (h3 : ∀ (a : Fin 2) (g : Fin 4) (r k : Fin 128), x3 (ix3 a k (col g r)) = bias (ix3 (head a g) r (side k r)))
    (h5 : ∀ d, x5 (ix2 d 0) = qg (ix1 d)) (h6 : ∀ d, x6 (ix2 0 d) = kg (ix1 d))
    (n : Fin 8) (r : Fin 128) (a : Fin 2) (g : Fin 4) (d : Fin 64) :
    blockAt i arg1 harg1 arg2 harg2 arg3 harg3 arg4 harg4 arg5 harg5 arg6 harg6 arg7 harg7 x0 x1 x2 x3 sinks x5 x6 n (ix2 r (hIn a g d))
      = attn zq zkv bias sinks qg kg (blockOf t n) r a g d := by
  have hq : ∀ n r c, qAt arg1 harg1 x0 n (ix2 r c) = zq (ix2 (pos (blockOf t n) r) c) := fun n r c => by
    rw [qAt_at, h0, rowOf_inRows]
  have hk : ∀ n r c, kvAt arg2 harg2 x1 n (ix2 r c) = zkv (ix2 (pos (blockOf t n) r) c) := fun n r c => by
    rw [kvAt_at, h1, rowOf_inRows]
  have hb : ∀ (a : Fin 2) (g : Fin 4) (r k : Fin 128), (if a = 0 then bias0 arg4 harg4 x3 else bias1 arg4 harg4 x3) (ix3 0 k (col g r))
      = bias (ix3 (head a g) r (side k r)) := fun a g r k => by
    rw [bias_at, h3]
  match n with
  | ⟨0, h⟩ =>
    refine sub0_block (hq _) (hk _) (fun k c => (kvBefore_at arg3 harg3 x2 k c).trans (h2 k c)) hb (sinkAt_at arg5 harg5 sinks)
      (fun d => (qGain_at arg6 harg6 x5 d).trans (h5 d)) (fun d => (kGain_at arg7 harg7 x6 d).trans (h6 d)) _ ?_ r a g d
    rw [hi]
    exact has_before t
  | ⟨j + 1, h⟩ =>
    refine sub_block (hq _) (hk _) (fun k c => (hk _ k c).trans ?_) hb (sinkAt_at arg5 harg5 sinks)
      (fun d => (qGain_at arg6 harg6 x5 d).trans (h5 d)) (fun d => (kGain_at arg7 harg7 x6 d).trans (h6 d)) (by show 0 < t.val * 8 + (j + 1); omega) r a g d
    exact congrArg (fun b => zkv (ix2 (pos b k) c)) (Fin.ext (by show t.val * 8 + j = t.val * 8 + (j + 1) - 1; omega))

end

end Cert.Kernel5Ideal.AttnValue

end
-- ==== Proof.AttnFinal.lean ====
/-
  The attention's forward call: the arrays the host prepares, and the arrays the run leaves.
-/
module

public import proofs.«01_k».proof.Proof.AttnBlock
public import Idealize.ShloMosaic.Lib.Claim

@[expose] public section

set_option maxRecDepth 16384

noncomputable section

namespace Cert.Kernel5Ideal.AttnValue

open Cert.Kernel5Ideal Cert.Kernel5Ideal.Gen Idealize.ShloMosaic Idealize.ShloMosaic.TcCoe Idealize.SL.Sem
open Idealize.ShloMosaic.Pipeline (Dat)

/-- Eight blocks of rows make up an array when each is a block of it. -/
theorem canon_pieces {e : EltTy} (f : Fin 8 → S128x512.Idx → Elt Ideal e) (G : S1024x512.Idx → Elt Ideal e)
    (hf : ∀ n r c, f n (ix2 r c) = G (ix2 (inRows n r) c)) : View.canon (pieces f) = G := by
  have hemb : ∀ (n : Fin 8) (r : Fin 128) (c : Fin 512),
      (Rect.unit (s := S1024x512) ![128 * n.val, 0] S128x512.size (rows_in n)).emb (ix2 r c) = ix2 (inRows n r) c := fun n r c => by
    unfold inRows
    blk_point []
  funext y
  refine View.canon_apply_of_pieces (Val := Elt Ideal) (e := e) G _ ?_ y ?_
  · intro pc hpc x
    obtain ⟨n, _, rfl⟩ := List.mem_map.mp hpc
    obtain ⟨r, c, rfl⟩ : ∃ (r : Fin 128) (c : Fin 512), x = ix2 r c := ⟨x 0, x 1, eq_ix2 x⟩
    exact (hf n r c).trans (congrArg G (hemb n r c).symm)
  · obtain ⟨t, c, rfl⟩ : ∃ (t : Fin 1024) (c : Fin 512), y = ix2 t c := ⟨y 0, y 1, eq_ix2 y⟩
    have ht : t = inRows ⟨t.val / 128, by omega⟩ ⟨t.val % 128, by omega⟩ :=
      Fin.ext (by show t.val = 128 * (t.val / 128) + t.val % 128; omega)
    refine ⟨_, List.mem_map.mpr ⟨⟨t.val / 128, by omega⟩, ?_, rfl⟩, ?_⟩
    · generalize (⟨t.val / 128, by omega⟩ : Fin 8) = n
      revert n
      decide
    · have hm := (Rect.unit (s := S1024x512) ![128 * (t.val / 128), 0] S128x512.size (rows_in ⟨t.val / 128, by omega⟩)).idx_mem
        (ix2 (⟨t.val % 128, Nat.mod_lt _ (by decide)⟩ : Fin 128) c)
      exact ((hemb ⟨t.val / 128, by omega⟩ ⟨t.val % 128, by omega⟩ c).trans (congrArg (fun z => ix2 z c) ht.symm)) ▸ hm

variable (m : (ℓ : Loc nD τ sig) → Buf (Elt Ideal) ℓ)

/-- The call's arguments on a device. -/
abbrev A0 (c : Dev nD) : FVec Ideal S8192x512 .f32 := m ((c : Thread nD τ).loc main_arg0)
abbrev A1 (c : Dev nD) : FVec Ideal S8192x256 .f32 := m ((c : Thread nD τ).loc main_arg1)
abbrev A2 (c : Dev nD) : FVec Ideal S8x128x256 .f32 := m ((c : Thread nD τ).loc main_arg2)
abbrev A3 (c : Dev nD) : FVec Ideal S8 .f32 := m ((c : Thread nD τ).loc main_arg3)
abbrev A4 (c : Dev nD) : FVec Ideal S64 .f32 := m ((c : Thread nD τ).loc main_arg4)
abbrev A5 (c : Dev nD) : FVec Ideal S64 .f32 := m ((c : Thread nD τ).loc main_arg5)
abbrev A6 (c : Dev nD) : FVec Ideal S512 .f32 := m ((c : Thread nD τ).loc main_arg6)

abbrev ops : List (HloOp τ sig (Elt Ideal)) := List.flatten [hostOps0, hostOps0_1, hostOps0_2]

/-- The folded bias and the factors the host lays out for the call. -/
def hostBias (c : Dev nD) : FVec Ideal S2x128x512 .f32 := StableHlo.after (ops) (fun b => m (c, b)) (Proc.tc.devRef main_v8)
def hostQ (c : Dev nD) : FVec Ideal S64x1 .f32 := StableHlo.after (ops) (fun b => m (c, b)) (Proc.tc.devRef main_v12)
def hostK (c : Dev nD) : FVec Ideal S1x64 .f32 := StableHlo.after (ops) (fun b => m (c, b)) (Proc.tc.devRef main_v10)
def hostO (c : Dev nD) : FVec Ideal S1x512 .f32 := StableHlo.after (ops) (fun b => m (c, b)) (Proc.tc.devRef main_v11)

theorem host_q (c : Dev nD) (d : Fin 64) : hostQ m c (ix2 d 0) = A4 m c (ix1 d) := by
  unfold hostQ ops
  simp only [List.flatten_cons, List.flatten_nil, List.cons_append, List.nil_append]
  after_results_simp
  pointwise []

theorem host_k (c : Dev nD) (d : Fin 64) : hostK m c (ix2 0 d) = A5 m c (ix1 d) := by
  unfold hostK ops
  simp only [List.flatten_cons, List.flatten_nil, List.cons_append, List.nil_append]
  after_results_simp
  pointwise []

theorem host_o (c : Dev nD) (d : Fin 512) : hostO m c (ix2 0 d) = A6 m c (ix1 d) := by
  unfold hostO ops
  simp only [List.flatten_cons, List.flatten_nil, List.cons_append, List.nil_append]
  after_results_simp
  pointwise []

theorem host_bias (c : Dev nD) (a : Fin 2) (g : Fin 4) (r k : Fin 128) :
    hostBias m c (ix3 a k (col g r)) = A2 m c (ix3 (head a g) r (side k r)) := by
  unfold hostBias ops col head
  simp only [List.flatten_cons, List.flatten_nil, List.cons_append, List.nil_append]
  after_results_simp
  pointwise []
  show select (broadcastInDim S8x128x128 ![1, 2] bcast_S128x128_S8x128x128_1_2 (cmpi CmpIPredicate.sle (iotaInDim S128x128 32 1) (iotaInDim S128x128 32 0)))
      (extractStridedSlice S8x128x128 ![0, 0, 128] (A2 m c) slices_S8x128x256_S8x128x128_0_0_128)
      (extractStridedSlice S8x128x128 ![0, 0, 0] (A2 m c) slices_S8x128x256_S8x128x128_0_0_0) (ix3 ⟨a.val * 4 + g.val, by omega⟩ r k) = _
  pointwise []
  rw [up_to, WordCmp.select_decide]
  unfold side
  split_ifs with h
  · exact congrArg (A2 m c) (congrArg (ix3 _ r) (Fin.ext (by omega)))
  · exact congrArg (A2 m c) (congrArg (ix3 _ r) (Fin.ext (by omega)))

theorem idx : ∀ t : Fin cfg0.N, win0_0.index t = ![t.val, 0] ∧ win0_1.index t = ![t.val, 0] ∧ win0_2.index t = ![8 * t.val - 1, 0]
    ∧ win0_3.index t = ![0, 0, 0] ∧ win0_4.index t = ![0] ∧ win0_5.index t = ![0, 0] ∧ win0_6.index t = ![0, 0] ∧ win0_8.index t = ![0, 0]
    ∧ win0_9.index t = ![t.val, 0] ∧ win0_10.index t = ![t.val, 0] :=
  (by decide +kernel : ∀ t : Fin grid0.N, _)

/-- A grid point as the number of its rows' block. -/
def pt (t : Fin cfg0.N) : Fin 8 := ⟨t.val, lt_of_lt_of_eq t.isLt N_0⟩

theorem coord : ∀ t : Fin cfg0.N, (grid0.coords t 0).val = t.val :=
  (by decide +kernel : ∀ t : Fin grid0.N, _)

theorem in_0 (c : Dev nD) (t : Fin cfg0.N) (r : Fin 1024) (l : Fin 512) : iblk m c 0 t (ix2 r l) = A0 m c (ix2 (rowOf (pt t) r) l) := by
  unfold rowOf pt; blk_point [iblk, V, idx t]

theorem in_1 (c : Dev nD) (t : Fin cfg0.N) (r : Fin 1024) (l : Fin 256) : iblk m c 1 t (ix2 r l) = A1 m c (ix2 (rowOf (pt t) r) l) := by
  unfold rowOf pt; blk_point [iblk, V, idx t]

theorem in_2 (c : Dev nD) (t : Fin cfg0.N) (r : Fin 128) (l : Fin 256) :
    iblk m c 2 t (ix2 r l) = A1 m c (ix2 (pos (before (blockOf (pt t) 0)) r) l) := by
  unfold pos before blockOf pt; blk_point [iblk, V, idx t]

theorem in_4 (c : Dev nD) (t : Fin cfg0.N) : iblk m c 4 t = A3 m c := by
  funext j; blk_point [iblk, V, idx t]

theorem e_3 (t : Fin cfg0.N) (j : S2x128x512.Idx) : ((View.whole main_v8).slice (win0_3.rect t)).emb j = j := by
  blk_point [idx t]

theorem e_5 (t : Fin cfg0.N) (j : S64x1.Idx) : ((View.whole main_v12).slice (win0_5.rect t)).emb j = j := by
  blk_point [idx t]

theorem e_6 (t : Fin cfg0.N) (j : S1x64.Idx) : ((View.whole main_v10).slice (win0_6.rect t)).emb j = j := by
  blk_point [idx t]

theorem e_8 (t : Fin cfg0.N) (j : S1x512.Idx) : ((View.whole main_v11).slice (win0_8.rect t)).emb j = j := by
  blk_point [idx t]

theorem in_3_host (c : Dev nD) (t : Fin cfg0.N) : iblk m c 3 t = fun j : S2x128x512.Idx =>
    hostBias m c (((View.whole main_v8).slice (win0_3.rect t)).emb j) := rfl

theorem in_5_host (c : Dev nD) (t : Fin cfg0.N) : iblk m c 5 t = fun j : S64x1.Idx =>
    hostQ m c (((View.whole main_v12).slice (win0_5.rect t)).emb j) := rfl

theorem in_6_host (c : Dev nD) (t : Fin cfg0.N) : iblk m c 6 t = fun j : S1x64.Idx =>
    hostK m c (((View.whole main_v10).slice (win0_6.rect t)).emb j) := rfl

theorem in_8_host (c : Dev nD) (t : Fin cfg0.N) : iblk m c 8 t = fun j : S1x512.Idx =>
    hostO m c (((View.whole main_v11).slice (win0_8.rect t)).emb j) := rfl

theorem in_3 (c : Dev nD) (t : Fin cfg0.N) : iblk m c 3 t = hostBias m c := by
  rw [in_3_host]; exact funext fun j => congrArg (hostBias m c) (e_3 t j)

theorem in_5 (c : Dev nD) (t : Fin cfg0.N) : iblk m c 5 t = hostQ m c := by
  rw [in_5_host]; exact funext fun j => congrArg (hostQ m c) (e_5 t j)

theorem in_6 (c : Dev nD) (t : Fin cfg0.N) : iblk m c 6 t = hostK m c := by
  rw [in_6_host]; exact funext fun j => congrArg (hostK m c) (e_6 t j)

theorem in_8 (c : Dev nD) (t : Fin cfg0.N) : iblk m c 8 t = hostO m c := by
  rw [in_8_host]; exact funext fun j => congrArg (hostO m c) (e_8 t j)

theorem o_9 (t : Fin cfg0.N) (y : S1024x512.Idx) :
    ix2 (rowOf (pt t) (y 0)) (y 1) = ((View.whole main_v14_0).slice (win0_9.rect t)).emb y := by
  unfold rowOf pt; blk_point [idx t]

theorem o_10 (t : Fin cfg0.N) (y : S1024x512.Idx) :
    ix2 (rowOf (pt t) (y 0)) (y 1) = ((View.whole main_v14_1).slice (win0_10.rect t)).emb y := by
  unfold rowOf pt; blk_point [idx t]

abbrev aFinal (c : Dev nD) : FVec Ideal S8192x512 .f32 := aOut (A0 m c) (A1 m c) (A2 m c) (A3 m c) (A4 m c) (A5 m c)
abbrev mixFinal (c : Dev nD) : FVec Ideal S8192x512 .bf16 := mixOut (A0 m c) (A1 m c) (A2 m c) (A3 m c) (A4 m c) (A5 m c) (A6 m c)

theorem block (c : Dev nD) (t : Fin cfg0.N) (n : Fin 8) (r : Fin 128) (l : Fin 512) :
    blockAt (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (iblk m c 0 t) (iblk m c 1 t) (iblk m c 2 t) (iblk m c 3 t) (iblk m c 4 t) (iblk m c 5 t) (iblk m c 6 t) n (ix2 r l)
      = aFinal m c (ix2 (rowOf (pt t) (inRows n r)) l) := by
  obtain ⟨a, g, d, rfl⟩ := split_lane l
  rw [rowOf_inRows]
  refine Eq.trans ?_ (aOut_at _ _ _ _ _ _ _ r a g d).symm
  rw [in_4]
  refine block_at _ _ _ _ _ _ _ _ _ _ _ _ _ _ _ _ _ _ _ _ _ (pt t) (coord t) (in_0 m c t) (in_1 m c t) (in_2 m c t) ?_ ?_ ?_ n r a g d
  · rw [in_3]; exact host_bias m c
  · rw [in_5]; exact host_q m c
  · rw [in_6]; exact host_k m c

theorem final_a (c : Dev nD) : (dats m 0 c).arrAt 9 cfg0.N = aFinal m c := by
  refine (dats m 0 c).arrAt_eq_of_covers 9 _ (by decide +kernel) fun t _ y => ?_
  blk_simp
  rw [after0_9]
  unfold outsAt0
  dsimp only
  rw [out_a, canon_pieces _ (fun j => aFinal m c (ix2 (rowOf (pt t) (j 0)) (j 1))) (block m c t)]
  exact congrArg (aFinal m c) (o_9 t y)

theorem final_mix (c : Dev nD) : (dats m 0 c).arrAt 10 cfg0.N = mixFinal m c := by
  refine (dats m 0 c).arrAt_eq_of_covers 10 _ (by decide +kernel) fun t _ y => ?_
  blk_simp
  rw [after0_10]
  unfold outsAt0
  dsimp only
  rw [out_mix, canon_pieces _ (fun j => mixFinal m c (ix2 (rowOf (pt t) (j 0)) (j 1))) fun n r l => ?_]
  · exact congrArg (mixFinal m c) (o_10 t y)
  · rw [postNorm_at, oGain_at, in_8, host_o]
    simp only [block]
    rfl

end Cert.Kernel5Ideal.AttnValue

end
-- ==== Proof.AttnClaims.lean ====
/-
  The claims about the attention's forward call: frames and, for a finite bias and finite sinks and gains, agreement with
  its reference.
-/
module

public import proofs.«01_k».proof.Defs
public import proofs.«01_k».proof.Proof.AttnEq
public import proofs.«01_k».proof.Proof.AttnFinal
public import proofs.«01_k».proof.Proof.Gen.Kernel5.Frame
public import proofs.«01_k».proof.Proof.Gen.Reference5Ideal.Run

@[expose] public section

set_option maxRecDepth 16384

noncomputable section

namespace Cert.AttnClaims

open Idealize.ShloMosaic Idealize.ShloMosaic.TcCoe Idealize.SL.Sem Cert.Kernel5Ideal.AttnValue Cert.Finite

theorem frame_kernel : Cert.quiescent_Kernel5 := fun m ρ _ => Cert.Kernel5.Gen.frame m ρ

theorem frame_ideal : Cert.quiescent_Kernel5Ideal := fun m ρ _ => Cert.Kernel5Ideal.Gen.frame m ρ

theorem frame_reference : Cert.quiescent_Reference5Ideal := fun m ρ _ =>
  (θ_run Cert.Reference5Ideal.defs _ _).mono
    (fun r h => ⟨fun c => (h c).2.2, sem_eq_zero_of_no_sems (by decide) r.2⟩)
    (Cert.Reference5Ideal.Value.run (F := Ideal) m ρ)

theorem preserves : Cert.preserves_Kernel5_Kernel5Ideal := IdealRules.named_const.statement _ _ _ _ _ rfl

section

variable [hPre : Cert.Pre_finite5.Facts]

theorem frame_ideal_finite : Cert.quiescent_Kernel5Ideal_pre_finite5 := fun m ρ _ => frame_ideal m ρ trivial

theorem frame_reference_finite : Cert.quiescent_Reference5Ideal_pre_finite5 := fun m ρ _ => frame_reference m ρ trivial

theorem algebraic : Cert.algebraic_Kernel5Ideal_Reference5Ideal_pre_finite5 := by
  intro m g m' g' hfin hagree
  refine ⟨fun c => (Cert.Kernel5Ideal.Gen.dats m 0 c).arrAt 9 _, fun c => (Cert.Kernel5Ideal.Gen.dats m 0 c).arrAt 10 _,
    Cert.Kernel5Ideal.Value.run_blocks m g, ?_⟩
  refine (θ_run Cert.Reference5Ideal.defs _ _).mono (fun r h c => ?_) (Cert.Reference5Ideal.Value.run (F := Ideal) m' g')
  obtain ⟨h92, h106, hargs⟩ := h c
  obtain ⟨a0, a1, a2, a3, a4, a5, a6⟩ := hagree c
  obtain ⟨f2, f3, f4, f5⟩ := hfin c
  refine ⟨(h92.trans (Cert.Reference5Ideal.Read.val_main_v92_eq m' c)).trans ?_,
    (h106.trans (Cert.Reference5Ideal.Read.val_main_v106_eq m' c)).trans ?_, hargs⟩
  · rw [a0, a1, a2, a3, a4, a5]
    exact (ref_attn _ _ _ _ _ _ (isR_of_finite f2) (isR_of_finite f3) (isR_of_finite f4) (isR_of_finite f5)).trans (final_a m c).symm
  · rw [a0, a1, a2, a3, a4, a5, a6]
    exact (ref_normed _ _ _ _ _ _ _ (isR_of_finite f2) (isR_of_finite f3) (isR_of_finite f4) (isR_of_finite f5)).trans (final_mix m c).symm

end

end Cert.AttnClaims

end
-- ==== Proof.ConvWin.lean ====
/-
  Reading back the convolution's two scratch buffers: the padded rows, and the slab of them one residue of taps reads.
-/
module

public import proofs.«01_k».proof.Proof.Rows
public import proofs.«01_k».proof.Proof.Gen.Kernel6Ideal.Skeleton
public import Idealize.ShloMosaic.Lib.Pipeline.ValueKit
public import Idealize.ShloMosaic.Lib.Pipeline.FrameBody

@[expose] public section

set_option maxRecDepth 16384

noncomputable section

namespace Cert.Kernel6Ideal.ConvWin

open Cert.Kernel6Ideal Cert.Kernel6Ideal.Gen Idealize.ShloMosaic Idealize.ShloMosaic.TcCoe

/-- `n` rows of a column-indexed family from row `o`. -/
def win (B : ℕ → Fin 512 → EReal) (n o : ℕ) : FVec Ideal ⟨2, ![n, 512]⟩ .f32 := fun j => B (o + (j 0).val) (j 1)

/-- Rows `o …` of an array of rows. -/
def shift {n : ℕ} (p : FVec Ideal ⟨2, ![n, 512]⟩ .f32) (o : ℕ) (h : o + 64 ≤ n) : FVec Ideal S64x512 .f32 := fun j =>
  p (ix2 (⟨o + (j 0).val, lt_of_lt_of_le (Nat.add_lt_add_left (j 0).isLt o) h⟩ : Fin n) (j 1))

theorem shift_win {n : ℕ} (B : ℕ → Fin 512 → EReal) (o q : ℕ) (h : q + 64 ≤ n) : shift (win B n o) q h = win B 64 (o + q) := by
  funext j
  exact congrArg (fun r => B r (j 1)) (Nat.add_assoc o q (j 0).val).symm

/-- The padded rows: the halo's 32 rows, then the block's. -/
def rowsOf (A : FVec Ideal S512x512 .f32) (H : FVec Ideal S32x512 .f32) (r : ℕ) (k : Fin 512) : EReal :=
  if h : r < 32 then H (ix2 ⟨r, h⟩ k) else if h' : r - 32 < 512 then A (ix2 ⟨r - 32, h'⟩ k) else 0

/-- A load of the slab reads the slab's last store. -/
theorem slab_read {n : ℕ} {κ : Kind} {sp : Space} (v : View sig κ sp S88x512 .f32) (p : FVec Ideal ⟨2, ![n, 512]⟩ .f32) (o : ℕ) (L : List (View.Piece (Elt Ideal) S88x512 .f32))
    (inb : ∀ a, (![0, 0] : Fin 2 → Nat) a + (![n, 512] : Fin 2 → Nat) a ≤ S88x512.size a)
    (inb' : ∀ a, (![o, 0] : Fin 2 → Nat) a + (![64, 512] : Fin 2 → Nat) a ≤ S88x512.size a) (h : o + 64 ≤ n) :
    v.readCov (Val := Elt Ideal)
        ((⟨Rect.unit (s := S88x512) ![0, 0] ![n, 512] inb, p⟩ : View.Piece (Elt Ideal) S88x512 .f32) :: L)
        (Rect.unit (s := S88x512) ![o, 0] ![64, 512] inb').toLoadRect = shift p o h := by
  rw [View.readCov_eq_canon']
  funext j
  have e : (Rect.unit (s := S88x512) ![o, 0] ![64, 512] inb').toLoadRect.idx j
      = (Rect.unit (s := S88x512) ![0, 0] ![n, 512] inb).emb
          (ix2 (⟨o + (j 0).val, lt_of_lt_of_le (Nat.add_lt_add_left (j 0).isLt o) h⟩ : Fin n) (j 1)) := by
    funext a; apply Fin.ext
    fin_cases a
    · show o + 1 * (j 0).val = 0 + 1 * (o + (j 0).val); omega
    · show 0 + 1 * (j 1).val = 0 + 1 * (j 1).val; rfl
  exact (congrArg (View.canon _) e).trans (View.canon_cons_emb _ _ _ _)

/-- A load of the padded rows. -/
theorem buf_read {n : ℕ} {κ : Kind} {sp : Space} (v : View sig κ sp S544x512 .f32) (A : FVec Ideal S512x512 .f32) (H : FVec Ideal S32x512 .f32) (o : ℕ)
    (inb : ∀ a, (![32, 0] : Fin 2 → Nat) a + (![512, 512] : Fin 2 → Nat) a ≤ S544x512.size a)
    (inb' : ∀ a, (![0, 0] : Fin 2 → Nat) a + (![32, 512] : Fin 2 → Nat) a ≤ S544x512.size a)
    (inb'' : ∀ a, (![o, 0] : Fin 2 → Nat) a + (![n, 512] : Fin 2 → Nat) a ≤ S544x512.size a) :
    v.readCov (Val := Elt Ideal)
        [(⟨Rect.unit (s := S544x512) ![32, 0] ![512, 512] inb, A⟩ : View.Piece (Elt Ideal) S544x512 .f32),
          ⟨Rect.unit (s := S544x512) ![0, 0] ![32, 512] inb', H⟩]
        (Rect.unit (s := S544x512) ![o, 0] ![n, 512] inb'').toLoadRect = win (rowsOf A H) n o := by
  rw [View.readCov_eq_canon']
  funext j
  have hb : o + (j 0).val < 544 := lt_of_lt_of_le (Nat.add_lt_add_left (j 0).isLt o) (inb'' 0)
  show _ = rowsOf A H (o + (j 0).val) (j 1)
  unfold rowsOf
  split_ifs with h h'
  · have e : (Rect.unit (s := S544x512) ![o, 0] ![n, 512] inb'').toLoadRect.idx j
        = (Rect.unit (s := S544x512) ![0, 0] ![32, 512] inb').emb (ix2 ⟨o + (j 0).val, h⟩ (j 1)) := by
      funext a; apply Fin.ext
      fin_cases a
      · show o + 1 * (j 0).val = 0 + 1 * (o + (j 0).val); omega
      · show 0 + 1 * (j 1).val = 0 + 1 * (j 1).val; rfl
    refine (congrArg (View.canon _) e).trans ((View.canon_cons_of_not_mem _ _ ?_).trans (View.canon_cons_emb _ _ _ _))
    intro hm
    obtain ⟨i, hi, he⟩ := (LoadRect.mem_set _).mp hm (0 : Fin 2)
    have he' : 0 + 1 * (o + (j 0).val) = 32 + 1 * i := he
    omega
  · have e : (Rect.unit (s := S544x512) ![o, 0] ![n, 512] inb'').toLoadRect.idx j
        = (Rect.unit (s := S544x512) ![32, 0] ![512, 512] inb).emb (ix2 ⟨o + (j 0).val - 32, h'⟩ (j 1)) := by
      funext a; apply Fin.ext
      fin_cases a
      · show o + 1 * (j 0).val = 32 + 1 * (o + (j 0).val - 32); omega
      · show 0 + 1 * (j 1).val = 0 + 1 * (j 1).val; rfl
    exact (congrArg (View.canon _) e).trans (View.canon_cons_emb _ _ _ _)
  · omega

end Cert.Kernel6Ideal.ConvWin

end
-- ==== Proof.ConvBlk.lean ====
/-
  The blocks the convolution's forward call reads, and the arrays it leaves.
-/
module

public import proofs.«01_k».proof.Proof.ConvWin
public import proofs.«01_k».proof.Proof.Gen.Kernel6Ideal.Frame
public import Idealize.ShloMosaic.Lib.Claim
public import Idealize.ShloMosaic.Lib.KernelVsHost
public import Idealize.ShloMosaic.Lib.Pipeline.ReadBack

@[expose] public section

set_option maxRecDepth 16384

noncomputable section

namespace Cert.Kernel6Ideal.ConvFwd

open Cert.Kernel6Ideal Cert.Kernel6Ideal.Gen Cert.Kernel6Ideal.ConvWin Idealize.ShloMosaic Idealize.ShloMosaic.TcCoe Idealize.SL.Sem
open Cert.Rows
open Idealize.ShloMosaic.Pipeline (Dat)

variable (m : (ℓ : Loc nD τ sig) → Buf (Elt Ideal) ℓ)

/-- A grid point as the number of its block. -/
def pt (t : Fin cfg0.N) : Fin 16 := ⟨t.val, lt_of_lt_of_eq t.isLt N_0⟩

section

variable (zu zg : FVec Ideal S8192x512 .f32) (cw : FVec Ideal S31x512 .f32) (cb : FVec Ideal S512 .f32)

/-- A gated row. -/
def gated (r : Fin 8192) (k : Fin 512) : EReal := zu (ix2 r k) * Ideal.logistic (zg (ix2 r k))

/-- The gated rows, after thirty rows of zeros. -/
def padded (r : ℕ) (k : Fin 512) : EReal := if h : 30 ≤ r ∧ r - 30 < 8192 then gated zu zg ⟨r - 30, h.2⟩ k else 0

/-- The convolution. -/
def yAt (r : ℕ) (k : Fin 512) : EReal := (∑ a : Fin 31, cw (ix2 a k) * padded zu zg (r + a.val) k) + cb (ix1 k)

def yOut : FVec Ideal S8192x512 .f32 := fun j => yAt zu zg cw cb (j 0).val (j 1)

/-- The taps as the call gets them: a row of zeros after the thirty-one. -/
def taps : FVec Ideal S32x512 .f32 := fun j => if h : (j 0).val < 31 then cw (ix2 ⟨(j 0).val, h⟩ (j 1)) else 0

/-- A factor as the call gets it. -/
def flat (g : FVec Ideal S512 .f32) : FVec Ideal S1x512 .f32 := fun j => g (ix1 (j 1))

end

/-- The call's arguments on a device. -/
abbrev A0 (c : Dev nD) : FVec Ideal S8192x512 .f32 := m ((c : Thread nD τ).loc main_arg0)
abbrev A1 (c : Dev nD) : FVec Ideal S8192x512 .f32 := m ((c : Thread nD τ).loc main_arg1)
abbrev A2 (c : Dev nD) : FVec Ideal S31x512 .f32 := m ((c : Thread nD τ).loc main_arg2)
abbrev A3 (c : Dev nD) : FVec Ideal S512 .f32 := m ((c : Thread nD τ).loc main_arg3)
abbrev A4 (c : Dev nD) : FVec Ideal S512 .f32 := m ((c : Thread nD τ).loc main_arg4)
abbrev A5 (c : Dev nD) : FVec Ideal S512 .f32 := m ((c : Thread nD τ).loc main_arg5)
abbrev A6 (c : Dev nD) : FVec Ideal S512 .f32 := m ((c : Thread nD τ).loc main_arg6)

abbrev ops : List (HloOp τ sig (Elt Ideal)) := List.flatten [hostOps0, hostOps0_1, hostOps0_2]

def hostW (c : Dev nD) : FVec Ideal S32x512 .f32 := StableHlo.after (ops) (fun b => m (c, b)) (Proc.tc.devRef main_v0)
def host1 (c : Dev nD) : FVec Ideal S1x512 .f32 := StableHlo.after (ops) (fun b => m (c, b)) (Proc.tc.devRef main_v1)
def host2 (c : Dev nD) : FVec Ideal S1x512 .f32 := StableHlo.after (ops) (fun b => m (c, b)) (Proc.tc.devRef main_v2)
def host3 (c : Dev nD) : FVec Ideal S1x512 .f32 := StableHlo.after (ops) (fun b => m (c, b)) (Proc.tc.devRef main_v3)
def host4 (c : Dev nD) : FVec Ideal S1x512 .f32 := StableHlo.after (ops) (fun b => m (c, b)) (Proc.tc.devRef main_v4)

theorem host_w (c : Dev nD) : hostW m c = taps (A2 m c) := by
  unfold hostW ops
  simp only [List.flatten_cons, List.flatten_nil, List.cons_append, List.nil_append]
  after_results_simp
  funext j
  show pad S32x512 ![0, 0] ![1, 0] ![0, 0] (A2 m c) (sitofp (F := Ideal) FTy.f32 (constantI S_ 32 0#32)) pads_S31x512_S32x512_010_000 h_S_ j = _
  unfold taps
  split_ifs with h
  · refine pad_apply_of_inside _ _ _ _ _ _ _ j (ix2 ⟨(j 0).val, h⟩ (j 1)) fun a => ?_
    fin_cases a
    · show (j 0).val = 0 + (j 0).val * (0 + 1); omega
    · show (j 1).val = 0 + (j 1).val * (0 + 1); omega
  · refine (pad_apply_of_not_inside _ _ _ _ _ _ _ j 0 fun hin => h ?_).trans ?_
    · have e : ((j 0).val - 0) / (0 + 1) < 31 := hin.2.2
      omega
    · show ((((0#32 : BitVec 32).toInt : ℤ) : ℝ) : EReal) = 0
      simp

theorem host_1 (c : Dev nD) : host1 m c = flat (A3 m c) := by
  unfold host1 ops
  simp only [List.flatten_cons, List.flatten_nil, List.cons_append, List.nil_append]
  after_results_simp
  funext j
  unfold flat
  pointwise []

theorem host_2 (c : Dev nD) : host2 m c = flat (A4 m c) := by
  unfold host2 ops
  simp only [List.flatten_cons, List.flatten_nil, List.cons_append, List.nil_append]
  after_results_simp
  funext j
  unfold flat
  pointwise []

theorem host_3 (c : Dev nD) : host3 m c = flat (A5 m c) := by
  unfold host3 ops
  simp only [List.flatten_cons, List.flatten_nil, List.cons_append, List.nil_append]
  after_results_simp
  funext j
  unfold flat
  pointwise []

theorem host_4 (c : Dev nD) : host4 m c = flat (A6 m c) := by
  unfold host4 ops
  simp only [List.flatten_cons, List.flatten_nil, List.cons_append, List.nil_append]
  after_results_simp
  funext j
  unfold flat
  pointwise []

theorem idx : ∀ t : Fin cfg0.N, win0_0.index t = ![t.val, 0] ∧ win0_1.index t = ![t.val, 0]
    ∧ win0_2.index t = ![16 * t.val - 1, 0] ∧ win0_3.index t = ![16 * t.val - 1, 0] ∧ win0_4.index t = ![0, 0]
    ∧ win0_5.index t = ![0, 0] ∧ win0_6.index t = ![0, 0] ∧ win0_7.index t = ![0, 0] ∧ win0_8.index t = ![0, 0]
    ∧ win0_9.index t = ![t.val, 0] ∧ win0_10.index t = ![t.val, 0] :=
  (by decide +kernel : ∀ t : Fin grid0.N, _)

/-- The 32 rows before a block (the block's own first rows where none come before it). -/
def halo (t : Fin 16) (x : FVec Ideal S8192x512 .f32) : FVec Ideal S32x512 .f32 := fun j =>
  x (ix2 ⟨(16 * t.val - 1) * 32 + (j 0).val, by have := t.isLt; have : (j 0).val < 32 := (j 0).isLt; omega⟩ (j 1))

theorem in_0 (c : Dev nD) (t : Fin cfg0.N) : iblk m c 0 t = rows (e := .f32) (pt t) (A0 m c) := by
  funext j; unfold rows row pt; blk_point [iblk, V, idx t]

theorem in_1 (c : Dev nD) (t : Fin cfg0.N) : iblk m c 1 t = rows (e := .f32) (pt t) (A1 m c) := by
  funext j; unfold rows row pt; blk_point [iblk, V, idx t]

theorem in_2 (c : Dev nD) (t : Fin cfg0.N) : iblk m c 2 t = halo (pt t) (A0 m c) := by
  funext j; unfold halo pt; blk_point [iblk, V, idx t]

theorem in_3 (c : Dev nD) (t : Fin cfg0.N) : iblk m c 3 t = halo (pt t) (A1 m c) := by
  funext j; unfold halo pt; blk_point [iblk, V, idx t]

theorem in_4 (c : Dev nD) (t : Fin cfg0.N) : iblk m c 4 t = taps (A2 m c) := by
  rw [← host_w]; funext j
  refine (rfl : iblk m c 4 t j = hostW m c (((View.whole main_v0).slice (win0_4.rect t)).emb j)).trans (congrArg (hostW m c) ?_)
  blk_point [idx t]

theorem in_5 (c : Dev nD) (t : Fin cfg0.N) : iblk m c 5 t = flat (A3 m c) := by
  rw [← host_1]; funext j
  refine (rfl : iblk m c 5 t j = host1 m c (((View.whole main_v1).slice (win0_5.rect t)).emb j)).trans (congrArg (host1 m c) ?_)
  blk_point [idx t]

theorem in_6 (c : Dev nD) (t : Fin cfg0.N) : iblk m c 6 t = flat (A4 m c) := by
  rw [← host_2]; funext j
  refine (rfl : iblk m c 6 t j = host2 m c (((View.whole main_v2).slice (win0_6.rect t)).emb j)).trans (congrArg (host2 m c) ?_)
  blk_point [idx t]

theorem in_7 (c : Dev nD) (t : Fin cfg0.N) : iblk m c 7 t = flat (A5 m c) := by
  rw [← host_3]; funext j
  refine (rfl : iblk m c 7 t j = host3 m c (((View.whole main_v3).slice (win0_7.rect t)).emb j)).trans (congrArg (host3 m c) ?_)
  blk_point [idx t]

theorem in_8 (c : Dev nD) (t : Fin cfg0.N) : iblk m c 8 t = flat (A6 m c) := by
  rw [← host_4]; funext j
  refine (rfl : iblk m c 8 t j = host4 m c (((View.whole main_v4).slice (win0_8.rect t)).emb j)).trans (congrArg (host4 m c) ?_)
  blk_point [idx t]

theorem pay3_at (u g : FVec Ideal S512x512 .f32) (r k : Fin 512) : k0_pay3 (F := Ideal) u g (ix2 r k)
    = u (ix2 r k) * Ideal.logistic (g (ix2 r k)) := by
  unfold Ideal.logistic
  rw [← zero_sub]
  pointwise [k0_pay3]

/-- Whether a block has one before it. -/
theorem has_halo : ∀ t : Fin cfg0.N, Scalar.cmpi .sgt (BitVec.ofNat 32 ((grid0.coords t) 0).val) 0#32 = if t.val = 0 then 0#1 else 1#1 :=
  (by decide +kernel : ∀ t : Fin grid0.N, _)

theorem pay2_at (t : Fin cfg0.N) (u g : FVec Ideal S32x512 .f32) (r : Fin 32) (k : Fin 512) :
    k0_pay2 (F := Ideal) (grid0.coords t) u g (ix2 r k)
      = if t.val = 0 then 0 else u (ix2 r k) * Ideal.logistic (g (ix2 r k)) := by
  unfold Ideal.logistic k0_pay2
  rw [← zero_sub]
  simp only [has_halo]
  split_ifs with h
  · pointwise []
  · pointwise []

/-- The padded rows a block reads are the padded array's. -/
theorem rows_padded (zu zg : FVec Ideal S8192x512 .f32) (t : Fin cfg0.N) (q : ℕ) (hq : q < 542) (k : Fin 512) :
    rowsOf (k0_pay3 (rows (pt t) zu) (rows (pt t) zg)) (k0_pay2 (grid0.coords t) (halo (pt t) zu) (halo (pt t) zg)) (2 + q) k
      = padded zu zg (t.val * 512 + q) k := by
  have ht : t.val < 16 := lt_of_lt_of_eq t.isLt N_0
  unfold rowsOf padded
  split_ifs with h h' h' h''
  · rw [pay2_at, if_neg (by omega : ¬ t.val = 0)]
    unfold halo gated pt
    have e : (⟨(16 * t.val - 1) * 32 + (2 + q), by omega⟩ : Fin 8192) = ⟨t.val * 512 + q - 30, by omega⟩ := Fin.ext (by
      show (16 * t.val - 1) * 32 + (2 + q) = t.val * 512 + q - 30
      omega)
    exact congrArg (fun r : Fin 8192 => zu (ix2 r k) * Ideal.logistic (zg (ix2 r k))) e
  · rw [pay2_at, if_pos (by omega : t.val = 0)]
  · rw [pay3_at]
    unfold rows row gated pt
    have e : (⟨t.val * 512 + (2 + q - 32), by omega⟩ : Fin 8192) = ⟨t.val * 512 + q - 30, by omega⟩ := Fin.ext (by
      show t.val * 512 + (2 + q - 32) = t.val * 512 + q - 30
      omega)
    exact congrArg (fun r : Fin 8192 => zu (ix2 r k) * Ideal.logistic (zg (ix2 r k))) e
  · omega
  · omega
  · rfl

theorem o_9 (t : Fin cfg0.N) (y : S512x512.Idx) : ix2 (row (pt t) (y 0)) (y 1) = ((View.whole main_v5_0).slice (win0_9.rect t)).emb y := by
  unfold row pt; blk_point [idx t]

theorem o_10 (t : Fin cfg0.N) (y : S512x512.Idx) : ix2 (row (pt t) (y 0)) (y 1) = ((View.whole main_v5_1).slice (win0_10.rect t)).emb y := by
  unfold row pt; blk_point [idx t]

end Cert.Kernel6Ideal.ConvFwd

end
-- ==== Proof.ConvAcc.lean ====
/-
  The convolution's forward call: the sums of taps times rows.
-/
module

public import proofs.«01_k».proof.Proof.ConvBlk

@[expose] public section

set_option maxRecDepth 16384

noncomputable section

namespace Cert.Kernel6Ideal.ConvFwd

open Cert.Kernel6Ideal Cert.Kernel6Ideal.Gen Cert.Kernel6Ideal.ConvWin Idealize.ShloMosaic Idealize.ShloMosaic.TcCoe Idealize.SL.Sem
open Cert.Rows

/-- One tap's row. -/
def tap (cw : FVec Ideal S31x512 .f32) (a : ℕ) (k : Fin 512) : EReal := if h : a < 31 then cw (ix2 ⟨a, h⟩ k) else 0

/-- One tap's row as the kernel loads it. -/
def tapRow (cw : FVec Ideal S31x512 .f32) (a : ℕ) : FVec Ideal S1x512 .f32 := fun j => tap cw a (j 1)

theorem ld_tap (cw : FVec Ideal S31x512 .f32) (a : ℕ) (inb) :
    View.ld (Val := Elt Ideal) (e' := EltTy.f32) (taps cw) (Rect.unit (s := S32x512) ![a, 0] ![1, 512] inb) = tapRow cw a := by
  funext j
  obtain ⟨u, k, rfl⟩ : ∃ u k, j = ix2 u k := ⟨j 0, j 1, eq_ix2 j⟩
  unfold taps tapRow tap
  pointwise []

theorem ld_flat (g : FVec Ideal S512 .f32) (inb) :
    View.ld (Val := Elt Ideal) (e' := EltTy.f32) (flat g) (Rect.unit (s := S1x512) ![0, 0] ![1, 512] inb) = flat g := by
  funext j
  obtain ⟨u, k, rfl⟩ : ∃ u k, j = ix2 u k := ⟨j 0, j 1, eq_ix2 j⟩
  unfold flat
  pointwise []

/-- The sum over a list of taps. -/
def part (cw : FVec Ideal S31x512 .f32) (B : ℕ → Fin 512 → EReal) (n : ℕ) (L : List ℕ) : FVec Ideal S64x512 .f32 :=
  fun j => (L.map fun a => tap cw a (j 1) * B (n + a + (j 0).val) (j 1)).sum

/-- The convolution's rows from row `n` of the buffer on. -/
def conv (cw : FVec Ideal S31x512 .f32) (cb : FVec Ideal S512 .f32) (B : ℕ → Fin 512 → EReal) (n : ℕ) : FVec Ideal S64x512 .f32 :=
  fun j => (∑ a : Fin 31, cw (ix2 a (j 1)) * B (n + a.val + (j 0).val) (j 1)) + cb (ix1 (j 1))

theorem part_first (cw : FVec Ideal S31x512 .f32) (B : ℕ → Fin 512 → EReal) (n : ℕ) (h) :
    addf (F := Ideal) (φ := .f32) (broadcast S64x512 (Scalar.ofBits (F := Ideal) .f32 0x00000000#32)) (mulf (broadcastTo S64x512 (tapRow cw 0) h) (win B 64 n)) = part cw B n [0] := by
  funext j
  obtain ⟨r, k, rfl⟩ : ∃ r k, j = ix2 r k := ⟨j 0, j 1, eq_ix2 j⟩
  unfold part tapRow win
  simp only [List.map_cons, List.map_nil, List.sum_cons, List.sum_nil, add_zero]
  pointwise []

theorem part_step (cw : FVec Ideal S31x512 .f32) (B : ℕ → Fin 512 → EReal) (n q a : ℕ) (L : List ℕ) (h) (hq : q = n + a) :
    addf (F := Ideal) (φ := .f32) (part cw B n L) (mulf (broadcastTo S64x512 (tapRow cw a) h) (win B 64 q)) = part cw B n (a :: L) := by
  subst hq
  funext j
  obtain ⟨r, k, rfl⟩ : ∃ r k, j = ix2 r k := ⟨j 0, j 1, eq_ix2 j⟩
  unfold part tapRow win
  simp only [List.map_cons, List.sum_cons]
  refine Eq.trans ?_ (add_comm _ _)
  pointwise []

theorem sum_range (n : ℕ) (f : ℕ → EReal) : ((List.range n).map f).sum = ∑ a : Fin n, f a.val := by
  rw [← Finset.sum_range]
  simp [Finset.sum, Finset.range, Multiset.range]

theorem part_last (cw : FVec Ideal S31x512 .f32) (cb : FVec Ideal S512 .f32) (B : ℕ → Fin 512 → EReal) (n : ℕ) (L : List ℕ) (h) (hL : L.Perm (List.range 31)) :
    addf (F := Ideal) (φ := .f32) (part cw B n L) (broadcastTo S64x512 (flat cb) h) = conv cw cb B n := by
  funext j
  obtain ⟨r, k, rfl⟩ : ∃ r k, j = ix2 r k := ⟨j 0, j 1, eq_ix2 j⟩
  have e : part cw B n L (ix2 r k) = ∑ a : Fin 31, cw (ix2 a k) * B (n + a.val + r.val) k := by
    unfold part
    rw [(hL.map _).sum_eq, sum_range]
    exact Finset.sum_congr rfl fun a _ => by simp [tap, a.isLt]
  unfold conv
  refine Eq.trans ?_ (congrArg (· + cb (ix1 k)) e)
  unfold flat
  pointwise []

end Cert.Kernel6Ideal.ConvFwd

end
-- ==== Proof.ConvFwd.lean ====
/-
  The convolution's forward call: the arrays its run leaves.
-/
module

public import proofs.«01_k».proof.Proof.ConvAcc
public import proofs.«01_k».proof.Proof.Gen.Kernel6Ideal.Frame
public import Idealize.ShloMosaic.Lib.Claim
public import Idealize.ShloMosaic.Lib.Pipeline.ReadBack

@[expose] public section

set_option maxRecDepth 16384

noncomputable section

namespace Cert.Kernel6Ideal.ConvFwd

open Cert.Kernel6Ideal Cert.Kernel6Ideal.Gen Cert.Kernel6Ideal.ConvWin Idealize.ShloMosaic Idealize.ShloMosaic.TcCoe Idealize.SL.Sem
open Cert.Rows
open Idealize.ShloMosaic.Pipeline (Dat)

variable (m : (ℓ : Loc nD τ sig) → Buf (Elt Ideal) ℓ)

/-- A row's mean. -/
def mean (y : Fin 512 → EReal) : EReal := Ideal.div (∑ x, y x) (Ideal.ofBits .f32 0x44000000#32)

/-- A row divided by the root of its mean square. -/
def scaled (y : Fin 512 → EReal) (k : Fin 512) : EReal :=
  y k * Ideal.rsqrt (mean (fun x => y x * y x) + Ideal.ofBits .f32 0x358637BD#32)

/-- A number times its logistic value. -/
def silu (z : EReal) : EReal := z * Ideal.div 1 (1 + Ideal.exp (0 - z))

/-- What the call makes of a row of the convolution. -/
def mixAt (lg lb og : FVec Ideal S512 .f32) (y : Fin 512 → EReal) (k : Fin 512) : EReal :=
  scaled (fun x => silu (scaled (fun x => y x - mean y) x * lg (ix1 x) + lb (ix1 x))) k * og (ix1 k)

/-- The call's second result. -/
def mixOut (zu zg : FVec Ideal S8192x512 .f32) (cw : FVec Ideal S31x512 .f32) (cb lg lb og : FVec Ideal S512 .f32) : FVec Ideal S8192x512 .bf16 := fun j =>
  mixAt lg lb og (yAt zu zg cw cb (j 0).val) (j 1)

/-- The buffer at a grid point. -/
def buf (zu zg : FVec Ideal S8192x512 .f32) (t : Fin cfg0.N) : ℕ → Fin 512 → EReal :=
  rowsOf (k0_pay3 (rows (pt t) zu) (rows (pt t) zg)) (k0_pay2 (grid0.coords t) (halo (pt t) zu) (halo (pt t) zg))

theorem conv_at (zu zg : FVec Ideal S8192x512 .f32) (cw : FVec Ideal S31x512 .f32) (cb : FVec Ideal S512 .f32) (t : Fin cfg0.N) (n i : ℕ) (j : S64x512.Idx)
    (hn : n + 64 ≤ 512) (hi : i = n + (j 0).val) :
    conv cw cb (buf zu zg t) (2 + n) j = yAt zu zg cw cb (t.val * 512 + i) (j 1) := by
  have hj : (j 0).val < 64 := (j 0).isLt
  subst hi
  refine congrArg (· + cb (ix1 (j 1))) (Finset.sum_congr rfl fun a _ => congrArg (cw (ix2 a (j 1)) * ·) ?_)
  have ha := a.isLt
  have e := rows_padded zu zg t (n + (j 0).val + a.val) (by omega) (j 1)
  rw [show 2 + n + a.val + (j 0).val = 2 + (n + (j 0).val + a.val) by omega, show t.val * 512 + (n + (j 0).val) + a.val = t.val * 512 + (n + (j 0).val + a.val) by omega]
  exact e

theorem final_y (c : Dev nD) : (dats m 0 c).arrAt 9 cfg0.N = yOut (A0 m c) (A1 m c) (A2 m c) (A3 m c) := by
  refine (dats m 0 c).arrAt_eq_of_covers 9 _ (by decide +kernel) fun t _ y => ?_
  blk_simp
  rw [after0_9, ← o_9]; unfold outsAt0; frame_out
  simp (disch := decide) only [in_0, in_1, in_2, in_3, in_4, in_5, in_6, in_7, in_8, ↓slab_read, buf_read, shift_win, ld_tap, ld_flat, shapeCast_self, part_first, part_step, part_last,
    Nat.reduceAdd, k0_pay1, k0_pay4, k0_pay5, k0_pay6, k0_pay7, k0_pay8, k0_pay9, k0_pay10, k0_pay11, k0_pay12, k0_pay13, k0_pay14, k0_pay15, k0_pay16, k0_pay17, k0_pay18, k0_pay19,
    k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37,
    k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55,
    k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73,
    k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91,
    k0_pay92, k0_pay93, k0_pay94, k0_pay95, k0_pay96, k0_pay97, k0_pay98, k0_pay99, k0_pay100, k0_pay101, k0_pay102, k0_pay103, k0_pay104, k0_pay105, k0_pay106, k0_pay107, k0_pay108,
    k0_pay109, k0_pay110, k0_pay111, k0_pay112, k0_pay113, k0_pay114, k0_pay115, k0_pay116, k0_pay117, k0_pay118, k0_pay119, k0_pay120, k0_pay121, k0_pay122, k0_pay123, k0_pay124, k0_pay125,
    k0_pay126, k0_pay127, k0_pay128, k0_pay129, k0_pay130, k0_pay131, k0_pay132, k0_pay133, k0_pay134, k0_pay135, k0_pay136, k0_pay137, k0_pay138, k0_pay139, k0_pay140, k0_pay141, k0_pay142,
    k0_pay143, k0_pay144, k0_pay145, k0_pay146, k0_pay147, k0_pay148, k0_pay149, k0_pay150, k0_pay151, k0_pay152, k0_pay153, k0_pay154, k0_pay155, k0_pay156, k0_pay157, k0_pay158, k0_pay159]
  canon_tiles x' h
  · exact (conv_at _ _ _ _ t 448 _ x' (by decide) h0).trans (congrArg (yAt _ _ _ _ _) (Fin.ext h1.symm))
  · exact (conv_at _ _ _ _ t 384 _ x' (by decide) h0).trans (congrArg (yAt _ _ _ _ _) (Fin.ext h1.symm))
  · exact (conv_at _ _ _ _ t 320 _ x' (by decide) h0).trans (congrArg (yAt _ _ _ _ _) (Fin.ext h1.symm))
  · exact (conv_at _ _ _ _ t 256 _ x' (by decide) h0).trans (congrArg (yAt _ _ _ _ _) (Fin.ext h1.symm))
  · exact (conv_at _ _ _ _ t 192 _ x' (by decide) h0).trans (congrArg (yAt _ _ _ _ _) (Fin.ext h1.symm))
  · exact (conv_at _ _ _ _ t 128 _ x' (by decide) h0).trans (congrArg (yAt _ _ _ _ _) (Fin.ext h1.symm))
  · exact (conv_at _ _ _ _ t 64 _ x' (by decide) h0).trans (congrArg (yAt _ _ _ _ _) (Fin.ext h1.symm))
  · exact (conv_at _ _ _ _ t 0 _ x' (by decide) (h0.trans (Nat.zero_add _).symm)).trans (congrArg (yAt _ _ _ _ _) (Fin.ext h1.symm))

theorem mix_row (zu zg : FVec Ideal S8192x512 .f32) (cw : FVec Ideal S31x512 .f32) (cb lg lb og : FVec Ideal S512 .f32) (t : Fin cfg0.N) (n i : ℕ) (r : Fin 64)
    (k k' : Fin 512) (hn : n + 64 ≤ 512) (hi : i = n + r.val) (hk : k'.val = k.val) :
    mixAt lg lb og (fun x => conv cw cb (buf zu zg t) (2 + n) (ix2 r x)) k = mixAt lg lb og (yAt zu zg cw cb (t.val * 512 + i)) k' :=
  (congrArg (mixAt lg lb og · k) (funext fun x => conv_at zu zg cw cb t n i (ix2 r x) hn hi)).trans (congrArg _ (Fin.ext hk.symm))

theorem final_mix (c : Dev nD) : (dats m 0 c).arrAt 10 cfg0.N = mixOut (A0 m c) (A1 m c) (A2 m c) (A3 m c) (A4 m c) (A5 m c) (A6 m c) := by
  refine (dats m 0 c).arrAt_eq_of_covers 10 _ (by decide +kernel) fun t _ y => ?_
  blk_simp
  rw [after0_10, ← o_10]; unfold outsAt0; frame_out
  simp (disch := decide) only [in_0, in_1, in_2, in_3, in_4, in_5, in_6, in_7, in_8, ↓slab_read, buf_read, shift_win, ld_tap, ld_flat, shapeCast_self, part_first, part_step, part_last,
    Nat.reduceAdd, k0_pay1, k0_pay4, k0_pay5, k0_pay6, k0_pay7, k0_pay8, k0_pay9, k0_pay10, k0_pay11, k0_pay12, k0_pay13, k0_pay14, k0_pay15, k0_pay16, k0_pay17, k0_pay18, k0_pay19,
    k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37,
    k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55,
    k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73,
    k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91,
    k0_pay92, k0_pay93, k0_pay94, k0_pay95, k0_pay96, k0_pay97, k0_pay98, k0_pay99, k0_pay100, k0_pay101, k0_pay102, k0_pay103, k0_pay104, k0_pay105, k0_pay106, k0_pay107, k0_pay108,
    k0_pay109, k0_pay110, k0_pay111, k0_pay112, k0_pay113, k0_pay114, k0_pay115, k0_pay116, k0_pay117, k0_pay118, k0_pay119, k0_pay120, k0_pay121, k0_pay122, k0_pay123, k0_pay124, k0_pay125,
    k0_pay126, k0_pay127, k0_pay128, k0_pay129, k0_pay130, k0_pay131, k0_pay132, k0_pay133, k0_pay134, k0_pay135, k0_pay136, k0_pay137, k0_pay138, k0_pay139, k0_pay140, k0_pay141, k0_pay142,
    k0_pay143, k0_pay144, k0_pay145, k0_pay146, k0_pay147, k0_pay148, k0_pay149, k0_pay150, k0_pay151, k0_pay152, k0_pay153, k0_pay154, k0_pay155, k0_pay156, k0_pay157, k0_pay158, k0_pay159]
  canon_tiles x' h
  · refine Eq.trans ?_ (mix_row _ _ _ _ _ _ _ t 448 _ (x' 0) (x' 1) _ (by decide) h0 h1)
    pointwise []
    rfl
  · refine Eq.trans ?_ (mix_row _ _ _ _ _ _ _ t 384 _ (x' 0) (x' 1) _ (by decide) h0 h1)
    pointwise []
    rfl
  · refine Eq.trans ?_ (mix_row _ _ _ _ _ _ _ t 320 _ (x' 0) (x' 1) _ (by decide) h0 h1)
    pointwise []
    rfl
  · refine Eq.trans ?_ (mix_row _ _ _ _ _ _ _ t 256 _ (x' 0) (x' 1) _ (by decide) h0 h1)
    pointwise []
    rfl
  · refine Eq.trans ?_ (mix_row _ _ _ _ _ _ _ t 192 _ (x' 0) (x' 1) _ (by decide) h0 h1)
    pointwise []
    rfl
  · refine Eq.trans ?_ (mix_row _ _ _ _ _ _ _ t 128 _ (x' 0) (x' 1) _ (by decide) h0 h1)
    pointwise []
    rfl
  · refine Eq.trans ?_ (mix_row _ _ _ _ _ _ _ t 64 _ (x' 0) (x' 1) _ (by decide) h0 h1)
    pointwise []
    rfl
  · refine Eq.trans ?_ (mix_row _ _ _ _ _ _ _ t 0 _ (x' 0) (x' 1) _ (by decide) (h0.trans (Nat.zero_add _).symm) h1)
    pointwise []
    rfl

end Cert.Kernel6Ideal.ConvFwd

end
-- ==== Proof.ConvRef.lean ====
/-
  The convolution's reference, read entry by entry.
-/
module

public import proofs.«01_k».proof.Proof.ConvFwd
public import proofs.«01_k».proof.Proof.Gen.Reference6Ideal.Read

@[expose] public section

set_option maxRecDepth 16384

noncomputable section

namespace Cert.Kernel6Ideal.ConvFwd

open Cert.Kernel6Ideal Idealize.ShloMosaic Idealize.ShloMosaic.TcCoe Idealize.SL.Sem
open Cert.Reference6Ideal.Read

variable (zu zg : FVec Ideal S8192x512 .f32) (cw : FVec Ideal S31x512 .f32) (cb lg lb og : FVec Ideal S512 .f32)

theorem ref_gated (r : Fin 8192) (k : Fin 512) : val_main_v6 (F := Ideal) zu zg (ix2 r k) = gated zu zg r k := by
  unfold gated
  unfold Ideal.logistic
  pointwise [val_main_v6, val_main_v5, val_main_v4, val_main_v3, val_main_v2, val_main_v1, val_main_v0, val_main_cst, val_main_cst_0]

theorem ref_pad (r : Fin 8222) (k : Fin 512) : val_main_v8 (F := Ideal) zu zg (ix2 r k) = padded zu zg r.val k := by
  unfold padded
  pointwise [val_main_v8, val_main_v7, val_main_cst_1, ref_gated]
  have hr := r.isLt
  by_cases h : r.val < 30
  · rw [dif_pos h, dif_neg (by omega)]
  · rw [dif_neg h, dif_pos ⟨by omega, by omega⟩]

theorem ref_y (r : Fin 8192) (k : Fin 512) : val_main_v229 (F := Ideal) zu zg cw cb (ix2 r k) = yAt zu zg cw cb r.val k := by
  pointwise [val_main_v9, val_main_v10, val_main_v11, val_main_v12, val_main_v13, val_main_v14, val_main_v15, val_main_v16, val_main_v17, val_main_v18, val_main_v19, val_main_v20,
    val_main_v21, val_main_v22, val_main_v23, val_main_v24, val_main_v25, val_main_v26, val_main_v27, val_main_v28, val_main_v29, val_main_v30, val_main_v31, val_main_v32,
    val_main_v33, val_main_v34, val_main_v35, val_main_v36, val_main_v37, val_main_v38, val_main_v39, val_main_v40, val_main_v41, val_main_v42, val_main_v43, val_main_v44,
    val_main_v45, val_main_v46, val_main_v47, val_main_v48, val_main_v49, val_main_v50, val_main_v51, val_main_v52, val_main_v53, val_main_v54, val_main_v55, val_main_v56,
    val_main_v57, val_main_v58, val_main_v59, val_main_v60, val_main_v61, val_main_v62, val_main_v63, val_main_v64, val_main_v65, val_main_v66, val_main_v67, val_main_v68,
    val_main_v69, val_main_v70, val_main_v71, val_main_v72, val_main_v73, val_main_v74, val_main_v75, val_main_v76, val_main_v77, val_main_v78, val_main_v79, val_main_v80,
    val_main_v81, val_main_v82, val_main_v83, val_main_v84, val_main_v85, val_main_v86, val_main_v87, val_main_v88, val_main_v89, val_main_v90, val_main_v91, val_main_v92,
    val_main_v93, val_main_v94, val_main_v95, val_main_v96, val_main_v97, val_main_v98, val_main_v99, val_main_v100, val_main_v101, val_main_v102, val_main_v103, val_main_v104,
    val_main_v105, val_main_v106, val_main_v107, val_main_v108, val_main_v109, val_main_v110, val_main_v111, val_main_v112, val_main_v113, val_main_v114, val_main_v115,
    val_main_v116, val_main_v117, val_main_v118, val_main_v119, val_main_v120, val_main_v121, val_main_v122, val_main_v123, val_main_v124, val_main_v125, val_main_v126,
    val_main_v127, val_main_v128, val_main_v129, val_main_v130, val_main_v131, val_main_v132, val_main_v133, val_main_v134, val_main_v135, val_main_v136, val_main_v137,
    val_main_v138, val_main_v139, val_main_v140, val_main_v141, val_main_v142, val_main_v143, val_main_v144, val_main_v145, val_main_v146, val_main_v147, val_main_v148,
    val_main_v149, val_main_v150, val_main_v151, val_main_v152, val_main_v153, val_main_v154, val_main_v155, val_main_v156, val_main_v157, val_main_v158, val_main_v159,
    val_main_v160, val_main_v161, val_main_v162, val_main_v163, val_main_v164, val_main_v165, val_main_v166, val_main_v167, val_main_v168, val_main_v169, val_main_v170,
    val_main_v171, val_main_v172, val_main_v173, val_main_v174, val_main_v175, val_main_v176, val_main_v177, val_main_v178, val_main_v179, val_main_v180, val_main_v181,
    val_main_v182, val_main_v183, val_main_v184, val_main_v185, val_main_v186, val_main_v187, val_main_v188, val_main_v189, val_main_v190, val_main_v191, val_main_v192,
    val_main_v193, val_main_v194, val_main_v195, val_main_v196, val_main_v197, val_main_v198, val_main_v199, val_main_v200, val_main_v201, val_main_v202, val_main_v203,
    val_main_v204, val_main_v205, val_main_v206, val_main_v207, val_main_v208, val_main_v209, val_main_v210, val_main_v211, val_main_v212, val_main_v213, val_main_v214,
    val_main_v215, val_main_v216, val_main_v217, val_main_v218, val_main_v219, val_main_v220, val_main_v221, val_main_v222, val_main_v223, val_main_v224, val_main_v225,
    val_main_v226, val_main_v227, val_main_v228, val_main_v229, val_main_cst_2, ref_pad]
  have e : (∑ a : Fin 31, cw (ix2 a k) * padded zu zg (r.val + a.val) k) = ∑ a : Fin 31, padded zu zg (a.val + r.val) k * cw (ix2 a k) :=
    Finset.sum_congr rfl fun a _ => (mul_comm _ _).trans (by rw [add_comm])
  unfold yAt
  rw [e]
  simp only [Fin.sum_univ_castSucc, Fin.sum_univ_zero, zero_add, Fin.val_castSucc, Fin.val_last]
  rfl

theorem ref_out : val_main_v229 (F := Ideal) zu zg cw cb = yOut zu zg cw cb := by
  funext j
  obtain ⟨r, k, rfl⟩ : ∃ r k, j = ix2 r k := ⟨j 0, j 1, eq_ix2 j⟩
  exact ref_y zu zg cw cb r k

theorem ref_mix : val_main_v268 (F := Ideal) zu zg cw cb lg lb og = mixOut zu zg cw cb lg lb og := by
  funext j
  obtain ⟨r, k, rfl⟩ : ∃ r k, j = ix2 r k := ⟨j 0, j 1, eq_ix2 j⟩
  pointwise [val_main_v230, val_main_v231, val_main_v232, val_main_v233, val_main_v234, val_main_v235, val_main_v236, val_main_v237, val_main_v238, val_main_v239, val_main_v240,
    val_main_v241, val_main_v242, val_main_v243, val_main_v244, val_main_v245, val_main_v246, val_main_v247, val_main_v248, val_main_v249, val_main_v250, val_main_v251,
    val_main_v252, val_main_v253, val_main_v254, val_main_v255, val_main_v256, val_main_v257, val_main_v258, val_main_v259, val_main_v260, val_main_v261, val_main_v262,
    val_main_v263, val_main_v264, val_main_v265, val_main_v266, val_main_v267, val_main_v268, val_main_call0_v0, val_main_call0_v1, val_main_call0_v2, val_main_call0_v3,
    val_main_call0_v4, val_main_call0_v5, val_main_call0_cst, val_main_call0_cst_0, val_main_cst_3, val_main_cst_4, val_main_cst_5, val_main_cst_6, val_main_cst_7, val_main_cst_8,
    val_main_cst_9, val_main_cst_10, ref_y]
  simp only [← zero_sub]
  rfl

end Cert.Kernel6Ideal.ConvFwd

end
-- ==== Proof.ConvFwdClaims.lean ====
/-
  The claims about the convolution's forward call: frames of the kernel, of its ideal reading and of the reference, and their agreement.
-/
module

public import proofs.«01_k».proof.Defs
public import proofs.«01_k».proof.Proof.ConvRef
public import proofs.«01_k».proof.Proof.Gen.Kernel6.Frame
public import proofs.«01_k».proof.Proof.Gen.Kernel6Ideal.Value
public import proofs.«01_k».proof.Proof.Gen.Reference6Ideal.Run

@[expose] public section

set_option maxRecDepth 16384

noncomputable section

namespace Cert.ConvFwdClaims

open Idealize.ShloMosaic Idealize.ShloMosaic.TcCoe Idealize.SL.Sem

theorem frame_kernel : Cert.quiescent_Kernel6 := fun m ρ _ => Cert.Kernel6.Gen.frame m ρ

theorem frame_ideal : Cert.quiescent_Kernel6Ideal := fun m ρ _ => Cert.Kernel6Ideal.Gen.frame m ρ

theorem frame_reference : Cert.quiescent_Reference6Ideal := fun m ρ _ =>
  (θ_run Cert.Reference6Ideal.defs _ _).mono
    (fun r h => ⟨fun c => (h c).2.2, sem_eq_zero_of_no_sems (by decide) r.2⟩)
    (Cert.Reference6Ideal.Value.run (F := Ideal) m ρ)

theorem algebraic : Cert.algebraic_Kernel6Ideal_Reference6Ideal := by
  intro m g m' g' _ hagree
  refine ⟨fun c => (Cert.Kernel6Ideal.Gen.dats m 0 c).arrAt 9 _, fun c => (Cert.Kernel6Ideal.Gen.dats m 0 c).arrAt 10 _,
    Cert.Kernel6Ideal.Value.run_blocks m g, ?_⟩
  refine (θ_run Cert.Reference6Ideal.defs _ _).mono (fun r h c => ?_) (Cert.Reference6Ideal.Value.run (F := Ideal) m' g')
  obtain ⟨h0, h1, hargs⟩ := h c
  obtain ⟨e0, e1, e2, e3, e4, e5, e6⟩ := hagree c
  have i0 : StableHlo.launchContents m' c (Proc.tc.devRef Cert.Reference6Ideal.main_arg0) = _ := e0
  have i1 : StableHlo.launchContents m' c (Proc.tc.devRef Cert.Reference6Ideal.main_arg1) = _ := e1
  have i2 : StableHlo.launchContents m' c (Proc.tc.devRef Cert.Reference6Ideal.main_arg2) = _ := e2
  have i3 : StableHlo.launchContents m' c (Proc.tc.devRef Cert.Reference6Ideal.main_arg3) = _ := e3
  have i4 : StableHlo.launchContents m' c (Proc.tc.devRef Cert.Reference6Ideal.main_arg4) = _ := e4
  have i5 : StableHlo.launchContents m' c (Proc.tc.devRef Cert.Reference6Ideal.main_arg5) = _ := e5
  have i6 : StableHlo.launchContents m' c (Proc.tc.devRef Cert.Reference6Ideal.main_arg6) = _ := e6
  refine ⟨(h0.trans (Cert.Reference6Ideal.Read.val_main_v229_eq _)).trans ?_,
    (h1.trans (Cert.Reference6Ideal.Read.val_main_v268_eq _)).trans ?_, hargs⟩
  · rw [i0, i1, i2, i3]
    exact (Cert.Kernel6Ideal.ConvFwd.ref_out _ _ _ _).trans (Cert.Kernel6Ideal.ConvFwd.final_y m c).symm
  · rw [i0, i1, i2, i3, i4, i5, i6]
    exact (Cert.Kernel6Ideal.ConvFwd.ref_mix _ _ _ _ _ _ _).trans (Cert.Kernel6Ideal.ConvFwd.final_mix m c).symm

end Cert.ConvFwdClaims

end
-- ==== Proof.FwdIn.lean ====
/-
  The layer's input projection, forward: the arrays its run leaves, and the reference's, both entry by entry.
-/
module

public import proofs.«01_k».proof.Proof.Norm
public import proofs.«01_k».proof.Proof.Gen.Kernel8Ideal.Value
public import proofs.«01_k».proof.Proof.Gen.Reference8Ideal.Read
public import Idealize.ShloMosaic.Lib.Pipeline.ValueKit
public import Idealize.ShloMosaic.Lib.Pointwise

@[expose] public section

set_option maxRecDepth 16384

noncomputable section

namespace Cert.Kernel8Ideal.FwdIn

open Cert.Kernel8Ideal Cert.Kernel8Ideal.Gen Idealize.ShloMosaic Idealize.ShloMosaic.TcCoe Idealize.SL.Sem
open Cert.Rows Cert.Norm
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![t.val, 0] :=
  (by decide +kernel : ∀ t : Fin grid0.N, _)

/-- Row `r` of the projection, at the column `o + c`. -/
def z {R n : ℕ} (x : FVec Ideal ⟨2, ![R, 1024]⟩ .f32) (g : Fin 1024 → EReal) (w : Fin 1024 → Fin 1792 → EReal) (o : ℕ)
    (h : o + n ≤ 1792) (r : Fin R) (c : Fin n) : EReal :=
  ∑ k : Fin 1024, x (ix2 r k) * Ideal.rsqrt (ms x r) * g k * w k ⟨o + c.val, by omega⟩

theorem o0 : 0 + 512 ≤ 1792 := by decide
theorem o512 : 512 + 256 ≤ 1792 := by decide
theorem o768 : 768 + 512 ≤ 1792 := by decide
theorem o1280 : 1280 + 512 ≤ 1792 := by decide

/-- The projection's columns from `o` on, as an array of the call. -/
def zOut {n : ℕ} (o : ℕ) (h : o + n ≤ 1792) (x : FVec Ideal S8192x1024 .f32) (g : FVec Ideal S1024 .f32)
    (w : FVec Ideal S1024x1792 .f32) : FVec Ideal ⟨2, ![8192, n]⟩ .f32 :=
  fun j => z x (fun k => g (ix1 k)) (fun k c => w (ix2 k c)) o h (j 0) (j 1)

section

variable (x : FVec Ideal S512x1024 .f32) (g : FVec Ideal S1x1024 .f32) (w : FVec Ideal S1792x1024 .bf16)

theorem pay1_at (j : S512x1792.Idx) : k0_pay1 (F := Ideal) x g w j
    = ∑ k : Fin 1024, x (ix2 (j 0) k) * Ideal.rsqrt (ms x (j 0)) * g (ix2 0 k) * w (ix2 (j 1) k) := by
  pointwise [k0_pay1, ms]

theorem pay2_at (j : S512x512.Idx) : k0_pay2 (F := Ideal) x g w j
    = z x (fun k => g (ix2 0 k)) (fun k c => w (ix2 c k)) 0 o0 (j 0) (j 1) := by
  pointwise [k0_pay2, pay1_at, z]

theorem pay3_at (j : S512x256.Idx) : k0_pay3 (F := Ideal) x g w j
    = z x (fun k => g (ix2 0 k)) (fun k c => w (ix2 c k)) 512 o512 (j 0) (j 1) := by
  pointwise [k0_pay3, pay1_at, z]

theorem pay4_at (j : S512x512.Idx) : k0_pay4 (F := Ideal) x g w j
    = z x (fun k => g (ix2 0 k)) (fun k c => w (ix2 c k)) 768 o768 (j 0) (j 1) := by
  pointwise [k0_pay4, pay1_at, z]

theorem pay5_at (j : S512x512.Idx) : k0_pay5 (F := Ideal) x g w j
    = z x (fun k => g (ix2 0 k)) (fun k c => w (ix2 c k)) 1280 o1280 (j 0) (j 1) := by
  pointwise [k0_pay5, pay1_at, z]

end

/-- A grid point as the number of its block. -/
def pt (t : Fin cfg0.N) : Fin 16 := ⟨t.val, lt_of_lt_of_eq t.isLt N_0⟩

theorem in_0 (c : Dev nD) (t : Fin cfg0.N) : iblk m c 0 t = rows (e := .f32) (pt t) (m ((c : Thread nD τ).loc main_arg0)) := by
  funext j; unfold rows row pt; blk_point [iblk, V, idx t]

theorem in_1 (c : Dev nD) (t : Fin cfg0.N) : iblk m c 1 t
    = fun j : S1x1024.Idx => (m ((c : Thread nD τ).loc main_arg1) : FVec Ideal S1024 .f32) (ix1 (j 1)) := by
  funext j; blk_point [iblk, V, idx t]

theorem in_2 (c : Dev nD) (t : Fin cfg0.N) : iblk m c 2 t
    = fun j : S1792x1024.Idx => (m ((c : Thread nD τ).loc main_arg2) : FVec Ideal S1024x1792 .f32) (ix2 (j 1) (j 0)) := by
  funext j; blk_point [iblk, V, idx t]

theorem o_3 (t : Fin cfg0.N) (y : S512x512.Idx) : ix2 (row (pt t) (y 0)) (y 1) = ((View.whole main_v3_0).slice (win0_3.rect t)).emb y := by
  unfold row pt; blk_point [idx t]

theorem o_4 (t : Fin cfg0.N) (y : S512x256.Idx) : ix2 (row (pt t) (y 0)) (y 1) = ((View.whole main_v3_1).slice (win0_4.rect t)).emb y := by
  unfold row pt; blk_point [idx t]

theorem o_5 (t : Fin cfg0.N) (y : S512x512.Idx) : ix2 (row (pt t) (y 0)) (y 1) = ((View.whole main_v3_2).slice (win0_5.rect t)).emb y := by
  unfold row pt; blk_point [idx t]

theorem o_6 (t : Fin cfg0.N) (y : S512x512.Idx) : ix2 (row (pt t) (y 0)) (y 1) = ((View.whole main_v3_3).slice (win0_6.rect t)).emb y := by
  unfold row pt; blk_point [idx t]

theorem final_q (c : Dev nD) : (dats m 0 c).arrAt 3 cfg0.N = zOut 0 o0 (m ((c : Thread nD τ).loc main_arg0))
    (m ((c : Thread nD τ).loc main_arg1)) (m ((c : Thread nD τ).loc main_arg2)) := by
  refine (dats m 0 c).arrAt_eq_of_covers 3 _ (by decide +kernel) fun t _ y => ?_
  blk_simp
  rw [after0_3]; unfold out0_3; frame_out
  rw [pay2_at, in_0, in_1, in_2]
  rw [← o_3 t y]; rfl

theorem final_kv (c : Dev nD) : (dats m 0 c).arrAt 4 cfg0.N = zOut 512 o512 (m ((c : Thread nD τ).loc main_arg0))
    (m ((c : Thread nD τ).loc main_arg1)) (m ((c : Thread nD τ).loc main_arg2)) := by
  refine (dats m 0 c).arrAt_eq_of_covers 4 _ (by decide +kernel) fun t _ y => ?_
  blk_simp
  rw [after0_4]; unfold out0_4; frame_out
  rw [pay3_at, in_0, in_1, in_2]
  rw [← o_4 t y]; rfl

theorem final_u (c : Dev nD) : (dats m 0 c).arrAt 5 cfg0.N = zOut 768 o768 (m ((c : Thread nD τ).loc main_arg0))
    (m ((c : Thread nD τ).loc main_arg1)) (m ((c : Thread nD τ).loc main_arg2)) := by
  refine (dats m 0 c).arrAt_eq_of_covers 5 _ (by decide +kernel) fun t _ y => ?_
  blk_simp
  rw [after0_5]; unfold out0_5; frame_out
  rw [pay4_at, in_0, in_1, in_2]
  rw [← o_5 t y]; rfl

theorem final_gate (c : Dev nD) : (dats m 0 c).arrAt 6 cfg0.N = zOut 1280 o1280 (m ((c : Thread nD τ).loc main_arg0))
    (m ((c : Thread nD τ).loc main_arg1)) (m ((c : Thread nD τ).loc main_arg2)) := by
  refine (dats m 0 c).arrAt_eq_of_covers 6 _ (by decide +kernel) fun t _ y => ?_
  blk_simp
  rw [after0_6]; unfold out0_6; frame_out
  rw [pay5_at, in_0, in_1, in_2]
  rw [← o_6 t y]; rfl

section

open Cert.Reference8Ideal.Read

variable (x : FVec Ideal S8192x1024 .f32) (g : FVec Ideal S1024 .f32) (w : FVec Ideal S1024x1792 .f32)

theorem ref_z (j : Cert.Reference8Ideal.S8192x1792.Idx) : val_main_v13 (F := Ideal) x g w j
    = ∑ k : Fin 1024, x (ix2 (j 0) k) * Ideal.rsqrt (ms x (j 0)) * g (ix1 k) * w (ix2 k (j 1)) := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1, ms]

theorem ref_q : val_main_v14 (F := Ideal) x g w = zOut 0 o0 x g w := by
  funext j; pointwise [val_main_v14, ref_z, zOut, z]

theorem ref_kv : val_main_v15 (F := Ideal) x g w = zOut 512 o512 x g w := by
  funext j; pointwise [val_main_v15, ref_z, zOut, z]

theorem ref_u : val_main_v16 (F := Ideal) x g w = zOut 768 o768 x g w := by
  funext j; pointwise [val_main_v16, ref_z, zOut, z]

theorem ref_gate : val_main_v17 (F := Ideal) x g w = zOut 1280 o1280 x g w := by
  funext j; pointwise [val_main_v17, ref_z, zOut, z]

end

end Cert.Kernel8Ideal.FwdIn

end
-- ==== Proof.FwdInClaims.lean ====
/-
  The claims about the input projection's forward call: frames of the kernel, of its ideal reading and of the reference, and their agreement.
-/
module

public import proofs.«01_k».proof.Defs
public import proofs.«01_k».proof.Proof.FwdIn
public import proofs.«01_k».proof.Proof.Gen.Kernel8.Frame
public import proofs.«01_k».proof.Proof.Gen.Reference8Ideal.Run

@[expose] public section

set_option maxRecDepth 16384

noncomputable section

namespace Cert.FwdInClaims

open Idealize.ShloMosaic Idealize.ShloMosaic.TcCoe Idealize.SL.Sem

theorem frame_kernel : Cert.quiescent_Kernel8 := fun m ρ _ => Cert.Kernel8.Gen.frame m ρ

theorem frame_ideal : Cert.quiescent_Kernel8Ideal := fun m ρ _ => Cert.Kernel8Ideal.Gen.frame m ρ

theorem frame_reference : Cert.quiescent_Reference8Ideal := fun m ρ _ =>
  (θ_run Cert.Reference8Ideal.defs _ _).mono
    (fun r h => ⟨fun c => (h c).2.2.2.2, sem_eq_zero_of_no_sems (by decide) r.2⟩)
    (Cert.Reference8Ideal.Value.run (F := Ideal) m ρ)

theorem algebraic : Cert.algebraic_Kernel8Ideal_Reference8Ideal := by
  intro m g m' g' _ hagree
  refine ⟨fun c => (Cert.Kernel8Ideal.Gen.dats m 0 c).arrAt 3 _, fun c => (Cert.Kernel8Ideal.Gen.dats m 0 c).arrAt 4 _, fun c => (Cert.Kernel8Ideal.Gen.dats m 0 c).arrAt 5 _, fun c => (Cert.Kernel8Ideal.Gen.dats m 0 c).arrAt 6 _,
    Cert.Kernel8Ideal.Value.run_blocks m g, ?_⟩
  refine (θ_run Cert.Reference8Ideal.defs _ _).mono (fun r h c => ?_) (Cert.Reference8Ideal.Value.run (F := Ideal) m' g')
  obtain ⟨h0, h1, h2, h3, hargs⟩ := h c
  obtain ⟨e0, e1, e2⟩ := hagree c
  refine ⟨(h0.trans (Cert.Reference8Ideal.Read.val_main_v14_eq _ _ _)).trans ?_,
    (h1.trans (Cert.Reference8Ideal.Read.val_main_v15_eq _ _ _)).trans ?_,
    (h2.trans (Cert.Reference8Ideal.Read.val_main_v16_eq _ _ _)).trans ?_,
    (h3.trans (Cert.Reference8Ideal.Read.val_main_v17_eq _ _ _)).trans ?_, hargs⟩
  · rw [e0, e1, e2]
    exact (Cert.Kernel8Ideal.FwdIn.ref_q _ _ _).trans (Cert.Kernel8Ideal.FwdIn.final_q m c).symm
  · rw [e0, e1, e2]
    exact (Cert.Kernel8Ideal.FwdIn.ref_kv _ _ _).trans (Cert.Kernel8Ideal.FwdIn.final_kv m c).symm
  · rw [e0, e1, e2]
    exact (Cert.Kernel8Ideal.FwdIn.ref_u _ _ _).trans (Cert.Kernel8Ideal.FwdIn.final_u m c).symm
  · rw [e0, e1, e2]
    exact (Cert.Kernel8Ideal.FwdIn.ref_gate _ _ _).trans (Cert.Kernel8Ideal.FwdIn.final_gate m c).symm

end Cert.FwdInClaims

end
-- ==== Proof.MlpFwd.lean ====
/-
  The feed-forward layer's forward call: the arrays its run leaves.
-/
module

public import proofs.«01_k».proof.Proof.Mlp
public import proofs.«01_k».proof.Proof.Gen.Kernel9Ideal.Value
public import proofs.«01_k».proof.Proof.Gen.Reference9Ideal.Read
public import Idealize.ShloMosaic.Lib.Claim

@[expose] public section

set_option maxRecDepth 16384

noncomputable section

namespace Cert.Kernel9Ideal.MlpFwd

open Cert.Kernel9Ideal Cert.Kernel9Ideal.Gen Idealize.ShloMosaic Idealize.ShloMosaic.TcCoe Idealize.SL.Sem
open Cert.Rows Cert.Norm
open Cert.Kernel3Ideal.MlpValue (col sum_cols ldw ld_w up wT wD)
open Idealize.ShloMosaic.Pipeline (Dat)

/-- A hidden unit of a block, before its ReLU. -/
def upc (x : FVec Ideal S512x1024 .f32) (g : FVec Ideal S1x1024 .f32) (a : FVec Ideal S512x1024 .bf16) (r z : Fin 512) : EReal :=
  ∑ k : Fin 1024, x (ix2 r k) * Ideal.rsqrt (ms x r) * g (ix2 0 k) * a (ix2 z k)

/-- What one chunk of hidden units adds to the row. -/
def ch (x : FVec Ideal S512x1024 .f32) (g : FVec Ideal S1x1024 .f32) (a b : FVec Ideal S512x1024 .bf16) (r : Fin 512)
    (k : Fin 1024) : EReal :=
  ∑ z : Fin 512, max (upc x g a r z) 0 * max (upc x g a r z) 0 * b (ix2 z k)

section

variable (x : FVec Ideal S512x1024 .f32) (g : FVec Ideal S1x1024 .f32)

theorem out_at (a0 a1 a2 a3 a4 a5 a6 a7 b0 b1 b2 b3 b4 b5 b6 b7 : FVec Ideal S512x1024 .bf16) (j : S512x1024.Idx) :
    k0_pay5 (F := Ideal) (k0_pay6 x g) (k0_pay23 (k0_pay6 x g) (k0_pay15 (k0_pay6 x g) (k0_pay9 x g a0 b0) (k0_pay10 x g a1) b1 a2 b2)
        (k0_pay18 (k0_pay6 x g) a3) b3 a4 b4 a5 b5) a6 b6 a7 b7 j
      = x j + ch x g a0 b0 (j 0) (j 1) + ch x g a1 b1 (j 0) (j 1) + ch x g a2 b2 (j 0) (j 1) + ch x g a3 b3 (j 0) (j 1)
        + ch x g a4 b4 (j 0) (j 1) + ch x g a5 b5 (j 0) (j 1) + ch x g a6 b6 (j 0) (j 1) + ch x g a7 b7 (j 0) (j 1) := by
  pointwise [k0_pay5, k0_pay23, k0_pay15, k0_pay9, k0_pay10, k0_pay18, k0_pay6, k0_pay1, k0_pay3, k0_pay7, k0_pay13, k0_pay16,
    k0_pay19, k0_pay21, ch, upc, ms]

variable (a : FVec Ideal S512x1024 .bf16) (r z : Fin 512)

theorem pay8_at : k0_pay8 (F := Ideal) x g a (ix3 0 r z) = upc x g a r z := by
  pointwise [k0_pay8, k0_pay7, k0_pay6, upc, ms]

theorem pay12_at : k0_pay12 (F := Ideal) (k0_pay11 x g a) (ix3 0 r z) = upc x g a r z := by
  pointwise [k0_pay12, k0_pay11, k0_pay10, k0_pay6, upc, ms]

theorem pay14_at : k0_pay14 (F := Ideal) (k0_pay6 x g) a (ix3 0 r z) = upc x g a r z := by
  pointwise [k0_pay14, k0_pay13, k0_pay6, upc, ms]

theorem pay17_at : k0_pay17 (F := Ideal) (k0_pay6 x g) a (ix3 0 r z) = upc x g a r z := by
  pointwise [k0_pay17, k0_pay16, k0_pay6, upc, ms]

theorem pay20_at : k0_pay20 (F := Ideal) (k0_pay6 x g) a (ix3 0 r z) = upc x g a r z := by
  pointwise [k0_pay20, k0_pay19, k0_pay6, upc, ms]

theorem pay22_at : k0_pay22 (F := Ideal) (k0_pay6 x g) a (ix3 0 r z) = upc x g a r z := by
  pointwise [k0_pay22, k0_pay21, k0_pay6, upc, ms]

theorem pay2_at : k0_pay2 (F := Ideal) (k0_pay6 x g) a (ix3 0 r z) = upc x g a r z := by
  pointwise [k0_pay2, k0_pay1, k0_pay6, upc, ms]

theorem pay4_at : k0_pay4 (F := Ideal) (k0_pay6 x g) a (ix3 0 r z) = upc x g a r z := by
  pointwise [k0_pay4, k0_pay3, k0_pay6, upc, ms]

end

section

variable (x : FVec Ideal S8192x1024 .f32) (g : FVec Ideal S1024 .f32) (w : FVec Ideal S1024x4096 .f32)
  (wd : FVec Ideal S4096x1024 .f32)

/-- The call's results, as functions of its arguments. -/
def xOut : FVec Ideal S8192x1024 .f32 := fun j =>
  x j + ∑ f : Fin 4096, max (up x g w (j 0) f) 0 * max (up x g w (j 0) f) 0 * wd (ix2 f (j 1))

def upOut : FVec Ideal S8x8192x512 .bf16 := fun j => up x g w (j 1) (col (j 0) (j 2))

/-- The norm's factor as the call gets it. -/
def g1 : FVec Ideal S1x1024 .f32 := fun j => g (ix1 (j 1))

theorem upc_eq (t : Fin 16) (c : Fin 8) (r z : Fin 512) :
    upc (rows t x) (g1 g) (ldw (wT w) c) r z = up x g w (row t r) (col c z) := rfl

theorem ch_eq (t : Fin 16) (c : Fin 8) (r : Fin 512) (k : Fin 1024) :
    ch (rows t x) (g1 g) (ldw (wT w) c) (ldw (wD wd) c) r k
      = ∑ z : Fin 512, max (up x g w (row t r) (col c z)) 0 * max (up x g w (row t r) (col c z)) 0 * wd (ix2 (col c z) k) := rfl

/-- A block's row, from the block's loads. -/
theorem out_blk (t : Fin 16) (j : S512x1024.Idx) :
    k0_pay5 (F := Ideal) (k0_pay6 (rows t x) (g1 g)) (k0_pay23 (k0_pay6 (rows t x) (g1 g)) (k0_pay15 (k0_pay6 (rows t x) (g1 g))
        (k0_pay9 (rows t x) (g1 g) (ldw (wT w) 0) (ldw (wD wd) 0)) (k0_pay10 (rows t x) (g1 g) (ldw (wT w) 1)) (ldw (wD wd) 1)
        (ldw (wT w) 2) (ldw (wD wd) 2)) (k0_pay18 (k0_pay6 (rows t x) (g1 g)) (ldw (wT w) 3)) (ldw (wD wd) 3)
        (ldw (wT w) 4) (ldw (wD wd) 4) (ldw (wT w) 5) (ldw (wD wd) 5)) (ldw (wT w) 6) (ldw (wD wd) 6)
        (ldw (wT w) 7) (ldw (wD wd) 7) j = xOut x g w wd (ix2 (row t (j 0)) (j 1)) := by
  rw [out_at]
  unfold xOut
  rw [sum_cols, Fin.sum_univ_eight]
  simp only [ch_eq, add_assoc]
  rfl

end

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![0, t.val, 0] :=
  (by decide +kernel : ∀ t : Fin grid0.N, _)

/-- A grid point as the number of its block. -/
def pt (t : Fin cfg0.N) : Fin 16 := ⟨t.val, lt_of_lt_of_eq t.isLt N_0⟩

/-- The call's arguments on a device. -/
abbrev A0 (c : Dev nD) : FVec Ideal S8192x1024 .f32 := m ((c : Thread nD τ).loc main_arg0)
abbrev A1 (c : Dev nD) : FVec Ideal S1024 .f32 := m ((c : Thread nD τ).loc main_arg1)
abbrev A2 (c : Dev nD) : FVec Ideal S1024x4096 .f32 := m ((c : Thread nD τ).loc main_arg2)
abbrev A3 (c : Dev nD) : FVec Ideal S4096x1024 .f32 := m ((c : Thread nD τ).loc main_arg3)

theorem in_0 (c : Dev nD) (t : Fin cfg0.N) : iblk m c 0 t = rows (e := .f32) (pt t) (A0 m c) := by
  funext j; unfold rows row pt; blk_point [iblk, V, idx t]

theorem in_1 (c : Dev nD) (t : Fin cfg0.N) : iblk m c 1 t = g1 (A1 m c) := by
  funext j; unfold g1; blk_point [iblk, V, idx t]

theorem in_2 (c : Dev nD) (t : Fin cfg0.N) : iblk m c 2 t = wT (A2 m c) := by
  funext j; unfold wT; blk_point [iblk, V, idx t]

theorem in_3 (c : Dev nD) (t : Fin cfg0.N) : iblk m c 3 t = wD (A3 m c) := by
  funext j; unfold wD; blk_point [iblk, V, idx t]

theorem o_4 (t : Fin cfg0.N) (y : S512x1024.Idx) :
    ix2 (row (pt t) (y 0)) (y 1) = ((View.whole main_v4_0).slice (win0_4.rect t)).emb y := by
  unfold row pt; blk_point [idx t]

theorem o_5 (t : Fin cfg0.N) (y : S8x512x512.Idx) :
    ix3 (y 0) (row (pt t) (y 1)) (y 2) = ((View.whole main_v4_1).slice (win0_5.rect t)).emb y := by
  unfold row pt; blk_point [idx t]

theorem final_x (c : Dev nD) : (dats m 0 c).arrAt 4 cfg0.N = xOut (A0 m c) (A1 m c) (A2 m c) (A3 m c) := by
  refine (dats m 0 c).arrAt_eq_of_covers 4 _ (by decide +kernel) fun t _ y => ?_
  blk_simp
  rw [after0_4]; unfold_out out0_4; frame_out
  rw [in_0, in_1, in_2, in_3, ← o_4 t y]
  simp only [ld_w _ 0 0 rfl, ld_w _ 1 512 rfl, ld_w _ 2 1024 rfl, ld_w _ 3 1536 rfl, ld_w _ 4 2048 rfl, ld_w _ 5 2560 rfl, ld_w _ 6 3072 rfl, ld_w _ 7 3584 rfl]
  exact out_blk _ _ _ _ (pt t) y

theorem eq_ix3_one (x : S1x512x512.Idx) : x = ix3 0 (x 1) (x 2) :=
  (eq_ix3 x).trans (congrArg (fun i : Fin 1 => (ix3 i (x 1) (x 2) : S1x512x512.Idx)) (Subsingleton.elim (α := Fin 1) (x 0) 0))

/-- A chunk of a block of hidden units, at its place in the block. -/
theorem up_tile (x : FVec Ideal S8192x1024 .f32) (g : FVec Ideal S1024 .f32) (w : FVec Ideal S1024x4096 .f32)
    (t : Fin cfg0.N) (c : Fin 8) (r z : Fin 512) (y : S8x512x512.Idx)
    (h0 : (y 0).val = c.val + (0 : Fin 1).val) (h1 : (y 1).val = r.val) (h2 : (y 2).val = z.val) :
    upc (rows (pt t) x) (g1 g) (ldw (wT w) c) r z = upOut x g w (ix3 (y 0) (row (pt t) (y 1)) (y 2)) := by
  have e0 : y 0 = c := Fin.ext (by omega)
  have e1 : y 1 = r := Fin.ext h1
  have e2 : y 2 = z := Fin.ext h2
  rw [upc_eq]
  show _ = up x g w (row (pt t) (y 1)) (col (y 0) (y 2))
  rw [e0, e1, e2]

theorem final_up (c : Dev nD) : (dats m 0 c).arrAt 5 cfg0.N = upOut (A0 m c) (A1 m c) (A2 m c) := by
  refine (dats m 0 c).arrAt_eq_of_covers 5 _ (by decide +kernel) fun t _ y => ?_
  blk_simp
  rw [after0_5]; unfold_out out0_5; frame_out
  rw [in_0, in_1, in_2, ← o_5 t y]
  canon_tiles x' h
  all_goals obtain ⟨r, z, rfl⟩ : ∃ r z, x' = ix3 0 r z := ⟨x' 1, x' 2, eq_ix3_one x'⟩
  · rw [ld_w _ 7 3584 rfl, pay4_at]
    exact up_tile _ _ _ t 7 r z y h0 h1 h2
  · rw [ld_w _ 6 3072 rfl, pay2_at]
    exact up_tile _ _ _ t 6 r z y h0 h1 h2
  · rw [ld_w _ 5 2560 rfl, pay22_at]
    exact up_tile _ _ _ t 5 r z y h0 h1 h2
  · rw [ld_w _ 4 2048 rfl, pay20_at]
    exact up_tile _ _ _ t 4 r z y h0 h1 h2
  · rw [ld_w _ 3 1536 rfl, pay17_at]
    exact up_tile _ _ _ t 3 r z y h0 h1 h2
  · rw [ld_w _ 2 1024 rfl, pay14_at]
    exact up_tile _ _ _ t 2 r z y h0 h1 h2
  · rw [ld_w _ 1 512 rfl, pay12_at]
    exact up_tile _ _ _ t 1 r z y h0 h1 h2
  · rw [ld_w _ 0 0 rfl, pay8_at]
    exact up_tile _ _ _ t 0 r z y (h0.trans (Nat.zero_add _).symm) h1 h2

section

open Cert.Reference9Ideal.Read

variable (x : FVec Ideal S8192x1024 .f32) (g : FVec Ideal S1024 .f32) (w : FVec Ideal S1024x4096 .f32)
  (wd : FVec Ideal S4096x1024 .f32)

theorem ref_up (r : Fin 8192) (f : Fin 4096) : val_main_v13 (F := Ideal) x g w (ix2 r f) = up x g w r f := by
  unfold up ms
  pointwise [val_main_v13, val_main_v0, val_main_cst, val_main_v1, val_main_v2, val_main_cst_0, val_main_v3, val_main_v4, val_main_cst_1, val_main_v5, val_main_v6, val_main_v7, val_main_v8, val_main_v9, val_main_v10, val_main_v11, val_main_v12]

theorem ref_xOut : val_main_v19 (F := Ideal) x g w wd = xOut x g w wd := by
  funext j
  obtain ⟨r, k, rfl⟩ : ∃ r k, j = ix2 r k := ⟨j 0, j 1, eq_ix2 j⟩
  unfold xOut
  pointwise [val_main_v19, val_main_v18, val_main_v17, val_main_v16, val_main_call0_v0, val_main_call0_cst]
  simp only [ref_up]

theorem ref_upOut : val_main_v20 (F := Ideal) x g w = upOut x g w := by
  funext j
  pointwise [val_main_v20, val_main_v15, val_main_v14]
  exact ref_up x g w (j 1) (col (j 0) (j 2))

end

end Cert.Kernel9Ideal.MlpFwd

end
-- ==== Proof.MlpFwdClaims.lean ====
/-
  The claims about the feed-forward layer's forward call: frames of the kernel, of its ideal reading and of the reference, and their agreement.
-/
module

public import proofs.«01_k».proof.Defs
public import proofs.«01_k».proof.Proof.MlpFwd
public import proofs.«01_k».proof.Proof.Gen.Kernel9.Frame
public import proofs.«01_k».proof.Proof.Gen.Reference9Ideal.Run

@[expose] public section

set_option maxRecDepth 16384

noncomputable section

namespace Cert.MlpFwdClaims

open Idealize.ShloMosaic Idealize.ShloMosaic.TcCoe Idealize.SL.Sem

theorem frame_kernel : Cert.quiescent_Kernel9 := fun m ρ _ => Cert.Kernel9.Gen.frame m ρ

theorem frame_ideal : Cert.quiescent_Kernel9Ideal := fun m ρ _ => Cert.Kernel9Ideal.Gen.frame m ρ

theorem frame_reference : Cert.quiescent_Reference9Ideal := fun m ρ _ =>
  (θ_run Cert.Reference9Ideal.defs _ _).mono
    (fun r h => ⟨fun c => (h c).2.2, sem_eq_zero_of_no_sems (by decide) r.2⟩)
    (Cert.Reference9Ideal.Value.run (F := Ideal) m ρ)

theorem algebraic : Cert.algebraic_Kernel9Ideal_Reference9Ideal := by
  intro m g m' g' _ hagree
  refine ⟨fun c => (Cert.Kernel9Ideal.Gen.dats m 0 c).arrAt 4 _, fun c => (Cert.Kernel9Ideal.Gen.dats m 0 c).arrAt 5 _,
    Cert.Kernel9Ideal.Value.run_blocks m g, ?_⟩
  refine (θ_run Cert.Reference9Ideal.defs _ _).mono (fun r h c => ?_) (Cert.Reference9Ideal.Value.run (F := Ideal) m' g')
  obtain ⟨h0, h1, hargs⟩ := h c
  obtain ⟨e0, e1, e2, e3⟩ := hagree c
  refine ⟨(h0.trans (Cert.Reference9Ideal.Read.val_main_v19_eq _ _ _ _)).trans ?_,
    (h1.trans (Cert.Reference9Ideal.Read.val_main_v20_eq _ _ _)).trans ?_, hargs⟩
  · rw [e0, e1, e2, e3]
    exact (Cert.Kernel9Ideal.MlpFwd.ref_xOut _ _ _ _).trans (Cert.Kernel9Ideal.MlpFwd.final_x m c).symm
  · rw [e0, e1, e2]
    exact (Cert.Kernel9Ideal.MlpFwd.ref_upOut _ _ _).trans (Cert.Kernel9Ideal.MlpFwd.final_up m c).symm

end Cert.MlpFwdClaims

end
-- ==== Proof.BwdOut.lean ====
/-
  The output projection, backward: the arrays its run leaves, and the reference's.
-/
module

public import proofs.«01_k».proof.Proof.Rows
public import proofs.«01_k».proof.Proof.Gen.Kernel11Ideal.Value
public import proofs.«01_k».proof.Proof.Gen.Reference11Ideal.Read
public import Idealize.ShloMosaic.Lib.Pipeline.ValueKit
public import Idealize.ShloMosaic.Lib.Pointwise

@[expose] public section

set_option maxRecDepth 16384

noncomputable section

namespace Cert.Kernel11Ideal.BwdOut

open Cert.Kernel11Ideal Cert.Kernel11Ideal.Gen Idealize.ShloMosaic Idealize.ShloMosaic.TcCoe Idealize.SL.Sem
open Cert.Rows
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] :=
  (by decide +kernel : ∀ t : Fin grid0.N, _)

/-- A grid point as the number of its block. -/
def pt (t : Fin cfg0.N) : Fin 16 := ⟨t.val, lt_of_lt_of_eq t.isLt N_0⟩

/-- Row `r` of the cotangent against row `o + c` of the weight. -/
def z {R : ℕ} {e : FTy} (d : FVec Ideal ⟨2, ![R, 1024]⟩ .f32) (w : FVec Ideal S1024x1024 e) (o : ℕ) (h : o + 512 ≤ 1024) (r : Fin R) (c : Fin 512) : EReal :=
  ∑ k : Fin 1024, d (ix2 r k) * w (ix2 (⟨o + c.val, by omega⟩ : Fin 1024) k)

theorem o0 : 0 + 512 ≤ 1024 := by decide
theorem o512 : 512 + 512 ≤ 1024 := by decide

def zOut (o : ℕ) (h : o + 512 ≤ 1024) (d : FVec Ideal S8192x1024 .f32) (w : FVec Ideal S1024x1024 .f32) : FVec Ideal S8192x512 .f32 :=
  fun j => z d w o h (j 0) (j 1)

theorem pay3_at (d : FVec Ideal S512x1024 .f32) (w : FVec Ideal S1024x1024 .bf16) (j : S512x512.Idx) :
    k0_pay3 (F := Ideal) d w j = z d w 0 o0 (j 0) (j 1) := by
  pointwise [k0_pay3, k0_pay2, k0_pay1, z]

theorem pay4_at (d : FVec Ideal S512x1024 .f32) (w : FVec Ideal S1024x1024 .bf16) (j : S512x512.Idx) :
    k0_pay4 (F := Ideal) d w j = z d w 512 o512 (j 0) (j 1) := by
  pointwise [k0_pay4, k0_pay2, k0_pay1, z]

theorem in_0 (c : Dev nD) (t : Fin cfg0.N) : iblk m c 0 t = rows (e := .f32) (pt t) (m ((c : Thread nD τ).loc main_arg0)) := by
  funext j; unfold rows row pt; blk_point [iblk, V, idx t]

theorem in_1 (c : Dev nD) (t : Fin cfg0.N) : iblk m c 1 t
    = fun j : S1024x1024.Idx => (m ((c : Thread nD τ).loc main_arg1) : FVec Ideal S1024x1024 .f32) (ix2 (j 0) (j 1)) := by
  funext j; blk_point [iblk, V, idx t]

theorem o_2 (t : Fin cfg0.N) (y : S512x512.Idx) : ix2 (row (pt t) (y 0)) (y 1) = ((View.whole main_v1_0).slice (win0_2.rect t)).emb y := by
  unfold row pt; blk_point [idx t]

theorem o_3 (t : Fin cfg0.N) (y : S512x512.Idx) : ix2 (row (pt t) (y 0)) (y 1) = ((View.whole main_v1_1).slice (win0_3.rect t)).emb y := by
  unfold row pt; blk_point [idx t]

theorem o_4 (t : Fin cfg0.N) (y : S512x1024.Idx) : ix2 (row (pt t) (y 0)) (y 1) = ((View.whole main_v1_2).slice (win0_4.rect t)).emb y := by
  unfold row pt; blk_point [idx t]

theorem final_a (c : Dev nD) : (dats m 0 c).arrAt 2 cfg0.N = zOut 0 o0 (m ((c : Thread nD τ).loc main_arg0)) (m ((c : Thread nD τ).loc main_arg1)) := by
  refine (dats m 0 c).arrAt_eq_of_covers 2 _ (by decide +kernel) fun t _ y => ?_
  blk_simp
  rw [after0_2]; unfold out0_2; frame_out
  rw [pay3_at, in_0, in_1]
  rw [← o_2 t y]; rfl

theorem final_c (c : Dev nD) : (dats m 0 c).arrAt 3 cfg0.N = zOut 512 o512 (m ((c : Thread nD τ).loc main_arg0)) (m ((c : Thread nD τ).loc main_arg1)) := by
  refine (dats m 0 c).arrAt_eq_of_covers 3 _ (by decide +kernel) fun t _ y => ?_
  blk_simp
  rw [after0_3]; unfold out0_3; frame_out
  rw [pay4_at, in_0, in_1]
  rw [← o_3 t y]; rfl

theorem final_d (c : Dev nD) : (dats m 0 c).arrAt 4 cfg0.N = fun j : S8192x1024.Idx => (m ((c : Thread nD τ).loc main_arg0) : FVec Ideal S8192x1024 .f32) j := by
  refine (dats m 0 c).arrAt_eq_of_covers 4 _ (by decide +kernel) fun t _ y => ?_
  blk_simp
  rw [after0_4]; unfold out0_4; frame_out
  rw [in_0]
  rw [← o_4 t y]; rfl

section

open Cert.Reference11Ideal.Read

variable (d : FVec Ideal S8192x1024 .f32) (w : FVec Ideal S1024x1024 .f32)

theorem ref_a : val_main_v5 (F := Ideal) d w = zOut 0 o0 d w := by
  funext j; pointwise [val_main_v5, val_main_v4, zOut, z]

theorem ref_c : val_main_v6 (F := Ideal) d w = zOut 512 o512 d w := by
  funext j; pointwise [val_main_v6, val_main_v4, zOut, z]

theorem ref_d : val_main_v7 (F := Ideal) d = fun j : S8192x1024.Idx => d j := by
  funext j; pointwise [val_main_v7]

end

end Cert.Kernel11Ideal.BwdOut

end
-- ==== Proof.BwdOutClaims.lean ====
/-
  The claims about the output projection's backward call: frames of the kernel, of its ideal reading and of the reference, and their agreement.
-/
module

public import proofs.«01_k».proof.Defs
public import proofs.«01_k».proof.Proof.BwdOut
public import proofs.«01_k».proof.Proof.Gen.Kernel11.Frame
public import proofs.«01_k».proof.Proof.Gen.Reference11Ideal.Run

@[expose] public section

set_option maxRecDepth 16384

noncomputable section

namespace Cert.BwdOutClaims

open Idealize.ShloMosaic Idealize.ShloMosaic.TcCoe Idealize.SL.Sem

theorem frame_kernel : Cert.quiescent_Kernel11 := fun m ρ _ => Cert.Kernel11.Gen.frame m ρ

theorem frame_ideal : Cert.quiescent_Kernel11Ideal := fun m ρ _ => Cert.Kernel11Ideal.Gen.frame m ρ

theorem frame_reference : Cert.quiescent_Reference11Ideal := fun m ρ _ =>
  (θ_run Cert.Reference11Ideal.defs _ _).mono
    (fun r h => ⟨fun c => (h c).2.2.2, sem_eq_zero_of_no_sems (by decide) r.2⟩)
    (Cert.Reference11Ideal.Value.run (F := Ideal) m ρ)

theorem algebraic : Cert.algebraic_Kernel11Ideal_Reference11Ideal := by
  intro m g m' g' _ hagree
  refine ⟨fun c => (Cert.Kernel11Ideal.Gen.dats m 0 c).arrAt 2 _, fun c => (Cert.Kernel11Ideal.Gen.dats m 0 c).arrAt 3 _, fun c => (Cert.Kernel11Ideal.Gen.dats m 0 c).arrAt 4 _,
    Cert.Kernel11Ideal.Value.run_blocks m g, ?_⟩
  refine (θ_run Cert.Reference11Ideal.defs _ _).mono (fun r h c => ?_) (Cert.Reference11Ideal.Value.run (F := Ideal) m' g')
  obtain ⟨h0, h1, h2, hargs⟩ := h c
  obtain ⟨e0, e1⟩ := hagree c
  refine ⟨(h0.trans (Cert.Reference11Ideal.Read.val_main_v5_eq _ _)).trans ?_,
    (h1.trans (Cert.Reference11Ideal.Read.val_main_v6_eq _ _)).trans ?_,
    (h2.trans (Cert.Reference11Ideal.Read.val_main_v7_eq _)).trans ?_, hargs⟩
  · rw [e0, e1]
    exact (Cert.Kernel11Ideal.BwdOut.ref_a _ _).trans (Cert.Kernel11Ideal.BwdOut.final_a m c).symm
  · rw [e0, e1]
    exact (Cert.Kernel11Ideal.BwdOut.ref_c _ _).trans (Cert.Kernel11Ideal.BwdOut.final_c m c).symm
  · rw [e0]
    exact (Cert.Kernel11Ideal.BwdOut.ref_d _).trans (Cert.Kernel11Ideal.BwdOut.final_d m c).symm

end Cert.BwdOutClaims

end
-- ==== Proof.FwdOut.lean ====
/-
  The output projection, forward: the array its run leaves, and the reference's.
-/
module

public import proofs.«01_k».proof.Proof.Rows
public import proofs.«01_k».proof.Proof.Gen.Kernel13Ideal.Value
public import proofs.«01_k».proof.Proof.Gen.Reference13Ideal.Read
public import Idealize.ShloMosaic.Lib.Pipeline.ValueKit
public import Idealize.ShloMosaic.Lib.Pointwise

@[expose] public section

set_option maxRecDepth 16384

noncomputable section

namespace Cert.Kernel13Ideal.FwdOut

open Cert.Kernel13Ideal Cert.Kernel13Ideal.Gen Idealize.ShloMosaic Idealize.ShloMosaic.TcCoe Idealize.SL.Sem
open Cert.Rows
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![t.val, 0] :=
  (by decide +kernel : ∀ t : Fin grid0.N, _)

/-- A grid point as the number of its block. -/
def pt (t : Fin cfg0.N) : Fin 16 := ⟨t.val, lt_of_lt_of_eq t.isLt N_0⟩

/-- A row of a mixer's output against a column of 512 rows of the weight. -/
def z {R : ℕ} {e e' : FTy} (a : FVec Ideal ⟨2, ![R, 512]⟩ e) (w : FVec Ideal S1024x1024 e') (o : ℕ) (h : o + 512 ≤ 1024) (r : Fin R) (c : Fin 1024) : EReal :=
  ∑ k : Fin 512, a (ix2 r k) * w (ix2 (⟨o + k.val, by omega⟩ : Fin 1024) c)

theorem o0 : 0 + 512 ≤ 1024 := by decide
theorem o512 : 512 + 512 ≤ 1024 := by decide

def out {R : ℕ} {e e' : FTy} (x : FVec Ideal ⟨2, ![R, 1024]⟩ .f32) (a b : FVec Ideal ⟨2, ![R, 512]⟩ e) (w : FVec Ideal S1024x1024 e') : FVec Ideal ⟨2, ![R, 1024]⟩ .f32 :=
  fun j => x j + z a w 0 o0 (j 0) (j 1) + z b w 512 o512 (j 0) (j 1)

theorem pay_at (x : FVec Ideal S512x1024 .f32) (a b : FVec Ideal S512x512 .bf16) (w : FVec Ideal S1024x1024 .bf16) (i i') :
    k0_pay1 (F := Ideal) x a (View.ld (Val := Elt Ideal) (e' := EltTy.bf16) w (Rect.unit (s := S1024x1024) ![0, 0] ![512, 1024] i)) b
      (View.ld (Val := Elt Ideal) (e' := EltTy.bf16) w (Rect.unit (s := S1024x1024) ![512, 0] ![512, 1024] i')) = out x a b w := by
  funext j
  pointwise [k0_pay1, out, z]

theorem in_0 (c : Dev nD) (t : Fin cfg0.N) : iblk m c 0 t = rows (e := .f32) (pt t) (m ((c : Thread nD τ).loc main_arg0)) := by
  funext j; unfold rows row pt; blk_point [iblk, V, idx t]

theorem in_1 (c : Dev nD) (t : Fin cfg0.N) : iblk m c 1 t
    = fun j : S512x512.Idx => (m ((c : Thread nD τ).loc main_arg1) : FVec Ideal S8192x512 .f32) (ix2 (row (pt t) (j 0)) (j 1)) := by
  funext j; unfold row pt; blk_point [iblk, V, idx t]

theorem in_2 (c : Dev nD) (t : Fin cfg0.N) : iblk m c 2 t
    = fun j : S512x512.Idx => (m ((c : Thread nD τ).loc main_arg2) : FVec Ideal S8192x512 .f32) (ix2 (row (pt t) (j 0)) (j 1)) := by
  funext j; unfold row pt; blk_point [iblk, V, idx t]

theorem in_3 (c : Dev nD) (t : Fin cfg0.N) : iblk m c 3 t
    = fun j : S1024x1024.Idx => (m ((c : Thread nD τ).loc main_arg3) : FVec Ideal S1024x1024 .f32) (ix2 (j 0) (j 1)) := by
  funext j; blk_point [iblk, V, idx t]

theorem o_4 (t : Fin cfg0.N) (y : S512x1024.Idx) : ix2 (row (pt t) (y 0)) (y 1) = ((View.whole main_v3).slice (win0_4.rect t)).emb y := by
  unfold row pt; blk_point [idx t]

theorem final_out (c : Dev nD) : (dats m 0 c).arrAt 4 cfg0.N = out (R := 8192) (e := .f32) (e' := .f32) (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t _ y => ?_
  blk_simp
  rw [after0_4]; unfold out0_4; frame_out
  rw [pay_at, in_0, in_1, in_2, in_3]
  rw [← o_4 t y]; rfl

theorem sum_halves (f : Fin 1024 → EReal) : ∑ k, f k = (∑ k : Fin 512, f ⟨0 + k.val, by omega⟩) + ∑ k : Fin 512, f ⟨512 + k.val, by omega⟩ := by
  refine (Fin.sum_univ_add (a := 512) (b := 512) f).trans (congrArg (· + _) (Finset.sum_congr rfl fun k _ => congrArg f (Fin.ext (Nat.zero_add _).symm)))

section

open Cert.Reference13Ideal.Read

variable (x : FVec Ideal S8192x1024 .f32) (a b : FVec Ideal S8192x512 .f32) (w : FVec Ideal S1024x1024 .f32)

theorem cat_left (r : Fin 8192) (k : Fin 512) : val_main_v0 (F := Ideal) a b (ix2 r (⟨0 + k.val, by omega⟩ : Fin 1024)) = a (ix2 r k) := by
  pointwise [val_main_v0]

theorem cat_right (r : Fin 8192) (k : Fin 512) : val_main_v0 (F := Ideal) a b (ix2 r (⟨512 + k.val, by omega⟩ : Fin 1024)) = b (ix2 r k) := by
  pointwise [val_main_v0]

theorem ref_out : val_main_v2 (F := Ideal) x a b w = out x a b w := by
  funext j
  obtain ⟨r, k, rfl⟩ : ∃ r k, j = ix2 r k := ⟨j 0, j 1, eq_ix2 j⟩
  unfold out z
  refine Eq.trans ?_ (add_assoc _ _ _).symm
  pointwise [val_main_v2, val_main_v1]
  rw [sum_halves]
  simp only [cat_left, cat_right]
  rfl

end

end Cert.Kernel13Ideal.FwdOut

end
-- ==== Proof.FwdOutClaims.lean ====
/-
  The claims about the output projection's forward call: frames of the kernel, of its ideal reading and of the reference, and their agreement.
-/
module

public import proofs.«01_k».proof.Defs
public import proofs.«01_k».proof.Proof.FwdOut
public import proofs.«01_k».proof.Proof.Gen.Kernel13.Frame
public import proofs.«01_k».proof.Proof.Gen.Reference13Ideal.Run

@[expose] public section

set_option maxRecDepth 16384

noncomputable section

namespace Cert.FwdOutClaims

open Idealize.ShloMosaic Idealize.ShloMosaic.TcCoe Idealize.SL.Sem

theorem frame_kernel : Cert.quiescent_Kernel13 := fun m ρ _ => Cert.Kernel13.Gen.frame m ρ

theorem frame_ideal : Cert.quiescent_Kernel13Ideal := fun m ρ _ => Cert.Kernel13Ideal.Gen.frame m ρ

theorem frame_reference : Cert.quiescent_Reference13Ideal := fun m ρ _ =>
  (θ_run Cert.Reference13Ideal.defs _ _).mono
    (fun r h => ⟨fun c => (h c).2, sem_eq_zero_of_no_sems (by decide) r.2⟩)
    (Cert.Reference13Ideal.Value.run (F := Ideal) m ρ)

theorem algebraic : Cert.algebraic_Kernel13Ideal_Reference13Ideal := by
  intro m g m' g' _ hagree
  refine ⟨fun c => (Cert.Kernel13Ideal.Gen.dats m 0 c).arrAt 4 _,
    Cert.Kernel13Ideal.Value.run_blocks m g, ?_⟩
  refine (θ_run Cert.Reference13Ideal.defs _ _).mono (fun r h c => ?_) (Cert.Reference13Ideal.Value.run (F := Ideal) m' g')
  obtain ⟨h0, hargs⟩ := h c
  obtain ⟨e0, e1, e2, e3⟩ := hagree c
  refine ⟨(h0.trans (Cert.Reference13Ideal.Read.val_main_v2_eq _ _ _ _)).trans ?_, hargs⟩
  · rw [e0, e1, e2, e3]
    exact (Cert.Kernel13Ideal.FwdOut.ref_out _ _ _ _).trans (Cert.Kernel13Ideal.FwdOut.final_out m c).symm

end Cert.FwdOutClaims

end
-- ==== Proof.WGrad.lean ====
/-
  The squared-ReLU layer's second weight gradient: the array its run leaves, and the reference's.
-/
module

public import proofs.«01_k».proof.Proof.Rows
public import proofs.«01_k».proof.Proof.Gen.Kernel10Ideal.Value
public import proofs.«01_k».proof.Proof.Gen.Reference10Ideal.Read
public import Idealize.ShloMosaic.Lib.Pipeline.ValueKit
public import Idealize.ShloMosaic.Lib.Pointwise
public import proofs.«01_k».proof.Proof.Norm

@[expose] public section

set_option maxRecDepth 16384

noncomputable section

namespace Cert.Kernel10Ideal.WGradValue

open Cert.Kernel10Ideal Cert.Kernel10Ideal.Gen Idealize.ShloMosaic Idealize.ShloMosaic.TcCoe Idealize.SL.Sem
open Cert.Rows Cert.Norm
open Idealize.ShloMosaic.Pipeline (Dat)

variable (m : (ℓ : Loc nD τ sig) → Buf (Elt Ideal) ℓ)

theorem idx : ∀ t : Fin cfg0.N, win0_0.index t = ![t.val / 2, t.val % 2, 0] ∧ win0_1.index t = ![t.val % 2, 0]
    ∧ win0_2.index t = ![t.val / 2, 0] :=
  (by decide +kernel : ∀ t : Fin grid0.N, _)

/-- The call's arguments on a device. -/
abbrev A0 (c : Dev nD) : FVec Ideal S8192x1024 .f32 := m ((c : Thread nD τ).loc main_arg0)
abbrev A1 (c : Dev nD) : FVec Ideal S8192x1024 .f32 := m ((c : Thread nD τ).loc main_arg1)
abbrev A2 (c : Dev nD) : FVec Ideal S1024 .f32 := m ((c : Thread nD τ).loc main_arg2)
abbrev A3 (c : Dev nD) : FVec Ideal S1024x4096 .f32 := m ((c : Thread nD τ).loc main_arg3)

/-- The hidden unit under lane `z` of chunk `c`. -/
def col (c : Fin 8) (z : Fin 512) : Fin 4096 := ⟨c.val * 512 + z.val, by omega⟩

/-- Row `k` of half `b` of the rows. -/
def half (b : Fin 2) (k : Fin 4096) : Fin 8192 := ⟨b.val * 4096 + k.val, by omega⟩

theorem sum_halves (f : Fin 8192 → EReal) : ∑ r, f r = (∑ k : Fin 4096, f (half 0 k)) + ∑ k : Fin 4096, f (half 1 k) :=
  (Fin.sum_mul_add_fin 2 4096 f rfl).symm.trans (by simp only [Fin.sum_univ_two]; rfl)

/-- The chunk a grid point works on. -/
def ch (t : Fin cfg0.N) : Fin 8 := ⟨t.val / 2, by have := lt_of_lt_of_eq t.isLt N_0; omega⟩

/-- The half of the rows a grid point works on. -/
def hf (t : Fin cfg0.N) : Fin 2 := ⟨t.val % 2, by omega⟩

section

variable (d x : FVec Ideal S8192x1024 .f32) (g : FVec Ideal S1024 .f32) (w : FVec Ideal S1024x4096 .f32)

/-- A hidden unit before its activation. -/
def pre (r : Fin 8192) (f : Fin 4096) : EReal :=
  ∑ k : Fin 1024, x (ix2 r k) * Ideal.rsqrt (ms x r) * g (ix1 k) * w (ix2 k f)

/-- A hidden unit: the squared positive part. -/
def act (r : Fin 8192) (f : Fin 4096) : EReal := max (pre x g w r f) 0 * max (pre x g w r f) 0

/-- The weight's gradient. -/
def dwOut : FVec Ideal S4096x1024 .bf16 := fun i => ∑ r : Fin 8192, act x g w r (i 0) * d (ix2 r (i 1))

/-- What one half of the rows adds to a chunk of it. -/
def part (c : Fin 8) (b : Fin 2) (j : S512x1024.Idx) : EReal :=
  ∑ k : Fin 4096, act x g w (half b k) (col c (j 0)) * d (ix2 (half b k) (j 1))

end

/-- The hidden units the host lays out for the call. -/
def hostUp (c : Dev nD) : FVec Ideal S8x8192x512 .bf16 := StableHlo.after hostOps0 (fun b => m (c, b)) (Proc.tc.devRef main_v16)

theorem host_up (c : Dev nD) : hostUp m c = fun i => pre (A1 m c) (A2 m c) (A3 m c) (i 1) (col (i 0) (i 2)) := by
  unfold hostUp
  after_results_simp
  funext i
  unfold pre ms
  pointwise []
  rfl

theorem o_0 (t : Fin cfg0.N) (j : S1x4096x512.Idx) :
    ((View.whole main_v16).slice (win0_0.rect t)).emb j = ix3 (ch t) (half (hf t) (j 1)) (j 2) := by
  unfold ch half hf; blk_point [idx t]

/-- The hidden units of a chunk and a half of the rows. -/
def blk (U : Fin 8192 → Fin 4096 → EReal) (c : Fin 8) (b : Fin 2) : FVec Ideal S1x4096x512 .bf16 :=
  fun j => U (half b (j 1)) (col c (j 2))

theorem in_0_host (c : Dev nD) (t : Fin cfg0.N) : iblk m c 0 t = fun j : S1x4096x512.Idx =>
    hostUp m c (((View.whole main_v16).slice (win0_0.rect t)).emb j) := rfl

theorem at_emb (U : Fin 8192 → Fin 4096 → EReal) (t : Fin cfg0.N) (j : S1x4096x512.Idx) :
    (fun i : S8x8192x512.Idx => U (i 1) (col (i 0) (i 2))) (((View.whole main_v16).slice (win0_0.rect t)).emb j)
      = blk U (ch t) (hf t) j := by
  rw [o_0]; rfl

theorem in_0 (c : Dev nD) (t : Fin cfg0.N) : iblk m c 0 t = blk (pre (A1 m c) (A2 m c) (A3 m c)) (ch t) (hf t) := by
  rw [in_0_host, host_up]
  exact funext (at_emb _ t)

/-- A half of the cotangent's rows. -/
def dblk (d : FVec Ideal S8192x1024 .f32) (b : Fin 2) : FVec Ideal S4096x1024 .bf16 := fun j => d (ix2 (half b (j 0)) (j 1))

theorem in_1 (c : Dev nD) (t : Fin cfg0.N) : iblk m c 1 t = dblk (A0 m c) (hf t) := by
  funext j; unfold dblk half hf; blk_point [iblk, V, idx t]

theorem o_2 (t : Fin cfg0.N) (y : S512x1024.Idx) :
    ix2 (col (ch t) (y 0)) (y 1) = ((View.whole main_v18).slice (win0_2.rect t)).emb y := by
  unfold ch col; blk_point [idx t]

section

variable (d x : FVec Ideal S8192x1024 .f32) (g : FVec Ideal S1024 .f32) (w : FVec Ideal S1024x4096 .f32)

theorem acc_at (c : Fin 8) (b : Fin 2) (s : FVec Ideal S512x1024 .f32) (j : S512x1024.Idx) :
    k0_pay2 (F := Ideal) (blk (pre x g w) c b) s (dblk d b) j = s j + part d x g w c b j := by
  obtain ⟨r, k, rfl⟩ : ∃ r k, j = ix2 r k := ⟨j 0, j 1, eq_ix2 j⟩
  pointwise [k0_pay2, part, act, blk, dblk]

theorem zero_at (j : S512x1024.Idx) : k0_pay1 (F := Ideal) j = 0 := by
  pointwise [k0_pay1]

theorem out_at (s : FVec Ideal S512x1024 .f32) (j : S512x1024.Idx) : k0_pay3 (F := Ideal) s j = s j := by
  pointwise [k0_pay3]

theorem whole_at (c : Fin 8) (y : S512x1024.Idx) :
    part d x g w c 0 y + part d x g w c 1 y = dwOut d x g w (ix2 (col c (y 0)) (y 1)) :=
  (sum_halves fun r => act x g w r (col c (y 0)) * d (ix2 r (y 1))).symm

/-- What the first of a chunk's two points leaves in the running sum. -/
theorem first (c : Dev nD) (t : Fin cfg0.N) (h : t.val % 2 = 0) (j : S512x1024.Idx) :
    (outsAt0 m c t.val t.isLt).2 j = part (A0 m c) (A1 m c) (A2 m c) (A3 m c) (ch t) 0 j := by
  have hb : hf t = 0 := Fin.ext h
  rw [outsAt0_A m c t h (by omega)]
  frame_out
  rw [in_0, in_1, hb, acc_at, zero_at, zero_add]

end

theorem final_w (c : Dev nD) : (dats m 0 c).arrAt 2 cfg0.N = dwOut (A0 m c) (A1 m c) (A2 m c) (A3 m c) := by
  refine (dats m 0 c).arrAt_eq_of_covers 2 _ (by decide +kernel) fun t ht y => ?_
  have h1 : t.val % 2 = 1 := (flush0_2 t).mp ht
  have hb : hf t = 1 := Fin.ext h1
  have hl : t.val - 1 < cfg0.N := Nat.lt_of_le_of_lt (Nat.sub_le _ _) t.isLt
  have hc : ch ⟨t.val - 1, hl⟩ = ch t := Fin.ext (show (t.val - 1) / 2 = t.val / 2 by omega)
  have hp := first m c ⟨t.val - 1, hl⟩ (show (t.val - 1) % 2 = 0 by omega)
  blk_simp
  rw [after0_2, outsAt0_B m c t (by omega) h1]
  frame_out
  rw [in_0, in_1, hb, out_at, acc_at]
  refine (congrArg (· + _) ((congrFun (Memref.IsWhole.read_unread _ _) y).trans ((hp y).trans (by rw [hc])))).trans ?_
  rw [whole_at, ← o_2 t y]
  rfl

section

open Cert.Reference10Ideal.Read

variable (d x : FVec Ideal S8192x1024 .f32) (g : FVec Ideal S1024 .f32) (w : FVec Ideal S1024x4096 .f32)

theorem ref_w : val_main_v20 (F := Ideal) d x g w = dwOut d x g w := by
  funext j
  obtain ⟨r, k, rfl⟩ : ∃ r k, j = ix2 r k := ⟨j 0, j 1, eq_ix2 j⟩
  unfold dwOut act pre ms
  pointwise [val_main_v20, val_main_v19, val_main_v18, val_main_v17, val_main_v16, val_main_v15, val_main_v14,
    val_main_v13, val_main_v12, val_main_v11, val_main_v10, val_main_v9, val_main_v8, val_main_v7, val_main_v6,
    val_main_v5, val_main_v4, val_main_v3, val_main_v2, val_main_v1, val_main_v0, val_main_cst, val_main_cst_0,
    val_main_cst_1, val_main_cst_2, val_main_call0_cst, val_main_call0_v0]
  refine Finset.sum_congr rfl fun i _ => ?_
  exact mul_comm _ _

end

end Cert.Kernel10Ideal.WGradValue

end
-- ==== Proof.WGradClaims.lean ====
/-
  The claims about the squared-ReLU layer's second weight gradient: frames of the kernel, of its ideal reading and of the reference, and their agreement.
-/
module

public import proofs.«01_k».proof.Defs
public import proofs.«01_k».proof.Proof.WGrad
public import proofs.«01_k».proof.Proof.Gen.Kernel10.Frame
public import proofs.«01_k».proof.Proof.Gen.Reference10Ideal.Run

@[expose] public section

set_option maxRecDepth 16384

noncomputable section

namespace Cert.WGradClaims

open Idealize.ShloMosaic Idealize.ShloMosaic.TcCoe Idealize.SL.Sem

theorem frame_kernel : Cert.quiescent_Kernel10 := fun m ρ _ => Cert.Kernel10.Gen.frame m ρ

theorem frame_ideal : Cert.quiescent_Kernel10Ideal := fun m ρ _ => Cert.Kernel10Ideal.Gen.frame m ρ

theorem frame_reference : Cert.quiescent_Reference10Ideal := fun m ρ _ =>
  (θ_run Cert.Reference10Ideal.defs _ _).mono
    (fun r h => ⟨fun c => (h c).2, sem_eq_zero_of_no_sems (by decide) r.2⟩)
    (Cert.Reference10Ideal.Value.run (F := Ideal) m ρ)

theorem algebraic : Cert.algebraic_Kernel10Ideal_Reference10Ideal := by
  intro m g m' g' _ hagree
  refine ⟨fun c => (Cert.Kernel10Ideal.Gen.dats m 0 c).arrAt 2 _,
    Cert.Kernel10Ideal.Value.run_blocks m g, ?_⟩
  refine (θ_run Cert.Reference10Ideal.defs _ _).mono (fun r h c => ?_) (Cert.Reference10Ideal.Value.run (F := Ideal) m' g')
  obtain ⟨h0, hargs⟩ := h c
  obtain ⟨e0, e1, e2, e3⟩ := hagree c
  refine ⟨(h0.trans (Cert.Reference10Ideal.Read.val_main_v20_eq _ _ _ _)).trans ?_, hargs⟩
  · rw [e0, e1, e2, e3]
    exact (Cert.Kernel10Ideal.WGradValue.ref_w _ _ _ _).trans (Cert.Kernel10Ideal.WGradValue.final_w m c).symm

end Cert.WGradClaims

end
-- ==== Proof.BiasTable.lean ====
/-
  The bias table's call: what its body leaves, the folded bucket numbers the host prepares, and the array the run leaves.
-/
module

public import proofs.«01_k».proof.Proof.Rows
public import proofs.«01_k».proof.Proof.Gen.Kernel12Ideal.Value
public import proofs.«01_k».proof.Proof.Gen.Reference12Ideal.Read
public import Idealize.ShloMosaic.Lib.Pipeline.ValueKit
public import Idealize.ShloMosaic.Lib.Pointwise
public import proofs.«01_k».proof.Proof.Bias
public import proofs.«01_k».proof.Proof.BiasRef

@[expose] public section

set_option maxRecDepth 16384

noncomputable section

namespace Cert.Kernel12Ideal.BiasTable

open Cert.Kernel12Ideal Cert.Kernel12Ideal.Gen Idealize.ShloMosaic Idealize.ShloMosaic.TcCoe Idealize.SL.Sem
open Cert.Rows
open Cert.Kernel4Ideal.BiasValue (side up_to dist)
open Idealize.ShloMosaic.Pipeline (Dat)

variable (m : (ℓ : Loc nD τ sig) → Buf (Elt Ideal) ℓ)

/-- A bucket's entry picked by its number: the last of the first `n` buckets whose number is `w`. -/
def pick (f : ℕ → EReal) (w : BitVec 32) : ℕ → EReal
  | 0 => 0
  | n + 1 => Scalar.select (IntOp.cmpi .eq w (BitVec.ofNat 32 n)) (f n) (pick f w n)

theorem read_whole {e : Ref sig .tc} (h : (Memref.whole e).IsWhole) (X : e.ty.shape.Idx → Elt Ideal e.ty.elt) :
    View.read (Elt Ideal) (View.whole e) (h.unread X) = X := h.read_unread X

/-- The table's entry at two numbers, where both are in range. -/
def entry (rb : FVec Ideal S32x8 .f32) (h n : ℕ) : EReal := if hn : n < 32 ∧ h < 8 then rb (ix2 ⟨n, hn.1⟩ ⟨h, hn.2⟩) else 0

theorem eq_ix3_one (x : S1x128x128.Idx) : x = ix3 0 (x 1) (x 2) :=
  (eq_ix3 x).trans (congrArg (fun i : Fin 1 => (ix3 i (x 1) (x 2) : S1x128x128.Idx)) (Subsingleton.elim (α := Fin 1) (x 0) 0))

def tab (rb : FVec Ideal S32x8 .f32) (bk : IVec S128x128 32) : FVec Ideal S2x128x512 .f32 := fun y =>
  pick (entry rb ((y 0).val * 4 + (y 2).val / 128)) (bk (ix2 (y 1) ⟨(y 2).val % 128, Nat.mod_lt _ (by decide)⟩)) 32

theorem tile (rb : FVec Ideal S32x8 .f32) (bk : IVec S128x128 32) (y : S2x128x512.Idx) (a g : ℕ) (r z : Fin 128)
    (h0 : (y 0).val = a) (h1 : (y 1).val = r.val) (h2 : (y 2).val = g * 128 + z.val) :
    pick (entry rb (a * 4 + g)) (bk (ix2 r z)) 32 = tab rb bk y := by
  have hz := z.isLt
  have e0 : (y 0).val * 4 + (y 2).val / 128 = a * 4 + g := by omega
  have e1 : (y 1 : Fin 128) = r := Fin.ext h1
  have e2 : (⟨(y 2).val % 128, Nat.mod_lt _ (by decide)⟩ : Fin 128) = z := Fin.ext (show (y 2).val % 128 = z.val by omega)
  unfold tab
  rw [e0, e2]
  exact congrArg (fun k : Fin 128 => pick (entry rb (a * 4 + g)) (bk (ix2 k z)) 32) e1.symm

theorem block_out (c : Dev nD) (t : Fin cfg0.N) (y : S2x128x512.Idx) : outsAt0 m c t y = tab (iblk m c 0 t) (iblk m c 1 t) y := by
  generalize hT : tab (iblk m c 0 t) (iblk m c 1 t) y = T
  unfold outsAt0
  frame_out
  simp only [read_whole]
  generalize iblk m c 0 t = rb at hT ⊢
  generalize iblk m c 1 t = bk at hT ⊢
  canon_tiles x' h
  all_goals subst hT
  all_goals obtain ⟨r, z, rfl⟩ : ∃ r z, x' = ix3 0 r z := ⟨x' 1, x' 2, eq_ix3_one x'⟩
  all_goals pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33, k0_pay34,
    k0_pay35, k0_pay36, k0_pay37, k0_pay38, k0_pay39, k0_pay40, k0_pay41, k0_pay42, k0_pay43, k0_pay44, k0_pay45,
    k0_pay46, k0_pay47, k0_pay48, k0_pay49, k0_pay50, k0_pay51, k0_pay52, k0_pay53, k0_pay54, k0_pay55, k0_pay56,
    k0_pay57, k0_pay58, k0_pay59, k0_pay60, k0_pay61, k0_pay62, k0_pay63, k0_pay64, k0_pay65, k0_pay66, k0_pay67,
    k0_pay68, k0_pay69, k0_pay70, k0_pay71, k0_pay72, k0_pay73]
  · exact Eq.trans rfl (tile rb bk y 1 3 r z h0 h1 h2)
  · exact Eq.trans rfl (tile rb bk y 1 2 r z h0 h1 h2)
  · exact Eq.trans rfl (tile rb bk y 1 1 r z h0 h1 h2)
  · exact Eq.trans rfl (tile rb bk y 1 0 r z h0 h1 (h2.trans (Nat.zero_add _).symm))
  · exact Eq.trans rfl (tile rb bk y 0 3 r z h0 h1 h2)
  · exact Eq.trans rfl (tile rb bk y 0 2 r z h0 h1 h2)
  · exact Eq.trans rfl (tile rb bk y 0 1 r z h0 h1 h2)
  · exact Eq.trans rfl (tile rb bk y 0 0 r z h0 h1 (h2.trans (Nat.zero_add _).symm))

/-- The call's arguments on a device. -/
abbrev A0 (c : Dev nD) : FVec Ideal S32x8 .f32 := m ((c : Thread nD τ).loc main_arg0)
abbrev A1 (c : Dev nD) : IVec S128x256 32 := m ((c : Thread nD τ).loc main_arg1)

abbrev ops : List (HloOp τ sig (Elt Ideal)) := List.flatten [hostOps0, hostOps0_1, hostOps0_2]

/-- The folded bucket numbers the host lays out for the call. -/
def hostTable (c : Dev nD) : IVec S128x128 32 := StableHlo.after (ops) (fun b => m (c, b)) (Proc.tc.devRef main_v6)

/-- Bucket numbers folded to the 128 keys of the window, keys by queries. -/
def fold (bk : IVec S128x256 32) : IVec S128x128 32 := fun j => bk (ix2 (j 1) (side (j 0) (j 1)))

theorem host_table (c : Dev nD) : hostTable m c = fold (A1 m c) := by
  funext j
  obtain ⟨k, q, rfl⟩ : ∃ k q, j = ix2 k q := ⟨j 0, j 1, eq_ix2 j⟩
  show hostTable m c (ix2 k q) = A1 m c (ix2 q (side k q))
  unfold hostTable ops
  simp only [List.flatten_cons, List.flatten_nil, List.cons_append, List.nil_append]
  after_results_simp
  pointwise []
  show select (cmpi CmpIPredicate.sle (iotaInDim S128x128 32 1) (iotaInDim S128x128 32 0))
      (extractStridedSlice S128x128 ![0, 128] (A1 m c) slices_S128x256_S128x128_0_128)
      (extractStridedSlice S128x128 ![0, 0] (A1 m c) slices_S128x256_S128x128_0_0) (ix2 q k) = _
  pointwise []
  rw [up_to, WordCmp.select_decide]
  unfold side
  split_ifs with h
  · exact congrArg (A1 m c) (congrArg (ix2 q) (Fin.ext (by omega)))
  · exact congrArg (A1 m c) (congrArg (ix2 q) (Fin.ext (by omega)))

theorem idx : ∀ t : Fin cfg0.N, win0_0.index t = ![0, 0] ∧ win0_1.index t = ![0, 0] ∧ win0_2.index t = ![0, 0, 0] :=
  (by decide +kernel : ∀ t : Fin grid0.N, _)

theorem e_1 (t : Fin cfg0.N) (j : S128x128.Idx) : ((View.whole main_v6).slice (win0_1.rect t)).emb j = j := by
  blk_point [idx t]

theorem o_2 (t : Fin cfg0.N) (j : S2x128x512.Idx) : j = ((View.whole main_v7).slice (win0_2.rect t)).emb j := by
  blk_point [idx t]

theorem in_0 (c : Dev nD) (t : Fin cfg0.N) : iblk m c 0 t = A0 m c := by
  funext j; blk_point [iblk, V, idx t]

theorem in_1_host (c : Dev nD) (t : Fin cfg0.N) : iblk m c 1 t = fun j : S128x128.Idx =>
    hostTable m c (((View.whole main_v6).slice (win0_1.rect t)).emb j) := rfl

theorem in_1 (c : Dev nD) (t : Fin cfg0.N) : iblk m c 1 t = fold (A1 m c) := by
  rw [in_1_host, host_table]; exact funext fun j => congrArg (fold (A1 m c)) (e_1 t j)

theorem final (c : Dev nD) : (dats m 0 c).arrAt 2 cfg0.N = tab (A0 m c) (fold (A1 m c)) := by
  refine (dats m 0 c).arrAt_eq_of_covers 2 _ (by decide +kernel) fun t _ y => ?_
  blk_simp
  rw [after0_2, block_out, in_0, in_1]
  exact congrArg (tab (A0 m c) (fold (A1 m c))) (o_2 t y)

end Cert.Kernel12Ideal.BiasTable

end
-- ==== Proof.BiasTableRef.lean ====
/-
  The bias table's reference, read entry by entry, is the table the call leaves.
-/
module

public import proofs.«01_k».proof.Proof.BiasTable
public import proofs.«01_k».proof.Proof.Gen.Kernel12Ideal.Value
public import proofs.«01_k».proof.Proof.Gen.Reference12Ideal.Read
public import Idealize.ShloMosaic.Lib.Pipeline.ValueKit
public import Idealize.ShloMosaic.Lib.Pointwise
public import proofs.«01_k».proof.Proof.Bias
public import proofs.«01_k».proof.Proof.BiasRef

@[expose] public section

set_option maxRecDepth 16384

noncomputable section

namespace Cert.Kernel12Ideal.BiasTable

open Cert.Kernel12Ideal Cert.Kernel12Ideal.Gen Idealize.ShloMosaic Idealize.ShloMosaic.TcCoe Idealize.SL.Sem
open Cert.Rows
open Cert.Kernel4Ideal.BiasValue (side up_to dist)
open Cert.Reference12Ideal.Read
open Cert.Reference12Ideal (S128x256x1 S128x256x8 S8x128x256)

abbrev dims := Cert.Reference12Ideal.gather_S32x8_S128x256x1_S128x256x8_2_0_n_n_0_2_18

/-- The rows gathered: a bucket's row of the table, the number clamped into the table. -/
theorem rows_at (x : FVec Ideal S32x8 .f32) (idx : IVec S128x256x1 32) (q : Fin 128) (j : Fin 256) (h : Fin 8) :
    Host.gather dims x idx (ix3 q j h) = x (ix2 ⟨min (idx (ix3 q j 0)).toInt.toNat 31, by omega⟩ h) := by
  unfold Host.gather
  congr 1
  funext a
  refine Fin.ext ?_
  show dims.start (ix3 q j h) idx a + dims.batchCoord (ix3 q j h) a + dims.offCoord (ix3 q j h) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ dims.startIndexMap from List.mem_singleton.mpr rfl)]
    have hsi : dims.siIdx (ix3 q j h) ⟨List.idxOf (0 : Fin 2) dims.startIndexMap,
        List.idxOf_lt_length_iff.2 (List.mem_singleton.mpr rfl)⟩ = ix3 q j 0 := by
      funext b
      refine Fin.ext ?_
      match b with
      | ⟨0, _⟩ => rfl
      | ⟨1, _⟩ => rfl
      | ⟨2, _⟩ => rfl
    rw [hsi]
    rfl
  · rw [GatherDims.batchCoord_eq_zero _ _ _ List.not_mem_nil]
    unfold GatherDims.start
    rw [dif_neg (show ¬ (1 : Fin 2) ∈ dims.startIndexMap from (by decide : ¬ (1 : Fin 2) ∈ ([0] : List (Fin 2))))]
    unfold GatherDims.offCoord
    rw [dif_pos (show (1 : Fin 2) ∈ dims.sKept from (by decide : (1 : Fin 2) ∈ ([1] : List (Fin 2))))]
    show 0 + 0 + h.val = h.val
    omega

theorem pick_eq (f : ℕ → EReal) (w : BitVec 32) : ∀ n : ℕ, n ≤ 32 → w.toNat < n → pick f w n = f w.toNat
  | 0, _, h => absurd h (Nat.not_lt_zero _)
  | n + 1, hn, h => by
    unfold pick
    rw [WordCmp.cmpi_eq_eq, WordCmp.select_decide]
    have e : (BitVec.ofNat 32 n).toNat = n := WordCmp.toNat_ofNat_of_lt (by omega)
    split_ifs with hw
    · rw [hw, e]
    · refine pick_eq f w n (by omega) ?_
      have : w.toNat ≠ n := fun q => hw (BitVec.eq_of_toNat_eq (q.trans e.symm))
      omega

variable (rb : FVec Ideal S32x8 .f32) (bk : IVec S128x256 32)

theorem small {w : BitVec 32} (h : w.toNat < 32) : w.toInt = (w.toNat : Int) := by
  rw [BitVec.toInt_eq_toNat_cond, if_pos (by omega)]

theorem ref_index (hb : ∀ i, (bk i).toNat < 32) (q : Fin 128) (j : Fin 256) : val_main_v15 (F := Ideal) bk (ix3 q j 0) = bk (ix2 q j) := by
  pointwise [val_main_v15, val_main_v14, val_main_v13, val_main_v12, val_main_v11, val_main_v10, val_main_c_2, val_main_c_3]
  exact Routing.wrap_of_lt _ _ (by have := hb (ix2 q j); omega)

theorem ref_rows (hb : ∀ i, (bk i).toNat < 32) (h : Fin 8) (q : Fin 128) (j : Fin 256) :
    val_main_v17 (F := Ideal) rb bk (ix3 h q j) = entry rb h.val (bk (ix2 q j)).toNat := by
  have e : val_main_v17 (F := Ideal) rb bk (ix3 h q j) = val_main_v16 (F := Ideal) rb bk (ix3 q j h) := by pointwise [val_main_v17]
  have hq := hb (ix2 q j)
  have hi : (val_main_v15 (F := Ideal) bk (ix3 q j 0)).toInt.toNat = (bk (ix2 q j)).toNat := by
    rw [ref_index bk hb, small hq, Int.toNat_natCast]
  rw [e]
  unfold entry
  rw [dif_pos ⟨hq, h.isLt⟩]
  refine (rows_at rb _ q j h).trans (congrArg (fun b : Fin 32 => rb (ix2 b h)) (Fin.ext ?_))
  show min (val_main_v15 (F := Ideal) bk (ix3 q j 0)).toInt.toNat 31 = (bk (ix2 q j)).toNat
  omega

theorem ref_masked (hb : ∀ i, (bk i).toNat < 32) (h : Fin 8) (q : Fin 128) (j : Fin 256) (hj : j.val ≤ q.val + 128 ∧ q.val < j.val) :
    val_main_v18 (F := Ideal) rb bk (ix3 h q j) = entry rb h.val (bk (ix2 q j)).toNat := by
  rw [val_main_v18_apply, ref_rows rb bk hb]
  have e : val_main_call0_v1 (F := Ideal) (ix3 h q j) = 1#1 := by
    pointwise [val_main_call0_v1, val_main_v9, val_main_v8, val_main_v7, val_main_v6, val_main_v5, val_main_v4, val_main_v3,
      val_main_v2, val_main_v1, val_main_v0, val_main_c, val_main_c_0, val_main_c_1]
    rw [WordCmp.cmpi_sge_eq, WordCmp.cmpi_slt_eq, dist, WordCmp.andi_ofBool, ← Bool.decide_and, WordCmp.ofBool_decide_eq_one_iff]
    show (0 : Int) ≤ _ ∧ _ < (128 : Int)
    omega
  rw [WordCmp.select_of_eq_one e]

theorem ref_folded (hb : ∀ i, (bk i).toNat < 32) (h : Fin 8) (k q : Fin 128) :
    val_main_v28 (F := Ideal) rb bk (ix3 h q k) = entry rb h.val (bk (ix2 q (side k q))).toNat := by
  have hk := k.isLt
  have hq := q.isLt
  pointwise [val_main_v28, val_main_call1_v0, val_main_v25, val_main_v24, val_main_v23, val_main_v22, val_main_v21, val_main_v20,
    val_main_v19, val_main_v26, val_main_v27]
  rw [up_to, WordCmp.select_decide]
  unfold side
  split_ifs with hs
  · exact ref_masked rb bk hb h q ⟨128 + k.val, by omega⟩ ⟨by show 128 + k.val ≤ _; omega, by show _ < 128 + k.val; omega⟩
  · exact ref_masked rb bk hb h q ⟨k.val, by omega⟩ ⟨by show k.val ≤ _; omega, by show _ < k.val; omega⟩

theorem ref_table (hb : ∀ i, (bk i).toNat < 32) : val_main_v31 (F := Ideal) rb bk = tab rb (fold bk) := by
  funext y
  obtain ⟨a, k, l, rfl⟩ : ∃ (a : Fin 2) (k : Fin 128) (l : Fin 512), y = ix3 a k l := ⟨y 0, y 1, y 2, eq_ix3 y⟩
  have e : val_main_v31 (F := Ideal) rb bk (ix3 a k l) = val_main_v28 (F := Ideal) rb bk
      (ix3 (⟨a.val * 4 + l.val / 128, by omega⟩ : Fin 8) (⟨l.val % 128, Nat.mod_lt _ (by decide)⟩ : Fin 128) k) := by
    pointwise [val_main_v31, val_main_v30, val_main_v29]
  refine e.trans ((ref_folded rb bk hb _ _ _).trans ?_)
  exact (pick_eq _ _ 32 le_rfl (hb _)).symm

end Cert.Kernel12Ideal.BiasTable

end
-- ==== Proof.BiasTableClaims.lean ====
/-
  The claims about the bias table's call: frames and, for bucket numbers in range, agreement with its reference.
-/
module

public import proofs.«01_k».proof.Defs
public import proofs.«01_k».proof.Proof.BiasTable
public import proofs.«01_k».proof.Proof.BiasTableRef
public import proofs.«01_k».proof.Proof.Gen.Kernel12.Frame
public import proofs.«01_k».proof.Proof.Gen.Reference12Ideal.Run
public import proofs.«01_k».proof.Proof.Gen.Pre_buckets12

@[expose] public section

set_option maxRecDepth 16384

noncomputable section

namespace Cert.BiasTableClaims

open Idealize.ShloMosaic Idealize.ShloMosaic.TcCoe Idealize.SL.Sem

theorem frame_kernel : Cert.quiescent_Kernel12 := fun m ρ _ => Cert.Kernel12.Gen.frame m ρ

theorem frame_ideal : Cert.quiescent_Kernel12Ideal := fun m ρ _ => Cert.Kernel12Ideal.Gen.frame m ρ

theorem frame_reference : Cert.quiescent_Reference12Ideal := fun m ρ _ =>
  (θ_run Cert.Reference12Ideal.defs _ _).mono
    (fun r h => ⟨fun c => (h c).2, sem_eq_zero_of_no_sems (by decide) r.2⟩)
    (Cert.Reference12Ideal.Value.run (F := Ideal) m ρ)

section

variable [hPre : Cert.Pre_buckets12.Facts]

open Cert.Pre_buckets12 (S32x8 S128x256)

theorem in_range {rb : FVec Ideal S32x8 .f32} {bk : IVec S128x256 32}
    (h : Cert.Pre_buckets12.fn (F := Ideal) rb bk = fun _ => 1#1) (i : S128x256.Idx) : (bk i).toNat < 32 := by
  have hi := congrFun h i
  unfold Cert.Pre_buckets12.fn at hi
  obtain ⟨q, j, rfl⟩ : ∃ (q : Fin 128) (j : Fin 256), i = ix2 q j := ⟨i 0, i 1, eq_ix2 i⟩
  pointwise [] at hi
  rw [WordCmp.cmpi_sge_eq, WordCmp.cmpi_slt_eq, WordCmp.andi_ofBool, ← Bool.decide_and, WordCmp.ofBool_decide_eq_one_iff] at hi
  obtain ⟨h1, h2⟩ := hi
  change (0 : Int) ≤ _ at h1
  change _ < (32 : Int) at h2
  have h3 := (WordCmp.toInt_nonneg_iff_lt_half (bk (ix2 q j))).1 h1
  rw [BitVec.toInt_eq_toNat_cond, if_pos (by omega)] at h2
  omega

theorem frame_ideal_range : Cert.quiescent_Kernel12Ideal_pre_buckets12 := fun m ρ _ => frame_ideal m ρ trivial

theorem frame_reference_range : Cert.quiescent_Reference12Ideal_pre_buckets12 := fun m ρ _ => frame_reference m ρ trivial

theorem algebraic : Cert.algebraic_Kernel12Ideal_Reference12Ideal_pre_buckets12 := by
  intro m g m' g' hb hagree
  refine ⟨fun c => (Cert.Kernel12Ideal.Gen.dats m 0 c).arrAt 2 _, Cert.Kernel12Ideal.Value.run_blocks m g, ?_⟩
  refine (θ_run Cert.Reference12Ideal.defs _ _).mono (fun r h c => ?_) (Cert.Reference12Ideal.Value.run (F := Ideal) m' g')
  obtain ⟨h31, hargs⟩ := h c
  obtain ⟨a0, a1⟩ := hagree c
  refine ⟨(h31.trans (Cert.Reference12Ideal.Read.val_main_v31_eq _ _)).trans ?_, hargs⟩
  rw [a0, a1]
  exact (Cert.Kernel12Ideal.BiasTable.ref_table _ _ (in_range (hb c))).trans (Cert.Kernel12Ideal.BiasTable.final m c).symm

end

end Cert.BiasTableClaims

end
-- ==== Proof.AdamBig.lean ====
/-
  The optimiser's call on the large weights: what a grid point writes, and the arrays the run leaves.
-/
module

public import proofs.«01_k».proof.Proof.Rows
public import proofs.«01_k».proof.Proof.Gen.Kernel14Ideal.Value
public import proofs.«01_k».proof.Proof.Gen.Reference14Ideal.Read
public import Idealize.ShloMosaic.Lib.Pipeline.ValueKit
public import Idealize.ShloMosaic.Lib.Pointwise

@[expose] public section

set_option maxRecDepth 16384

noncomputable section

namespace Cert.Kernel14Ideal.AdamBig

open Cert.Kernel14Ideal Cert.Kernel14Ideal.Gen Idealize.ShloMosaic Idealize.ShloMosaic.TcCoe Idealize.SL.Sem
open Cert.Rows
open Idealize.ShloMosaic.Pipeline (Dat)

variable (m : (ℓ : Loc nD τ sig) → Buf (Elt Ideal) ℓ)

/-- The call's arguments on a device: the layers' gradient parts, the weight and the two moments. -/
abbrev A0 (c : Dev nD) : FVec Ideal S8x128x1024 .f32 := m ((c : Thread nD τ).loc main_arg0)
abbrev A1 (c : Dev nD) : FVec Ideal S8x128x1024 .f32 := m ((c : Thread nD τ).loc main_arg1)
abbrev A2 (c : Dev nD) : FVec Ideal S8x128x1024 .f32 := m ((c : Thread nD τ).loc main_arg2)
abbrev A3 (c : Dev nD) : FVec Ideal S8x128x1024 .f32 := m ((c : Thread nD τ).loc main_arg3)
abbrev A4 (c : Dev nD) : FVec Ideal S4x128x1024 .f32 := m ((c : Thread nD τ).loc main_arg4)
abbrev A5 (c : Dev nD) : FVec Ideal S4x128x1024 .f32 := m ((c : Thread nD τ).loc main_arg5)
abbrev A6 (c : Dev nD) : FVec Ideal S4x128x1024 .f32 := m ((c : Thread nD τ).loc main_arg6)

/-- The layer a grid point works on. -/
def pt (t : Fin cfg0.N) : Fin 4 := ⟨t.val, lt_of_lt_of_eq t.isLt N_0⟩

/-- A gradient's entry: its eight parts added up. -/
def gs (p : FVec Ideal S8x128x1024 .f32) (r : Fin 128) (k : Fin 1024) : EReal := ∑ s : Fin 8, p (ix3 s r k)

/-- The two moments and the step of one entry. -/
def mom (g x : EReal) : EReal := Ideal.ofBits .f32 0x3F666666#32 * x + Ideal.ofBits .f32 0x3DCCCCCD#32 * g

def sqm (g x : EReal) : EReal := Ideal.ofBits .f32 0x3F7FBE77#32 * x + Ideal.ofBits .f32 0x3A83126F#32 * (g * g)

def step (w g x y : EReal) : EReal :=
  Ideal.ofBits .f32 0xBA83126F#32 * (Ideal.div (Ideal.div (mom g x) (Ideal.ofBits .f32 0x3F26BD02#32))
    (Ideal.sqrt (Ideal.div (sqm g y) (Ideal.ofBits .f32 0x3C231ACC#32)) + Ideal.ofBits .f32 0x322BCC77#32)
      + Ideal.ofBits .f32 0x3C23D70A#32 * w)

section

variable (p : Fin 4 → FVec Ideal S8x128x1024 .f32) (w x y : FVec Ideal S4x128x1024 .f32)

/-- The call's results, as functions of its arguments. -/
def gOut : FVec Ideal S4x128x1024 .f32 := fun j => gs (p (j 0)) (j 1) (j 2)
def dOut : FVec Ideal S4x128x1024 .f32 := fun j => step (w j) (gOut p j) (x j) (y j)
def mOut : FVec Ideal S4x128x1024 .f32 := fun j => mom (gOut p j) (x j)
def vOut : FVec Ideal S4x128x1024 .f32 := fun j => sqm (gOut p j) (y j)

end

/-- The layers' gradient parts. -/
def parts (c : Dev nD) : Fin 4 → FVec Ideal S8x128x1024 .f32 := ![A0 m c, A1 m c, A2 m c, A3 m c]

theorem idx : ∀ t : Fin cfg0.N, win0_0.index t = ![0, 0, 0] ∧ win0_1.index t = ![0, 0, 0] ∧ win0_2.index t = ![0, 0, 0]
    ∧ win0_3.index t = ![0, 0, 0] ∧ win0_4.index t = ![t.val, 0, 0] ∧ win0_5.index t = ![t.val, 0, 0]
    ∧ win0_6.index t = ![t.val, 0, 0] ∧ win0_7.index t = ![t.val, 0, 0] ∧ win0_8.index t = ![t.val, 0, 0]
    ∧ win0_9.index t = ![t.val, 0, 0] ∧ win0_10.index t = ![t.val, 0, 0] :=
  (by decide +kernel : ∀ t : Fin grid0.N, _)

/-- A layer of an array, as a block. -/
def lay (x : FVec Ideal S4x128x1024 .f32) (l : Fin 4) : FVec Ideal S1x128x1024 .f32 := fun j => x (ix3 l (j 1) (j 2))

theorem in_0 (c : Dev nD) (t : Fin cfg0.N) : iblk m c 0 t = A0 m c := by
  funext j; blk_point [iblk, V, idx t]

theorem in_1 (c : Dev nD) (t : Fin cfg0.N) : iblk m c 1 t = A1 m c := by
  funext j; blk_point [iblk, V, idx t]

theorem in_2 (c : Dev nD) (t : Fin cfg0.N) : iblk m c 2 t = A2 m c := by
  funext j; blk_point [iblk, V, idx t]

theorem in_3 (c : Dev nD) (t : Fin cfg0.N) : iblk m c 3 t = A3 m c := by
  funext j; blk_point [iblk, V, idx t]

theorem in_4 (c : Dev nD) (t : Fin cfg0.N) : iblk m c 4 t = lay (A4 m c) (pt t) := by
  funext j; unfold lay pt; blk_point [iblk, V, idx t]

theorem in_5 (c : Dev nD) (t : Fin cfg0.N) : iblk m c 5 t = lay (A5 m c) (pt t) := by
  funext j; unfold lay pt; blk_point [iblk, V, idx t]

theorem in_6 (c : Dev nD) (t : Fin cfg0.N) : iblk m c 6 t = lay (A6 m c) (pt t) := by
  funext j; unfold lay pt; blk_point [iblk, V, idx t]

theorem eq_ix3_one (x : S1x128x1024.Idx) : x = ix3 0 (x 1) (x 2) :=
  (eq_ix3 x).trans (congrArg (fun i : Fin 1 => (ix3 i (x 1) (x 2) : S1x128x1024.Idx)) (Subsingleton.elim (α := Fin 1) (x 0) 0))

theorem four (t : Fin cfg0.N) : t.val < 4 := lt_of_lt_of_eq t.isLt N_0

theorem g_A (c : Dev nD) (t : Fin cfg0.N) (h : t.val % 4 = 0) (r : Fin 128) (k : Fin 1024) :
    (outsAt0 m c t.val t.isLt).1 (ix3 0 r k) = gOut (parts m c) (ix3 (pt t) r k) := by
  have e : pt t = 0 := Fin.ext (show t.val = 0 by have := four t; omega)
  rw [outsAt0_A m c t h (by omega) (by omega) (by omega)]
  frame_out
  rw [in_0, e]
  unfold gOut gs
  rw [Fin.sum_univ_eight]
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, lay]
  rfl

theorem g_B (c : Dev nD) (t : Fin cfg0.N) (h : t.val % 4 = 1) (r : Fin 128) (k : Fin 1024) :
    (outsAt0 m c t.val t.isLt).1 (ix3 0 r k) = gOut (parts m c) (ix3 (pt t) r k) := by
  have e : pt t = 1 := Fin.ext (show t.val = 1 by have := four t; omega)
  rw [outsAt0_B m c t (by omega) h (by omega) (by omega)]
  frame_out
  rw [in_1, e]
  unfold gOut gs
  rw [Fin.sum_univ_eight]
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, lay]
  rfl

theorem g_C (c : Dev nD) (t : Fin cfg0.N) (h : t.val % 4 = 2) (r : Fin 128) (k : Fin 1024) :
    (outsAt0 m c t.val t.isLt).1 (ix3 0 r k) = gOut (parts m c) (ix3 (pt t) r k) := by
  have e : pt t = 2 := Fin.ext (show t.val = 2 by have := four t; omega)
  rw [outsAt0_C m c t (by omega) (by omega) h (by omega)]
  frame_out
  rw [in_2, e]
  unfold gOut gs
  rw [Fin.sum_univ_eight]
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, lay]
  rfl

theorem g_D (c : Dev nD) (t : Fin cfg0.N) (h : t.val % 4 = 3) (r : Fin 128) (k : Fin 1024) :
    (outsAt0 m c t.val t.isLt).1 (ix3 0 r k) = gOut (parts m c) (ix3 (pt t) r k) := by
  have e : pt t = 3 := Fin.ext (show t.val = 3 by have := four t; omega)
  rw [outsAt0_D m c t (by omega) (by omega) (by omega) h]
  frame_out
  rw [in_3, e]
  unfold gOut gs
  rw [Fin.sum_univ_eight]
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, lay]
  rfl

theorem o_7 (t : Fin cfg0.N) (r : Fin 128) (k : Fin 1024) :
    ix3 (pt t) r k = ((View.whole main_v4_0).slice (win0_7.rect t)).emb (ix3 0 r k) := by
  unfold pt; blk_point [idx t]

theorem final_g (c : Dev nD) : (dats m 0 c).arrAt 7 cfg0.N = gOut (parts m c) := by
  refine (dats m 0 c).arrAt_eq_of_covers 7 _ (by decide +kernel) fun t _ y => ?_
  obtain ⟨r, k, rfl⟩ : ∃ r k, y = ix3 0 r k := ⟨y 1, y 2, eq_ix3_one y⟩
  blk_simp
  rw [after0_7, ← o_7 t r k]
  rcases (by omega : t.val % 4 = 0 ∨ t.val % 4 = 1 ∨ t.val % 4 = 2 ∨ t.val % 4 = 3) with h | h | h | h
  · exact g_A m c t h r k
  · exact g_B m c t h r k
  · exact g_C m c t h r k
  · exact g_D m c t h r k

theorem d_A (c : Dev nD) (t : Fin cfg0.N) (h : t.val % 4 = 0) (r : Fin 128) (k : Fin 1024) :
    (outsAt0 m c t.val t.isLt).2.1 (ix3 0 r k) = dOut (parts m c) (A4 m c) (A5 m c) (A6 m c) (ix3 (pt t) r k) := by
  have e : pt t = 0 := Fin.ext (show t.val = 0 by have := four t; omega)
  rw [outsAt0_A m c t h (by omega) (by omega) (by omega)]
  frame_out
  rw [in_0, in_4, in_5, in_6, e]
  unfold dOut step mom sqm gOut gs
  rw [Fin.sum_univ_eight]
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, lay]
  rfl

theorem d_B (c : Dev nD) (t : Fin cfg0.N) (h : t.val % 4 = 1) (r : Fin 128) (k : Fin 1024) :
    (outsAt0 m c t.val t.isLt).2.1 (ix3 0 r k) = dOut (parts m c) (A4 m c) (A5 m c) (A6 m c) (ix3 (pt t) r k) := by
  have e : pt t = 1 := Fin.ext (show t.val = 1 by have := four t; omega)
  rw [outsAt0_B m c t (by omega) h (by omega) (by omega)]
  frame_out
  rw [in_1, in_4, in_5, in_6, e]
  unfold dOut step mom sqm gOut gs
  rw [Fin.sum_univ_eight]
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, lay]
  rfl

theorem d_C (c : Dev nD) (t : Fin cfg0.N) (h : t.val % 4 = 2) (r : Fin 128) (k : Fin 1024) :
    (outsAt0 m c t.val t.isLt).2.1 (ix3 0 r k) = dOut (parts m c) (A4 m c) (A5 m c) (A6 m c) (ix3 (pt t) r k) := by
  have e : pt t = 2 := Fin.ext (show t.val = 2 by have := four t; omega)
  rw [outsAt0_C m c t (by omega) (by omega) h (by omega)]
  frame_out
  rw [in_2, in_4, in_5, in_6, e]
  unfold dOut step mom sqm gOut gs
  rw [Fin.sum_univ_eight]
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, lay]
  rfl

theorem d_D (c : Dev nD) (t : Fin cfg0.N) (h : t.val % 4 = 3) (r : Fin 128) (k : Fin 1024) :
    (outsAt0 m c t.val t.isLt).2.1 (ix3 0 r k) = dOut (parts m c) (A4 m c) (A5 m c) (A6 m c) (ix3 (pt t) r k) := by
  have e : pt t = 3 := Fin.ext (show t.val = 3 by have := four t; omega)
  rw [outsAt0_D m c t (by omega) (by omega) (by omega) h]
  frame_out
  rw [in_3, in_4, in_5, in_6, e]
  unfold dOut step mom sqm gOut gs
  rw [Fin.sum_univ_eight]
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, lay]
  rfl

theorem o_8 (t : Fin cfg0.N) (r : Fin 128) (k : Fin 1024) :
    ix3 (pt t) r k = ((View.whole main_v4_1).slice (win0_8.rect t)).emb (ix3 0 r k) := by
  unfold pt; blk_point [idx t]

theorem final_d (c : Dev nD) : (dats m 0 c).arrAt 8 cfg0.N = dOut (parts m c) (A4 m c) (A5 m c) (A6 m c) := by
  refine (dats m 0 c).arrAt_eq_of_covers 8 _ (by decide +kernel) fun t _ y => ?_
  obtain ⟨r, k, rfl⟩ : ∃ r k, y = ix3 0 r k := ⟨y 1, y 2, eq_ix3_one y⟩
  blk_simp
  rw [after0_8, ← o_8 t r k]
  rcases (by omega : t.val % 4 = 0 ∨ t.val % 4 = 1 ∨ t.val % 4 = 2 ∨ t.val % 4 = 3) with h | h | h | h
  · exact d_A m c t h r k
  · exact d_B m c t h r k
  · exact d_C m c t h r k
  · exact d_D m c t h r k

theorem m_A (c : Dev nD) (t : Fin cfg0.N) (h : t.val % 4 = 0) (r : Fin 128) (k : Fin 1024) :
    (outsAt0 m c t.val t.isLt).2.2.1 (ix3 0 r k) = mOut (parts m c) (A5 m c) (ix3 (pt t) r k) := by
  have e : pt t = 0 := Fin.ext (show t.val = 0 by have := four t; omega)
  rw [outsAt0_A m c t h (by omega) (by omega) (by omega)]
  frame_out
  rw [in_0, in_5, e]
  unfold mOut mom gOut gs
  rw [Fin.sum_univ_eight]
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, lay]
  rfl

theorem m_B (c : Dev nD) (t : Fin cfg0.N) (h : t.val % 4 = 1) (r : Fin 128) (k : Fin 1024) :
    (outsAt0 m c t.val t.isLt).2.2.1 (ix3 0 r k) = mOut (parts m c) (A5 m c) (ix3 (pt t) r k) := by
  have e : pt t = 1 := Fin.ext (show t.val = 1 by have := four t; omega)
  rw [outsAt0_B m c t (by omega) h (by omega) (by omega)]
  frame_out
  rw [in_1, in_5, e]
  unfold mOut mom gOut gs
  rw [Fin.sum_univ_eight]
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, lay]
  rfl

theorem m_C (c : Dev nD) (t : Fin cfg0.N) (h : t.val % 4 = 2) (r : Fin 128) (k : Fin 1024) :
    (outsAt0 m c t.val t.isLt).2.2.1 (ix3 0 r k) = mOut (parts m c) (A5 m c) (ix3 (pt t) r k) := by
  have e : pt t = 2 := Fin.ext (show t.val = 2 by have := four t; omega)
  rw [outsAt0_C m c t (by omega) (by omega) h (by omega)]
  frame_out
  rw [in_2, in_5, e]
  unfold mOut mom gOut gs
  rw [Fin.sum_univ_eight]
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, lay]
  rfl

theorem m_D (c : Dev nD) (t : Fin cfg0.N) (h : t.val % 4 = 3) (r : Fin 128) (k : Fin 1024) :
    (outsAt0 m c t.val t.isLt).2.2.1 (ix3 0 r k) = mOut (parts m c) (A5 m c) (ix3 (pt t) r k) := by
  have e : pt t = 3 := Fin.ext (show t.val = 3 by have := four t; omega)
  rw [outsAt0_D m c t (by omega) (by omega) (by omega) h]
  frame_out
  rw [in_3, in_5, e]
  unfold mOut mom gOut gs
  rw [Fin.sum_univ_eight]
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, lay]
  rfl

theorem o_9 (t : Fin cfg0.N) (r : Fin 128) (k : Fin 1024) :
    ix3 (pt t) r k = ((View.whole main_v4_2).slice (win0_9.rect t)).emb (ix3 0 r k) := by
  unfold pt; blk_point [idx t]

theorem final_m (c : Dev nD) : (dats m 0 c).arrAt 9 cfg0.N = mOut (parts m c) (A5 m c) := by
  refine (dats m 0 c).arrAt_eq_of_covers 9 _ (by decide +kernel) fun t _ y => ?_
  obtain ⟨r, k, rfl⟩ : ∃ r k, y = ix3 0 r k := ⟨y 1, y 2, eq_ix3_one y⟩
  blk_simp
  rw [after0_9, ← o_9 t r k]
  rcases (by omega : t.val % 4 = 0 ∨ t.val % 4 = 1 ∨ t.val % 4 = 2 ∨ t.val % 4 = 3) with h | h | h | h
  · exact m_A m c t h r k
  · exact m_B m c t h r k
  · exact m_C m c t h r k
  · exact m_D m c t h r k

theorem v_A (c : Dev nD) (t : Fin cfg0.N) (h : t.val % 4 = 0) (r : Fin 128) (k : Fin 1024) :
    (outsAt0 m c t.val t.isLt).2.2.2 (ix3 0 r k) = vOut (parts m c) (A6 m c) (ix3 (pt t) r k) := by
  have e : pt t = 0 := Fin.ext (show t.val = 0 by have := four t; omega)
  rw [outsAt0_A m c t h (by omega) (by omega) (by omega)]
  frame_out
  rw [in_0, in_6, e]
  unfold vOut sqm gOut gs
  rw [Fin.sum_univ_eight]
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, lay]
  rfl

theorem v_B (c : Dev nD) (t : Fin cfg0.N) (h : t.val % 4 = 1) (r : Fin 128) (k : Fin 1024) :
    (outsAt0 m c t.val t.isLt).2.2.2 (ix3 0 r k) = vOut (parts m c) (A6 m c) (ix3 (pt t) r k) := by
  have e : pt t = 1 := Fin.ext (show t.val = 1 by have := four t; omega)
  rw [outsAt0_B m c t (by omega) h (by omega) (by omega)]
  frame_out
  rw [in_1, in_6, e]
  unfold vOut sqm gOut gs
  rw [Fin.sum_univ_eight]
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, lay]
  rfl

theorem v_C (c : Dev nD) (t : Fin cfg0.N) (h : t.val % 4 = 2) (r : Fin 128) (k : Fin 1024) :
    (outsAt0 m c t.val t.isLt).2.2.2 (ix3 0 r k) = vOut (parts m c) (A6 m c) (ix3 (pt t) r k) := by
  have e : pt t = 2 := Fin.ext (show t.val = 2 by have := four t; omega)
  rw [outsAt0_C m c t (by omega) (by omega) h (by omega)]
  frame_out
  rw [in_2, in_6, e]
  unfold vOut sqm gOut gs
  rw [Fin.sum_univ_eight]
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, lay]
  rfl

theorem v_D (c : Dev nD) (t : Fin cfg0.N) (h : t.val % 4 = 3) (r : Fin 128) (k : Fin 1024) :
    (outsAt0 m c t.val t.isLt).2.2.2 (ix3 0 r k) = vOut (parts m c) (A6 m c) (ix3 (pt t) r k) := by
  have e : pt t = 3 := Fin.ext (show t.val = 3 by have := four t; omega)
  rw [outsAt0_D m c t (by omega) (by omega) (by omega) h]
  frame_out
  rw [in_3, in_6, e]
  unfold vOut sqm gOut gs
  rw [Fin.sum_univ_eight]
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, lay]
  rfl

theorem o_10 (t : Fin cfg0.N) (r : Fin 128) (k : Fin 1024) :
    ix3 (pt t) r k = ((View.whole main_v4_3).slice (win0_10.rect t)).emb (ix3 0 r k) := by
  unfold pt; blk_point [idx t]

theorem final_v (c : Dev nD) : (dats m 0 c).arrAt 10 cfg0.N = vOut (parts m c) (A6 m c) := by
  refine (dats m 0 c).arrAt_eq_of_covers 10 _ (by decide +kernel) fun t _ y => ?_
  obtain ⟨r, k, rfl⟩ : ∃ r k, y = ix3 0 r k := ⟨y 1, y 2, eq_ix3_one y⟩
  blk_simp
  rw [after0_10, ← o_10 t r k]
  rcases (by omega : t.val % 4 = 0 ∨ t.val % 4 = 1 ∨ t.val % 4 = 2 ∨ t.val % 4 = 3) with h | h | h | h
  · exact v_A m c t h r k
  · exact v_B m c t h r k
  · exact v_C m c t h r k
  · exact v_D m c t h r k

section

open Cert.Reference14Ideal Cert.Reference14Ideal.Read

variable (x0 x1 x2 x3 : FVec Ideal S8x128x1024 .f32) (w x y : FVec Ideal S4x128x1024 .f32)

theorem sum_0 (r : Fin 128) (k : Fin 1024) : val_main_v0 (F := Ideal) x0 (ix2 r k) = gs x0 r k := by
  unfold gs
  pointwise [val_main_v0, val_main_cst]

theorem stack_0 (r : Fin 128) (k : Fin 1024) : val_main_v8 (F := Ideal) x0 x1 x2 x3 (ix3 0 r k) = gs x0 r k := by
  rw [← sum_0 x0 r k]
  pointwise [val_main_v8, val_main_v4, val_main_v5, val_main_v6, val_main_v7]

theorem sum_1 (r : Fin 128) (k : Fin 1024) : val_main_v1 (F := Ideal) x1 (ix2 r k) = gs x1 r k := by
  unfold gs
  pointwise [val_main_v1, val_main_cst_0]

theorem stack_1 (r : Fin 128) (k : Fin 1024) : val_main_v8 (F := Ideal) x0 x1 x2 x3 (ix3 1 r k) = gs x1 r k := by
  rw [← sum_1 x1 r k]
  pointwise [val_main_v8, val_main_v4, val_main_v5, val_main_v6, val_main_v7]

theorem sum_2 (r : Fin 128) (k : Fin 1024) : val_main_v2 (F := Ideal) x2 (ix2 r k) = gs x2 r k := by
  unfold gs
  pointwise [val_main_v2, val_main_cst_1]

theorem stack_2 (r : Fin 128) (k : Fin 1024) : val_main_v8 (F := Ideal) x0 x1 x2 x3 (ix3 2 r k) = gs x2 r k := by
  rw [← sum_2 x2 r k]
  pointwise [val_main_v8, val_main_v4, val_main_v5, val_main_v6, val_main_v7]

theorem sum_3 (r : Fin 128) (k : Fin 1024) : val_main_v3 (F := Ideal) x3 (ix2 r k) = gs x3 r k := by
  unfold gs
  pointwise [val_main_v3, val_main_cst_2]

theorem stack_3 (r : Fin 128) (k : Fin 1024) : val_main_v8 (F := Ideal) x0 x1 x2 x3 (ix3 3 r k) = gs x3 r k := by
  rw [← sum_3 x3 r k]
  pointwise [val_main_v8, val_main_v4, val_main_v5, val_main_v6, val_main_v7]

theorem ref_g : val_main_v8 (F := Ideal) x0 x1 x2 x3 = gOut ![x0, x1, x2, x3] := by
  funext j
  obtain ⟨l, r, k, rfl⟩ : ∃ l r k, j = ix3 l r k := ⟨j 0, j 1, j 2, eq_ix3 j⟩
  match l with
  | 0 => exact stack_0 x0 x1 x2 x3 r k
  | 1 => exact stack_1 x0 x1 x2 x3 r k
  | 2 => exact stack_2 x0 x1 x2 x3 r k
  | 3 => exact stack_3 x0 x1 x2 x3 r k

theorem ref_m : val_main_v13 (F := Ideal) x0 x1 x2 x3 x = mOut ![x0, x1, x2, x3] x := by
  funext j
  unfold mOut mom
  rw [← ref_g]
  pointwise [val_main_v13, val_main_v12, val_main_v11, val_main_cst_4, val_main_v10, val_main_v9, val_main_cst_3]

theorem ref_v : val_main_v19 (F := Ideal) x0 x1 x2 x3 y = vOut ![x0, x1, x2, x3] y := by
  funext j
  unfold vOut sqm
  rw [← ref_g]
  pointwise [val_main_v19, val_main_v18, val_main_v16, val_main_v17, val_main_cst_6, val_main_v15, val_main_v14,
    val_main_cst_5]

theorem ref_d : val_main_v32 (F := Ideal) x0 x1 x2 x3 w x y = dOut ![x0, x1, x2, x3] w x y := by
  funext j
  unfold dOut step mom sqm
  rw [← ref_g]
  pointwise [val_main_v32, val_main_v30, val_main_v29, val_main_v28, val_main_cst_10, val_main_v27, val_main_v26,
    val_main_v25, val_main_cst_9, val_main_v24, val_main_v23, val_main_v22, val_main_cst_8, val_main_v19,
    val_main_v18, val_main_v16, val_main_v17, val_main_cst_6, val_main_v15, val_main_v14, val_main_cst_5,
    val_main_v21, val_main_v20, val_main_cst_7, val_main_v13, val_main_v12, val_main_v11, val_main_cst_4,
    val_main_v10, val_main_v9, val_main_cst_3, val_main_v31, val_main_cst_11]

end

end Cert.Kernel14Ideal.AdamBig

end
-- ==== Proof.AdamBigClaims.lean ====
/-
  The claims about the optimiser's call on the large weights: frames of the kernel, of its ideal reading and of the reference, and their agreement.
-/
module

public import proofs.«01_k».proof.Defs
public import proofs.«01_k».proof.Proof.AdamBig
public import proofs.«01_k».proof.Proof.Gen.Kernel14.Frame
public import proofs.«01_k».proof.Proof.Gen.Reference14Ideal.Run

@[expose] public section

set_option maxRecDepth 16384

noncomputable section

namespace Cert.AdamBigClaims

open Idealize.ShloMosaic Idealize.ShloMosaic.TcCoe Idealize.SL.Sem

theorem frame_kernel : Cert.quiescent_Kernel14 := fun m ρ _ => Cert.Kernel14.Gen.frame m ρ

theorem frame_ideal : Cert.quiescent_Kernel14Ideal := fun m ρ _ => Cert.Kernel14Ideal.Gen.frame m ρ

theorem frame_reference : Cert.quiescent_Reference14Ideal := fun m ρ _ =>
  (θ_run Cert.Reference14Ideal.defs _ _).mono
    (fun r h => ⟨fun c => (h c).2.2.2.2, sem_eq_zero_of_no_sems (by decide) r.2⟩)
    (Cert.Reference14Ideal.Value.run (F := Ideal) m ρ)

set_option maxHeartbeats 1000000 in
theorem algebraic : Cert.algebraic_Kernel14Ideal_Reference14Ideal := by
  intro m g m' g' _ hagree
  refine ⟨fun c => (Cert.Kernel14Ideal.Gen.dats m 0 c).arrAt 7 _, fun c => (Cert.Kernel14Ideal.Gen.dats m 0 c).arrAt 8 _, fun c => (Cert.Kernel14Ideal.Gen.dats m 0 c).arrAt 9 _, fun c => (Cert.Kernel14Ideal.Gen.dats m 0 c).arrAt 10 _,
    Cert.Kernel14Ideal.Value.run_blocks m g, ?_⟩
  refine (θ_run Cert.Reference14Ideal.defs _ _).mono (fun r h c => ?_) (Cert.Reference14Ideal.Value.run (F := Ideal) m' g')
  obtain ⟨h0, h1, h2, h3, hargs⟩ := h c
  obtain ⟨e0, e1, e2, e3, e4, e5, e6⟩ := hagree c
  refine ⟨(h0.trans (Cert.Reference14Ideal.Read.val_main_v8_eq _ _ _ _)).trans ?_,
    (h1.trans (Cert.Reference14Ideal.Read.val_main_v32_eq _ _)).trans ?_,
    (h2.trans (Cert.Reference14Ideal.Read.val_main_v13_eq _ _ _ _ _)).trans ?_,
    (h3.trans (Cert.Reference14Ideal.Read.val_main_v19_eq _ _ _ _ _)).trans ?_, hargs⟩
  · rw [e0, e1, e2, e3]
    exact (Cert.Kernel14Ideal.AdamBig.ref_g _ _ _ _).trans (Cert.Kernel14Ideal.AdamBig.final_g m c).symm
  · rw [e0, e1, e2, e3, e4, e5, e6]
    exact (Cert.Kernel14Ideal.AdamBig.ref_d _ _ _ _ _ _ _).trans (Cert.Kernel14Ideal.AdamBig.final_d m c).symm
  · rw [e0, e1, e2, e3, e5]
    exact (Cert.Kernel14Ideal.AdamBig.ref_m _ _ _ _ _).trans (Cert.Kernel14Ideal.AdamBig.final_m m c).symm
  · rw [e0, e1, e2, e3, e6]
    exact (Cert.Kernel14Ideal.AdamBig.ref_v _ _ _ _ _).trans (Cert.Kernel14Ideal.AdamBig.final_v m c).symm

end Cert.AdamBigClaims

end
-- ==== Proof.AdamSmall.lean ====
/-
  The optimiser's call on the small weights: the reference's results, entry by entry, are the arrays the call leaves.
-/
module

public import proofs.«01_k».proof.Proof.Rows
public import proofs.«01_k».proof.Proof.Gen.Kernel15Ideal.Value
public import proofs.«01_k».proof.Proof.Gen.Reference15Ideal.Read
public import Idealize.ShloMosaic.Lib.Pipeline.ValueKit
public import Idealize.ShloMosaic.Lib.Pointwise

@[expose] public section

set_option maxRecDepth 16384

noncomputable section

namespace Cert.Kernel15Ideal.AdamSmall

open Cert.Kernel15Ideal Cert.Kernel15Ideal.Gen Idealize.ShloMosaic Idealize.ShloMosaic.TcCoe Idealize.SL.Sem
open Cert.Rows
open Cert.Kernel15Ideal.Value Cert.Reference15Ideal.Read

theorem ref_23 (x0 x3 x6 x9 : FVec Ideal S32x8 .f32) : val_main_v23 (F := Ideal) x0 x3 x6 x9 = G12 (F := Ideal) x0 x3 x6 x9 := by
  funext i
  pointwise [val_main_v23, val_main_v21, val_main_v20, val_main_v19, val_main_cst_6, val_main_v18, val_main_v17,
    val_main_v16, val_main_cst_5, val_main_v15, val_main_v14, val_main_v13, val_main_cst_4, val_main_v10,
    val_main_v9, val_main_v7, val_main_v8, val_main_cst_2, val_main_v6, val_main_v5, val_main_cst_1, val_main_v12,
    val_main_v11, val_main_cst_3, val_main_v4, val_main_v3, val_main_v2, val_main_cst_0, val_main_v1, val_main_v0,
    val_main_cst, val_main_v22, val_main_cst_7]

theorem ref_47 (x1 x4 x7 x10 : FVec Ideal S4x1024 .f32) : val_main_v47 (F := Ideal) x1 x4 x7 x10 = G13 (F := Ideal) x1 x4 x7 x10 := by
  funext i
  pointwise [val_main_v47, val_main_v45, val_main_v44, val_main_v43, val_main_cst_15, val_main_v42, val_main_v41,
    val_main_v40, val_main_cst_14, val_main_v39, val_main_v38, val_main_v37, val_main_cst_13, val_main_v34,
    val_main_v33, val_main_v31, val_main_v32, val_main_cst_11, val_main_v30, val_main_v29, val_main_cst_10,
    val_main_v36, val_main_v35, val_main_cst_12, val_main_v28, val_main_v27, val_main_v26, val_main_cst_9,
    val_main_v25, val_main_v24, val_main_cst_8, val_main_v46, val_main_cst_16]

theorem ref_71 (x2 x5 x8 x11 : FVec Ideal S4x31x64 .f32) : val_main_v71 (F := Ideal) x2 x5 x8 x11 = G14 (F := Ideal) x2 x5 x8 x11 := by
  funext i
  pointwise [val_main_v71, val_main_v69, val_main_v68, val_main_v67, val_main_cst_24, val_main_v66, val_main_v65,
    val_main_v64, val_main_cst_23, val_main_v63, val_main_v62, val_main_v61, val_main_cst_22, val_main_v58,
    val_main_v57, val_main_v55, val_main_v56, val_main_cst_20, val_main_v54, val_main_v53, val_main_cst_19,
    val_main_v60, val_main_v59, val_main_cst_21, val_main_v52, val_main_v51, val_main_v50, val_main_cst_18,
    val_main_v49, val_main_v48, val_main_cst_17, val_main_v70, val_main_cst_25]

theorem ref_4 (x3 x6 : FVec Ideal S32x8 .f32) : val_main_v4 (F := Ideal) x3 x6 = G15 (F := Ideal) x3 x6 := by
  funext i
  pointwise [val_main_v4, val_main_v3, val_main_v2, val_main_cst_0, val_main_v1, val_main_v0, val_main_cst]

theorem ref_28 (x4 x7 : FVec Ideal S4x1024 .f32) : val_main_v28 (F := Ideal) x4 x7 = G16 (F := Ideal) x4 x7 := by
  funext i
  pointwise [val_main_v28, val_main_v27, val_main_v26, val_main_cst_9, val_main_v25, val_main_v24, val_main_cst_8]

theorem ref_52 (x5 x8 : FVec Ideal S4x31x64 .f32) : val_main_v52 (F := Ideal) x5 x8 = G17 (F := Ideal) x5 x8 := by
  funext i
  pointwise [val_main_v52, val_main_v51, val_main_v50, val_main_cst_18, val_main_v49, val_main_v48, val_main_cst_17]

theorem ref_10 (x3 x9 : FVec Ideal S32x8 .f32) : val_main_v10 (F := Ideal) x3 x9 = G18 (F := Ideal) x3 x9 := by
  funext i
  pointwise [val_main_v10, val_main_v9, val_main_v7, val_main_v8, val_main_cst_2, val_main_v6, val_main_v5, val_main_cst_1]

theorem ref_34 (x4 x10 : FVec Ideal S4x1024 .f32) : val_main_v34 (F := Ideal) x4 x10 = G19 (F := Ideal) x4 x10 := by
  funext i
  pointwise [val_main_v34, val_main_v33, val_main_v31, val_main_v32, val_main_cst_11, val_main_v30, val_main_v29,
    val_main_cst_10]

theorem ref_58 (x5 x11 : FVec Ideal S4x31x64 .f32) : val_main_v58 (F := Ideal) x5 x11 = G20 (F := Ideal) x5 x11 := by
  funext i
  pointwise [val_main_v58, val_main_v57, val_main_v55, val_main_v56, val_main_cst_20, val_main_v54, val_main_v53,
    val_main_cst_19]

end Cert.Kernel15Ideal.AdamSmall

end
-- ==== Proof.AdamSmallClaims.lean ====
/-
  The claims about the optimiser's call on the small weights: frames of the kernel, of its ideal reading and of the reference, and their agreement.
-/
module

public import proofs.«01_k».proof.Defs
public import proofs.«01_k».proof.Proof.AdamSmall
public import proofs.«01_k».proof.Proof.Gen.Kernel15.Frame
public import proofs.«01_k».proof.Proof.Gen.Reference15Ideal.Run

@[expose] public section

set_option maxRecDepth 16384

noncomputable section

namespace Cert.AdamSmallClaims

open Idealize.ShloMosaic Idealize.ShloMosaic.TcCoe Idealize.SL.Sem

theorem frame_kernel : Cert.quiescent_Kernel15 := fun m ρ _ => Cert.Kernel15.Gen.frame m ρ

theorem frame_ideal : Cert.quiescent_Kernel15Ideal := fun m ρ _ => Cert.Kernel15Ideal.Gen.frame m ρ

theorem frame_reference : Cert.quiescent_Reference15Ideal := fun m ρ _ =>
  (θ_run Cert.Reference15Ideal.defs _ _).mono
    (fun r h => ⟨fun c => (h c).2.2.2.2.2.2.2.2.2, sem_eq_zero_of_no_sems (by decide) r.2⟩)
    (Cert.Reference15Ideal.Value.run (F := Ideal) m ρ)

set_option maxHeartbeats 4000000 in
theorem algebraic : Cert.algebraic_Kernel15Ideal_Reference15Ideal := by
  intro m g m' g' _ hagree
  refine ⟨fun c => (Cert.Kernel15Ideal.Gen.dats m 0 c).arrAt 12 _, fun c => (Cert.Kernel15Ideal.Gen.dats m 0 c).arrAt 13 _, fun c => (Cert.Kernel15Ideal.Gen.dats m 0 c).arrAt 14 _, fun c => (Cert.Kernel15Ideal.Gen.dats m 0 c).arrAt 15 _, fun c => (Cert.Kernel15Ideal.Gen.dats m 0 c).arrAt 16 _, fun c => (Cert.Kernel15Ideal.Gen.dats m 0 c).arrAt 17 _, fun c => (Cert.Kernel15Ideal.Gen.dats m 0 c).arrAt 18 _, fun c => (Cert.Kernel15Ideal.Gen.dats m 0 c).arrAt 19 _, fun c => (Cert.Kernel15Ideal.Gen.dats m 0 c).arrAt 20 _,
    Cert.Kernel15Ideal.Value.run_blocks m g, ?_⟩
  refine (θ_run Cert.Reference15Ideal.defs _ _).mono (fun r h c => ?_) (Cert.Reference15Ideal.Value.run (F := Ideal) m' g')
  obtain ⟨h0, h1, h2, h3, h4, h5, h6, h7, h8, hargs⟩ := h c
  obtain ⟨e0, e1, e2, e3, e4, e5, e6, e7, e8, e9, e10, e11⟩ := hagree c
  refine ⟨(h0.trans (Cert.Reference15Ideal.Read.val_main_v23_eq _ _ _ _)).trans ?_,
    (h1.trans (Cert.Reference15Ideal.Read.val_main_v47_eq _ _ _ _)).trans ?_,
    (h2.trans (Cert.Reference15Ideal.Read.val_main_v71_eq _ _ _ _)).trans ?_,
    (h3.trans (Cert.Reference15Ideal.Read.val_main_v4_eq _ _)).trans ?_,
    (h4.trans (Cert.Reference15Ideal.Read.val_main_v28_eq _ _)).trans ?_,
    (h5.trans (Cert.Reference15Ideal.Read.val_main_v52_eq _ _)).trans ?_,
    (h6.trans (Cert.Reference15Ideal.Read.val_main_v10_eq _ _)).trans ?_,
    (h7.trans (Cert.Reference15Ideal.Read.val_main_v34_eq _ _)).trans ?_,
    (h8.trans (Cert.Reference15Ideal.Read.val_main_v58_eq _ _)).trans ?_, hargs⟩
  · rw [e0, e3, e6, e9]
    exact (Cert.Kernel15Ideal.AdamSmall.ref_23 _ _ _ _).trans (Cert.Kernel15Ideal.Value.final12 m c).symm
  · rw [e1, e4, e7, e10]
    exact (Cert.Kernel15Ideal.AdamSmall.ref_47 _ _ _ _).trans (Cert.Kernel15Ideal.Value.final13 m c).symm
  · rw [e2, e5, e8, e11]
    exact (Cert.Kernel15Ideal.AdamSmall.ref_71 _ _ _ _).trans (Cert.Kernel15Ideal.Value.final14 m c).symm
  · rw [e3, e6]
    exact (Cert.Kernel15Ideal.AdamSmall.ref_4 _ _).trans (Cert.Kernel15Ideal.Value.final15 m c).symm
  · rw [e4, e7]
    exact (Cert.Kernel15Ideal.AdamSmall.ref_28 _ _).trans (Cert.Kernel15Ideal.Value.final16 m c).symm
  · rw [e5, e8]
    exact (Cert.Kernel15Ideal.AdamSmall.ref_52 _ _).trans (Cert.Kernel15Ideal.Value.final17 m c).symm
  · rw [e3, e9]
    exact (Cert.Kernel15Ideal.AdamSmall.ref_10 _ _).trans (Cert.Kernel15Ideal.Value.final18 m c).symm
  · rw [e4, e10]
    exact (Cert.Kernel15Ideal.AdamSmall.ref_34 _ _).trans (Cert.Kernel15Ideal.Value.final19 m c).symm
  · rw [e5, e11]
    exact (Cert.Kernel15Ideal.AdamSmall.ref_58 _ _).trans (Cert.Kernel15Ideal.Value.final20 m c).symm

end Cert.AdamSmallClaims

end
-- ==== Proof.lean ====
/-
  The certificate: the claims of every call, put together.
-/
module

public import proofs.«01_k».proof.Defs
public import proofs.«01_k».proof.Proof.Gen.Kernel
public import proofs.«01_k».proof.Proof.Gen.KernelIdeal
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.LossClaims
public import proofs.«01_k».proof.Proof.InProjClaims
public import proofs.«01_k».proof.Proof.MlpClaims
public import proofs.«01_k».proof.Proof.Gen.Kernel3.Frame
public import proofs.«01_k».proof.Proof.Gen.Pre_finite2
public import proofs.«01_k».proof.Proof.Gen.Pre_finite3
public import proofs.«01_k».proof.Proof.Gen.Kernel4
public import proofs.«01_k».proof.Proof.Gen.Kernel4Ideal
public import proofs.«01_k».proof.Proof.Gen.Reference4Ideal
public import proofs.«01_k».proof.Proof.Gen.Kernel4.Frame
public import proofs.«01_k».proof.Proof.BiasClaims
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Read
public import proofs.«01_k».proof.Proof.Gen.Reference5Ideal.Run
public import proofs.«01_k».proof.Proof.Gen.Kernel4Ideal.Value
public import proofs.«01_k».proof.Proof.Gen.Reference4Ideal.Read
public import proofs.«01_k».proof.Proof.Gen.Reference4Ideal.Run
public import proofs.«01_k».proof.Proof.Gen.Pre_natural4
public import proofs.«01_k».proof.Proof.Gen.Pre_finite5
public import proofs.«01_k».proof.Proof.AttnClaims
public import proofs.«01_k».proof.Proof.ConvFwdClaims
public import proofs.«01_k».proof.Proof.FwdInClaims
public import proofs.«01_k».proof.Proof.MlpFwdClaims
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Pre_buckets12
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.BwdOutClaims
public import proofs.«01_k».proof.Proof.FwdOutClaims
public import proofs.«01_k».proof.Proof.WGradClaims
public import proofs.«01_k».proof.Proof.BiasTableClaims
public import proofs.«01_k».proof.Proof.AdamBigClaims
public import proofs.«01_k».proof.Proof.AdamSmallClaims

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Pre_finite2.Gen.facts, Cert.Pre_finite3.Gen.facts, Cert.Pre_natural4.Gen.facts, Cert.Pre_finite5.Gen.facts,
  Cert.Pre_buckets12.Gen.facts,
  LossClaims.frame_kernel, LossClaims.frame_ideal, LossClaims.frame_reference,
  InProjClaims.frame_kernel, InProjClaims.frame_ideal, InProjClaims.frame_ideal_finite,
  InProjClaims.frame_reference, InProjClaims.frame_reference_finite,
  MlpClaims.frame_kernel, MlpClaims.frame_ideal, MlpClaims.frame_ideal_finite,
  MlpClaims.frame_reference, MlpClaims.frame_reference_finite,
  BiasClaims.frame_kernel, BiasClaims.frame_ideal, BiasClaims.frame_ideal_natural,
  BiasClaims.frame_reference, BiasClaims.frame_reference_natural,
  AttnClaims.frame_kernel, AttnClaims.frame_ideal, AttnClaims.frame_ideal_finite,
  AttnClaims.frame_reference, AttnClaims.frame_reference_finite,
  ConvFwdClaims.frame_kernel, ConvFwdClaims.frame_ideal, ConvFwdClaims.frame_reference,
  fun m ρ _ => Cert.Kernel7.Gen.frame m ρ, fun m ρ _ => Cert.Kernel7Ideal.Gen.frame m ρ,
  FwdInClaims.frame_kernel, FwdInClaims.frame_ideal, FwdInClaims.frame_reference,
  MlpFwdClaims.frame_kernel, MlpFwdClaims.frame_ideal, MlpFwdClaims.frame_reference,
  WGradClaims.frame_kernel, WGradClaims.frame_ideal, WGradClaims.frame_reference,
  BwdOutClaims.frame_kernel, BwdOutClaims.frame_ideal, BwdOutClaims.frame_reference,
  BiasTableClaims.frame_kernel, BiasTableClaims.frame_ideal, BiasTableClaims.frame_ideal_range,
  BiasTableClaims.frame_reference, BiasTableClaims.frame_reference_range,
  FwdOutClaims.frame_kernel, FwdOutClaims.frame_ideal, FwdOutClaims.frame_reference,
  AdamBigClaims.frame_kernel, AdamBigClaims.frame_ideal, AdamBigClaims.frame_reference,
  AdamSmallClaims.frame_kernel, AdamSmallClaims.frame_ideal, AdamSmallClaims.frame_reference,
  trivial, LossClaims.algebraic, trivial, InProjClaims.algebraic, trivial, MlpClaims.algebraic, trivial, BiasClaims.algebraic,
  AttnClaims.preserves, AttnClaims.algebraic, trivial, ConvFwdClaims.algebraic, trivial, trivial, FwdInClaims.algebraic,
  trivial, MlpFwdClaims.algebraic, trivial, WGradClaims.algebraic, trivial, BwdOutClaims.algebraic, trivial, BiasTableClaims.algebraic,
  trivial, FwdOutClaims.algebraic, trivial, AdamBigClaims.algebraic, trivial, AdamSmallClaims.algebraic⟩

end Cert.Proof

end
